-- ==== Defs.lean ====
def Pre_Moe [hPre_experts_in_range : Cert.Pre_experts_in_range.Facts] (m : (ℓ : Loc Cert.Moe.nD Cert.Moe.τ Cert.Moe.sig) → Buf (Elt Bits) ℓ) : Prop :=
  ∀ c : Dev Cert.Moe.nD,
    (Cert.Pre_experts_in_range.fn (F := Bits) (m ((c.tc : Thread Cert.Moe.nD Cert.Moe.τ).loc Cert.Moe.main_arg0)) (m ((c.tc : Thread Cert.Moe.nD Cert.Moe.τ).loc Cert.Moe.main_arg1)) (m ((c.tc : Thread Cert.Moe.nD Cert.Moe.τ).loc Cert.Moe.main_arg2)) (m ((c.tc : Thread Cert.Moe.nD Cert.Moe.τ).loc Cert.Moe.main_arg3)) (m ((c.tc : Thread Cert.Moe.nD Cert.Moe.τ).loc Cert.Moe.main_arg4)) (m ((c.tc : Thread Cert.Moe.nD Cert.Moe.τ).loc Cert.Moe.main_arg5)) (m ((c.tc : Thread Cert.Moe.nD Cert.Moe.τ).loc Cert.Moe.main_arg6)) (m ((c.tc : Thread Cert.Moe.nD Cert.Moe.τ).loc Cert.Moe.main_arg7))) = (fun _ => 1#1)

def Pre_MoeIdeal [hPre_experts_in_range : Cert.Pre_experts_in_range.Facts] (m : (ℓ : Loc Cert.MoeIdeal.nD Cert.MoeIdeal.τ Cert.MoeIdeal.sig) → Buf (Elt Ideal) ℓ) : Prop :=
  ∀ c : Dev Cert.MoeIdeal.nD,
    (Cert.Pre_experts_in_range.fn (F := Ideal) (m ((c.tc : Thread Cert.MoeIdeal.nD Cert.MoeIdeal.τ).loc Cert.MoeIdeal.main_arg0)) (m ((c.tc : Thread Cert.MoeIdeal.nD Cert.MoeIdeal.τ).loc Cert.MoeIdeal.main_arg1)) (m ((c.tc : Thread Cert.MoeIdeal.nD Cert.MoeIdeal.τ).loc Cert.MoeIdeal.main_arg2)) (m ((c.tc : Thread Cert.MoeIdeal.nD Cert.MoeIdeal.τ).loc Cert.MoeIdeal.main_arg3)) (m ((c.tc : Thread Cert.MoeIdeal.nD Cert.MoeIdeal.τ).loc Cert.MoeIdeal.main_arg4)) (m ((c.tc : Thread Cert.MoeIdeal.nD Cert.MoeIdeal.τ).loc Cert.MoeIdeal.main_arg5)) (m ((c.tc : Thread Cert.MoeIdeal.nD Cert.MoeIdeal.τ).loc Cert.MoeIdeal.main_arg6)) (m ((c.tc : Thread Cert.MoeIdeal.nD Cert.MoeIdeal.τ).loc Cert.MoeIdeal.main_arg7))) = (fun _ => 1#1)

def Pre_MoeRefIdeal (m : (ℓ : Loc Cert.MoeRefIdeal.nD Cert.MoeRefIdeal.τ Cert.MoeRefIdeal.sig) → Buf (Elt Ideal) ℓ) : Prop :=
  True

def Pre_MoeRefIdeal_experts_in_range [hPre_experts_in_range : Cert.Pre_experts_in_range.Facts] (m : (ℓ : Loc Cert.MoeRefIdeal.nD Cert.MoeRefIdeal.τ Cert.MoeRefIdeal.sig) → Buf (Elt Ideal) ℓ) : Prop :=
  ∀ c : Dev Cert.MoeRefIdeal.nD,
    (Cert.Pre_experts_in_range.fn (F := Ideal) (m ((c.tc : Thread Cert.MoeRefIdeal.nD Cert.MoeRefIdeal.τ).loc Cert.MoeRefIdeal.main_arg0)) (m ((c.tc : Thread Cert.MoeRefIdeal.nD Cert.MoeRefIdeal.τ).loc Cert.MoeRefIdeal.main_arg1)) (m ((c.tc : Thread Cert.MoeRefIdeal.nD Cert.MoeRefIdeal.τ).loc Cert.MoeRefIdeal.main_arg2)) (m ((c.tc : Thread Cert.MoeRefIdeal.nD Cert.MoeRefIdeal.τ).loc Cert.MoeRefIdeal.main_arg3)) (m ((c.tc : Thread Cert.MoeRefIdeal.nD Cert.MoeRefIdeal.τ).loc Cert.MoeRefIdeal.main_arg4)) (m ((c.tc : Thread Cert.MoeRefIdeal.nD Cert.MoeRefIdeal.τ).loc Cert.MoeRefIdeal.main_arg5)) (m ((c.tc : Thread Cert.MoeRefIdeal.nD Cert.MoeRefIdeal.τ).loc Cert.MoeRefIdeal.main_arg6)) (m ((c.tc : Thread Cert.MoeRefIdeal.nD Cert.MoeRefIdeal.τ).loc Cert.MoeRefIdeal.main_arg7))) = (fun _ => 1#1)

def Pre_InProj (m : (ℓ : Loc Cert.InProj.nD Cert.InProj.τ Cert.InProj.sig) → Buf (Elt Bits) ℓ) : Prop :=
  True

def Pre_InProjIdeal (m : (ℓ : Loc Cert.InProjIdeal.nD Cert.InProjIdeal.τ Cert.InProjIdeal.sig) → Buf (Elt Ideal) ℓ) : Prop :=
  True

def Pre_InProjRefIdeal (m : (ℓ : Loc Cert.InProjRefIdeal.nD Cert.InProjRefIdeal.τ Cert.InProjRefIdeal.sig) → Buf (Elt Ideal) ℓ) : Prop :=
  True

def Pre_MixOut (m : (ℓ : Loc Cert.MixOut.nD Cert.MixOut.τ Cert.MixOut.sig) → Buf (Elt Bits) ℓ) : Prop :=
  True

def Pre_MixOutIdeal (m : (ℓ : Loc Cert.MixOutIdeal.nD Cert.MixOutIdeal.τ Cert.MixOutIdeal.sig) → Buf (Elt Ideal) ℓ) : Prop :=
  True

def Pre_MixOutRefIdeal (m : (ℓ : Loc Cert.MixOutRefIdeal.nD Cert.MixOutRefIdeal.τ Cert.MixOutRefIdeal.sig) → Buf (Elt Ideal) ℓ) : Prop :=
  True

def Pre_Prep (m : (ℓ : Loc Cert.Prep.nD Cert.Prep.τ Cert.Prep.sig) → Buf (Elt Bits) ℓ) : Prop :=
  True

def Pre_PrepIdeal (m : (ℓ : Loc Cert.PrepIdeal.nD Cert.PrepIdeal.τ Cert.PrepIdeal.sig) → Buf (Elt Ideal) ℓ) : Prop :=
  True

def Pre_PrepRefIdeal (m : (ℓ : Loc Cert.PrepRefIdeal.nD Cert.PrepRefIdeal.τ Cert.PrepRefIdeal.sig) → Buf (Elt Ideal) ℓ) : Prop :=
  True

def Pre_Dsa (m : (ℓ : Loc Cert.Dsa.nD Cert.Dsa.τ Cert.Dsa.sig) → Buf (Elt Bits) ℓ) : Prop :=
  True

def quiescent_Moe [hMoe : Cert.Moe.Facts] [hPre_experts_in_range : Cert.Pre_experts_in_range.Facts] : Prop :=
  ∀ (m : (ℓ : Loc Cert.Moe.nD Cert.Moe.τ Cert.Moe.sig) → Buf (Elt Bits) ℓ) (g : Dev Cert.Moe.nD → PrngReg), Pre_Moe m →
    θ_run (Cert.Moe.defs (F := Bits)) (onTc (τ := Cert.Moe.τ) (Cert.Moe.main (F := Bits))) ⟨m, fun _ => 0, g⟩ (fun r => (∀ c : Dev Cert.Moe.nD,
      r.2.mem ((c.tc : Thread Cert.Moe.nD Cert.Moe.τ).loc Cert.Moe.main_arg0) = m ((c.tc : Thread Cert.Moe.nD Cert.Moe.τ).loc Cert.Moe.main_arg0)
      ∧ r.2.mem ((c.tc : Thread Cert.Moe.nD Cert.Moe.τ).loc Cert.Moe.main_arg1) = m ((c.tc : Thread Cert.Moe.nD Cert.Moe.τ).loc Cert.Moe.main_arg1)
      ∧ r.2.mem ((c.tc : Thread Cert.Moe.nD Cert.Moe.τ).loc Cert.Moe.main_arg2) = m ((c.tc : Thread Cert.Moe.nD Cert.Moe.τ).loc Cert.Moe.main_arg2)
      ∧ r.2.mem ((c.tc : Thread Cert.Moe.nD Cert.Moe.τ).loc Cert.Moe.main_arg3) = m ((c.tc : Thread Cert.Moe.nD Cert.Moe.τ).loc Cert.Moe.main_arg3)
      ∧ r.2.mem ((c.tc : Thread Cert.Moe.nD Cert.Moe.τ).loc Cert.Moe.main_arg4) = m ((c.tc : Thread Cert.Moe.nD Cert.Moe.τ).loc Cert.Moe.main_arg4)
      ∧ r.2.mem ((c.tc : Thread Cert.Moe.nD Cert.Moe.τ).loc Cert.Moe.main_arg5) = m ((c.tc : Thread Cert.Moe.nD Cert.Moe.τ).loc Cert.Moe.main_arg5)
      ∧ r.2.mem ((c.tc : Thread Cert.Moe.nD Cert.Moe.τ).loc Cert.Moe.main_arg6) = m ((c.tc : Thread Cert.Moe.nD Cert.Moe.τ).loc Cert.Moe.main_arg6)
      ∧ r.2.mem ((c.tc : Thread Cert.Moe.nD Cert.Moe.τ).loc Cert.Moe.main_arg7) = m ((c.tc : Thread Cert.Moe.nD Cert.Moe.τ).loc Cert.Moe.main_arg7))
      ∧ r.2.sem = fun _ => 0)

def quiescent_MoeIdeal [hMoeIdeal : Cert.MoeIdeal.Facts] [hPre_experts_in_range : Cert.Pre_experts_in_range.Facts] : Prop :=
  ∀ (m : (ℓ : Loc Cert.MoeIdeal.nD Cert.MoeIdeal.τ Cert.MoeIdeal.sig) → Buf (Elt Ideal) ℓ) (g : Dev Cert.MoeIdeal.nD → PrngReg), Pre_MoeIdeal m →
    θ_run (Cert.MoeIdeal.defs (F := Ideal)) (onTc (τ := Cert.MoeIdeal.τ) (Cert.MoeIdeal.main (F := Ideal))) ⟨m, fun _ => 0, g⟩ (fun r => (∀ c : Dev Cert.MoeIdeal.nD,
      r.2.mem ((c.tc : Thread Cert.MoeIdeal.nD Cert.MoeIdeal.τ).loc Cert.MoeIdeal.main_arg0) = m ((c.tc : Thread Cert.MoeIdeal.nD Cert.MoeIdeal.τ).loc Cert.MoeIdeal.main_arg0)
      ∧ r.2.mem ((c.tc : Thread Cert.MoeIdeal.nD Cert.MoeIdeal.τ).loc Cert.MoeIdeal.main_arg1) = m ((c.tc : Thread Cert.MoeIdeal.nD Cert.MoeIdeal.τ).loc Cert.MoeIdeal.main_arg1)
      ∧ r.2.mem ((c.tc : Thread Cert.MoeIdeal.nD Cert.MoeIdeal.τ).loc Cert.MoeIdeal.main_arg2) = m ((c.tc : Thread Cert.MoeIdeal.nD Cert.MoeIdeal.τ).loc Cert.MoeIdeal.main_arg2)
      ∧ r.2.mem ((c.tc : Thread Cert.MoeIdeal.nD Cert.MoeIdeal.τ).loc Cert.MoeIdeal.main_arg3) = m ((c.tc : Thread Cert.MoeIdeal.nD Cert.MoeIdeal.τ).loc Cert.MoeIdeal.main_arg3)
      ∧ r.2.mem ((c.tc : Thread Cert.MoeIdeal.nD Cert.MoeIdeal.τ).loc Cert.MoeIdeal.main_arg4) = m ((c.tc : Thread Cert.MoeIdeal.nD Cert.MoeIdeal.τ).loc Cert.MoeIdeal.main_arg4)
      ∧ r.2.mem ((c.tc : Thread Cert.MoeIdeal.nD Cert.MoeIdeal.τ).loc Cert.MoeIdeal.main_arg5) = m ((c.tc : Thread Cert.MoeIdeal.nD Cert.MoeIdeal.τ).loc Cert.MoeIdeal.main_arg5)
      ∧ r.2.mem ((c.tc : Thread Cert.MoeIdeal.nD Cert.MoeIdeal.τ).loc Cert.MoeIdeal.main_arg6) = m ((c.tc : Thread Cert.MoeIdeal.nD Cert.MoeIdeal.τ).loc Cert.MoeIdeal.main_arg6)
      ∧ r.2.mem ((c.tc : Thread Cert.MoeIdeal.nD Cert.MoeIdeal.τ).loc Cert.MoeIdeal.main_arg7) = m ((c.tc : Thread Cert.MoeIdeal.nD Cert.MoeIdeal.τ).loc Cert.MoeIdeal.main_arg7))
      ∧ r.2.sem = fun _ => 0)

def quiescent_MoeRefIdeal [hMoeRefIdeal : Cert.MoeRefIdeal.Facts] : Prop :=
  ∀ (m : (ℓ : Loc Cert.MoeRefIdeal.nD Cert.MoeRefIdeal.τ Cert.MoeRefIdeal.sig) → Buf (Elt Ideal) ℓ) (g : Dev Cert.MoeRefIdeal.nD → PrngReg), Pre_MoeRefIdeal m →
    θ_run (Cert.MoeRefIdeal.defs (F := Ideal)) (onTc (τ := Cert.MoeRefIdeal.τ) (Cert.MoeRefIdeal.main (F := Ideal))) ⟨m, fun _ => 0, g⟩ (fun r => (∀ c : Dev Cert.MoeRefIdeal.nD,
      r.2.mem ((c.tc : Thread Cert.MoeRefIdeal.nD Cert.MoeRefIdeal.τ).loc Cert.MoeRefIdeal.main_arg0) = m ((c.tc : Thread Cert.MoeRefIdeal.nD Cert.MoeRefIdeal.τ).loc Cert.MoeRefIdeal.main_arg0)
      ∧ r.2.mem ((c.tc : Thread Cert.MoeRefIdeal.nD Cert.MoeRefIdeal.τ).loc Cert.MoeRefIdeal.main_arg1) = m ((c.tc : Thread Cert.MoeRefIdeal.nD Cert.MoeRefIdeal.τ).loc Cert.MoeRefIdeal.main_arg1)
      ∧ r.2.mem ((c.tc : Thread Cert.MoeRefIdeal.nD Cert.MoeRefIdeal.τ).loc Cert.MoeRefIdeal.main_arg2) = m ((c.tc : Thread Cert.MoeRefIdeal.nD Cert.MoeRefIdeal.τ).loc Cert.MoeRefIdeal.main_arg2)
      ∧ r.2.mem ((c.tc : Thread Cert.MoeRefIdeal.nD Cert.MoeRefIdeal.τ).loc Cert.MoeRefIdeal.main_arg3) = m ((c.tc : Thread Cert.MoeRefIdeal.nD Cert.MoeRefIdeal.τ).loc Cert.MoeRefIdeal.main_arg3)
      ∧ r.2.mem ((c.tc : Thread Cert.MoeRefIdeal.nD Cert.MoeRefIdeal.τ).loc Cert.MoeRefIdeal.main_arg4) = m ((c.tc : Thread Cert.MoeRefIdeal.nD Cert.MoeRefIdeal.τ).loc Cert.MoeRefIdeal.main_arg4)
      ∧ r.2.mem ((c.tc : Thread Cert.MoeRefIdeal.nD Cert.MoeRefIdeal.τ).loc Cert.MoeRefIdeal.main_arg5) = m ((c.tc : Thread Cert.MoeRefIdeal.nD Cert.MoeRefIdeal.τ).loc Cert.MoeRefIdeal.main_arg5)
      ∧ r.2.mem ((c.tc : Thread Cert.MoeRefIdeal.nD Cert.MoeRefIdeal.τ).loc Cert.MoeRefIdeal.main_arg6) = m ((c.tc : Thread Cert.MoeRefIdeal.nD Cert.MoeRefIdeal.τ).loc Cert.MoeRefIdeal.main_arg6)
      ∧ r.2.mem ((c.tc : Thread Cert.MoeRefIdeal.nD Cert.MoeRefIdeal.τ).loc Cert.MoeRefIdeal.main_arg7) = m ((c.tc : Thread Cert.MoeRefIdeal.nD Cert.MoeRefIdeal.τ).loc Cert.MoeRefIdeal.main_arg7))
      ∧ r.2.sem = fun _ => 0)

def quiescent_MoeRefIdeal_pre_experts_in_range [hMoeRefIdeal : Cert.MoeRefIdeal.Facts] [hPre_experts_in_range : Cert.Pre_experts_in_range.Facts] : Prop :=
  ∀ (m : (ℓ : Loc Cert.MoeRefIdeal.nD Cert.MoeRefIdeal.τ Cert.MoeRefIdeal.sig) → Buf (Elt Ideal) ℓ) (g : Dev Cert.MoeRefIdeal.nD → PrngReg), Pre_MoeRefIdeal_experts_in_range m →
    θ_run (Cert.MoeRefIdeal.defs (F := Ideal)) (onTc (τ := Cert.MoeRefIdeal.τ) (Cert.MoeRefIdeal.main (F := Ideal))) ⟨m, fun _ => 0, g⟩ (fun r => (∀ c : Dev Cert.MoeRefIdeal.nD,
      r.2.mem ((c.tc : Thread Cert.MoeRefIdeal.nD Cert.MoeRefIdeal.τ).loc Cert.MoeRefIdeal.main_arg0) = m ((c.tc : Thread Cert.MoeRefIdeal.nD Cert.MoeRefIdeal.τ).loc Cert.MoeRefIdeal.main_arg0)
      ∧ r.2.mem ((c.tc : Thread Cert.MoeRefIdeal.nD Cert.MoeRefIdeal.τ).loc Cert.MoeRefIdeal.main_arg1) = m ((c.tc : Thread Cert.MoeRefIdeal.nD Cert.MoeRefIdeal.τ).loc Cert.MoeRefIdeal.main_arg1)
      ∧ r.2.mem ((c.tc : Thread Cert.MoeRefIdeal.nD Cert.MoeRefIdeal.τ).loc Cert.MoeRefIdeal.main_arg2) = m ((c.tc : Thread Cert.MoeRefIdeal.nD Cert.MoeRefIdeal.τ).loc Cert.MoeRefIdeal.main_arg2)
      ∧ r.2.mem ((c.tc : Thread Cert.MoeRefIdeal.nD Cert.MoeRefIdeal.τ).loc Cert.MoeRefIdeal.main_arg3) = m ((c.tc : Thread Cert.MoeRefIdeal.nD Cert.MoeRefIdeal.τ).loc Cert.MoeRefIdeal.main_arg3)
      ∧ r.2.mem ((c.tc : Thread Cert.MoeRefIdeal.nD Cert.MoeRefIdeal.τ).loc Cert.MoeRefIdeal.main_arg4) = m ((c.tc : Thread Cert.MoeRefIdeal.nD Cert.MoeRefIdeal.τ).loc Cert.MoeRefIdeal.main_arg4)
      ∧ r.2.mem ((c.tc : Thread Cert.MoeRefIdeal.nD Cert.MoeRefIdeal.τ).loc Cert.MoeRefIdeal.main_arg5) = m ((c.tc : Thread Cert.MoeRefIdeal.nD Cert.MoeRefIdeal.τ).loc Cert.MoeRefIdeal.main_arg5)
      ∧ r.2.mem ((c.tc : Thread Cert.MoeRefIdeal.nD Cert.MoeRefIdeal.τ).loc Cert.MoeRefIdeal.main_arg6) = m ((c.tc : Thread Cert.MoeRefIdeal.nD Cert.MoeRefIdeal.τ).loc Cert.MoeRefIdeal.main_arg6)
      ∧ r.2.mem ((c.tc : Thread Cert.MoeRefIdeal.nD Cert.MoeRefIdeal.τ).loc Cert.MoeRefIdeal.main_arg7) = m ((c.tc : Thread Cert.MoeRefIdeal.nD Cert.MoeRefIdeal.τ).loc Cert.MoeRefIdeal.main_arg7))
      ∧ r.2.sem = fun _ => 0)

def quiescent_InProj [hInProj : Cert.InProj.Facts] : Prop :=
  ∀ (m : (ℓ : Loc Cert.InProj.nD Cert.InProj.τ Cert.InProj.sig) → Buf (Elt Bits) ℓ) (g : Dev Cert.InProj.nD → PrngReg), Pre_InProj m →
    θ_run (Cert.InProj.defs (F := Bits)) (onTc (τ := Cert.InProj.τ) (Cert.InProj.main (F := Bits))) ⟨m, fun _ => 0, g⟩ (fun r => (∀ c : Dev Cert.InProj.nD,
      r.2.mem ((c.tc : Thread Cert.InProj.nD Cert.InProj.τ).loc Cert.InProj.main_arg0) = m ((c.tc : Thread Cert.InProj.nD Cert.InProj.τ).loc Cert.InProj.main_arg0)
      ∧ r.2.mem ((c.tc : Thread Cert.InProj.nD Cert.InProj.τ).loc Cert.InProj.main_arg1) = m ((c.tc : Thread Cert.InProj.nD Cert.InProj.τ).loc Cert.InProj.main_arg1)
      ∧ r.2.mem ((c.tc : Thread Cert.InProj.nD Cert.InProj.τ).loc Cert.InProj.main_arg2) = m ((c.tc : Thread Cert.InProj.nD Cert.InProj.τ).loc Cert.InProj.main_arg2)
      ∧ r.2.mem ((c.tc : Thread Cert.InProj.nD Cert.InProj.τ).loc Cert.InProj.main_arg3) = m ((c.tc : Thread Cert.InProj.nD Cert.InProj.τ).loc Cert.InProj.main_arg3)
      ∧ r.2.mem ((c.tc : Thread Cert.InProj.nD Cert.InProj.τ).loc Cert.InProj.main_arg4) = m ((c.tc : Thread Cert.InProj.nD Cert.InProj.τ).loc Cert.InProj.main_arg4))
      ∧ r.2.sem = fun _ => 0)

def quiescent_InProjIdeal [hInProjIdeal : Cert.InProjIdeal.Facts] : Prop :=
  ∀ (m : (ℓ : Loc Cert.InProjIdeal.nD Cert.InProjIdeal.τ Cert.InProjIdeal.sig) → Buf (Elt Ideal) ℓ) (g : Dev Cert.InProjIdeal.nD → PrngReg), Pre_InProjIdeal m →
    θ_run (Cert.InProjIdeal.defs (F := Ideal)) (onTc (τ := Cert.InProjIdeal.τ) (Cert.InProjIdeal.main (F := Ideal))) ⟨m, fun _ => 0, g⟩ (fun r => (∀ c : Dev Cert.InProjIdeal.nD,
      r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
      ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1)
      ∧ r.2.mem ((c.tc : Thread Cert.InProjIdeal.nD Cert.InProjIdeal.τ).loc Cert.InProjIdeal.main_arg2) = m ((c.tc : Thread Cert.InProjIdeal.nD Cert.InProjIdeal.τ).loc Cert.InProjIdeal.main_arg2)
      ∧ r.2.mem ((c.tc : Thread Cert.InProjIdeal.nD Cert.InProjIdeal.τ).loc Cert.InProjIdeal.main_arg3) = m ((c.tc : Thread Cert.InProjIdeal.nD Cert.InProjIdeal.τ).loc Cert.InProjIdeal.main_arg3)
      ∧ r.2.mem ((c.tc : Thread Cert.InProjIdeal.nD Cert.InProjIdeal.τ).loc Cert.InProjIdeal.main_arg4) = m ((c.tc : Thread Cert.InProjIdeal.nD Cert.InProjIdeal.τ).loc Cert.InProjIdeal.main_arg4))
      ∧ r.2.sem = fun _ => 0)

def quiescent_InProjRefIdeal [hInProjRefIdeal : Cert.InProjRefIdeal.Facts] : Prop :=
  ∀ (m : (ℓ : Loc Cert.InProjRefIdeal.nD Cert.InProjRefIdeal.τ Cert.InProjRefIdeal.sig) → Buf (Elt Ideal) ℓ) (g : Dev Cert.InProjRefIdeal.nD → PrngReg), Pre_InProjRefIdeal m →
    θ_run (Cert.InProjRefIdeal.defs (F := Ideal)) (onTc (τ := Cert.InProjRefIdeal.τ) (Cert.InProjRefIdeal.main (F := Ideal))) ⟨m, fun _ => 0, g⟩ (fun r => (∀ c : Dev Cert.InProjRefIdeal.nD,
      r.2.mem ((c.tc : Thread Cert.InProjRefIdeal.nD Cert.InProjRefIdeal.τ).loc Cert.InProjRefIdeal.main_arg0) = m ((c.tc : Thread Cert.InProjRefIdeal.nD Cert.InProjRefIdeal.τ).loc Cert.InProjRefIdeal.main_arg0)
      ∧ r.2.mem ((c.tc : Thread Cert.InProjRefIdeal.nD Cert.InProjRefIdeal.τ).loc Cert.InProjRefIdeal.main_arg1) = m ((c.tc : Thread Cert.InProjRefIdeal.nD Cert.InProjRefIdeal.τ).loc Cert.InProjRefIdeal.main_arg1)
      ∧ r.2.mem ((c.tc : Thread Cert.InProjRefIdeal.nD Cert.InProjRefIdeal.τ).loc Cert.InProjRefIdeal.main_arg2) = m ((c.tc : Thread Cert.InProjRefIdeal.nD Cert.InProjRefIdeal.τ).loc Cert.InProjRefIdeal.main_arg2)
      ∧ r.2.mem ((c.tc : Thread Cert.InProjRefIdeal.nD Cert.InProjRefIdeal.τ).loc Cert.InProjRefIdeal.main_arg3) = m ((c.tc : Thread Cert.InProjRefIdeal.nD Cert.InProjRefIdeal.τ).loc Cert.InProjRefIdeal.main_arg3)
      ∧ r.2.mem ((c.tc : Thread Cert.InProjRefIdeal.nD Cert.InProjRefIdeal.τ).loc Cert.InProjRefIdeal.main_arg4) = m ((c.tc : Thread Cert.InProjRefIdeal.nD Cert.InProjRefIdeal.τ).loc Cert.InProjRefIdeal.main_arg4))
      ∧ r.2.sem = fun _ => 0)

def quiescent_MixOut [hMixOut : Cert.MixOut.Facts] : Prop :=
  ∀ (m : (ℓ : Loc Cert.MixOut.nD Cert.MixOut.τ Cert.MixOut.sig) → Buf (Elt Bits) ℓ) (g : Dev Cert.MixOut.nD → PrngReg), Pre_MixOut m →
    θ_run (Cert.MixOut.defs (F := Bits)) (onTc (τ := Cert.MixOut.τ) (Cert.MixOut.main (F := Bits))) ⟨m, fun _ => 0, g⟩ (fun r => (∀ c : Dev Cert.MixOut.nD,
      r.2.mem ((c.tc : Thread Cert.MixOut.nD Cert.MixOut.τ).loc Cert.MixOut.main_arg0) = m ((c.tc : Thread Cert.MixOut.nD Cert.MixOut.τ).loc Cert.MixOut.main_arg0)
      ∧ r.2.mem ((c.tc : Thread Cert.MixOut.nD Cert.MixOut.τ).loc Cert.MixOut.main_arg1) = m ((c.tc : Thread Cert.MixOut.nD Cert.MixOut.τ).loc Cert.MixOut.main_arg1)
      ∧ r.2.mem ((c.tc : Thread Cert.MixOut.nD Cert.MixOut.τ).loc Cert.MixOut.main_arg2) = m ((c.tc : Thread Cert.MixOut.nD Cert.MixOut.τ).loc Cert.MixOut.main_arg2)
      ∧ r.2.mem ((c.tc : Thread Cert.MixOut.nD Cert.MixOut.τ).loc Cert.MixOut.main_arg3) = m ((c.tc : Thread Cert.MixOut.nD Cert.MixOut.τ).loc Cert.MixOut.main_arg3)
      ∧ r.2.mem ((c.tc : Thread Cert.MixOut.nD Cert.MixOut.τ).loc Cert.MixOut.main_arg4) = m ((c.tc : Thread Cert.MixOut.nD Cert.MixOut.τ).loc Cert.MixOut.main_arg4)
      ∧ r.2.mem ((c.tc : Thread Cert.MixOut.nD Cert.MixOut.τ).loc Cert.MixOut.main_arg5) = m ((c.tc : Thread Cert.MixOut.nD Cert.MixOut.τ).loc Cert.MixOut.main_arg5)
      ∧ r.2.mem ((c.tc : Thread Cert.MixOut.nD Cert.MixOut.τ).loc Cert.MixOut.main_arg6) = m ((c.tc : Thread Cert.MixOut.nD Cert.MixOut.τ).loc Cert.MixOut.main_arg6)
      ∧ r.2.mem ((c.tc : Thread Cert.MixOut.nD Cert.MixOut.τ).loc Cert.MixOut.main_arg7) = m ((c.tc : Thread Cert.MixOut.nD Cert.MixOut.τ).loc Cert.MixOut.main_arg7)
      ∧ r.2.mem ((c.tc : Thread Cert.MixOut.nD Cert.MixOut.τ).loc Cert.MixOut.main_arg8) = m ((c.tc : Thread Cert.MixOut.nD Cert.MixOut.τ).loc Cert.MixOut.main_arg8)
      ∧ r.2.mem ((c.tc : Thread Cert.MixOut.nD Cert.MixOut.τ).loc Cert.MixOut.main_arg9) = m ((c.tc : Thread Cert.MixOut.nD Cert.MixOut.τ).loc Cert.MixOut.main_arg9)
      ∧ r.2.mem ((c.tc : Thread Cert.MixOut.nD Cert.MixOut.τ).loc Cert.MixOut.main_arg10) = m ((c.tc : Thread Cert.MixOut.nD Cert.MixOut.τ).loc Cert.MixOut.main_arg10)
      ∧ r.2.mem ((c.tc : Thread Cert.MixOut.nD Cert.MixOut.τ).loc Cert.MixOut.main_arg11) = m ((c.tc : Thread Cert.MixOut.nD Cert.MixOut.τ).loc Cert.MixOut.main_arg11)
      ∧ r.2.mem ((c.tc : Thread Cert.MixOut.nD Cert.MixOut.τ).loc Cert.MixOut.main_arg12) = m ((c.tc : Thread Cert.MixOut.nD Cert.MixOut.τ).loc Cert.MixOut.main_arg12))
      ∧ r.2.sem = fun _ => 0)

def quiescent_MixOutIdeal [hMixOutIdeal : Cert.MixOutIdeal.Facts] : Prop :=
  ∀ (m : (ℓ : Loc Cert.MixOutIdeal.nD Cert.MixOutIdeal.τ Cert.MixOutIdeal.sig) → Buf (Elt Ideal) ℓ) (g : Dev Cert.MixOutIdeal.nD → PrngReg), Pre_MixOutIdeal m →
    θ_run (Cert.MixOutIdeal.defs (F := Ideal)) (onTc (τ := Cert.MixOutIdeal.τ) (Cert.MixOutIdeal.main (F := Ideal))) ⟨m, fun _ => 0, g⟩ (fun r => (∀ c : Dev Cert.MixOutIdeal.nD,
      r.2.mem ((c.tc : Thread Cert.MixOutIdeal.nD Cert.MixOutIdeal.τ).loc Cert.MixOutIdeal.main_arg0) = m ((c.tc : Thread Cert.MixOutIdeal.nD Cert.MixOutIdeal.τ).loc Cert.MixOutIdeal.main_arg0)
      ∧ r.2.mem ((c.tc : Thread Cert.MixOutIdeal.nD Cert.MixOutIdeal.τ).loc Cert.MixOutIdeal.main_arg1) = m ((c.tc : Thread Cert.MixOutIdeal.nD Cert.MixOutIdeal.τ).loc Cert.MixOutIdeal.main_arg1)
      ∧ r.2.mem ((c.tc : Thread Cert.MixOutIdeal.nD Cert.MixOutIdeal.τ).loc Cert.MixOutIdeal.main_arg2) = m ((c.tc : Thread Cert.MixOutIdeal.nD Cert.MixOutIdeal.τ).loc Cert.MixOutIdeal.main_arg2)
      ∧ r.2.mem ((c.tc : Thread Cert.MixOutIdeal.nD Cert.MixOutIdeal.τ).loc Cert.MixOutIdeal.main_arg3) = m ((c.tc : Thread Cert.MixOutIdeal.nD Cert.MixOutIdeal.τ).loc Cert.MixOutIdeal.main_arg3)
      ∧ r.2.mem ((c.tc : Thread Cert.MixOutIdeal.nD Cert.MixOutIdeal.τ).loc Cert.MixOutIdeal.main_arg4) = m ((c.tc : Thread Cert.MixOutIdeal.nD Cert.MixOutIdeal.τ).loc Cert.MixOutIdeal.main_arg4)
      ∧ r.2.mem ((c.tc : Thread Cert.MixOutIdeal.nD Cert.MixOutIdeal.τ).loc Cert.MixOutIdeal.main_arg5) = m ((c.tc : Thread Cert.MixOutIdeal.nD Cert.MixOutIdeal.τ).loc Cert.MixOutIdeal.main_arg5)
      ∧ r.2.mem ((c.tc : Thread Cert.MixOutIdeal.nD Cert.MixOutIdeal.τ).loc Cert.MixOutIdeal.main_arg6) = m ((c.tc : Thread Cert.MixOutIdeal.nD Cert.MixOutIdeal.τ).loc Cert.MixOutIdeal.main_arg6)
      ∧ r.2.mem ((c.tc : Thread Cert.MixOutIdeal.nD Cert.MixOutIdeal.τ).loc Cert.MixOutIdeal.main_arg7) = m ((c.tc : Thread Cert.MixOutIdeal.nD Cert.MixOutIdeal.τ).loc Cert.MixOutIdeal.main_arg7)
      ∧ r.2.mem ((c.tc : Thread Cert.MixOutIdeal.nD Cert.MixOutIdeal.τ).loc Cert.MixOutIdeal.main_arg8) = m ((c.tc : Thread Cert.MixOutIdeal.nD Cert.MixOutIdeal.τ).loc Cert.MixOutIdeal.main_arg8)
      ∧ r.2.mem ((c.tc : Thread Cert.MixOutIdeal.nD Cert.MixOutIdeal.τ).loc Cert.MixOutIdeal.main_arg9) = m ((c.tc : Thread Cert.MixOutIdeal.nD Cert.MixOutIdeal.τ).loc Cert.MixOutIdeal.main_arg9)
      ∧ r.2.mem ((c.tc : Thread Cert.MixOutIdeal.nD Cert.MixOutIdeal.τ).loc Cert.MixOutIdeal.main_arg10) = m ((c.tc : Thread Cert.MixOutIdeal.nD Cert.MixOutIdeal.τ).loc Cert.MixOutIdeal.main_arg10)
      ∧ r.2.mem ((c.tc : Thread Cert.MixOutIdeal.nD Cert.MixOutIdeal.τ).loc Cert.MixOutIdeal.main_arg11) = m ((c.tc : Thread Cert.MixOutIdeal.nD Cert.MixOutIdeal.τ).loc Cert.MixOutIdeal.main_arg11)
      ∧ r.2.mem ((c.tc : Thread Cert.MixOutIdeal.nD Cert.MixOutIdeal.τ).loc Cert.MixOutIdeal.main_arg12) = m ((c.tc : Thread Cert.MixOutIdeal.nD Cert.MixOutIdeal.τ).loc Cert.MixOutIdeal.main_arg12))
      ∧ r.2.sem = fun _ => 0)

def quiescent_MixOutRefIdeal [hMixOutRefIdeal : Cert.MixOutRefIdeal.Facts] : Prop :=
  ∀ (m : (ℓ : Loc Cert.MixOutRefIdeal.nD Cert.MixOutRefIdeal.τ Cert.MixOutRefIdeal.sig) → Buf (Elt Ideal) ℓ) (g : Dev Cert.MixOutRefIdeal.nD → PrngReg), Pre_MixOutRefIdeal m →
    θ_run (Cert.MixOutRefIdeal.defs (F := Ideal)) (onTc (τ := Cert.MixOutRefIdeal.τ) (Cert.MixOutRefIdeal.main (F := Ideal))) ⟨m, fun _ => 0, g⟩ (fun r => (∀ c : Dev Cert.MixOutRefIdeal.nD,
      r.2.mem ((c.tc : Thread Cert.MixOutRefIdeal.nD Cert.MixOutRefIdeal.τ).loc Cert.MixOutRefIdeal.main_arg0) = m ((c.tc : Thread Cert.MixOutRefIdeal.nD Cert.MixOutRefIdeal.τ).loc Cert.MixOutRefIdeal.main_arg0)
      ∧ r.2.mem ((c.tc : Thread Cert.MixOutRefIdeal.nD Cert.MixOutRefIdeal.τ).loc Cert.MixOutRefIdeal.main_arg1) = m ((c.tc : Thread Cert.MixOutRefIdeal.nD Cert.MixOutRefIdeal.τ).loc Cert.MixOutRefIdeal.main_arg1)
      ∧ r.2.mem ((c.tc : Thread Cert.MixOutRefIdeal.nD Cert.MixOutRefIdeal.τ).loc Cert.MixOutRefIdeal.main_arg2) = m ((c.tc : Thread Cert.MixOutRefIdeal.nD Cert.MixOutRefIdeal.τ).loc Cert.MixOutRefIdeal.main_arg2)
      ∧ r.2.mem ((c.tc : Thread Cert.MixOutRefIdeal.nD Cert.MixOutRefIdeal.τ).loc Cert.MixOutRefIdeal.main_arg3) = m ((c.tc : Thread Cert.MixOutRefIdeal.nD Cert.MixOutRefIdeal.τ).loc Cert.MixOutRefIdeal.main_arg3)
      ∧ r.2.mem ((c.tc : Thread Cert.MixOutRefIdeal.nD Cert.MixOutRefIdeal.τ).loc Cert.MixOutRefIdeal.main_arg4) = m ((c.tc : Thread Cert.MixOutRefIdeal.nD Cert.MixOutRefIdeal.τ).loc Cert.MixOutRefIdeal.main_arg4)
      ∧ r.2.mem ((c.tc : Thread Cert.MixOutRefIdeal.nD Cert.MixOutRefIdeal.τ).loc Cert.MixOutRefIdeal.main_arg5) = m ((c.tc : Thread Cert.MixOutRefIdeal.nD Cert.MixOutRefIdeal.τ).loc Cert.MixOutRefIdeal.main_arg5)
      ∧ r.2.mem ((c.tc : Thread Cert.MixOutRefIdeal.nD Cert.MixOutRefIdeal.τ).loc Cert.MixOutRefIdeal.main_arg6) = m ((c.tc : Thread Cert.MixOutRefIdeal.nD Cert.MixOutRefIdeal.τ).loc Cert.MixOutRefIdeal.main_arg6)
      ∧ r.2.mem ((c.tc : Thread Cert.MixOutRefIdeal.nD Cert.MixOutRefIdeal.τ).loc Cert.MixOutRefIdeal.main_arg7) = m ((c.tc : Thread Cert.MixOutRefIdeal.nD Cert.MixOutRefIdeal.τ).loc Cert.MixOutRefIdeal.main_arg7)
      ∧ r.2.mem ((c.tc : Thread Cert.MixOutRefIdeal.nD Cert.MixOutRefIdeal.τ).loc Cert.MixOutRefIdeal.main_arg8) = m ((c.tc : Thread Cert.MixOutRefIdeal.nD Cert.MixOutRefIdeal.τ).loc Cert.MixOutRefIdeal.main_arg8)
      ∧ r.2.mem ((c.tc : Thread Cert.MixOutRefIdeal.nD Cert.MixOutRefIdeal.τ).loc Cert.MixOutRefIdeal.main_arg9) = m ((c.tc : Thread Cert.MixOutRefIdeal.nD Cert.MixOutRefIdeal.τ).loc Cert.MixOutRefIdeal.main_arg9)
      ∧ r.2.mem ((c.tc : Thread Cert.MixOutRefIdeal.nD Cert.MixOutRefIdeal.τ).loc Cert.MixOutRefIdeal.main_arg10) = m ((c.tc : Thread Cert.MixOutRefIdeal.nD Cert.MixOutRefIdeal.τ).loc Cert.MixOutRefIdeal.main_arg10)
      ∧ r.2.mem ((c.tc : Thread Cert.MixOutRefIdeal.nD Cert.MixOutRefIdeal.τ).loc Cert.MixOutRefIdeal.main_arg11) = m ((c.tc : Thread Cert.MixOutRefIdeal.nD Cert.MixOutRefIdeal.τ).loc Cert.MixOutRefIdeal.main_arg11)
      ∧ r.2.mem ((c.tc : Thread Cert.MixOutRefIdeal.nD Cert.MixOutRefIdeal.τ).loc Cert.MixOutRefIdeal.main_arg12) = m ((c.tc : Thread Cert.MixOutRefIdeal.nD Cert.MixOutRefIdeal.τ).loc Cert.MixOutRefIdeal.main_arg12))
      ∧ r.2.sem = fun _ => 0)

def quiescent_Prep [hPrep : Cert.Prep.Facts] : Prop :=
  ∀ (m : (ℓ : Loc Cert.Prep.nD Cert.Prep.τ Cert.Prep.sig) → Buf (Elt Bits) ℓ) (g : Dev Cert.Prep.nD → PrngReg), Pre_Prep m →
    θ_run (Cert.Prep.defs (F := Bits)) (onTc (τ := Cert.Prep.τ) (Cert.Prep.main (F := Bits))) ⟨m, fun _ => 0, g⟩ (fun r => (∀ c : Dev Cert.Prep.nD,
      r.2.mem ((c.tc : Thread Cert.Prep.nD Cert.Prep.τ).loc Cert.Prep.main_arg0) = m ((c.tc : Thread Cert.Prep.nD Cert.Prep.τ).loc Cert.Prep.main_arg0)
      ∧ r.2.mem ((c.tc : Thread Cert.Prep.nD Cert.Prep.τ).loc Cert.Prep.main_arg1) = m ((c.tc : Thread Cert.Prep.nD Cert.Prep.τ).loc Cert.Prep.main_arg1)
      ∧ r.2.mem ((c.tc : Thread Cert.Prep.nD Cert.Prep.τ).loc Cert.Prep.main_arg2) = m ((c.tc : Thread Cert.Prep.nD Cert.Prep.τ).loc Cert.Prep.main_arg2)
      ∧ r.2.mem ((c.tc : Thread Cert.Prep.nD Cert.Prep.τ).loc Cert.Prep.main_arg3) = m ((c.tc : Thread Cert.Prep.nD Cert.Prep.τ).loc Cert.Prep.main_arg3)
      ∧ r.2.mem ((c.tc : Thread Cert.Prep.nD Cert.Prep.τ).loc Cert.Prep.main_arg4) = m ((c.tc : Thread Cert.Prep.nD Cert.Prep.τ).loc Cert.Prep.main_arg4)
      ∧ r.2.mem ((c.tc : Thread Cert.Prep.nD Cert.Prep.τ).loc Cert.Prep.main_arg5) = m ((c.tc : Thread Cert.Prep.nD Cert.Prep.τ).loc Cert.Prep.main_arg5)
      ∧ r.2.mem ((c.tc : Thread Cert.Prep.nD Cert.Prep.τ).loc Cert.Prep.main_arg6) = m ((c.tc : Thread Cert.Prep.nD Cert.Prep.τ).loc Cert.Prep.main_arg6))
      ∧ r.2.sem = fun _ => 0)

def quiescent_PrepIdeal [hPrepIdeal : Cert.PrepIdeal.Facts] : Prop :=
  ∀ (m : (ℓ : Loc Cert.PrepIdeal.nD Cert.PrepIdeal.τ Cert.PrepIdeal.sig) → Buf (Elt Ideal) ℓ) (g : Dev Cert.PrepIdeal.nD → PrngReg), Pre_PrepIdeal m →
    θ_run (Cert.PrepIdeal.defs (F := Ideal)) (onTc (τ := Cert.PrepIdeal.τ) (Cert.PrepIdeal.main (F := Ideal))) ⟨m, fun _ => 0, g⟩ (fun r => (∀ c : Dev Cert.PrepIdeal.nD,
      r.2.mem ((c.tc : Thread Cert.PrepIdeal.nD Cert.PrepIdeal.τ).loc Cert.PrepIdeal.main_arg0) = m ((c.tc : Thread Cert.PrepIdeal.nD Cert.PrepIdeal.τ).loc Cert.PrepIdeal.main_arg0)
      ∧ r.2.mem ((c.tc : Thread Cert.PrepIdeal.nD Cert.PrepIdeal.τ).loc Cert.PrepIdeal.main_arg1) = m ((c.tc : Thread Cert.PrepIdeal.nD Cert.PrepIdeal.τ).loc Cert.PrepIdeal.main_arg1)
      ∧ r.2.mem ((c.tc : Thread Cert.PrepIdeal.nD Cert.PrepIdeal.τ).loc Cert.PrepIdeal.main_arg2) = m ((c.tc : Thread Cert.PrepIdeal.nD Cert.PrepIdeal.τ).loc Cert.PrepIdeal.main_arg2)
      ∧ r.2.mem ((c.tc : Thread Cert.PrepIdeal.nD Cert.PrepIdeal.τ).loc Cert.PrepIdeal.main_arg3) = m ((c.tc : Thread Cert.PrepIdeal.nD Cert.PrepIdeal.τ).loc Cert.PrepIdeal.main_arg3)
      ∧ r.2.mem ((c.tc : Thread Cert.PrepIdeal.nD Cert.PrepIdeal.τ).loc Cert.PrepIdeal.main_arg4) = m ((c.tc : Thread Cert.PrepIdeal.nD Cert.PrepIdeal.τ).loc Cert.PrepIdeal.main_arg4)
      ∧ r.2.mem ((c.tc : Thread Cert.PrepIdeal.nD Cert.PrepIdeal.τ).loc Cert.PrepIdeal.main_arg5) = m ((c.tc : Thread Cert.PrepIdeal.nD Cert.PrepIdeal.τ).loc Cert.PrepIdeal.main_arg5)
      ∧ r.2.mem ((c.tc : Thread Cert.PrepIdeal.nD Cert.PrepIdeal.τ).loc Cert.PrepIdeal.main_arg6) = m ((c.tc : Thread Cert.PrepIdeal.nD Cert.PrepIdeal.τ).loc Cert.PrepIdeal.main_arg6))
      ∧ r.2.sem = fun _ => 0)

def quiescent_PrepRefIdeal [hPrepRefIdeal : Cert.PrepRefIdeal.Facts] : Prop :=
  ∀ (m : (ℓ : Loc Cert.PrepRefIdeal.nD Cert.PrepRefIdeal.τ Cert.PrepRefIdeal.sig) → Buf (Elt Ideal) ℓ) (g : Dev Cert.PrepRefIdeal.nD → PrngReg), Pre_PrepRefIdeal m →
    θ_run (Cert.PrepRefIdeal.defs (F := Ideal)) (onTc (τ := Cert.PrepRefIdeal.τ) (Cert.PrepRefIdeal.main (F := Ideal))) ⟨m, fun _ => 0, g⟩ (fun r => (∀ c : Dev Cert.PrepRefIdeal.nD,
      r.2.mem ((c.tc : Thread Cert.PrepRefIdeal.nD Cert.PrepRefIdeal.τ).loc Cert.PrepRefIdeal.main_arg0) = m ((c.tc : Thread Cert.PrepRefIdeal.nD Cert.PrepRefIdeal.τ).loc Cert.PrepRefIdeal.main_arg0)
      ∧ r.2.mem ((c.tc : Thread Cert.PrepRefIdeal.nD Cert.PrepRefIdeal.τ).loc Cert.PrepRefIdeal.main_arg1) = m ((c.tc : Thread Cert.PrepRefIdeal.nD Cert.PrepRefIdeal.τ).loc Cert.PrepRefIdeal.main_arg1)
      ∧ r.2.mem ((c.tc : Thread Cert.PrepRefIdeal.nD Cert.PrepRefIdeal.τ).loc Cert.PrepRefIdeal.main_arg2) = m ((c.tc : Thread Cert.PrepRefIdeal.nD Cert.PrepRefIdeal.τ).loc Cert.PrepRefIdeal.main_arg2)
      ∧ r.2.mem ((c.tc : Thread Cert.PrepRefIdeal.nD Cert.PrepRefIdeal.τ).loc Cert.PrepRefIdeal.main_arg3) = m ((c.tc : Thread Cert.PrepRefIdeal.nD Cert.PrepRefIdeal.τ).loc Cert.PrepRefIdeal.main_arg3)
      ∧ r.2.mem ((c.tc : Thread Cert.PrepRefIdeal.nD Cert.PrepRefIdeal.τ).loc Cert.PrepRefIdeal.main_arg4) = m ((c.tc : Thread Cert.PrepRefIdeal.nD Cert.PrepRefIdeal.τ).loc Cert.PrepRefIdeal.main_arg4)
      ∧ r.2.mem ((c.tc : Thread Cert.PrepRefIdeal.nD Cert.PrepRefIdeal.τ).loc Cert.PrepRefIdeal.main_arg5) = m ((c.tc : Thread Cert.PrepRefIdeal.nD Cert.PrepRefIdeal.τ).loc Cert.PrepRefIdeal.main_arg5)
      ∧ r.2.mem ((c.tc : Thread Cert.PrepRefIdeal.nD Cert.PrepRefIdeal.τ).loc Cert.PrepRefIdeal.main_arg6) = m ((c.tc : Thread Cert.PrepRefIdeal.nD Cert.PrepRefIdeal.τ).loc Cert.PrepRefIdeal.main_arg6))
      ∧ r.2.sem = fun _ => 0)

def quiescent_Dsa [hDsa : Cert.Dsa.Facts] : Prop :=
  ∀ (m : (ℓ : Loc Cert.Dsa.nD Cert.Dsa.τ Cert.Dsa.sig) → Buf (Elt Bits) ℓ) (g : Dev Cert.Dsa.nD → PrngReg), Pre_Dsa m →
    θ_run (Cert.Dsa.defs (F := Bits)) (onTc (τ := Cert.Dsa.τ) (Cert.Dsa.main (F := Bits))) ⟨m, fun _ => 0, g⟩ (fun r => (∀ c : Dev Cert.Dsa.nD,
      r.2.mem ((c.tc : Thread Cert.Dsa.nD Cert.Dsa.τ).loc Cert.Dsa.main_arg0) = m ((c.tc : Thread Cert.Dsa.nD Cert.Dsa.τ).loc Cert.Dsa.main_arg0)
      ∧ r.2.mem ((c.tc : Thread Cert.Dsa.nD Cert.Dsa.τ).loc Cert.Dsa.main_arg1) = m ((c.tc : Thread Cert.Dsa.nD Cert.Dsa.τ).loc Cert.Dsa.main_arg1)
      ∧ r.2.mem ((c.tc : Thread Cert.Dsa.nD Cert.Dsa.τ).loc Cert.Dsa.main_arg2) = m ((c.tc : Thread Cert.Dsa.nD Cert.Dsa.τ).loc Cert.Dsa.main_arg2)
      ∧ r.2.mem ((c.tc : Thread Cert.Dsa.nD Cert.Dsa.τ).loc Cert.Dsa.main_arg3) = m ((c.tc : Thread Cert.Dsa.nD Cert.Dsa.τ).loc Cert.Dsa.main_arg3)
      ∧ r.2.mem ((c.tc : Thread Cert.Dsa.nD Cert.Dsa.τ).loc Cert.Dsa.main_arg4) = m ((c.tc : Thread Cert.Dsa.nD Cert.Dsa.τ).loc Cert.Dsa.main_arg4)
      ∧ r.2.mem ((c.tc : Thread Cert.Dsa.nD Cert.Dsa.τ).loc Cert.Dsa.main_arg5) = m ((c.tc : Thread Cert.Dsa.nD Cert.Dsa.τ).loc Cert.Dsa.main_arg5)
      ∧ r.2.mem ((c.tc : Thread Cert.Dsa.nD Cert.Dsa.τ).loc Cert.Dsa.main_arg6) = m ((c.tc : Thread Cert.Dsa.nD Cert.Dsa.τ).loc Cert.Dsa.main_arg6))
      ∧ r.2.sem = fun _ => 0)

def preserves_Moe_MoeIdeal : Prop :=
  True

def algebraic_MoeIdeal_MoeRefIdeal [hMoeIdeal : Cert.MoeIdeal.Facts] [hMoeRefIdeal : Cert.MoeRefIdeal.Facts] [hPre_experts_in_range : Cert.Pre_experts_in_range.Facts] : Prop :=
  ∀ (m : (ℓ : Loc Cert.MoeIdeal.nD Cert.MoeIdeal.τ Cert.MoeIdeal.sig) → Buf (Elt Ideal) ℓ) (g : Dev Cert.MoeIdeal.nD → PrngReg)
    (m' : (ℓ : Loc Cert.MoeRefIdeal.nD Cert.MoeRefIdeal.τ Cert.MoeRefIdeal.sig) → Buf (Elt Ideal) ℓ) (g' : Dev Cert.MoeRefIdeal.nD → PrngReg), Pre_MoeIdeal m →
    (∀ c : Dev Cert.MoeIdeal.nD,
      m' ((c.tc : Thread Cert.MoeRefIdeal.nD Cert.MoeRefIdeal.τ).loc Cert.MoeRefIdeal.main_arg0) = m ((c.tc : Thread Cert.MoeIdeal.nD Cert.MoeIdeal.τ).loc Cert.MoeIdeal.main_arg0)
      ∧ m' ((c.tc : Thread Cert.MoeRefIdeal.nD Cert.MoeRefIdeal.τ).loc Cert.MoeRefIdeal.main_arg1) = m ((c.tc : Thread Cert.MoeIdeal.nD Cert.MoeIdeal.τ).loc Cert.MoeIdeal.main_arg1)
      ∧ m' ((c.tc : Thread Cert.MoeRefIdeal.nD Cert.MoeRefIdeal.τ).loc Cert.MoeRefIdeal.main_arg2) = m ((c.tc : Thread Cert.MoeIdeal.nD Cert.MoeIdeal.τ).loc Cert.MoeIdeal.main_arg2)
      ∧ m' ((c.tc : Thread Cert.MoeRefIdeal.nD Cert.MoeRefIdeal.τ).loc Cert.MoeRefIdeal.main_arg3) = m ((c.tc : Thread Cert.MoeIdeal.nD Cert.MoeIdeal.τ).loc Cert.MoeIdeal.main_arg3)
      ∧ m' ((c.tc : Thread Cert.MoeRefIdeal.nD Cert.MoeRefIdeal.τ).loc Cert.MoeRefIdeal.main_arg4) = m ((c.tc : Thread Cert.MoeIdeal.nD Cert.MoeIdeal.τ).loc Cert.MoeIdeal.main_arg4)
      ∧ m' ((c.tc : Thread Cert.MoeRefIdeal.nD Cert.MoeRefIdeal.τ).loc Cert.MoeRefIdeal.main_arg5) = m ((c.tc : Thread Cert.MoeIdeal.nD Cert.MoeIdeal.τ).loc Cert.MoeIdeal.main_arg5)
      ∧ m' ((c.tc : Thread Cert.MoeRefIdeal.nD Cert.MoeRefIdeal.τ).loc Cert.MoeRefIdeal.main_arg6) = m ((c.tc : Thread Cert.MoeIdeal.nD Cert.MoeIdeal.τ).loc Cert.MoeIdeal.main_arg6)
      ∧ m' ((c.tc : Thread Cert.MoeRefIdeal.nD Cert.MoeRefIdeal.τ).loc Cert.MoeRefIdeal.main_arg7) = m ((c.tc : Thread Cert.MoeIdeal.nD Cert.MoeIdeal.τ).loc Cert.MoeIdeal.main_arg7)) →
    ∃ (v0 : (c : Dev Cert.MoeIdeal.nD) → Buf (Elt Ideal) ((c.tc : Thread Cert.MoeIdeal.nD Cert.MoeIdeal.τ).loc Cert.MoeIdeal.main_v0)),
      θ_run (Cert.MoeIdeal.defs (F := Ideal)) (onTc (τ := Cert.MoeIdeal.τ) (Cert.MoeIdeal.main (F := Ideal))) ⟨m, fun _ => 0, g⟩ (fun r => ∀ c : Dev Cert.MoeIdeal.nD,
          r.2.mem ((c.tc : Thread Cert.MoeIdeal.nD Cert.MoeIdeal.τ).loc Cert.MoeIdeal.main_v0) = v0 c
          ∧ r.2.mem ((c.tc : Thread Cert.MoeIdeal.nD Cert.MoeIdeal.τ).loc Cert.MoeIdeal.main_arg0) = m ((c.tc : Thread Cert.MoeIdeal.nD Cert.MoeIdeal.τ).loc Cert.MoeIdeal.main_arg0)
          ∧ r.2.mem ((c.tc : Thread Cert.MoeIdeal.nD Cert.MoeIdeal.τ).loc Cert.MoeIdeal.main_arg1) = m ((c.tc : Thread Cert.MoeIdeal.nD Cert.MoeIdeal.τ).loc Cert.MoeIdeal.main_arg1)
          ∧ r.2.mem ((c.tc : Thread Cert.MoeIdeal.nD Cert.MoeIdeal.τ).loc Cert.MoeIdeal.main_arg2) = m ((c.tc : Thread Cert.MoeIdeal.nD Cert.MoeIdeal.τ).loc Cert.MoeIdeal.main_arg2)
          ∧ r.2.mem ((c.tc : Thread Cert.MoeIdeal.nD Cert.MoeIdeal.τ).loc Cert.MoeIdeal.main_arg3) = m ((c.tc : Thread Cert.MoeIdeal.nD Cert.MoeIdeal.τ).loc Cert.MoeIdeal.main_arg3)
          ∧ r.2.mem ((c.tc : Thread Cert.MoeIdeal.nD Cert.MoeIdeal.τ).loc Cert.MoeIdeal.main_arg4) = m ((c.tc : Thread Cert.MoeIdeal.nD Cert.MoeIdeal.τ).loc Cert.MoeIdeal.main_arg4)
          ∧ r.2.mem ((c.tc : Thread Cert.MoeIdeal.nD Cert.MoeIdeal.τ).loc Cert.MoeIdeal.main_arg5) = m ((c.tc : Thread Cert.MoeIdeal.nD Cert.MoeIdeal.τ).loc Cert.MoeIdeal.main_arg5)
          ∧ r.2.mem ((c.tc : Thread Cert.MoeIdeal.nD Cert.MoeIdeal.τ).loc Cert.MoeIdeal.main_arg6) = m ((c.tc : Thread Cert.MoeIdeal.nD Cert.MoeIdeal.τ).loc Cert.MoeIdeal.main_arg6)
          ∧ r.2.mem ((c.tc : Thread Cert.MoeIdeal.nD Cert.MoeIdeal.τ).loc Cert.MoeIdeal.main_arg7) = m ((c.tc : Thread Cert.MoeIdeal.nD Cert.MoeIdeal.τ).loc Cert.MoeIdeal.main_arg7))
      ∧ θ_run (Cert.MoeRefIdeal.defs (F := Ideal)) (onTc (τ := Cert.MoeRefIdeal.τ) (Cert.MoeRefIdeal.main (F := Ideal))) ⟨m', fun _ => 0, g'⟩ (fun r => ∀ c : Dev Cert.MoeRefIdeal.nD,
          r.2.mem ((c.tc : Thread Cert.MoeRefIdeal.nD Cert.MoeRefIdeal.τ).loc Cert.MoeRefIdeal.main_v63) = v0 c
          ∧ r.2.mem ((c.tc : Thread Cert.MoeRefIdeal.nD Cert.MoeRefIdeal.τ).loc Cert.MoeRefIdeal.main_arg0) = m' ((c.tc : Thread Cert.MoeRefIdeal.nD Cert.MoeRefIdeal.τ).loc Cert.MoeRefIdeal.main_arg0)
          ∧ r.2.mem ((c.tc : Thread Cert.MoeRefIdeal.nD Cert.MoeRefIdeal.τ).loc Cert.MoeRefIdeal.main_arg1) = m' ((c.tc : Thread Cert.MoeRefIdeal.nD Cert.MoeRefIdeal.τ).loc Cert.MoeRefIdeal.main_arg1)
          ∧ r.2.mem ((c.tc : Thread Cert.MoeRefIdeal.nD Cert.MoeRefIdeal.τ).loc Cert.MoeRefIdeal.main_arg2) = m' ((c.tc : Thread Cert.MoeRefIdeal.nD Cert.MoeRefIdeal.τ).loc Cert.MoeRefIdeal.main_arg2)
          ∧ r.2.mem ((c.tc : Thread Cert.MoeRefIdeal.nD Cert.MoeRefIdeal.τ).loc Cert.MoeRefIdeal.main_arg3) = m' ((c.tc : Thread Cert.MoeRefIdeal.nD Cert.MoeRefIdeal.τ).loc Cert.MoeRefIdeal.main_arg3)
          ∧ r.2.mem ((c.tc : Thread Cert.MoeRefIdeal.nD Cert.MoeRefIdeal.τ).loc Cert.MoeRefIdeal.main_arg4) = m' ((c.tc : Thread Cert.MoeRefIdeal.nD Cert.MoeRefIdeal.τ).loc Cert.MoeRefIdeal.main_arg4)
          ∧ r.2.mem ((c.tc : Thread Cert.MoeRefIdeal.nD Cert.MoeRefIdeal.τ).loc Cert.MoeRefIdeal.main_arg5) = m' ((c.tc : Thread Cert.MoeRefIdeal.nD Cert.MoeRefIdeal.τ).loc Cert.MoeRefIdeal.main_arg5)
          ∧ r.2.mem ((c.tc : Thread Cert.MoeRefIdeal.nD Cert.MoeRefIdeal.τ).loc Cert.MoeRefIdeal.main_arg6) = m' ((c.tc : Thread Cert.MoeRefIdeal.nD Cert.MoeRefIdeal.τ).loc Cert.MoeRefIdeal.main_arg6)
          ∧ r.2.mem ((c.tc : Thread Cert.MoeRefIdeal.nD Cert.MoeRefIdeal.τ).loc Cert.MoeRefIdeal.main_arg7) = m' ((c.tc : Thread Cert.MoeRefIdeal.nD Cert.MoeRefIdeal.τ).loc Cert.MoeRefIdeal.main_arg7))

def preserves_InProj_InProjIdeal : Prop :=
  True

def algebraic_InProjIdeal_InProjRefIdeal [hInProjIdeal : Cert.InProjIdeal.Facts] [hInProjRefIdeal : Cert.InProjRefIdeal.Facts] : Prop :=
  ∀ (m : (ℓ : Loc Cert.InProjIdeal.nD Cert.InProjIdeal.τ Cert.InProjIdeal.sig) → Buf (Elt Ideal) ℓ) (g : Dev Cert.InProjIdeal.nD → PrngReg)
    (m' : (ℓ : Loc Cert.InProjRefIdeal.nD Cert.InProjRefIdeal.τ Cert.InProjRefIdeal.sig) → Buf (Elt Ideal) ℓ) (g' : Dev Cert.InProjRefIdeal.nD → PrngReg), Pre_InProjIdeal m →
    (∀ c : Dev Cert.InProjIdeal.nD,
      m' ((c.tc : Thread Cert.InProjRefIdeal.nD Cert.InProjRefIdeal.τ).loc Cert.InProjRefIdeal.main_arg0) = m ((c.tc : Thread Cert.InProjIdeal.nD Cert.InProjIdeal.τ).loc Cert.InProjIdeal.main_arg0)
      ∧ m' ((c.tc : Thread Cert.InProjRefIdeal.nD Cert.InProjRefIdeal.τ).loc Cert.InProjRefIdeal.main_arg1) = m ((c.tc : Thread Cert.InProjIdeal.nD Cert.InProjIdeal.τ).loc Cert.InProjIdeal.main_arg1)
      ∧ m' ((c.tc : Thread Cert.InProjRefIdeal.nD Cert.InProjRefIdeal.τ).loc Cert.InProjRefIdeal.main_arg2) = m ((c.tc : Thread Cert.InProjIdeal.nD Cert.InProjIdeal.τ).loc Cert.InProjIdeal.main_arg2)
      ∧ m' ((c.tc : Thread Cert.InProjRefIdeal.nD Cert.InProjRefIdeal.τ).loc Cert.InProjRefIdeal.main_arg3) = m ((c.tc : Thread Cert.InProjIdeal.nD Cert.InProjIdeal.τ).loc Cert.InProjIdeal.main_arg3)
      ∧ m' ((c.tc : Thread Cert.InProjRefIdeal.nD Cert.InProjRefIdeal.τ).loc Cert.InProjRefIdeal.main_arg4) = m ((c.tc : Thread Cert.InProjIdeal.nD Cert.InProjIdeal.τ).loc Cert.InProjIdeal.main_arg4)) →
    ∃ (v0 : (c : Dev Cert.InProjIdeal.nD) → Buf (Elt Ideal) ((c.tc : Thread Cert.InProjIdeal.nD Cert.InProjIdeal.τ).loc Cert.InProjIdeal.main_v4)),
      θ_run (Cert.InProjIdeal.defs (F := Ideal)) (onTc (τ := Cert.InProjIdeal.τ) (Cert.InProjIdeal.main (F := Ideal))) ⟨m, fun _ => 0, g⟩ (fun r => ∀ c : Dev Cert.InProjIdeal.nD,
          r.2.mem ((c.tc : Thread Cert.InProjIdeal.nD Cert.InProjIdeal.τ).loc Cert.InProjIdeal.main_v4) = v0 c
          ∧ r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
          ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1)
          ∧ r.2.mem ((c.tc : Thread Cert.InProjIdeal.nD Cert.InProjIdeal.τ).loc Cert.InProjIdeal.main_arg2) = m ((c.tc : Thread Cert.InProjIdeal.nD Cert.InProjIdeal.τ).loc Cert.InProjIdeal.main_arg2)
          ∧ r.2.mem ((c.tc : Thread Cert.InProjIdeal.nD Cert.InProjIdeal.τ).loc Cert.InProjIdeal.main_arg3) = m ((c.tc : Thread Cert.InProjIdeal.nD Cert.InProjIdeal.τ).loc Cert.InProjIdeal.main_arg3)
          ∧ r.2.mem ((c.tc : Thread Cert.InProjIdeal.nD Cert.InProjIdeal.τ).loc Cert.InProjIdeal.main_arg4) = m ((c.tc : Thread Cert.InProjIdeal.nD Cert.InProjIdeal.τ).loc Cert.InProjIdeal.main_arg4))
      ∧ θ_run (Cert.InProjRefIdeal.defs (F := Ideal)) (onTc (τ := Cert.InProjRefIdeal.τ) (Cert.InProjRefIdeal.main (F := Ideal))) ⟨m', fun _ => 0, g'⟩ (fun r => ∀ c : Dev Cert.InProjRefIdeal.nD,
          r.2.mem ((c.tc : Thread Cert.InProjRefIdeal.nD Cert.InProjRefIdeal.τ).loc Cert.InProjRefIdeal.main_v23) = v0 c
          ∧ r.2.mem ((c.tc : Thread Cert.InProjRefIdeal.nD Cert.InProjRefIdeal.τ).loc Cert.InProjRefIdeal.main_arg0) = m' ((c.tc : Thread Cert.InProjRefIdeal.nD Cert.InProjRefIdeal.τ).loc Cert.InProjRefIdeal.main_arg0)
          ∧ r.2.mem ((c.tc : Thread Cert.InProjRefIdeal.nD Cert.InProjRefIdeal.τ).loc Cert.InProjRefIdeal.main_arg1) = m' ((c.tc : Thread Cert.InProjRefIdeal.nD Cert.InProjRefIdeal.τ).loc Cert.InProjRefIdeal.main_arg1)
          ∧ r.2.mem ((c.tc : Thread Cert.InProjRefIdeal.nD Cert.InProjRefIdeal.τ).loc Cert.InProjRefIdeal.main_arg2) = m' ((c.tc : Thread Cert.InProjRefIdeal.nD Cert.InProjRefIdeal.τ).loc Cert.InProjRefIdeal.main_arg2)
          ∧ r.2.mem ((c.tc : Thread Cert.InProjRefIdeal.nD Cert.InProjRefIdeal.τ).loc Cert.InProjRefIdeal.main_arg3) = m' ((c.tc : Thread Cert.InProjRefIdeal.nD Cert.InProjRefIdeal.τ).loc Cert.InProjRefIdeal.main_arg3)
          ∧ r.2.mem ((c.tc : Thread Cert.InProjRefIdeal.nD Cert.InProjRefIdeal.τ).loc Cert.InProjRefIdeal.main_arg4) = m' ((c.tc : Thread Cert.InProjRefIdeal.nD Cert.InProjRefIdeal.τ).loc Cert.InProjRefIdeal.main_arg4))

def preserves_MixOut_MixOutIdeal : Prop :=
  True

def algebraic_MixOutIdeal_MixOutRefIdeal [hMixOutIdeal : Cert.MixOutIdeal.Facts] [hMixOutRefIdeal : Cert.MixOutRefIdeal.Facts] : Prop :=
  ∀ (m : (ℓ : Loc Cert.MixOutIdeal.nD Cert.MixOutIdeal.τ Cert.MixOutIdeal.sig) → Buf (Elt Ideal) ℓ) (g : Dev Cert.MixOutIdeal.nD → PrngReg)
    (m' : (ℓ : Loc Cert.MixOutRefIdeal.nD Cert.MixOutRefIdeal.τ Cert.MixOutRefIdeal.sig) → Buf (Elt Ideal) ℓ) (g' : Dev Cert.MixOutRefIdeal.nD → PrngReg), Pre_MixOutIdeal m →
    (∀ c : Dev Cert.MixOutIdeal.nD,
      m' ((c.tc : Thread Cert.MixOutRefIdeal.nD Cert.MixOutRefIdeal.τ).loc Cert.MixOutRefIdeal.main_arg0) = m ((c.tc : Thread Cert.MixOutIdeal.nD Cert.MixOutIdeal.τ).loc Cert.MixOutIdeal.main_arg0)
      ∧ m' ((c.tc : Thread Cert.MixOutRefIdeal.nD Cert.MixOutRefIdeal.τ).loc Cert.MixOutRefIdeal.main_arg1) = m ((c.tc : Thread Cert.MixOutIdeal.nD Cert.MixOutIdeal.τ).loc Cert.MixOutIdeal.main_arg1)
      ∧ m' ((c.tc : Thread Cert.MixOutRefIdeal.nD Cert.MixOutRefIdeal.τ).loc Cert.MixOutRefIdeal.main_arg2) = m ((c.tc : Thread Cert.MixOutIdeal.nD Cert.MixOutIdeal.τ).loc Cert.MixOutIdeal.main_arg2)
      ∧ m' ((c.tc : Thread Cert.MixOutRefIdeal.nD Cert.MixOutRefIdeal.τ).loc Cert.MixOutRefIdeal.main_arg3) = m ((c.tc : Thread Cert.MixOutIdeal.nD Cert.MixOutIdeal.τ).loc Cert.MixOutIdeal.main_arg3)
      ∧ m' ((c.tc : Thread Cert.MixOutRefIdeal.nD Cert.MixOutRefIdeal.τ).loc Cert.MixOutRefIdeal.main_arg4) = m ((c.tc : Thread Cert.MixOutIdeal.nD Cert.MixOutIdeal.τ).loc Cert.MixOutIdeal.main_arg4)
      ∧ m' ((c.tc : Thread Cert.MixOutRefIdeal.nD Cert.MixOutRefIdeal.τ).loc Cert.MixOutRefIdeal.main_arg5) = m ((c.tc : Thread Cert.MixOutIdeal.nD Cert.MixOutIdeal.τ).loc Cert.MixOutIdeal.main_arg5)
      ∧ m' ((c.tc : Thread Cert.MixOutRefIdeal.nD Cert.MixOutRefIdeal.τ).loc Cert.MixOutRefIdeal.main_arg6) = m ((c.tc : Thread Cert.MixOutIdeal.nD Cert.MixOutIdeal.τ).loc Cert.MixOutIdeal.main_arg6)
      ∧ m' ((c.tc : Thread Cert.MixOutRefIdeal.nD Cert.MixOutRefIdeal.τ).loc Cert.MixOutRefIdeal.main_arg7) = m ((c.tc : Thread Cert.MixOutIdeal.nD Cert.MixOutIdeal.τ).loc Cert.MixOutIdeal.main_arg7)
      ∧ m' ((c.tc : Thread Cert.MixOutRefIdeal.nD Cert.MixOutRefIdeal.τ).loc Cert.MixOutRefIdeal.main_arg8) = m ((c.tc : Thread Cert.MixOutIdeal.nD Cert.MixOutIdeal.τ).loc Cert.MixOutIdeal.main_arg8)
      ∧ m' ((c.tc : Thread Cert.MixOutRefIdeal.nD Cert.MixOutRefIdeal.τ).loc Cert.MixOutRefIdeal.main_arg9) = m ((c.tc : Thread Cert.MixOutIdeal.nD Cert.MixOutIdeal.τ).loc Cert.MixOutIdeal.main_arg9)
      ∧ m' ((c.tc : Thread Cert.MixOutRefIdeal.nD Cert.MixOutRefIdeal.τ).loc Cert.MixOutRefIdeal.main_arg10) = m ((c.tc : Thread Cert.MixOutIdeal.nD Cert.MixOutIdeal.τ).loc Cert.MixOutIdeal.main_arg10)
      ∧ m' ((c.tc : Thread Cert.MixOutRefIdeal.nD Cert.MixOutRefIdeal.τ).loc Cert.MixOutRefIdeal.main_arg11) = m ((c.tc : Thread Cert.MixOutIdeal.nD Cert.MixOutIdeal.τ).loc Cert.MixOutIdeal.main_arg11)
      ∧ m' ((c.tc : Thread Cert.MixOutRefIdeal.nD Cert.MixOutRefIdeal.τ).loc Cert.MixOutRefIdeal.main_arg12) = m ((c.tc : Thread Cert.MixOutIdeal.nD Cert.MixOutIdeal.τ).loc Cert.MixOutIdeal.main_arg12)) →
    ∃ (v0 : (c : Dev Cert.MixOutIdeal.nD) → Buf (Elt Ideal) ((c.tc : Thread Cert.MixOutIdeal.nD Cert.MixOutIdeal.τ).loc Cert.MixOutIdeal.main_v10_0)) (v1 : (c : Dev Cert.MixOutIdeal.nD) → Buf (Elt Ideal) ((c.tc : Thread Cert.MixOutIdeal.nD Cert.MixOutIdeal.τ).loc Cert.MixOutIdeal.main_v10_1)) (v2 : (c : Dev Cert.MixOutIdeal.nD) → Buf (Elt Ideal) ((c.tc : Thread Cert.MixOutIdeal.nD Cert.MixOutIdeal.τ).loc Cert.MixOutIdeal.main_v11)),
      θ_run (Cert.MixOutIdeal.defs (F := Ideal)) (onTc (τ := Cert.MixOutIdeal.τ) (Cert.MixOutIdeal.main (F := Ideal))) ⟨m, fun _ => 0, g⟩ (fun r => ∀ c : Dev Cert.MixOutIdeal.nD,
          r.2.mem ((c.tc : Thread Cert.MixOutIdeal.nD Cert.MixOutIdeal.τ).loc Cert.MixOutIdeal.main_v10_0) = v0 c
          ∧ r.2.mem ((c.tc : Thread Cert.MixOutIdeal.nD Cert.MixOutIdeal.τ).loc Cert.MixOutIdeal.main_v10_1) = v1 c
          ∧ r.2.mem ((c.tc : Thread Cert.MixOutIdeal.nD Cert.MixOutIdeal.τ).loc Cert.MixOutIdeal.main_v11) = v2 c
          ∧ r.2.mem ((c.tc : Thread Cert.MixOutIdeal.nD Cert.MixOutIdeal.τ).loc Cert.MixOutIdeal.main_arg0) = m ((c.tc : Thread Cert.MixOutIdeal.nD Cert.MixOutIdeal.τ).loc Cert.MixOutIdeal.main_arg0)
          ∧ r.2.mem ((c.tc : Thread Cert.MixOutIdeal.nD Cert.MixOutIdeal.τ).loc Cert.MixOutIdeal.main_arg1) = m ((c.tc : Thread Cert.MixOutIdeal.nD Cert.MixOutIdeal.τ).loc Cert.MixOutIdeal.main_arg1)
          ∧ r.2.mem ((c.tc : Thread Cert.MixOutIdeal.nD Cert.MixOutIdeal.τ).loc Cert.MixOutIdeal.main_arg2) = m ((c.tc : Thread Cert.MixOutIdeal.nD Cert.MixOutIdeal.τ).loc Cert.MixOutIdeal.main_arg2)
          ∧ r.2.mem ((c.tc : Thread Cert.MixOutIdeal.nD Cert.MixOutIdeal.τ).loc Cert.MixOutIdeal.main_arg3) = m ((c.tc : Thread Cert.MixOutIdeal.nD Cert.MixOutIdeal.τ).loc Cert.MixOutIdeal.main_arg3)
          ∧ r.2.mem ((c.tc : Thread Cert.MixOutIdeal.nD Cert.MixOutIdeal.τ).loc Cert.MixOutIdeal.main_arg4) = m ((c.tc : Thread Cert.MixOutIdeal.nD Cert.MixOutIdeal.τ).loc Cert.MixOutIdeal.main_arg4)
          ∧ r.2.mem ((c.tc : Thread Cert.MixOutIdeal.nD Cert.MixOutIdeal.τ).loc Cert.MixOutIdeal.main_arg5) = m ((c.tc : Thread Cert.MixOutIdeal.nD Cert.MixOutIdeal.τ).loc Cert.MixOutIdeal.main_arg5)
          ∧ r.2.mem ((c.tc : Thread Cert.MixOutIdeal.nD Cert.MixOutIdeal.τ).loc Cert.MixOutIdeal.main_arg6) = m ((c.tc : Thread Cert.MixOutIdeal.nD Cert.MixOutIdeal.τ).loc Cert.MixOutIdeal.main_arg6)
          ∧ r.2.mem ((c.tc : Thread Cert.MixOutIdeal.nD Cert.MixOutIdeal.τ).loc Cert.MixOutIdeal.main_arg7) = m ((c.tc : Thread Cert.MixOutIdeal.nD Cert.MixOutIdeal.τ).loc Cert.MixOutIdeal.main_arg7)
          ∧ r.2.mem ((c.tc : Thread Cert.MixOutIdeal.nD Cert.MixOutIdeal.τ).loc Cert.MixOutIdeal.main_arg8) = m ((c.tc : Thread Cert.MixOutIdeal.nD Cert.MixOutIdeal.τ).loc Cert.MixOutIdeal.main_arg8)
          ∧ r.2.mem ((c.tc : Thread Cert.MixOutIdeal.nD Cert.MixOutIdeal.τ).loc Cert.MixOutIdeal.main_arg9) = m ((c.tc : Thread Cert.MixOutIdeal.nD Cert.MixOutIdeal.τ).loc Cert.MixOutIdeal.main_arg9)
          ∧ r.2.mem ((c.tc : Thread Cert.MixOutIdeal.nD Cert.MixOutIdeal.τ).loc Cert.MixOutIdeal.main_arg10) = m ((c.tc : Thread Cert.MixOutIdeal.nD Cert.MixOutIdeal.τ).loc Cert.MixOutIdeal.main_arg10)
          ∧ r.2.mem ((c.tc : Thread Cert.MixOutIdeal.nD Cert.MixOutIdeal.τ).loc Cert.MixOutIdeal.main_arg11) = m ((c.tc : Thread Cert.MixOutIdeal.nD Cert.MixOutIdeal.τ).loc Cert.MixOutIdeal.main_arg11)
          ∧ r.2.mem ((c.tc : Thread Cert.MixOutIdeal.nD Cert.MixOutIdeal.τ).loc Cert.MixOutIdeal.main_arg12) = m ((c.tc : Thread Cert.MixOutIdeal.nD Cert.MixOutIdeal.τ).loc Cert.MixOutIdeal.main_arg12))
      ∧ θ_run (Cert.MixOutRefIdeal.defs (F := Ideal)) (onTc (τ := Cert.MixOutRefIdeal.τ) (Cert.MixOutRefIdeal.main (F := Ideal))) ⟨m', fun _ => 0, g'⟩ (fun r => ∀ c : Dev Cert.MixOutRefIdeal.nD,
          r.2.mem ((c.tc : Thread Cert.MixOutRefIdeal.nD Cert.MixOutRefIdeal.τ).loc Cert.MixOutRefIdeal.main_v53) = v0 c
          ∧ r.2.mem ((c.tc : Thread Cert.MixOutRefIdeal.nD Cert.MixOutRefIdeal.τ).loc Cert.MixOutRefIdeal.main_v54) = v1 c
          ∧ r.2.mem ((c.tc : Thread Cert.MixOutRefIdeal.nD Cert.MixOutRefIdeal.τ).loc Cert.MixOutRefIdeal.main_v52) = v2 c
          ∧ r.2.mem ((c.tc : Thread Cert.MixOutRefIdeal.nD Cert.MixOutRefIdeal.τ).loc Cert.MixOutRefIdeal.main_arg0) = m' ((c.tc : Thread Cert.MixOutRefIdeal.nD Cert.MixOutRefIdeal.τ).loc Cert.MixOutRefIdeal.main_arg0)
          ∧ r.2.mem ((c.tc : Thread Cert.MixOutRefIdeal.nD Cert.MixOutRefIdeal.τ).loc Cert.MixOutRefIdeal.main_arg1) = m' ((c.tc : Thread Cert.MixOutRefIdeal.nD Cert.MixOutRefIdeal.τ).loc Cert.MixOutRefIdeal.main_arg1)
          ∧ r.2.mem ((c.tc : Thread Cert.MixOutRefIdeal.nD Cert.MixOutRefIdeal.τ).loc Cert.MixOutRefIdeal.main_arg2) = m' ((c.tc : Thread Cert.MixOutRefIdeal.nD Cert.MixOutRefIdeal.τ).loc Cert.MixOutRefIdeal.main_arg2)
          ∧ r.2.mem ((c.tc : Thread Cert.MixOutRefIdeal.nD Cert.MixOutRefIdeal.τ).loc Cert.MixOutRefIdeal.main_arg3) = m' ((c.tc : Thread Cert.MixOutRefIdeal.nD Cert.MixOutRefIdeal.τ).loc Cert.MixOutRefIdeal.main_arg3)
          ∧ r.2.mem ((c.tc : Thread Cert.MixOutRefIdeal.nD Cert.MixOutRefIdeal.τ).loc Cert.MixOutRefIdeal.main_arg4) = m' ((c.tc : Thread Cert.MixOutRefIdeal.nD Cert.MixOutRefIdeal.τ).loc Cert.MixOutRefIdeal.main_arg4)
          ∧ r.2.mem ((c.tc : Thread Cert.MixOutRefIdeal.nD Cert.MixOutRefIdeal.τ).loc Cert.MixOutRefIdeal.main_arg5) = m' ((c.tc : Thread Cert.MixOutRefIdeal.nD Cert.MixOutRefIdeal.τ).loc Cert.MixOutRefIdeal.main_arg5)
          ∧ r.2.mem ((c.tc : Thread Cert.MixOutRefIdeal.nD Cert.MixOutRefIdeal.τ).loc Cert.MixOutRefIdeal.main_arg6) = m' ((c.tc : Thread Cert.MixOutRefIdeal.nD Cert.MixOutRefIdeal.τ).loc Cert.MixOutRefIdeal.main_arg6)
          ∧ r.2.mem ((c.tc : Thread Cert.MixOutRefIdeal.nD Cert.MixOutRefIdeal.τ).loc Cert.MixOutRefIdeal.main_arg7) = m' ((c.tc : Thread Cert.MixOutRefIdeal.nD Cert.MixOutRefIdeal.τ).loc Cert.MixOutRefIdeal.main_arg7)
          ∧ r.2.mem ((c.tc : Thread Cert.MixOutRefIdeal.nD Cert.MixOutRefIdeal.τ).loc Cert.MixOutRefIdeal.main_arg8) = m' ((c.tc : Thread Cert.MixOutRefIdeal.nD Cert.MixOutRefIdeal.τ).loc Cert.MixOutRefIdeal.main_arg8)
          ∧ r.2.mem ((c.tc : Thread Cert.MixOutRefIdeal.nD Cert.MixOutRefIdeal.τ).loc Cert.MixOutRefIdeal.main_arg9) = m' ((c.tc : Thread Cert.MixOutRefIdeal.nD Cert.MixOutRefIdeal.τ).loc Cert.MixOutRefIdeal.main_arg9)
          ∧ r.2.mem ((c.tc : Thread Cert.MixOutRefIdeal.nD Cert.MixOutRefIdeal.τ).loc Cert.MixOutRefIdeal.main_arg10) = m' ((c.tc : Thread Cert.MixOutRefIdeal.nD Cert.MixOutRefIdeal.τ).loc Cert.MixOutRefIdeal.main_arg10)
          ∧ r.2.mem ((c.tc : Thread Cert.MixOutRefIdeal.nD Cert.MixOutRefIdeal.τ).loc Cert.MixOutRefIdeal.main_arg11) = m' ((c.tc : Thread Cert.MixOutRefIdeal.nD Cert.MixOutRefIdeal.τ).loc Cert.MixOutRefIdeal.main_arg11)
          ∧ r.2.mem ((c.tc : Thread Cert.MixOutRefIdeal.nD Cert.MixOutRefIdeal.τ).loc Cert.MixOutRefIdeal.main_arg12) = m' ((c.tc : Thread Cert.MixOutRefIdeal.nD Cert.MixOutRefIdeal.τ).loc Cert.MixOutRefIdeal.main_arg12))

def preserves_Prep_PrepIdeal : Prop :=
  True

def algebraic_PrepIdeal_PrepRefIdeal [hPrepIdeal : Cert.PrepIdeal.Facts] [hPrepRefIdeal : Cert.PrepRefIdeal.Facts] : Prop :=
  ∀ (m : (ℓ : Loc Cert.PrepIdeal.nD Cert.PrepIdeal.τ Cert.PrepIdeal.sig) → Buf (Elt Ideal) ℓ) (g : Dev Cert.PrepIdeal.nD → PrngReg)
    (m' : (ℓ : Loc Cert.PrepRefIdeal.nD Cert.PrepRefIdeal.τ Cert.PrepRefIdeal.sig) → Buf (Elt Ideal) ℓ) (g' : Dev Cert.PrepRefIdeal.nD → PrngReg), Pre_PrepIdeal m →
    (∀ c : Dev Cert.PrepIdeal.nD,
      m' ((c.tc : Thread Cert.PrepRefIdeal.nD Cert.PrepRefIdeal.τ).loc Cert.PrepRefIdeal.main_arg0) = m ((c.tc : Thread Cert.PrepIdeal.nD Cert.PrepIdeal.τ).loc Cert.PrepIdeal.main_arg0)
      ∧ m' ((c.tc : Thread Cert.PrepRefIdeal.nD Cert.PrepRefIdeal.τ).loc Cert.PrepRefIdeal.main_arg1) = m ((c.tc : Thread Cert.PrepIdeal.nD Cert.PrepIdeal.τ).loc Cert.PrepIdeal.main_arg1)
      ∧ m' ((c.tc : Thread Cert.PrepRefIdeal.nD Cert.PrepRefIdeal.τ).loc Cert.PrepRefIdeal.main_arg2) = m ((c.tc : Thread Cert.PrepIdeal.nD Cert.PrepIdeal.τ).loc Cert.PrepIdeal.main_arg2)
      ∧ m' ((c.tc : Thread Cert.PrepRefIdeal.nD Cert.PrepRefIdeal.τ).loc Cert.PrepRefIdeal.main_arg3) = m ((c.tc : Thread Cert.PrepIdeal.nD Cert.PrepIdeal.τ).loc Cert.PrepIdeal.main_arg3)
      ∧ m' ((c.tc : Thread Cert.PrepRefIdeal.nD Cert.PrepRefIdeal.τ).loc Cert.PrepRefIdeal.main_arg4) = m ((c.tc : Thread Cert.PrepIdeal.nD Cert.PrepIdeal.τ).loc Cert.PrepIdeal.main_arg4)
      ∧ m' ((c.tc : Thread Cert.PrepRefIdeal.nD Cert.PrepRefIdeal.τ).loc Cert.PrepRefIdeal.main_arg5) = m ((c.tc : Thread Cert.PrepIdeal.nD Cert.PrepIdeal.τ).loc Cert.PrepIdeal.main_arg5)
      ∧ m' ((c.tc : Thread Cert.PrepRefIdeal.nD Cert.PrepRefIdeal.τ).loc Cert.PrepRefIdeal.main_arg6) = m ((c.tc : Thread Cert.PrepIdeal.nD Cert.PrepIdeal.τ).loc Cert.PrepIdeal.main_arg6)) →
    ∃ (v0 : (c : Dev Cert.PrepIdeal.nD) → Buf (Elt Ideal) ((c.tc : Thread Cert.PrepIdeal.nD Cert.PrepIdeal.τ).loc Cert.PrepIdeal.main_v18_0)) (v1 : (c : Dev Cert.PrepIdeal.nD) → Buf (Elt Ideal) ((c.tc : Thread Cert.PrepIdeal.nD Cert.PrepIdeal.τ).loc Cert.PrepIdeal.main_v18_1)) (v2 : (c : Dev Cert.PrepIdeal.nD) → Buf (Elt Ideal) ((c.tc : Thread Cert.PrepIdeal.nD Cert.PrepIdeal.τ).loc Cert.PrepIdeal.main_v18_2)) (v3 : (c : Dev Cert.PrepIdeal.nD) → Buf (Elt Ideal) ((c.tc : Thread Cert.PrepIdeal.nD Cert.PrepIdeal.τ).loc Cert.PrepIdeal.main_v18_3)) (v4 : (c : Dev Cert.PrepIdeal.nD) → Buf (Elt Ideal) ((c.tc : Thread Cert.PrepIdeal.nD Cert.PrepIdeal.τ).loc Cert.PrepIdeal.main_v18_4)) (v5 : (c : Dev Cert.PrepIdeal.nD) → Buf (Elt Ideal) ((c.tc : Thread Cert.PrepIdeal.nD Cert.PrepIdeal.τ).loc Cert.PrepIdeal.main_v18_5)),
      θ_run (Cert.PrepIdeal.defs (F := Ideal)) (onTc (τ := Cert.PrepIdeal.τ) (Cert.PrepIdeal.main (F := Ideal))) ⟨m, fun _ => 0, g⟩ (fun r => ∀ c : Dev Cert.PrepIdeal.nD,
          r.2.mem ((c.tc : Thread Cert.PrepIdeal.nD Cert.PrepIdeal.τ).loc Cert.PrepIdeal.main_v18_0) = v0 c
          ∧ r.2.mem ((c.tc : Thread Cert.PrepIdeal.nD Cert.PrepIdeal.τ).loc Cert.PrepIdeal.main_v18_1) = v1 c
          ∧ r.2.mem ((c.tc : Thread Cert.PrepIdeal.nD Cert.PrepIdeal.τ).loc Cert.PrepIdeal.main_v18_2) = v2 c
          ∧ r.2.mem ((c.tc : Thread Cert.PrepIdeal.nD Cert.PrepIdeal.τ).loc Cert.PrepIdeal.main_v18_3) = v3 c
          ∧ r.2.mem ((c.tc : Thread Cert.PrepIdeal.nD Cert.PrepIdeal.τ).loc Cert.PrepIdeal.main_v18_4) = v4 c
          ∧ r.2.mem ((c.tc : Thread Cert.PrepIdeal.nD Cert.PrepIdeal.τ).loc Cert.PrepIdeal.main_v18_5) = v5 c
          ∧ r.2.mem ((c.tc : Thread Cert.PrepIdeal.nD Cert.PrepIdeal.τ).loc Cert.PrepIdeal.main_arg0) = m ((c.tc : Thread Cert.PrepIdeal.nD Cert.PrepIdeal.τ).loc Cert.PrepIdeal.main_arg0)
          ∧ r.2.mem ((c.tc : Thread Cert.PrepIdeal.nD Cert.PrepIdeal.τ).loc Cert.PrepIdeal.main_arg1) = m ((c.tc : Thread Cert.PrepIdeal.nD Cert.PrepIdeal.τ).loc Cert.PrepIdeal.main_arg1)
          ∧ r.2.mem ((c.tc : Thread Cert.PrepIdeal.nD Cert.PrepIdeal.τ).loc Cert.PrepIdeal.main_arg2) = m ((c.tc : Thread Cert.PrepIdeal.nD Cert.PrepIdeal.τ).loc Cert.PrepIdeal.main_arg2)
          ∧ r.2.mem ((c.tc : Thread Cert.PrepIdeal.nD Cert.PrepIdeal.τ).loc Cert.PrepIdeal.main_arg3) = m ((c.tc : Thread Cert.PrepIdeal.nD Cert.PrepIdeal.τ).loc Cert.PrepIdeal.main_arg3)
          ∧ r.2.mem ((c.tc : Thread Cert.PrepIdeal.nD Cert.PrepIdeal.τ).loc Cert.PrepIdeal.main_arg4) = m ((c.tc : Thread Cert.PrepIdeal.nD Cert.PrepIdeal.τ).loc Cert.PrepIdeal.main_arg4)
          ∧ r.2.mem ((c.tc : Thread Cert.PrepIdeal.nD Cert.PrepIdeal.τ).loc Cert.PrepIdeal.main_arg5) = m ((c.tc : Thread Cert.PrepIdeal.nD Cert.PrepIdeal.τ).loc Cert.PrepIdeal.main_arg5)
          ∧ r.2.mem ((c.tc : Thread Cert.PrepIdeal.nD Cert.PrepIdeal.τ).loc Cert.PrepIdeal.main_arg6) = m ((c.tc : Thread Cert.PrepIdeal.nD Cert.PrepIdeal.τ).loc Cert.PrepIdeal.main_arg6))
      ∧ θ_run (Cert.PrepRefIdeal.defs (F := Ideal)) (onTc (τ := Cert.PrepRefIdeal.τ) (Cert.PrepRefIdeal.main (F := Ideal))) ⟨m', fun _ => 0, g'⟩ (fun r => ∀ c : Dev Cert.PrepRefIdeal.nD,
          r.2.mem ((c.tc : Thread Cert.PrepRefIdeal.nD Cert.PrepRefIdeal.τ).loc Cert.PrepRefIdeal.main_v84) = v0 c
          ∧ r.2.mem ((c.tc : Thread Cert.PrepRefIdeal.nD Cert.PrepRefIdeal.τ).loc Cert.PrepRefIdeal.main_v85) = v1 c
          ∧ r.2.mem ((c.tc : Thread Cert.PrepRefIdeal.nD Cert.PrepRefIdeal.τ).loc Cert.PrepRefIdeal.main_v87) = v2 c
          ∧ r.2.mem ((c.tc : Thread Cert.PrepRefIdeal.nD Cert.PrepRefIdeal.τ).loc Cert.PrepRefIdeal.main_v89) = v3 c
          ∧ r.2.mem ((c.tc : Thread Cert.PrepRefIdeal.nD Cert.PrepRefIdeal.τ).loc Cert.PrepRefIdeal.main_v90) = v4 c
          ∧ r.2.mem ((c.tc : Thread Cert.PrepRefIdeal.nD Cert.PrepRefIdeal.τ).loc Cert.PrepRefIdeal.main_v91) = v5 c
          ∧ r.2.mem ((c.tc : Thread Cert.PrepRefIdeal.nD Cert.PrepRefIdeal.τ).loc Cert.PrepRefIdeal.main_arg0) = m' ((c.tc : Thread Cert.PrepRefIdeal.nD Cert.PrepRefIdeal.τ).loc Cert.PrepRefIdeal.main_arg0)
          ∧ r.2.mem ((c.tc : Thread Cert.PrepRefIdeal.nD Cert.PrepRefIdeal.τ).loc Cert.PrepRefIdeal.main_arg1) = m' ((c.tc : Thread Cert.PrepRefIdeal.nD Cert.PrepRefIdeal.τ).loc Cert.PrepRefIdeal.main_arg1)
          ∧ r.2.mem ((c.tc : Thread Cert.PrepRefIdeal.nD Cert.PrepRefIdeal.τ).loc Cert.PrepRefIdeal.main_arg2) = m' ((c.tc : Thread Cert.PrepRefIdeal.nD Cert.PrepRefIdeal.τ).loc Cert.PrepRefIdeal.main_arg2)
          ∧ r.2.mem ((c.tc : Thread Cert.PrepRefIdeal.nD Cert.PrepRefIdeal.τ).loc Cert.PrepRefIdeal.main_arg3) = m' ((c.tc : Thread Cert.PrepRefIdeal.nD Cert.PrepRefIdeal.τ).loc Cert.PrepRefIdeal.main_arg3)
          ∧ r.2.mem ((c.tc : Thread Cert.PrepRefIdeal.nD Cert.PrepRefIdeal.τ).loc Cert.PrepRefIdeal.main_arg4) = m' ((c.tc : Thread Cert.PrepRefIdeal.nD Cert.PrepRefIdeal.τ).loc Cert.PrepRefIdeal.main_arg4)
          ∧ r.2.mem ((c.tc : Thread Cert.PrepRefIdeal.nD Cert.PrepRefIdeal.τ).loc Cert.PrepRefIdeal.main_arg5) = m' ((c.tc : Thread Cert.PrepRefIdeal.nD Cert.PrepRefIdeal.τ).loc Cert.PrepRefIdeal.main_arg5)
          ∧ r.2.mem ((c.tc : Thread Cert.PrepRefIdeal.nD Cert.PrepRefIdeal.τ).loc Cert.PrepRefIdeal.main_arg6) = m' ((c.tc : Thread Cert.PrepRefIdeal.nD Cert.PrepRefIdeal.τ).loc Cert.PrepRefIdeal.main_arg6))

def Claim : Prop :=
  ∃ (hMoe : Cert.Moe.Facts) (hMoeIdeal : Cert.MoeIdeal.Facts) (hMoeRefIdeal : Cert.MoeRefIdeal.Facts) (hInProj : Cert.InProj.Facts) (hInProjIdeal : Cert.InProjIdeal.Facts) (hInProjRefIdeal : Cert.InProjRefIdeal.Facts) (hMixOut : Cert.MixOut.Facts) (hMixOutIdeal : Cert.MixOutIdeal.Facts) (hMixOutRefIdeal : Cert.MixOutRefIdeal.Facts) (hPrep : Cert.Prep.Facts) (hPrepIdeal : Cert.PrepIdeal.Facts) (hPrepRefIdeal : Cert.PrepRefIdeal.Facts) (hDsa : Cert.Dsa.Facts) (hPre_experts_in_range : Cert.Pre_experts_in_range.Facts),
    quiescent_Moe (hMoe := hMoe) (hPre_experts_in_range := hPre_experts_in_range)
    ∧ quiescent_MoeIdeal (hMoeIdeal := hMoeIdeal) (hPre_experts_in_range := hPre_experts_in_range)
    ∧ quiescent_MoeRefIdeal (hMoeRefIdeal := hMoeRefIdeal)
    ∧ quiescent_MoeRefIdeal_pre_experts_in_range (hMoeRefIdeal := hMoeRefIdeal) (hPre_experts_in_range := hPre_experts_in_range)
    ∧ quiescent_InProj (hInProj := hInProj)
    ∧ quiescent_InProjIdeal (hInProjIdeal := hInProjIdeal)
    ∧ quiescent_InProjRefIdeal (hInProjRefIdeal := hInProjRefIdeal)
    ∧ quiescent_MixOut (hMixOut := hMixOut)
    ∧ quiescent_MixOutIdeal (hMixOutIdeal := hMixOutIdeal)
    ∧ quiescent_MixOutRefIdeal (hMixOutRefIdeal := hMixOutRefIdeal)
    ∧ quiescent_Prep (hPrep := hPrep)
    ∧ quiescent_PrepIdeal (hPrepIdeal := hPrepIdeal)
    ∧ quiescent_PrepRefIdeal (hPrepRefIdeal := hPrepRefIdeal)
    ∧ quiescent_Dsa (hDsa := hDsa)
    ∧ preserves_Moe_MoeIdeal
    ∧ algebraic_MoeIdeal_MoeRefIdeal (hMoeIdeal := hMoeIdeal) (hMoeRefIdeal := hMoeRefIdeal) (hPre_experts_in_range := hPre_experts_in_range)
    ∧ preserves_InProj_InProjIdeal
    ∧ algebraic_InProjIdeal_InProjRefIdeal (hInProjIdeal := hInProjIdeal) (hInProjRefIdeal := hInProjRefIdeal)
    ∧ preserves_MixOut_MixOutIdeal
    ∧ algebraic_MixOutIdeal_MixOutRefIdeal (hMixOutIdeal := hMixOutIdeal) (hMixOutRefIdeal := hMixOutRefIdeal)
    ∧ preserves_Prep_PrepIdeal
    ∧ algebraic_PrepIdeal_PrepRefIdeal (hPrepIdeal := hPrepIdeal) (hPrepRefIdeal := hPrepRefIdeal)
-- ==== Pre_experts_in_range.lean ====
abbrev S288 : Shape := ⟨1, ![288]⟩
abbrev S1 : Shape := ⟨1, ![1]⟩
abbrev S147456x1024 : Shape := ⟨2, ![147456, 1024]⟩
abbrev S147456x1 : Shape := ⟨2, ![147456, 1]⟩
abbrev S32x1024x2048 : Shape := ⟨3, ![32, 1024, 2048]⟩
abbrev S32x1x2048 : Shape := ⟨3, ![32, 1, 2048]⟩
abbrev S32x1024x1024 : Shape := ⟨3, ![32, 1024, 1024]⟩
abbrev S32x1x1024 : Shape := ⟨3, ![32, 1, 1024]⟩
abbrev S_ : Shape := ⟨0, ![]⟩

class Facts : Prop where
  bcast_S_S288 : S_.BroadcastsInDim S288 (![] : Fin 0 → Fin S288.rank)

variable [Facts]

def fn {F : FTy → Type} [FloatOps F] (main_arg0 : IVec S288 32) (main_arg1 : IVec S1 32) (main_arg2 : FVec F S147456x1024 .bf16) (main_arg3 : FVec F S147456x1 .f32) (main_arg4 : FVec F S32x1024x2048 .bf16) (main_arg5 : FVec F S32x1x2048 .f32) (main_arg6 : FVec F S32x1024x1024 .bf16) (main_arg7 : FVec F S32x1x1024 .f32) : IVec S288 1 :=
  let main_c : IVec S_ 32 := constantI S_ 32 0#32
  let main_v0 : IVec S288 32 := broadcastInDim S288 ![] bcast_S_S288 main_c
  let main_v1 : IVec S288 1 := cmpi .sge main_arg0 main_v0
  let main_c_0 : IVec S_ 32 := constantI S_ 32 32#32
  let main_v2 : IVec S288 32 := broadcastInDim S288 ![] bcast_S_S288 main_c_0
  let main_v3 : IVec S288 1 := cmpi .slt main_arg0 main_v2
  let main_v4 : IVec S288 1 := andi main_v1 main_v3
  main_v4
-- ==== Moe.lean ====
abbrev S288 : Shape := ⟨1, ![288]⟩
abbrev S1 : Shape := ⟨1, ![1]⟩
abbrev S147456x1024 : Shape := ⟨2, ![147456, 1024]⟩
abbrev S147456x1 : Shape := ⟨2, ![147456, 1]⟩
abbrev S32x1024x2048 : Shape := ⟨3, ![32, 1024, 2048]⟩
abbrev S32x1x2048 : Shape := ⟨3, ![32, 1, 2048]⟩
abbrev S32x1024x1024 : Shape := ⟨3, ![32, 1024, 1024]⟩
abbrev S32x1x1024 : Shape := ⟨3, ![32, 1, 1024]⟩
abbrev S512x1024 : Shape := ⟨2, ![512, 1024]⟩
abbrev S512x1 : Shape := ⟨2, ![512, 1]⟩
abbrev S1x1024x2048 : Shape := ⟨3, ![1, 1024, 2048]⟩
abbrev S1x1x2048 : Shape := ⟨3, ![1, 1, 2048]⟩
abbrev S1x1024x1024 : Shape := ⟨3, ![1, 1024, 1024]⟩
abbrev S1x1x1024 : Shape := ⟨3, ![1, 1, 1024]⟩
abbrev S1024x2048 : Shape := ⟨2, ![1024, 2048]⟩
abbrev S512x2048 : Shape := ⟨2, ![512, 2048]⟩
abbrev S1x2048 : Shape := ⟨2, ![1, 2048]⟩
abbrev S1024x1024 : Shape := ⟨2, ![1024, 1024]⟩
abbrev S1x1024 : Shape := ⟨2, ![1, 1024]⟩

abbrev nBuf : Space → Nat
  | .hbm => 7
  | .vmem => 14
  | .smem => 2
  | _ => 0

abbrev bufTy : (tb : Table) → Fin (tcTables nBuf tb) → BufTy
  | .hbm, ⟨0, _⟩ => ⟨S147456x1024, .bf16⟩
  | .hbm, ⟨1, _⟩ => ⟨S147456x1, .f32⟩
  | .hbm, ⟨2, _⟩ => ⟨S32x1024x2048, .bf16⟩
  | .hbm, ⟨3, _⟩ => ⟨S32x1x2048, .f32⟩
  | .hbm, ⟨4, _⟩ => ⟨S32x1024x1024, .bf16⟩
  | .hbm, ⟨5, _⟩ => ⟨S32x1x1024, .f32⟩
  | .hbm, ⟨6, _⟩ => ⟨S147456x1024, .f32⟩
  | .local _ .vmem, ⟨0, _⟩ => ⟨S512x1024, .bf16⟩
  | .local _ .vmem, ⟨1, _⟩ => ⟨S512x1024, .bf16⟩
  | .local _ .vmem, ⟨2, _⟩ => ⟨S512x1, .f32⟩
  | .local _ .vmem, ⟨3, _⟩ => ⟨S512x1, .f32⟩
  | .local _ .vmem, ⟨4, _⟩ => ⟨S1x1024x2048, .bf16⟩
  | .local _ .vmem, ⟨5, _⟩ => ⟨S1x1024x2048, .bf16⟩
  | .local _ .vmem, ⟨6, _⟩ => ⟨S1x1x2048, .f32⟩
  | .local _ .vmem, ⟨7, _⟩ => ⟨S1x1x2048, .f32⟩
  | .local _ .vmem, ⟨8, _⟩ => ⟨S1x1024x1024, .bf16⟩
  | .local _ .vmem, ⟨9, _⟩ => ⟨S1x1024x1024, .bf16⟩
  | .local _ .vmem, ⟨10, _⟩ => ⟨S1x1x1024, .f32⟩
  | .local _ .vmem, ⟨11, _⟩ => ⟨S1x1x1024, .f32⟩
  | .local _ .vmem, ⟨12, _⟩ => ⟨S512x1024, .f32⟩
  | .local _ .vmem, ⟨13, _⟩ => ⟨S512x1024, .f32⟩
  | .local _ .smem, ⟨0, _⟩ => ⟨S288, .i32⟩
  | .local _ .smem, ⟨1, _⟩ => ⟨S1, .i32⟩
  | _, _ => ⟨S147456x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg2 : Ref sig .tc := ⟨.hbm, 0, rfl⟩
abbrev main_arg3 : Ref sig .tc := ⟨.hbm, 1, rfl⟩
abbrev main_arg4 : Ref sig .tc := ⟨.hbm, 2, rfl⟩
abbrev main_arg5 : Ref sig .tc := ⟨.hbm, 3, rfl⟩
abbrev main_arg6 : Ref sig .tc := ⟨.hbm, 4, rfl⟩
abbrev main_arg7 : Ref sig .tc := ⟨.hbm, 5, rfl⟩
abbrev main_v0 : Ref sig .tc := ⟨.hbm, 6, rfl⟩
abbrev main_arg0 : Ref sig .tc := ⟨.smem, 0, rfl⟩
abbrev main_arg1 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![288], ![false]⟩

abbrev pre0 : Pipeline.Prefetch sig := ⟨2, ![main_arg0.idx, main_arg1.idx], fun | 0 => main_arg0.names | 1 => main_arg1.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_cond1 (i : grid0.Coords) (v0 : BitVec 32) : BitVec 1 :=
  let arg0 : BitVec 32 := BitVec.ofNat 32 (i 0).val
  let v1 : BitVec 1 := Scalar.cmpi .slt arg0 v0
  let v2 : BitVec 32 := Scalar.extui v1
  let c0_i32 : BitVec 32 := 0#32
  let v3 : BitVec 1 := Scalar.cmpi .ne v2 c0_i32
  v3

def k0_cond2 (i : grid0.Coords) (v4 : BitVec 32) : BitVec 1 :=
  let arg0 : BitVec 32 := BitVec.ofNat 32 (i 0).val
  let v5 : BitVec 1 := Scalar.cmpi .sge arg0 v4
  let v6 : BitVec 32 := Scalar.extui v5
  let c0_i32_1 : BitVec 32 := 0#32
  let v7 : BitVec 1 := Scalar.cmpi .ne v6 c0_i32_1
  v7

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (k0_off1_inb : ∀ i : grid0.Coords, ∀ a, (k0_off1 i) a + S1.size a ≤ S288.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S288) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_3 (k0_off1_inb : ∀ i : grid0.Coords, ∀ a, (k0_off1 i) a + S1.size a ≤ S288.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S288) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_4 (k0_off1_inb : ∀ i : grid0.Coords, ∀ a, (k0_off1 i) a + S1.size a ≤ S288.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S288) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_5 (k0_off1_inb : ∀ i : grid0.Coords, ∀ a, (k0_off1 i) a + S1.size a ≤ S288.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S288) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1024x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1024x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x1x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== MoeRefIdeal.lean ====
abbrev S288 : Shape := ⟨1, ![288]⟩
abbrev S1 : Shape := ⟨1, ![1]⟩
abbrev S147456x1024 : Shape := ⟨2, ![147456, 1024]⟩
abbrev S147456x1 : Shape := ⟨2, ![147456, 1]⟩
abbrev S32x1024x2048 : Shape := ⟨3, ![32, 1024, 2048]⟩
abbrev S32x1x2048 : Shape := ⟨3, ![32, 1, 2048]⟩
abbrev S32x1024x1024 : Shape := ⟨3, ![32, 1024, 1024]⟩
abbrev S32x1x1024 : Shape := ⟨3, ![32, 1, 1024]⟩
abbrev S288x512x1024 : Shape := ⟨3, ![288, 512, 1024]⟩
abbrev S_ : Shape := ⟨0, ![]⟩
abbrev S288x1 : Shape := ⟨2, ![288, 1]⟩
abbrev S288x1024x2048 : Shape := ⟨3, ![288, 1024, 2048]⟩
abbrev S288x512x2048 : Shape := ⟨3, ![288, 512, 2048]⟩
abbrev S288x1x2048 : Shape := ⟨3, ![288, 1, 2048]⟩
abbrev S288x1024x1024 : Shape := ⟨3, ![288, 1024, 1024]⟩
abbrev S288x1x1024 : Shape := ⟨3, ![288, 1, 1024]⟩
abbrev S288x512x1 : Shape := ⟨3, ![288, 512, 1]⟩
abbrev S288x1x1 : Shape := ⟨3, ![288, 1, 1]⟩

abbrev nBuf : Space → Nat
  | .hbm => 96
  | .vmem => 0
  | .smem => 0
  | _ => 0

abbrev bufTy : (tb : Table) → Fin (tcTables nBuf tb) → BufTy
  | .hbm, ⟨0, _⟩ => ⟨S288, .i32⟩
  | .hbm, ⟨1, _⟩ => ⟨S1, .i32⟩
  | .hbm, ⟨2, _⟩ => ⟨S147456x1024, .bf16⟩
  | .hbm, ⟨3, _⟩ => ⟨S147456x1, .f32⟩
  | .hbm, ⟨4, _⟩ => ⟨S32x1024x2048, .bf16⟩
  | .hbm, ⟨5, _⟩ => ⟨S32x1x2048, .f32⟩
  | .hbm, ⟨6, _⟩ => ⟨S32x1024x1024, .bf16⟩
  | .hbm, ⟨7, _⟩ => ⟨S32x1x1024, .f32⟩
  | .hbm, ⟨8, _⟩ => ⟨S147456x1024, .f32⟩
  | .hbm, ⟨9, _⟩ => ⟨S288x512x1024, .f32⟩
  | .hbm, ⟨10, _⟩ => ⟨S_, .i32⟩
  | .hbm, ⟨11, _⟩ => ⟨S288, .i32⟩
  | .hbm, ⟨12, _⟩ => ⟨S288, .i1⟩
  | .hbm, ⟨13, _⟩ => ⟨S_, .i32⟩
  | .hbm, ⟨14, _⟩ => ⟨S288, .i32⟩
  | .hbm, ⟨15, _⟩ => ⟨S288, .i32⟩
  | .hbm, ⟨16, _⟩ => ⟨S288, .i32⟩
  | .hbm, ⟨17, _⟩ => ⟨S288x1, .i32⟩
  | .hbm, ⟨18, _⟩ => ⟨S288x1024x2048, .bf16⟩
  | .hbm, ⟨19, _⟩ => ⟨S288x1024x2048, .f32⟩
  | .hbm, ⟨20, _⟩ => ⟨S288x512x2048, .f32⟩
  | .hbm, ⟨21, _⟩ => ⟨S_, .i32⟩
  | .hbm, ⟨22, _⟩ => ⟨S288, .i32⟩
  | .hbm, ⟨23, _⟩ => ⟨S288, .i1⟩
  | .hbm, ⟨24, _⟩ => ⟨S_, .i32⟩
  | .hbm, ⟨25, _⟩ => ⟨S288, .i32⟩
  | .hbm, ⟨26, _⟩ => ⟨S288, .i32⟩
  | .hbm, ⟨27, _⟩ => ⟨S288, .i32⟩
  | .hbm, ⟨28, _⟩ => ⟨S288x1, .i32⟩
  | .hbm, ⟨29, _⟩ => ⟨S288x1x2048, .f32⟩
  | .hbm, ⟨30, _⟩ => ⟨S288x512x2048, .f32⟩
  | .hbm, ⟨31, _⟩ => ⟨S288x512x2048, .f32⟩
  | .hbm, ⟨32, _⟩ => ⟨S288x512x1024, .f32⟩
  | .hbm, ⟨33, _⟩ => ⟨S288x512x1024, .f32⟩
  | .hbm, ⟨34, _⟩ => ⟨S_, .f32⟩
  | .hbm, ⟨35, _⟩ => ⟨S288x512x1024, .f32⟩
  | .hbm, ⟨36, _⟩ => ⟨S288x512x1024, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S288x512x1024, .f32⟩
  | .hbm, ⟨41, _⟩ => ⟨S288x512x1024, .f32⟩
  | .hbm, ⟨42, _⟩ => ⟨S_, .f32⟩
  | .hbm, ⟨43, _⟩ => ⟨S288x512x1024, .f32⟩
  | .hbm, ⟨44, _⟩ => ⟨S288x512x1024, .f32⟩
  | .hbm, ⟨45, _⟩ => ⟨S_, .f32⟩
  | .hbm, ⟨46, _⟩ => ⟨S288x512x1024, .f32⟩
  | .hbm, ⟨47, _⟩ => ⟨S288x512x1024, .f32⟩
  | .hbm, ⟨48, _⟩ => ⟨S_, .f32⟩
  | .hbm, ⟨49, _⟩ => ⟨S288x512x1024, .f32⟩
  | .hbm, ⟨50, _⟩ => ⟨S288x512x1024, .f32⟩
  | .hbm, ⟨51, _⟩ => ⟨S288x512x1024, .f32⟩
  | .hbm, ⟨52, _⟩ => ⟨S288x512x1024, .f32⟩
  | .hbm, ⟨53, _⟩ => ⟨S_, .f32⟩
  | .hbm, ⟨54, _⟩ => ⟨S288x512x1024, .f32⟩
  | .hbm, ⟨55, _⟩ => ⟨S288x512x1024, .f32⟩
  | .hbm, ⟨56, _⟩ => ⟨S_, .f32⟩
  | .hbm, ⟨57, _⟩ => ⟨S288x512x1024, .f32⟩
  | .hbm, ⟨58, _⟩ => ⟨S288x512x1024, .f32⟩
  | .hbm, ⟨59, _⟩ => ⟨S288x512x1024, .f32⟩
  | .hbm, ⟨60, _⟩ => ⟨S288x512x1024, .f32⟩
  | .hbm, ⟨61, _⟩ => ⟨S_, .i32⟩
  | .hbm, ⟨62, _⟩ => ⟨S288, .i32⟩
  | .hbm, ⟨63, _⟩ => ⟨S288, .i1⟩
  | .hbm, ⟨64, _⟩ => ⟨S_, .i32⟩
  | .hbm, ⟨65, _⟩ => ⟨S288, .i32⟩
  | .hbm, ⟨66, _⟩ => ⟨S288, .i32⟩
  | .hbm, ⟨67, _⟩ => ⟨S288, .i32⟩
  | .hbm, ⟨68, _⟩ => ⟨S288x1, .i32⟩
  | .hbm, ⟨69, _⟩ => ⟨S288x1024x1024, .bf16⟩
  | .hbm, ⟨70, _⟩ => ⟨S288x1024x1024, .f32⟩
  | .hbm, ⟨71, _⟩ => ⟨S288x512x1024, .f32⟩
  | .hbm, ⟨72, _⟩ => ⟨S_, .i32⟩
  | .hbm, ⟨73, _⟩ => ⟨S288, .i32⟩
  | .hbm, ⟨74, _⟩ => ⟨S288, .i1⟩
  | .hbm, ⟨75, _⟩ => ⟨S_, .i32⟩
  | .hbm, ⟨76, _⟩ => ⟨S288, .i32⟩
  | .hbm, ⟨77, _⟩ => ⟨S288, .i32⟩
  | .hbm, ⟨78, _⟩ => ⟨S288, .i32⟩
  | .hbm, ⟨79, _⟩ => ⟨S288x1, .i32⟩
  | .hbm, ⟨80, _⟩ => ⟨S288x1x1024, .f32⟩
  | .hbm, ⟨81, _⟩ => ⟨S288x512x1024, .f32⟩
  | .hbm, ⟨82, _⟩ => ⟨S288x512x1024, .f32⟩
  | .hbm, ⟨83, _⟩ => ⟨S288x512x1, .f32⟩
  | .hbm, ⟨84, _⟩ => ⟨S288x512x1024, .f32⟩
  | .hbm, ⟨85, _⟩ => ⟨S288x512x1024, .f32⟩
  | .hbm, ⟨86, _⟩ => ⟨S288, .i32⟩
  | .hbm, ⟨87, _⟩ => ⟨S288, .i32⟩
  | .hbm, ⟨88, _⟩ => ⟨S288, .i1⟩
  | .hbm, ⟨89, _⟩ => ⟨S288x1x1, .i1⟩
  | .hbm, ⟨90, _⟩ => ⟨S_, .f32⟩
  | .hbm, ⟨91, _⟩ => ⟨S_, .f32⟩
  | .hbm, ⟨92, _⟩ => ⟨S288x512x1024, .i1⟩
  | .hbm, ⟨93, _⟩ => ⟨S288x512x1024, .f32⟩
  | .hbm, ⟨94, _⟩ => ⟨S288x512x1024, .f32⟩
  | .hbm, ⟨95, _⟩ => ⟨S147456x1024, .f32⟩
  | _, _ => ⟨S288, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_c : Ref sig .tc := ⟨.hbm, 10, rfl⟩
abbrev main_v2 : Ref sig .tc := ⟨.hbm, 11, rfl⟩
abbrev main_v3 : Ref sig .tc := ⟨.hbm, 12, rfl⟩
abbrev main_c_0 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_c_1 : Ref sig .tc := ⟨.hbm, 21, rfl⟩
abbrev main_v11 : Ref sig .tc := ⟨.hbm, 22, rfl⟩
abbrev main_v12 : Ref sig .tc := ⟨.hbm, 23, rfl⟩
abbrev main_c_2 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst : Ref sig .tc := ⟨.hbm, 34, rfl⟩
abbrev main_v22 : Ref sig .tc := ⟨.hbm, 35, rfl⟩
abbrev main_v23 : Ref sig .tc := ⟨.hbm, 36, rfl⟩
abbrev main_cst_3 : Ref sig .tc := ⟨.hbm, 37, rfl⟩
abbrev main_cst_4 : Ref sig .tc := ⟨.hbm, 38, rfl⟩
abbrev main_call0_v0 : Ref sig .tc := ⟨.hbm, 39, rfl⟩
abbrev main_call0_v1 : Ref sig .tc := ⟨.hbm, 40, rfl⟩
abbrev main_call0_v2 : Ref sig .tc := ⟨.hbm, 41, rfl⟩
abbrev main_call0_v3 : Ref sig .tc := ⟨.hbm, 42, rfl⟩
abbrev main_call0_v4 : Ref sig .tc := ⟨.hbm, 43, rfl⟩
abbrev main_v24 : Ref sig .tc := ⟨.hbm, 44, rfl⟩
abbrev main_cst_5 : Ref sig .tc := ⟨.hbm, 45, rfl⟩
abbrev main_v25 : Ref sig .tc := ⟨.hbm, 46, rfl⟩
abbrev main_v26 : Ref sig .tc := ⟨.hbm, 47, rfl⟩
abbrev main_cst_6 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_cst_7 : Ref sig .tc := ⟨.hbm, 53, rfl⟩
abbrev main_v31 : Ref sig .tc := ⟨.hbm, 54, rfl⟩
abbrev main_v32 : Ref sig .tc := ⟨.hbm, 55, rfl⟩
abbrev main_cst_8 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_c_9 : Ref sig .tc := ⟨.hbm, 61, rfl⟩
abbrev main_v37 : Ref sig .tc := ⟨.hbm, 62, rfl⟩
abbrev main_v38 : Ref sig .tc := ⟨.hbm, 63, rfl⟩
abbrev main_c_10 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_c_11 : Ref sig .tc := ⟨.hbm, 72, rfl⟩
abbrev main_v46 : Ref sig .tc := ⟨.hbm, 73, rfl⟩
abbrev main_v47 : Ref sig .tc := ⟨.hbm, 74, rfl⟩
abbrev main_c_12 : Ref sig .tc := ⟨.hbm, 75, rfl⟩
abbrev main_v48 : Ref sig .tc := ⟨.hbm, 76, rfl⟩
abbrev main_v49 : Ref sig .tc := ⟨.hbm, 77, rfl⟩
abbrev main_v50 : Ref sig .tc := ⟨.hbm, 78, rfl⟩
abbrev main_v51 : Ref sig .tc := ⟨.hbm, 79, rfl⟩
abbrev main_v52 : Ref sig .tc := ⟨.hbm, 80, rfl⟩
abbrev main_v53 : Ref sig .tc := ⟨.hbm, 81, rfl⟩
abbrev main_v54 : Ref sig .tc := ⟨.hbm, 82, rfl⟩
abbrev main_v55 : Ref sig .tc := ⟨.hbm, 83, rfl⟩
abbrev main_v56 : Ref sig .tc := ⟨.hbm, 84, rfl⟩
abbrev main_v57 : Ref sig .tc := ⟨.hbm, 85, rfl⟩
abbrev main_v58 : Ref sig .tc := ⟨.hbm, 86, rfl⟩
abbrev main_v59 : Ref sig .tc := ⟨.hbm, 87, rfl⟩
abbrev main_v60 : Ref sig .tc := ⟨.hbm, 88, rfl⟩
abbrev main_v61 : Ref sig .tc := ⟨.hbm, 89, rfl⟩
abbrev main_cst_13 : Ref sig .tc := ⟨.hbm, 90, rfl⟩
abbrev main_call1_v0 : Ref sig .tc := ⟨.hbm, 91, rfl⟩
abbrev main_call1_v1 : Ref sig .tc := ⟨.hbm, 92, rfl⟩
abbrev main_call1_v2 : Ref sig .tc := ⟨.hbm, 93, rfl⟩
abbrev main_v62 : Ref sig .tc := ⟨.hbm, 94, rfl⟩
abbrev main_v63 : Ref sig .tc := ⟨.hbm, 95, rfl⟩

abbrev nD : Nat := 1
abbrev τ : Topo := Topo.v7x

variable {F : FTy → Type} [FloatOps F]
-- ==== InProj.lean ====
abbrev S8x4096x1024 : Shape := ⟨3, ![8, 4096, 1024]⟩
abbrev S1024 : Shape := ⟨1, ![1024]⟩
abbrev S8x1024 : Shape := ⟨2, ![8, 1024]⟩
abbrev S1024x6144 : Shape := ⟨2, ![1024, 6144]⟩
abbrev S32768x1024 : Shape := ⟨2, ![32768, 1024]⟩
abbrev S1x1024 : Shape := ⟨2, ![1, 1024]⟩
abbrev S8x1x1024 : Shape := ⟨3, ![8, 1, 1024]⟩
abbrev S32768x6144 : Shape := ⟨2, ![32768, 6144]⟩
abbrev S1024x1024 : Shape := ⟨2, ![1024, 1024]⟩
abbrev S1x1x1024 : Shape := ⟨3, ![1, 1, 1024]⟩
abbrev S1024x512 : Shape := ⟨2, ![1024, 512]⟩
abbrev S1024x1 : Shape := ⟨2, ![1024, 1]⟩

abbrev nBuf : Space → Nat
  | .hbm => 10
  | .vmem => 12
  | .smem => 0
  | _ => 0

abbrev bufTy : (tb : Table) → Fin (tcTables nBuf tb) → BufTy
  | .hbm, ⟨0, _⟩ => ⟨S8x4096x1024, .f32⟩
  | .hbm, ⟨1, _⟩ => ⟨S1024, .f32⟩
  | .hbm, ⟨2, _⟩ => ⟨S8x1024, .f32⟩
  | .hbm, ⟨3, _⟩ => ⟨S8x1024, .f32⟩
  | .hbm, ⟨4, _⟩ => ⟨S1024x6144, .bf16⟩
  | .hbm, ⟨5, _⟩ => ⟨S32768x1024, .f32⟩
  | .hbm, ⟨6, _⟩ => ⟨S1x1024, .f32⟩
  | .hbm, ⟨7, _⟩ => ⟨S8x1x1024, .f32⟩
  | .hbm, ⟨8, _⟩ => ⟨S8x1x1024, .f32⟩
  | .hbm, ⟨9, _⟩ => ⟨S32768x6144, .f32⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x1x1024, .f32⟩
  | .local _ .vmem, ⟨6, _⟩ => ⟨S1x1x1024, .f32⟩
  | .local _ .vmem, ⟨7, _⟩ => ⟨S1024x512, .bf16⟩
  | .local _ .vmem, ⟨8, _⟩ => ⟨S1024x512, .bf16⟩
  | .local _ .vmem, ⟨9, _⟩ => ⟨S1024x512, .f32⟩
  | .local _ .vmem, ⟨10, _⟩ => ⟨S1024x512, .f32⟩
  | .local _ .vmem, ⟨11, _⟩ => ⟨S1024x1024, .bf16⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_scratch0 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨2, ![32, 12], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_3 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1024x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1024x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== InProjRefIdeal.lean ====
abbrev S8x4096x1024 : Shape := ⟨3, ![8, 4096, 1024]⟩
abbrev S1024 : Shape := ⟨1, ![1024]⟩
abbrev S8x1024 : Shape := ⟨2, ![8, 1024]⟩
abbrev S1024x6144 : Shape := ⟨2, ![1024, 6144]⟩
abbrev S_ : Shape := ⟨0, ![]⟩
abbrev S8x4096 : Shape := ⟨2, ![8, 4096]⟩
abbrev S8x4096x1 : Shape := ⟨3, ![8, 4096, 1]⟩
abbrev S1x1x1024 : Shape := ⟨3, ![1, 1, 1024]⟩
abbrev S8x1x1024 : Shape := ⟨3, ![8, 1, 1024]⟩
abbrev S8x4096x6144 : Shape := ⟨3, ![8, 4096, 6144]⟩
abbrev S32768x6144 : Shape := ⟨2, ![32768, 6144]⟩

abbrev nBuf : Space → Nat
  | .hbm => 33
  | .vmem => 0
  | .smem => 0
  | _ => 0

abbrev bufTy : (tb : Table) → Fin (tcTables nBuf tb) → BufTy
  | .hbm, ⟨0, _⟩ => ⟨S8x4096x1024, .f32⟩
  | .hbm, ⟨1, _⟩ => ⟨S1024, .f32⟩
  | .hbm, ⟨2, _⟩ => ⟨S8x1024, .f32⟩
  | .hbm, ⟨3, _⟩ => ⟨S8x1024, .f32⟩
  | .hbm, ⟨4, _⟩ => ⟨S1024x6144, .bf16⟩
  | .hbm, ⟨5, _⟩ => ⟨S8x4096x1024, .f32⟩
  | .hbm, ⟨6, _⟩ => ⟨S_, .f32⟩
  | .hbm, ⟨7, _⟩ => ⟨S8x4096, .f32⟩
  | .hbm, ⟨8, _⟩ => ⟨S8x4096x1, .f32⟩
  | .hbm, ⟨9, _⟩ => ⟨S_, .f32⟩
  | .hbm, ⟨10, _⟩ => ⟨S8x4096x1, .f32⟩
  | .hbm, ⟨11, _⟩ => ⟨S8x4096x1, .f32⟩
  | .hbm, ⟨12, _⟩ => ⟨S_, .f32⟩
  | .hbm, ⟨13, _⟩ => ⟨S8x4096x1, .f32⟩
  | .hbm, ⟨14, _⟩ => ⟨S8x4096x1, .f32⟩
  | .hbm, ⟨15, _⟩ => ⟨S8x4096x1, .f32⟩
  | .hbm, ⟨16, _⟩ => ⟨S8x4096x1024, .f32⟩
  | .hbm, ⟨17, _⟩ => ⟨S8x4096x1024, .f32⟩
  | .hbm, ⟨18, _⟩ => ⟨S1x1x1024, .f32⟩
  | .hbm, ⟨19, _⟩ => ⟨S8x4096x1024, .f32⟩
  | .hbm, ⟨20, _⟩ => ⟨S8x4096x1024, .f32⟩
  | .hbm, ⟨21, _⟩ => ⟨S8x1x1024, .f32⟩
  | .hbm, ⟨22, _⟩ => ⟨S_, .f32⟩
  | .hbm, ⟨23, _⟩ => ⟨S8x1x1024, .f32⟩
  | .hbm, ⟨24, _⟩ => ⟨S8x1x1024, .f32⟩
  | .hbm, ⟨25, _⟩ => ⟨S8x4096x1024, .f32⟩
  | .hbm, ⟨26, _⟩ => ⟨S8x4096x1024, .f32⟩
  | .hbm, ⟨27, _⟩ => ⟨S8x1x1024, .f32⟩
  | .hbm, ⟨28, _⟩ => ⟨S8x4096x1024, .f32⟩
  | .hbm, ⟨29, _⟩ => ⟨S8x4096x1024, .f32⟩
  | .hbm, ⟨30, _⟩ => ⟨S1024x6144, .f32⟩
  | .hbm, ⟨31, _⟩ => ⟨S8x4096x6144, .f32⟩
  | .hbm, ⟨32, _⟩ => ⟨S32768x6144, .f32⟩
  | _, _ => ⟨S8x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_2 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩

abbrev nD : Nat := 1
abbrev τ : Topo := Topo.v7x

variable {F : FTy → Type} [FloatOps F]
-- ==== MixOut.lean ====
abbrev S32768x512 : Shape := ⟨2, ![32768, 512]⟩
abbrev S32768x1024 : Shape := ⟨2, ![32768, 1024]⟩
abbrev S32768x6144 : Shape := ⟨2, ![32768, 6144]⟩
abbrev S8x1024 : Shape := ⟨2, ![8, 1024]⟩
abbrev S512x1024 : Shape := ⟨2, ![512, 1024]⟩
abbrev S1024x1024 : Shape := ⟨2, ![1024, 1024]⟩
abbrev S1024 : Shape := ⟨1, ![1024]⟩
abbrev S1024x32 : Shape := ⟨2, ![1024, 32]⟩
abbrev S32 : Shape := ⟨1, ![32]⟩
abbrev S_ : Shape := ⟨0, ![]⟩
abbrev S1024x128 : Shape := ⟨2, ![1024, 128]⟩
abbrev S128 : Shape := ⟨1, ![128]⟩
abbrev S1x128 : Shape := ⟨2, ![1, 128]⟩
abbrev S8x1x1024 : Shape := ⟨3, ![8, 1, 1024]⟩
abbrev S1x1024 : Shape := ⟨2, ![1, 1024]⟩
abbrev S32768x128 : Shape := ⟨2, ![32768, 128]⟩
abbrev S512x512 : Shape := ⟨2, ![512, 512]⟩
abbrev S512x2048 : Shape := ⟨2, ![512, 2048]⟩
abbrev S1x1x1024 : Shape := ⟨3, ![1, 1, 1024]⟩
abbrev S512x128 : Shape := ⟨2, ![512, 128]⟩
abbrev S512 : Shape := ⟨1, ![512]⟩
abbrev S512x1 : Shape := ⟨2, ![512, 1]⟩
abbrev S32768x32 : Shape := ⟨2, ![32768, 32]⟩

abbrev nBuf : Space → Nat
  | .hbm => 31
  | .vmem => 26
  | .smem => 0
  | _ => 0

abbrev bufTy : (tb : Table) → Fin (tcTables nBuf tb) → BufTy
  | .hbm, ⟨0, _⟩ => ⟨S32768x512, .f32⟩
  | .hbm, ⟨1, _⟩ => ⟨S32768x1024, .f32⟩
  | .hbm, ⟨2, _⟩ => ⟨S32768x6144, .f32⟩
  | .hbm, ⟨3, _⟩ => ⟨S32768x1024, .f32⟩
  | .hbm, ⟨4, _⟩ => ⟨S8x1024, .f32⟩
  | .hbm, ⟨5, _⟩ => ⟨S512x1024, .f32⟩
  | .hbm, ⟨6, _⟩ => ⟨S1024x1024, .f32⟩
  | .hbm, ⟨7, _⟩ => ⟨S1024x1024, .f32⟩
  | .hbm, ⟨8, _⟩ => ⟨S1024, .f32⟩
  | .hbm, ⟨9, _⟩ => ⟨S8x1024, .f32⟩
  | .hbm, ⟨10, _⟩ => ⟨S8x1024, .f32⟩
  | .hbm, ⟨11, _⟩ => ⟨S1024x32, .f32⟩
  | .hbm, ⟨12, _⟩ => ⟨S32, .f32⟩
  | .hbm, ⟨13, _⟩ => ⟨S_, .i32⟩
  | .hbm, ⟨14, _⟩ => ⟨S_, .f32⟩
  | .hbm, ⟨15, _⟩ => ⟨S1024x128, .f32⟩
  | .hbm, ⟨16, _⟩ => ⟨S_, .i32⟩
  | .hbm, ⟨17, _⟩ => ⟨S_, .f32⟩
  | .hbm, ⟨18, _⟩ => ⟨S128, .f32⟩
  | .hbm, ⟨19, _⟩ => ⟨S1x128, .f32⟩
  | .hbm, ⟨20, _⟩ => ⟨S8x1x1024, .f32⟩
  | .hbm, ⟨21, _⟩ => ⟨S512x1024, .bf16⟩
  | .hbm, ⟨22, _⟩ => ⟨S1024x1024, .bf16⟩
  | .hbm, ⟨23, _⟩ => ⟨S1024x1024, .bf16⟩
  | .hbm, ⟨24, _⟩ => ⟨S1x1024, .f32⟩
  | .hbm, ⟨25, _⟩ => ⟨S8x1x1024, .f32⟩
  | .hbm, ⟨26, _⟩ => ⟨S8x1x1024, .f32⟩
  | .hbm, ⟨27, _⟩ => ⟨S32768x1024, .f32⟩
  | .hbm, ⟨28, _⟩ => ⟨S32768x1024, .bf16⟩
  | .hbm, ⟨29, _⟩ => ⟨S32768x128, .f32⟩
  | .hbm, ⟨30, _⟩ => ⟨S32768x32, .f32⟩
  | .local _ .vmem, ⟨0, _⟩ => ⟨S512x512, .f32⟩
  | .local _ .vmem, ⟨1, _⟩ => ⟨S512x512, .f32⟩
  | .local _ .vmem, ⟨2, _⟩ => ⟨S512x1024, .f32⟩
  | .local _ .vmem, ⟨3, _⟩ => ⟨S512x1024, .f32⟩
  | .local _ .vmem, ⟨4, _⟩ => ⟨S512x2048, .f32⟩
  | .local _ .vmem, ⟨5, _⟩ => ⟨S512x2048, .f32⟩
  | .local _ .vmem, ⟨6, _⟩ => ⟨S512x1024, .f32⟩
  | .local _ .vmem, ⟨7, _⟩ => ⟨S512x1024, .f32⟩
  | .local _ .vmem, ⟨8, _⟩ => ⟨S1x1x1024, .f32⟩
  | .local _ .vmem, ⟨9, _⟩ => ⟨S1x1x1024, .f32⟩
  | .local _ .vmem, ⟨10, _⟩ => ⟨S512x1024, .bf16⟩
  | .local _ .vmem, ⟨11, _⟩ => ⟨S1024x1024, .bf16⟩
  | .local _ .vmem, ⟨12, _⟩ => ⟨S1024x1024, .bf16⟩
  | .local _ .vmem, ⟨13, _⟩ => ⟨S1x1024, .f32⟩
  | .local _ .vmem, ⟨14, _⟩ => ⟨S1x1x1024, .f32⟩
  | .local _ .vmem, ⟨15, _⟩ => ⟨S1x1x1024, .f32⟩
  | .local _ .vmem, ⟨16, _⟩ => ⟨S1x1x1024, .f32⟩
  | .local _ .vmem, ⟨17, _⟩ => ⟨S1x1x1024, .f32⟩
  | .local _ .vmem, ⟨18, _⟩ => ⟨S1024x128, .f32⟩
  | .local _ .vmem, ⟨19, _⟩ => ⟨S1x128, .f32⟩
  | .local _ .vmem, ⟨20, _⟩ => ⟨S512x1024, .f32⟩
  | .local _ .vmem, ⟨21, _⟩ => ⟨S512x1024, .f32⟩
  | .local _ .vmem, ⟨22, _⟩ => ⟨S512x1024, .bf16⟩
  | .local _ .vmem, ⟨23, _⟩ => ⟨S512x1024, .bf16⟩
  | .local _ .vmem, ⟨24, _⟩ => ⟨S512x128, .f32⟩
  | .local _ .vmem, ⟨25, _⟩ => ⟨S512x128, .f32⟩
  | _, _ => ⟨S32768x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_c : Ref sig .tc := ⟨.hbm, 13, rfl⟩
abbrev main_call0_v0 : Ref sig .tc := ⟨.hbm, 14, rfl⟩
abbrev main_v0 : Ref sig .tc := ⟨.hbm, 15, rfl⟩
abbrev main_c_0 : Ref sig .tc := ⟨.hbm, 16, rfl⟩
abbrev main_call1_v0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10_0 : Ref sig .tc := ⟨.hbm, 27, rfl⟩
abbrev main_v10_1 : Ref sig .tc := ⟨.hbm, 28, rfl⟩
abbrev main_v10_2 : Ref sig .tc := ⟨.hbm, 29, rfl⟩
abbrev main_v11 : Ref sig .tc := ⟨.hbm, 30, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg12_0 : Ref sig .tc := ⟨.vmem, 19, rfl⟩
abbrev cc0_stg13_0 : Ref sig .tc := ⟨.vmem, 20, rfl⟩
abbrev cc0_stg13_1 : Ref sig .tc := ⟨.vmem, 21, rfl⟩
abbrev cc0_stg14_0 : Ref sig .tc := ⟨.vmem, 22, rfl⟩
abbrev cc0_stg14_1 : Ref sig .tc := ⟨.vmem, 23, rfl⟩
abbrev cc0_stg15_0 : Ref sig .tc := ⟨.vmem, 24, rfl⟩
abbrev cc0_stg15_1 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18
abbrev cc0_sem12_0 : DmaSem sig := 19
abbrev cc0_sem13_0 : DmaSem sig := 20
abbrev cc0_sem13_1 : DmaSem sig := 21
abbrev cc0_sem14_0 : DmaSem sig := 22
abbrev cc0_sem14_1 : DmaSem sig := 23
abbrev cc0_sem15_0 : DmaSem sig := 24
abbrev cc0_sem15_1 : DmaSem sig := 25

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_10 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S512x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S1x1x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1x1x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 1 → Memref sig .tc .vmem S1024x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x128 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 2 → Memref sig .tc .vmem S512x1024 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S512x1024 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S512x128 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]
-- ==== MixOutRefIdeal.lean ====
abbrev S32768x512 : Shape := ⟨2, ![32768, 512]⟩
abbrev S32768x1024 : Shape := ⟨2, ![32768, 1024]⟩
abbrev S32768x6144 : Shape := ⟨2, ![32768, 6144]⟩
abbrev S8x1024 : Shape := ⟨2, ![8, 1024]⟩
abbrev S512x1024 : Shape := ⟨2, ![512, 1024]⟩
abbrev S1024x1024 : Shape := ⟨2, ![1024, 1024]⟩
abbrev S1024 : Shape := ⟨1, ![1024]⟩
abbrev S1024x32 : Shape := ⟨2, ![1024, 32]⟩
abbrev S32 : Shape := ⟨1, ![32]⟩
abbrev S32768x2048 : Shape := ⟨2, ![32768, 2048]⟩
abbrev S_ : Shape := ⟨0, ![]⟩
abbrev S8x4096x1024 : Shape := ⟨3, ![8, 4096, 1024]⟩
abbrev S8x1x1024 : Shape := ⟨3, ![8, 1, 1024]⟩
abbrev S8x4096 : Shape := ⟨2, ![8, 4096]⟩
abbrev S8x4096x1 : Shape := ⟨3, ![8, 4096, 1]⟩
abbrev S1x1x1024 : Shape := ⟨3, ![1, 1, 1024]⟩
abbrev S32768x32 : Shape := ⟨2, ![32768, 32]⟩
abbrev S1x32 : Shape := ⟨2, ![1, 32]⟩

abbrev nBuf : Space → Nat
  | .hbm => 76
  | .vmem => 0
  | .smem => 0
  | _ => 0

abbrev bufTy : (tb : Table) → Fin (tcTables nBuf tb) → BufTy
  | .hbm, ⟨0, _⟩ => ⟨S32768x512, .f32⟩
  | .hbm, ⟨1, _⟩ => ⟨S32768x1024, .f32⟩
  | .hbm, ⟨2, _⟩ => ⟨S32768x6144, .f32⟩
  | .hbm, ⟨3, _⟩ => ⟨S32768x1024, .f32⟩
  | .hbm, ⟨4, _⟩ => ⟨S8x1024, .f32⟩
  | .hbm, ⟨5, _⟩ => ⟨S512x1024, .f32⟩
  | .hbm, ⟨6, _⟩ => ⟨S1024x1024, .f32⟩
  | .hbm, ⟨7, _⟩ => ⟨S1024x1024, .f32⟩
  | .hbm, ⟨8, _⟩ => ⟨S1024, .f32⟩
  | .hbm, ⟨9, _⟩ => ⟨S8x1024, .f32⟩
  | .hbm, ⟨10, _⟩ => ⟨S8x1024, .f32⟩
  | .hbm, ⟨11, _⟩ => ⟨S1024x32, .f32⟩
  | .hbm, ⟨12, _⟩ => ⟨S32, .f32⟩
  | .hbm, ⟨13, _⟩ => ⟨S32768x2048, .f32⟩
  | .hbm, ⟨14, _⟩ => ⟨S32768x1024, .f32⟩
  | .hbm, ⟨15, _⟩ => ⟨S32768x1024, .f32⟩
  | .hbm, ⟨16, _⟩ => ⟨S32768x1024, .f32⟩
  | .hbm, ⟨17, _⟩ => ⟨S32768x1024, .f32⟩
  | .hbm, ⟨18, _⟩ => ⟨S_, .f32⟩
  | .hbm, ⟨19, _⟩ => ⟨S32768x1024, .f32⟩
  | .hbm, ⟨20, _⟩ => ⟨S32768x1024, .f32⟩
  | .hbm, ⟨21, _⟩ => ⟨S_, .f32⟩
  | .hbm, ⟨22, _⟩ => ⟨S32768x1024, .f32⟩
  | .hbm, ⟨23, _⟩ => ⟨S32768x1024, .f32⟩
  | .hbm, ⟨24, _⟩ => ⟨S32768x1024, .f32⟩
  | .hbm, ⟨25, _⟩ => ⟨S32768x1024, .f32⟩
  | .hbm, ⟨26, _⟩ => ⟨S32768x1024, .f32⟩
  | .hbm, ⟨27, _⟩ => ⟨S32768x1024, .f32⟩
  | .hbm, ⟨28, _⟩ => ⟨S_, .f32⟩
  | .hbm, ⟨29, _⟩ => ⟨S32768x1024, .f32⟩
  | .hbm, ⟨30, _⟩ => ⟨S32768x1024, .f32⟩
  | .hbm, ⟨31, _⟩ => ⟨S_, .f32⟩
  | .hbm, ⟨32, _⟩ => ⟨S32768x1024, .f32⟩
  | .hbm, ⟨33, _⟩ => ⟨S32768x1024, .f32⟩
  | .hbm, ⟨34, _⟩ => ⟨S32768x1024, .f32⟩
  | .hbm, ⟨35, _⟩ => ⟨S32768x1024, .f32⟩
  | .hbm, ⟨36, _⟩ => ⟨S32768x1024, .f32⟩
  | .hbm, ⟨37, _⟩ => ⟨S8x4096x1024, .f32⟩
  | .hbm, ⟨38, _⟩ => ⟨S8x1x1024, .f32⟩
  | .hbm, ⟨39, _⟩ => ⟨S32768x1024, .f32⟩
  | .hbm, ⟨40, _⟩ => ⟨S8x4096x1024, .f32⟩
  | .hbm, ⟨41, _⟩ => ⟨S8x4096x1024, .f32⟩
  | .hbm, ⟨42, _⟩ => ⟨S8x4096x1024, .f32⟩
  | .hbm, ⟨43, _⟩ => ⟨S8x4096x1024, .f32⟩
  | .hbm, ⟨44, _⟩ => ⟨S8x4096x1024, .f32⟩
  | .hbm, ⟨45, _⟩ => ⟨S_, .f32⟩
  | .hbm, ⟨46, _⟩ => ⟨S8x4096, .f32⟩
  | .hbm, ⟨47, _⟩ => ⟨S8x4096x1, .f32⟩
  | .hbm, ⟨48, _⟩ => ⟨S_, .f32⟩
  | .hbm, ⟨49, _⟩ => ⟨S8x4096x1, .f32⟩
  | .hbm, ⟨50, _⟩ => ⟨S8x4096x1, .f32⟩
  | .hbm, ⟨51, _⟩ => ⟨S_, .f32⟩
  | .hbm, ⟨52, _⟩ => ⟨S8x4096x1, .f32⟩
  | .hbm, ⟨53, _⟩ => ⟨S8x4096x1, .f32⟩
  | .hbm, ⟨54, _⟩ => ⟨S8x4096x1, .f32⟩
  | .hbm, ⟨55, _⟩ => ⟨S8x4096x1024, .f32⟩
  | .hbm, ⟨56, _⟩ => ⟨S8x4096x1024, .f32⟩
  | .hbm, ⟨57, _⟩ => ⟨S1x1x1024, .f32⟩
  | .hbm, ⟨58, _⟩ => ⟨S8x4096x1024, .f32⟩
  | .hbm, ⟨59, _⟩ => ⟨S8x4096x1024, .f32⟩
  | .hbm, ⟨60, _⟩ => ⟨S8x1x1024, .f32⟩
  | .hbm, ⟨61, _⟩ => ⟨S_, .f32⟩
  | .hbm, ⟨62, _⟩ => ⟨S8x1x1024, .f32⟩
  | .hbm, ⟨63, _⟩ => ⟨S8x1x1024, .f32⟩
  | .hbm, ⟨64, _⟩ => ⟨S8x4096x1024, .f32⟩
  | .hbm, ⟨65, _⟩ => ⟨S8x4096x1024, .f32⟩
  | .hbm, ⟨66, _⟩ => ⟨S8x1x1024, .f32⟩
  | .hbm, ⟨67, _⟩ => ⟨S8x4096x1024, .f32⟩
  | .hbm, ⟨68, _⟩ => ⟨S8x4096x1024, .f32⟩
  | .hbm, ⟨69, _⟩ => ⟨S32768x1024, .f32⟩
  | .hbm, ⟨70, _⟩ => ⟨S32768x32, .f32⟩
  | .hbm, ⟨71, _⟩ => ⟨S1x32, .f32⟩
  | .hbm, ⟨72, _⟩ => ⟨S32768x32, .f32⟩
  | .hbm, ⟨73, _⟩ => ⟨S32768x32, .f32⟩
  | .hbm, ⟨74, _⟩ => ⟨S32768x1024, .f32⟩
  | .hbm, ⟨75, _⟩ => ⟨S32768x1024, .bf16⟩
  | _, _ => ⟨S32768x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_cst : Ref sig .tc := ⟨.hbm, 18, rfl⟩
abbrev main_v5 : Ref sig .tc := ⟨.hbm, 19, rfl⟩
abbrev main_v6 : Ref sig .tc := ⟨.hbm, 20, rfl⟩
abbrev main_cst_0 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_cst_1 : Ref sig .tc := ⟨.hbm, 28, rfl⟩
abbrev main_v13 : Ref sig .tc := ⟨.hbm, 29, rfl⟩
abbrev main_v14 : Ref sig .tc := ⟨.hbm, 30, rfl⟩
abbrev main_cst_2 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_cst_3 : Ref sig .tc := ⟨.hbm, 45, rfl⟩
abbrev main_v28 : Ref sig .tc := ⟨.hbm, 46, rfl⟩
abbrev main_v29 : Ref sig .tc := ⟨.hbm, 47, rfl⟩
abbrev main_cst_4 : Ref sig .tc := ⟨.hbm, 48, rfl⟩
abbrev main_v30 : Ref sig .tc := ⟨.hbm, 49, rfl⟩
abbrev main_v31 : Ref sig .tc := ⟨.hbm, 50, rfl⟩
abbrev main_cst_5 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_cst_6 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩

abbrev nD : Nat := 1
abbrev τ : Topo := Topo.v7x

variable {F : FTy → Type} [FloatOps F]
-- ==== Prep.lean ====
abbrev S32768x6144 : Shape := ⟨2, ![32768, 6144]⟩
abbrev S64 : Shape := ⟨1, ![64]⟩
abbrev S256 : Shape := ⟨1, ![256]⟩
abbrev S256x1024 : Shape := ⟨2, ![256, 1024]⟩
abbrev S1x64 : Shape := ⟨2, ![1, 64]⟩
abbrev S8x64 : Shape := ⟨2, ![8, 64]⟩
abbrev S512 : Shape := ⟨1, ![512]⟩
abbrev S512x1 : Shape := ⟨2, ![512, 1]⟩
abbrev S1x256 : Shape := ⟨2, ![1, 256]⟩
abbrev S2x64 : Shape := ⟨2, ![2, 64]⟩
abbrev S128 : Shape := ⟨1, ![128]⟩
abbrev S1x128 : Shape := ⟨2, ![1, 128]⟩
abbrev S8x512x4096 : Shape := ⟨3, ![8, 512, 4096]⟩
abbrev S8x4096x512 : Shape := ⟨3, ![8, 4096, 512]⟩
abbrev S8x4096x128 : Shape := ⟨3, ![8, 4096, 128]⟩
abbrev S8x8x4096 : Shape := ⟨3, ![8, 8, 4096]⟩
abbrev S512x1408 : Shape := ⟨2, ![512, 1408]⟩
abbrev S1x512x512 : Shape := ⟨3, ![1, 512, 512]⟩
abbrev S1x512x128 : Shape := ⟨3, ![1, 512, 128]⟩
abbrev S1x8x512 : Shape := ⟨3, ![1, 8, 512]⟩
abbrev S512x512 : Shape := ⟨2, ![512, 512]⟩
abbrev S512x256 : Shape := ⟨2, ![512, 256]⟩
abbrev S512x128 : Shape := ⟨2, ![512, 128]⟩
abbrev S8x64x512 : Shape := ⟨3, ![8, 64, 512]⟩
abbrev S8x512 : Shape := ⟨2, ![8, 512]⟩
abbrev S8x1x512 : Shape := ⟨3, ![8, 1, 512]⟩
abbrev S512x1024 : Shape := ⟨2, ![512, 1024]⟩
abbrev S128x512 : Shape := ⟨2, ![128, 512]⟩

abbrev nBuf : Space → Nat
  | .hbm => 31
  | .vmem => 20
  | .smem => 0
  | _ => 0

abbrev bufTy : (tb : Table) → Fin (tcTables nBuf tb) → BufTy
  | .hbm, ⟨0, _⟩ => ⟨S32768x6144, .f32⟩
  | .hbm, ⟨1, _⟩ => ⟨S64, .f32⟩
  | .hbm, ⟨2, _⟩ => ⟨S256, .f32⟩
  | .hbm, ⟨3, _⟩ => ⟨S256x1024, .f32⟩
  | .hbm, ⟨4, _⟩ => ⟨S64, .f32⟩
  | .hbm, ⟨5, _⟩ => ⟨S64, .f32⟩
  | .hbm, ⟨6, _⟩ => ⟨S64, .f32⟩
  | .hbm, ⟨7, _⟩ => ⟨S1x64, .f32⟩
  | .hbm, ⟨8, _⟩ => ⟨S8x64, .f32⟩
  | .hbm, ⟨9, _⟩ => ⟨S512, .f32⟩
  | .hbm, ⟨10, _⟩ => ⟨S512x1, .f32⟩
  | .hbm, ⟨11, _⟩ => ⟨S1x256, .f32⟩
  | .hbm, ⟨12, _⟩ => ⟨S256x1024, .bf16⟩
  | .hbm, ⟨13, _⟩ => ⟨S1x64, .f32⟩
  | .hbm, ⟨14, _⟩ => ⟨S8x64, .f32⟩
  | .hbm, ⟨15, _⟩ => ⟨S512, .f32⟩
  | .hbm, ⟨16, _⟩ => ⟨S512x1, .f32⟩
  | .hbm, ⟨17, _⟩ => ⟨S1x64, .f32⟩
  | .hbm, ⟨18, _⟩ => ⟨S2x64, .f32⟩
  | .hbm, ⟨19, _⟩ => ⟨S128, .f32⟩
  | .hbm, ⟨20, _⟩ => ⟨S1x128, .f32⟩
  | .hbm, ⟨21, _⟩ => ⟨S1x64, .f32⟩
  | .hbm, ⟨22, _⟩ => ⟨S2x64, .f32⟩
  | .hbm, ⟨23, _⟩ => ⟨S128, .f32⟩
  | .hbm, ⟨24, _⟩ => ⟨S1x128, .f32⟩
  | .hbm, ⟨25, _⟩ => ⟨S8x512x4096, .bf16⟩
  | .hbm, ⟨26, _⟩ => ⟨S8x4096x512, .bf16⟩
  | .hbm, ⟨27, _⟩ => ⟨S8x512x4096, .bf16⟩
  | .hbm, ⟨28, _⟩ => ⟨S8x512x4096, .bf16⟩
  | .hbm, ⟨29, _⟩ => ⟨S8x4096x128, .bf16⟩
  | .hbm, ⟨30, _⟩ => ⟨S8x8x4096, .f32⟩
  | .local _ .vmem, ⟨0, _⟩ => ⟨S512x1408, .f32⟩
  | .local _ .vmem, ⟨1, _⟩ => ⟨S512x1408, .f32⟩
  | .local _ .vmem, ⟨2, _⟩ => ⟨S512x1, .f32⟩
  | .local _ .vmem, ⟨3, _⟩ => ⟨S1x256, .f32⟩
  | .local _ .vmem, ⟨4, _⟩ => ⟨S256x1024, .bf16⟩
  | .local _ .vmem, ⟨5, _⟩ => ⟨S512x1, .f32⟩
  | .local _ .vmem, ⟨6, _⟩ => ⟨S1x128, .f32⟩
  | .local _ .vmem, ⟨7, _⟩ => ⟨S1x128, .f32⟩
  | .local _ .vmem, ⟨8, _⟩ => ⟨S1x512x512, .bf16⟩
  | .local _ .vmem, ⟨9, _⟩ => ⟨S1x512x512, .bf16⟩
  | .local _ .vmem, ⟨10, _⟩ => ⟨S1x512x512, .bf16⟩
  | .local _ .vmem, ⟨11, _⟩ => ⟨S1x512x512, .bf16⟩
  | .local _ .vmem, ⟨12, _⟩ => ⟨S1x512x512, .bf16⟩
  | .local _ .vmem, ⟨13, _⟩ => ⟨S1x512x512, .bf16⟩
  | .local _ .vmem, ⟨14, _⟩ => ⟨S1x512x512, .bf16⟩
  | .local _ .vmem, ⟨15, _⟩ => ⟨S1x512x512, .bf16⟩
  | .local _ .vmem, ⟨16, _⟩ => ⟨S1x512x128, .bf16⟩
  | .local _ .vmem, ⟨17, _⟩ => ⟨S1x512x128, .bf16⟩
  | .local _ .vmem, ⟨18, _⟩ => ⟨S1x8x512, .f32⟩
  | .local _ .vmem, ⟨19, _⟩ => ⟨S1x8x512, .f32⟩
  | _, _ => ⟨S32768x6144, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18_0 : Ref sig .tc := ⟨.hbm, 25, rfl⟩
abbrev main_v18_1 : Ref sig .tc := ⟨.hbm, 26, rfl⟩
abbrev main_v18_2 : Ref sig .tc := ⟨.hbm, 27, rfl⟩
abbrev main_v18_3 : Ref sig .tc := ⟨.hbm, 28, rfl⟩
abbrev main_v18_4 : Ref sig .tc := ⟨.hbm, 29, rfl⟩
abbrev main_v18_5 : Ref sig .tc := ⟨.hbm, 30, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_stg8_0 : Ref sig .tc := ⟨.vmem, 10, rfl⟩
abbrev cc0_stg8_1 : Ref sig .tc := ⟨.vmem, 11, rfl⟩
abbrev cc0_stg9_0 : Ref sig .tc := ⟨.vmem, 12, rfl⟩
abbrev cc0_stg9_1 : Ref sig .tc := ⟨.vmem, 13, rfl⟩
abbrev cc0_stg10_0 : Ref sig .tc := ⟨.vmem, 14, rfl⟩
abbrev cc0_stg10_1 : Ref sig .tc := ⟨.vmem, 15, rfl⟩
abbrev cc0_stg11_0 : Ref sig .tc := ⟨.vmem, 16, rfl⟩
abbrev cc0_stg11_1 : Ref sig .tc := ⟨.vmem, 17, rfl⟩
abbrev cc0_stg12_0 : Ref sig .tc := ⟨.vmem, 18, rfl⟩
abbrev cc0_stg12_1 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9
abbrev cc0_sem8_0 : DmaSem sig := 10
abbrev cc0_sem8_1 : DmaSem sig := 11
abbrev cc0_sem9_0 : DmaSem sig := 12
abbrev cc0_sem9_1 : DmaSem sig := 13
abbrev cc0_sem10_0 : DmaSem sig := 14
abbrev cc0_sem10_1 : DmaSem sig := 15
abbrev cc0_sem11_0 : DmaSem sig := 16
abbrev cc0_sem11_1 : DmaSem sig := 17
abbrev cc0_sem12_0 : DmaSem sig := 18
abbrev cc0_sem12_1 : DmaSem sig := 19

abbrev nD : Nat := 1
abbrev τ : Topo := Topo.v7x

variable {F : FTy → Type} [FloatOps F]

abbrev grid0 : Pipeline.Grid := ⟨2, ![8, 8], ![false, false]⟩

def cc0_transform_0 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S512x1408 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S512x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S256x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S512x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S1x512x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x512x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x512x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x512x512 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x512x128 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1x8x512 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]
-- ==== PrepRefIdeal.lean ====
abbrev S32768x6144 : Shape := ⟨2, ![32768, 6144]⟩
abbrev S64 : Shape := ⟨1, ![64]⟩
abbrev S256 : Shape := ⟨1, ![256]⟩
abbrev S256x1024 : Shape := ⟨2, ![256, 1024]⟩
abbrev S8x4096x6144 : Shape := ⟨3, ![8, 4096, 6144]⟩
abbrev S8x4096x512 : Shape := ⟨3, ![8, 4096, 512]⟩
abbrev S8x4096x256 : Shape := ⟨3, ![8, 4096, 256]⟩
abbrev S8x4096x64 : Shape := ⟨3, ![8, 4096, 64]⟩
abbrev S8x4096x8 : Shape := ⟨3, ![8, 4096, 8]⟩
abbrev S8x4096x8x64 : Shape := ⟨4, ![8, 4096, 8, 64]⟩
abbrev S_ : Shape := ⟨0, ![]⟩
abbrev S8x4096x8x1 : Shape := ⟨4, ![8, 4096, 8, 1]⟩
abbrev S1x1x1x64 : Shape := ⟨4, ![1, 1, 1, 64]⟩
abbrev S8x4096 : Shape := ⟨2, ![8, 4096]⟩
abbrev S8x4096x1 : Shape := ⟨3, ![8, 4096, 1]⟩
abbrev S1x1x256 : Shape := ⟨3, ![1, 1, 256]⟩
abbrev S8x4096x1024 : Shape := ⟨3, ![8, 4096, 1024]⟩
abbrev S1x1x64 : Shape := ⟨3, ![1, 1, 64]⟩
abbrev S8x4096x128 : Shape := ⟨3, ![8, 4096, 128]⟩
abbrev S8x512x4096 : Shape := ⟨3, ![8, 512, 4096]⟩
abbrev S8x8x4096 : Shape := ⟨3, ![8, 8, 4096]⟩

abbrev nBuf : Space → Nat
  | .hbm => 116
  | .vmem => 0
  | .smem => 0
  | _ => 0

abbrev bufTy : (tb : Table) → Fin (tcTables nBuf tb) → BufTy
  | .hbm, ⟨0, _⟩ => ⟨S32768x6144, .f32⟩
  | .hbm, ⟨1, _⟩ => ⟨S64, .f32⟩
  | .hbm, ⟨2, _⟩ => ⟨S256, .f32⟩
  | .hbm, ⟨3, _⟩ => ⟨S256x1024, .f32⟩
  | .hbm, ⟨4, _⟩ => ⟨S64, .f32⟩
  | .hbm, ⟨5, _⟩ => ⟨S64, .f32⟩
  | .hbm, ⟨6, _⟩ => ⟨S64, .f32⟩
  | .hbm, ⟨7, _⟩ => ⟨S8x4096x6144, .f32⟩
  | .hbm, ⟨8, _⟩ => ⟨S8x4096x512, .f32⟩
  | .hbm, ⟨9, _⟩ => ⟨S8x4096x256, .f32⟩
  | .hbm, ⟨10, _⟩ => ⟨S8x4096x512, .f32⟩
  | .hbm, ⟨11, _⟩ => ⟨S8x4096x64, .f32⟩
  | .hbm, ⟨12, _⟩ => ⟨S8x4096x8, .f32⟩
  | .hbm, ⟨13, _⟩ => ⟨S8x4096x8x64, .f32⟩
  | .hbm, ⟨14, _⟩ => ⟨S8x4096x8x64, .f32⟩
  | .hbm, ⟨15, _⟩ => ⟨S_, .f32⟩
  | .hbm, ⟨16, _⟩ => ⟨S8x4096x8, .f32⟩
  | .hbm, ⟨17, _⟩ => ⟨S8x4096x8x1, .f32⟩
  | .hbm, ⟨18, _⟩ => ⟨S_, .f32⟩
  | .hbm, ⟨19, _⟩ => ⟨S8x4096x8x1, .f32⟩
  | .hbm, ⟨20, _⟩ => ⟨S8x4096x8x1, .f32⟩
  | .hbm, ⟨21, _⟩ => ⟨S_, .f32⟩
  | .hbm, ⟨22, _⟩ => ⟨S8x4096x8x1, .f32⟩
  | .hbm, ⟨23, _⟩ => ⟨S8x4096x8x1, .f32⟩
  | .hbm, ⟨24, _⟩ => ⟨S8x4096x8x1, .f32⟩
  | .hbm, ⟨25, _⟩ => ⟨S8x4096x8x64, .f32⟩
  | .hbm, ⟨26, _⟩ => ⟨S8x4096x8x64, .f32⟩
  | .hbm, ⟨27, _⟩ => ⟨S1x1x1x64, .f32⟩
  | .hbm, ⟨28, _⟩ => ⟨S8x4096x8x64, .f32⟩
  | .hbm, ⟨29, _⟩ => ⟨S8x4096x8x64, .f32⟩
  | .hbm, ⟨30, _⟩ => ⟨S_, .f32⟩
  | .hbm, ⟨31, _⟩ => ⟨S8x4096x8x64, .f32⟩
  | .hbm, ⟨32, _⟩ => ⟨S8x4096x8x64, .f32⟩
  | .hbm, ⟨33, _⟩ => ⟨S8x4096x256, .f32⟩
  | .hbm, ⟨34, _⟩ => ⟨S_, .f32⟩
  | .hbm, ⟨35, _⟩ => ⟨S8x4096, .f32⟩
  | .hbm, ⟨36, _⟩ => ⟨S8x4096x1, .f32⟩
  | .hbm, ⟨37, _⟩ => ⟨S_, .f32⟩
  | .hbm, ⟨38, _⟩ => ⟨S8x4096x1, .f32⟩
  | .hbm, ⟨39, _⟩ => ⟨S8x4096x1, .f32⟩
  | .hbm, ⟨40, _⟩ => ⟨S_, .f32⟩
  | .hbm, ⟨41, _⟩ => ⟨S8x4096x1, .f32⟩
  | .hbm, ⟨42, _⟩ => ⟨S8x4096x1, .f32⟩
  | .hbm, ⟨43, _⟩ => ⟨S8x4096x1, .f32⟩
  | .hbm, ⟨44, _⟩ => ⟨S8x4096x256, .f32⟩
  | .hbm, ⟨45, _⟩ => ⟨S8x4096x256, .f32⟩
  | .hbm, ⟨46, _⟩ => ⟨S1x1x256, .f32⟩
  | .hbm, ⟨47, _⟩ => ⟨S8x4096x256, .f32⟩
  | .hbm, ⟨48, _⟩ => ⟨S8x4096x256, .f32⟩
  | .hbm, ⟨49, _⟩ => ⟨S8x4096x1024, .f32⟩
  | .hbm, ⟨50, _⟩ => ⟨S8x4096x512, .f32⟩
  | .hbm, ⟨51, _⟩ => ⟨S8x4096x512, .f32⟩
  | .hbm, ⟨52, _⟩ => ⟨S8x4096x8x64, .f32⟩
  | .hbm, ⟨53, _⟩ => ⟨S8x4096x8x64, .f32⟩
  | .hbm, ⟨54, _⟩ => ⟨S_, .f32⟩
  | .hbm, ⟨55, _⟩ => ⟨S8x4096x8, .f32⟩
  | .hbm, ⟨56, _⟩ => ⟨S8x4096x8x1, .f32⟩
  | .hbm, ⟨57, _⟩ => ⟨S_, .f32⟩
  | .hbm, ⟨58, _⟩ => ⟨S8x4096x8x1, .f32⟩
  | .hbm, ⟨59, _⟩ => ⟨S8x4096x8x1, .f32⟩
  | .hbm, ⟨60, _⟩ => ⟨S_, .f32⟩
  | .hbm, ⟨61, _⟩ => ⟨S8x4096x8x1, .f32⟩
  | .hbm, ⟨62, _⟩ => ⟨S8x4096x8x1, .f32⟩
  | .hbm, ⟨63, _⟩ => ⟨S8x4096x8x1, .f32⟩
  | .hbm, ⟨64, _⟩ => ⟨S8x4096x8x64, .f32⟩
  | .hbm, ⟨65, _⟩ => ⟨S8x4096x8x64, .f32⟩
  | .hbm, ⟨66, _⟩ => ⟨S1x1x1x64, .f32⟩
  | .hbm, ⟨67, _⟩ => ⟨S8x4096x8x64, .f32⟩
  | .hbm, ⟨68, _⟩ => ⟨S8x4096x8x64, .f32⟩
  | .hbm, ⟨69, _⟩ => ⟨S_, .f32⟩
  | .hbm, ⟨70, _⟩ => ⟨S8x4096x512, .f32⟩
  | .hbm, ⟨71, _⟩ => ⟨S8x4096x512, .f32⟩
  | .hbm, ⟨72, _⟩ => ⟨S_, .f32⟩
  | .hbm, ⟨73, _⟩ => ⟨S8x4096x8, .f32⟩
  | .hbm, ⟨74, _⟩ => ⟨S8x4096x8, .f32⟩
  | .hbm, ⟨75, _⟩ => ⟨S_, .f32⟩
  | .hbm, ⟨76, _⟩ => ⟨S8x4096, .f32⟩
  | .hbm, ⟨77, _⟩ => ⟨S8x4096x1, .f32⟩
  | .hbm, ⟨78, _⟩ => ⟨S_, .f32⟩
  | .hbm, ⟨79, _⟩ => ⟨S8x4096x1, .f32⟩
  | .hbm, ⟨80, _⟩ => ⟨S8x4096x1, .f32⟩
  | .hbm, ⟨81, _⟩ => ⟨S8x4096x64, .f32⟩
  | .hbm, ⟨82, _⟩ => ⟨S8x4096x64, .f32⟩
  | .hbm, ⟨83, _⟩ => ⟨S8x4096x64, .f32⟩
  | .hbm, ⟨84, _⟩ => ⟨S_, .f32⟩
  | .hbm, ⟨85, _⟩ => ⟨S8x4096, .f32⟩
  | .hbm, ⟨86, _⟩ => ⟨S8x4096x1, .f32⟩
  | .hbm, ⟨87, _⟩ => ⟨S_, .f32⟩
  | .hbm, ⟨88, _⟩ => ⟨S8x4096x1, .f32⟩
  | .hbm, ⟨89, _⟩ => ⟨S8x4096x1, .f32⟩
  | .hbm, ⟨90, _⟩ => ⟨S8x4096x64, .f32⟩
  | .hbm, ⟨91, _⟩ => ⟨S8x4096x64, .f32⟩
  | .hbm, ⟨92, _⟩ => ⟨S_, .f32⟩
  | .hbm, ⟨93, _⟩ => ⟨S8x4096x1, .f32⟩
  | .hbm, ⟨94, _⟩ => ⟨S8x4096x1, .f32⟩
  | .hbm, ⟨95, _⟩ => ⟨S8x4096x1, .f32⟩
  | .hbm, ⟨96, _⟩ => ⟨S8x4096x64, .f32⟩
  | .hbm, ⟨97, _⟩ => ⟨S8x4096x64, .f32⟩
  | .hbm, ⟨98, _⟩ => ⟨S1x1x64, .f32⟩
  | .hbm, ⟨99, _⟩ => ⟨S8x4096x64, .f32⟩
  | .hbm, ⟨100, _⟩ => ⟨S8x4096x64, .f32⟩
  | .hbm, ⟨101, _⟩ => ⟨S1x1x64, .f32⟩
  | .hbm, ⟨102, _⟩ => ⟨S8x4096x64, .f32⟩
  | .hbm, ⟨103, _⟩ => ⟨S8x4096x64, .f32⟩
  | .hbm, ⟨104, _⟩ => ⟨S8x4096x512, .f32⟩
  | .hbm, ⟨105, _⟩ => ⟨S8x4096x512, .f32⟩
  | .hbm, ⟨106, _⟩ => ⟨S8x4096x128, .f32⟩
  | .hbm, ⟨107, _⟩ => ⟨S8x512x4096, .f32⟩
  | .hbm, ⟨108, _⟩ => ⟨S8x512x4096, .bf16⟩
  | .hbm, ⟨109, _⟩ => ⟨S8x4096x512, .bf16⟩
  | .hbm, ⟨110, _⟩ => ⟨S8x512x4096, .f32⟩
  | .hbm, ⟨111, _⟩ => ⟨S8x512x4096, .bf16⟩
  | .hbm, ⟨112, _⟩ => ⟨S8x512x4096, .f32⟩
  | .hbm, ⟨113, _⟩ => ⟨S8x512x4096, .bf16⟩
  | .hbm, ⟨114, _⟩ => ⟨S8x4096x128, .bf16⟩
  | .hbm, ⟨115, _⟩ => ⟨S8x8x4096, .f32⟩
  | _, _ => ⟨S32768x6144, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst : Ref sig .tc := ⟨.hbm, 15, rfl⟩
abbrev main_v8 : Ref sig .tc := ⟨.hbm, 16, rfl⟩
abbrev main_v9 : Ref sig .tc := ⟨.hbm, 17, rfl⟩
abbrev main_cst_0 : Ref sig .tc := ⟨.hbm, 18, rfl⟩
abbrev main_v10 : Ref sig .tc := ⟨.hbm, 19, rfl⟩
abbrev main_v11 : Ref sig .tc := ⟨.hbm, 20, rfl⟩
abbrev main_cst_1 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_cst_2 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_cst_3 : Ref sig .tc := ⟨.hbm, 34, rfl⟩
abbrev main_v23 : Ref sig .tc := ⟨.hbm, 35, rfl⟩
abbrev main_v24 : Ref sig .tc := ⟨.hbm, 36, rfl⟩
abbrev main_cst_4 : Ref sig .tc := ⟨.hbm, 37, rfl⟩
abbrev main_v25 : Ref sig .tc := ⟨.hbm, 38, rfl⟩
abbrev main_v26 : Ref sig .tc := ⟨.hbm, 39, rfl⟩
abbrev main_cst_5 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_cst_6 : Ref sig .tc := ⟨.hbm, 54, rfl⟩
abbrev main_v40 : Ref sig .tc := ⟨.hbm, 55, rfl⟩
abbrev main_v41 : Ref sig .tc := ⟨.hbm, 56, rfl⟩
abbrev main_cst_7 : Ref sig .tc := ⟨.hbm, 57, rfl⟩
abbrev main_v42 : Ref sig .tc := ⟨.hbm, 58, rfl⟩
abbrev main_v43 : Ref sig .tc := ⟨.hbm, 59, rfl⟩
abbrev main_cst_8 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_cst_9 : Ref sig .tc := ⟨.hbm, 69, rfl⟩
abbrev main_v52 : Ref sig .tc := ⟨.hbm, 70, rfl⟩
abbrev main_v53 : Ref sig .tc := ⟨.hbm, 71, rfl⟩
abbrev main_cst_10 : Ref sig .tc := ⟨.hbm, 72, rfl⟩
abbrev main_v54 : Ref sig .tc := ⟨.hbm, 73, rfl⟩
abbrev main_v55 : Ref sig .tc := ⟨.hbm, 74, rfl⟩
abbrev main_cst_11 : Ref sig .tc := ⟨.hbm, 75, rfl⟩
abbrev main_v56 : Ref sig .tc := ⟨.hbm, 76, rfl⟩
abbrev main_v57 : Ref sig .tc := ⟨.hbm, 77, rfl⟩
abbrev main_cst_12 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_cst_13 : Ref sig .tc := ⟨.hbm, 84, rfl⟩
abbrev main_v63 : Ref sig .tc := ⟨.hbm, 85, rfl⟩
abbrev main_v64 : Ref sig .tc := ⟨.hbm, 86, rfl⟩
abbrev main_cst_14 : Ref sig .tc := ⟨.hbm, 87, rfl⟩
abbrev main_v65 : Ref sig .tc := ⟨.hbm, 88, rfl⟩
abbrev main_v66 : Ref sig .tc := ⟨.hbm, 89, rfl⟩
abbrev main_v67 : Ref sig .tc := ⟨.hbm, 90, rfl⟩
abbrev main_v68 : Ref sig .tc := ⟨.hbm, 91, rfl⟩
abbrev main_cst_15 : Ref sig .tc := ⟨.hbm, 92, rfl⟩
abbrev main_v69 : Ref sig .tc := ⟨.hbm, 93, rfl⟩
abbrev main_v70 : Ref sig .tc := ⟨.hbm, 94, rfl⟩
abbrev main_v71 : Ref sig .tc := ⟨.hbm, 95, rfl⟩
abbrev main_v72 : Ref sig .tc := ⟨.hbm, 96, rfl⟩
abbrev main_v73 : Ref sig .tc := ⟨.hbm, 97, rfl⟩
abbrev main_v74 : Ref sig .tc := ⟨.hbm, 98, rfl⟩
abbrev main_v75 : Ref sig .tc := ⟨.hbm, 99, rfl⟩
abbrev main_v76 : Ref sig .tc := ⟨.hbm, 100, rfl⟩
abbrev main_v77 : Ref sig .tc := ⟨.hbm, 101, rfl⟩
abbrev main_v78 : Ref sig .tc := ⟨.hbm, 102, rfl⟩
abbrev main_v79 : Ref sig .tc := ⟨.hbm, 103, rfl⟩
abbrev main_v80 : Ref sig .tc := ⟨.hbm, 104, rfl⟩
abbrev main_v81 : Ref sig .tc := ⟨.hbm, 105, rfl⟩
abbrev main_v82 : Ref sig .tc := ⟨.hbm, 106, rfl⟩
abbrev main_v83 : Ref sig .tc := ⟨.hbm, 107, rfl⟩
abbrev main_v84 : Ref sig .tc := ⟨.hbm, 108, rfl⟩
abbrev main_v85 : Ref sig .tc := ⟨.hbm, 109, rfl⟩
abbrev main_v86 : Ref sig .tc := ⟨.hbm, 110, rfl⟩
abbrev main_v87 : Ref sig .tc := ⟨.hbm, 111, rfl⟩
abbrev main_v88 : Ref sig .tc := ⟨.hbm, 112, rfl⟩
abbrev main_v89 : Ref sig .tc := ⟨.hbm, 113, rfl⟩
abbrev main_v90 : Ref sig .tc := ⟨.hbm, 114, rfl⟩
abbrev main_v91 : Ref sig .tc := ⟨.hbm, 115, rfl⟩

abbrev nD : Nat := 1
abbrev τ : Topo := Topo.v7x

variable {F : FTy → Type} [FloatOps F]
-- ==== Dsa.lean ====
abbrev S8x512x4096 : Shape := ⟨3, ![8, 512, 4096]⟩
abbrev S8x8x4096 : Shape := ⟨3, ![8, 8, 4096]⟩
abbrev S8x4096x512 : Shape := ⟨3, ![8, 4096, 512]⟩
abbrev S8x4096x128 : Shape := ⟨3, ![8, 4096, 128]⟩
abbrev S32x8 : Shape := ⟨2, ![32, 8]⟩
abbrev S256 : Shape := ⟨1, ![256]⟩
abbrev S256x1 : Shape := ⟨2, ![256, 1]⟩
abbrev S1x256 : Shape := ⟨2, ![1, 256]⟩
abbrev S256x256 : Shape := ⟨2, ![256, 256]⟩
abbrev S_ : Shape := ⟨0, ![]⟩
abbrev S256x256x1 : Shape := ⟨3, ![256, 256, 1]⟩
abbrev S256x256x8 : Shape := ⟨3, ![256, 256, 8]⟩
abbrev S8x256x256 : Shape := ⟨3, ![8, 256, 256]⟩
abbrev S1x256x256 : Shape := ⟨3, ![1, 256, 256]⟩
abbrev S1x8x256x256 : Shape := ⟨4, ![1, 8, 256, 256]⟩
abbrev S3x8x256x256 : Shape := ⟨4, ![3, 8, 256, 256]⟩
abbrev S1x512x256 : Shape := ⟨3, ![1, 512, 256]⟩
abbrev S1x8x256 : Shape := ⟨3, ![1, 8, 256]⟩
abbrev S1x4096x512 : Shape := ⟨3, ![1, 4096, 512]⟩
abbrev S1x512x4096 : Shape := ⟨3, ![1, 512, 4096]⟩
abbrev S1x4096x128 : Shape := ⟨3, ![1, 4096, 128]⟩
abbrev S1x256x512 : Shape := ⟨3, ![1, 256, 512]⟩
abbrev S4096x256 : Shape := ⟨2, ![4096, 256]⟩
abbrev S512x256 : Shape := ⟨2, ![512, 256]⟩
abbrev S8x256 : Shape := ⟨2, ![8, 256]⟩
abbrev S128x256 : Shape := ⟨2, ![128, 256]⟩
abbrev S1x256x128 : Shape := ⟨3, ![1, 256, 128]⟩
abbrev S256x128 : Shape := ⟨2, ![256, 128]⟩
abbrev S1x128x256 : Shape := ⟨3, ![1, 128, 256]⟩
abbrev S1x1x256 : Shape := ⟨3, ![1, 1, 256]⟩
abbrev S64x256 : Shape := ⟨2, ![64, 256]⟩
abbrev S8x8x256 : Shape := ⟨3, ![8, 8, 256]⟩
abbrev S1 : Shape := ⟨1, ![1]⟩
abbrev S1x1x1 : Shape := ⟨3, ![1, 1, 1]⟩
abbrev S1x1x256x256 : Shape := ⟨4, ![1, 1, 256, 256]⟩
abbrev S1x64x256 : Shape := ⟨3, ![1, 64, 256]⟩
abbrev S256x512 : Shape := ⟨2, ![256, 512]⟩

abbrev nBuf : Space → Nat
  | .hbm => 175
  | .vmem => 19
  | .smem => 0
  | _ => 0

abbrev hbmTy0_0 (i : Nat) : BufTy := match i % 128 with
  | 0 => ⟨S8x512x4096, .bf16⟩
  | 1 => ⟨S8x512x4096, .bf16⟩
  | 2 => ⟨S8x8x4096, .f32⟩
  | 3 => ⟨S8x4096x512, .bf16⟩
  | 4 => ⟨S8x512x4096, .bf16⟩
  | 5 => ⟨S8x4096x128, .bf16⟩
  | 6 => ⟨S32x8, .f32⟩
  | 7 => ⟨S256, .i32⟩
  | 8 => ⟨S256x1, .i32⟩
  | 9 => ⟨S256, .i32⟩
  | 10 => ⟨S1x256, .i32⟩
  | 11 => ⟨S256x256, .i32⟩
  | 12 => ⟨S256x256, .i32⟩
  | 13 => ⟨S256x256, .i32⟩
  | 14 => ⟨S_, .i32⟩
  | 15 => ⟨S256x256, .i32⟩
  | 16 => ⟨S256x256, .i32⟩
  | 17 => ⟨S_, .i32⟩
  | 18 => ⟨S256x256, .i32⟩
  | 19 => ⟨S256x256, .i32⟩
  | 20 => ⟨S_, .i32⟩
  | 21 => ⟨S256x256, .i32⟩
  | 22 => ⟨S256x256, .i32⟩
  | 23 => ⟨S256x256, .f32⟩
  | 24 => ⟨S_, .f32⟩
  | 25 => ⟨S256x256, .f32⟩
  | 26 => ⟨S256x256, .f32⟩
  | 27 => ⟨S256x256, .f32⟩
  | 28 => ⟨S_, .f32⟩
  | 29 => ⟨S256x256, .f32⟩
  | 30 => ⟨S256x256, .f32⟩
  | 31 => ⟨S_, .f32⟩
  | 32 => ⟨S256x256, .f32⟩
  | 33 => ⟨S256x256, .f32⟩
  | 34 => ⟨S256x256, .i32⟩
  | 35 => ⟨S_, .i32⟩
  | 36 => ⟨S256x256, .i32⟩
  | 37 => ⟨S256x256, .i32⟩
  | 38 => ⟨S_, .i32⟩
  | 39 => ⟨S256x256, .i32⟩
  | 40 => ⟨S256x256, .i32⟩
  | 41 => ⟨S_, .i32⟩
  | 42 => ⟨S256x256, .i32⟩
  | 43 => ⟨S256x256, .i1⟩
  | 44 => ⟨S256x256, .i32⟩
  | 45 => ⟨S_, .i32⟩
  | 46 => ⟨S256x256, .i32⟩
  | 47 => ⟨S256x256, .i1⟩
  | 48 => ⟨S_, .i32⟩
  | 49 => ⟨S256x256, .i32⟩
  | 50 => ⟨S256x256, .i32⟩
  | 51 => ⟨S256x256, .i32⟩
  | 52 => ⟨S256x256x1, .i32⟩
  | 53 => ⟨S256x256x8, .f32⟩
  | 54 => ⟨S8x256x256, .f32⟩
  | 55 => ⟨S_, .i32⟩
  | 56 => ⟨S256x256, .i32⟩
  | 57 => ⟨S256x256, .i1⟩
  | 58 => ⟨S1x256x256, .i1⟩
  | 59 => ⟨S_, .f32⟩
  | 60 => ⟨S_, .f32⟩
  | 61 => ⟨S8x256x256, .i1⟩
  | 62 => ⟨S8x256x256, .f32⟩
  | 63 => ⟨S8x256x256, .f32⟩
  | 64 => ⟨S256x256, .i32⟩
  | 65 => ⟨S256x256, .i32⟩
  | 66 => ⟨S256x256, .i32⟩
  | 67 => ⟨S_, .i32⟩
  | 68 => ⟨S256x256, .i32⟩
  | 69 => ⟨S256x256, .i32⟩
  | 70 => ⟨S_, .i32⟩
  | 71 => ⟨S256x256, .i32⟩
  | 72 => ⟨S256x256, .i32⟩
  | 73 => ⟨S_, .i32⟩
  | 74 => ⟨S256x256, .i32⟩
  | 75 => ⟨S256x256, .i32⟩
  | 76 => ⟨S256x256, .f32⟩
  | 77 => ⟨S_, .f32⟩
  | 78 => ⟨S256x256, .f32⟩
  | 79 => ⟨S256x256, .f32⟩
  | 80 => ⟨S256x256, .f32⟩
  | 81 => ⟨S_, .f32⟩
  | 82 => ⟨S256x256, .f32⟩
  | 83 => ⟨S256x256, .f32⟩
  | 84 => ⟨S_, .f32⟩
  | 85 => ⟨S256x256, .f32⟩
  | 86 => ⟨S256x256, .f32⟩
  | 87 => ⟨S256x256, .i32⟩
  | 88 => ⟨S_, .i32⟩
  | 89 => ⟨S256x256, .i32⟩
  | 90 => ⟨S256x256, .i32⟩
  | 91 => ⟨S_, .i32⟩
  | 92 => ⟨S256x256, .i32⟩
  | 93 => ⟨S256x256, .i32⟩
  | 94 => ⟨S_, .i32⟩
  | 95 => ⟨S256x256, .i32⟩
  | 96 => ⟨S256x256, .i1⟩
  | 97 => ⟨S256x256, .i32⟩
  | 98 => ⟨S_, .i32⟩
  | 99 => ⟨S256x256, .i32⟩
  | 100 => ⟨S256x256, .i1⟩
  | 101 => ⟨S_, .i32⟩
  | 102 => ⟨S256x256, .i32⟩
  | 103 => ⟨S256x256, .i32⟩
  | 104 => ⟨S256x256, .i32⟩
  | 105 => ⟨S256x256x1, .i32⟩
  | 106 => ⟨S256x256x8, .f32⟩
  | 107 => ⟨S8x256x256, .f32⟩
  | 108 => ⟨S_, .i32⟩
  | 109 => ⟨S256x256, .i32⟩
  | 110 => ⟨S256x256, .i1⟩
  | 111 => ⟨S1x256x256, .i1⟩
  | 112 => ⟨S_, .f32⟩
  | 113 => ⟨S_, .f32⟩
  | 114 => ⟨S8x256x256, .i1⟩
  | 115 => ⟨S8x256x256, .f32⟩
  | 116 => ⟨S8x256x256, .f32⟩
  | 117 => ⟨S256x256, .i32⟩
  | 118 => ⟨S256x256, .i32⟩
  | 119 => ⟨S256x256, .i32⟩
  | 120 => ⟨S_, .i32⟩
  | 121 => ⟨S256x256, .i32⟩
  | 122 => ⟨S256x256, .i32⟩
  | 123 => ⟨S_, .i32⟩
  | 124 => ⟨S256x256, .i32⟩
  | 125 => ⟨S256x256, .i32⟩
  | 126 => ⟨S_, .i32⟩
  | 127 => ⟨S256x256, .i32⟩
  | _ => ⟨S8x512x4096, .bf16⟩

abbrev hbmTy0_1 (i : Nat) : BufTy := match i % 128 with
  | 0 => ⟨S256x256, .i32⟩
  | 1 => ⟨S256x256, .f32⟩
  | 2 => ⟨S_, .f32⟩
  | 3 => ⟨S256x256, .f32⟩
  | 4 => ⟨S256x256, .f32⟩
  | 5 => ⟨S256x256, .f32⟩
  | 6 => ⟨S_, .f32⟩
  | 7 => ⟨S256x256, .f32⟩
  | 8 => ⟨S256x256, .f32⟩
  | 9 => ⟨S_, .f32⟩
  | 10 => ⟨S256x256, .f32⟩
  | 11 => ⟨S256x256, .f32⟩
  | 12 => ⟨S256x256, .i32⟩
  | 13 => ⟨S_, .i32⟩
  | 14 => ⟨S256x256, .i32⟩
  | 15 => ⟨S256x256, .i32⟩
  | 16 => ⟨S_, .i32⟩
  | 17 => ⟨S256x256, .i32⟩
  | 18 => ⟨S256x256, .i32⟩
  | 19 => ⟨S_, .i32⟩
  | 20 => ⟨S256x256, .i32⟩
  | 21 => ⟨S256x256, .i1⟩
  | 22 => ⟨S256x256, .i32⟩
  | 23 => ⟨S_, .i32⟩
  | 24 => ⟨S256x256, .i32⟩
  | 25 => ⟨S256x256, .i1⟩
  | 26 => ⟨S_, .i32⟩
  | 27 => ⟨S256x256, .i32⟩
  | 28 => ⟨S256x256, .i32⟩
  | 29 => ⟨S256x256, .i32⟩
  | 30 => ⟨S256x256x1, .i32⟩
  | 31 => ⟨S256x256x8, .f32⟩
  | 32 => ⟨S8x256x256, .f32⟩
  | 33 => ⟨S_, .i32⟩
  | 34 => ⟨S256x256, .i32⟩
  | 35 => ⟨S256x256, .i1⟩
  | 36 => ⟨S1x256x256, .i1⟩
  | 37 => ⟨S_, .f32⟩
  | 38 => ⟨S_, .f32⟩
  | 39 => ⟨S8x256x256, .i1⟩
  | 40 => ⟨S8x256x256, .f32⟩
  | 41 => ⟨S8x256x256, .f32⟩
  | 42 => ⟨S1x8x256x256, .f32⟩
  | 43 => ⟨S1x8x256x256, .f32⟩
  | 44 => ⟨S1x8x256x256, .f32⟩
  | 45 => ⟨S3x8x256x256, .f32⟩
  | 46 => ⟨S8x4096x512, .f32⟩
  | _ => ⟨S8x512x4096, .bf16⟩

abbrev hbmTy (i : Nat) : BufTy := match i / 128 with
  | 0 => hbmTy0_0 i
  | 1 => hbmTy0_1 i
  | _ => ⟨S8x512x4096, .bf16⟩

abbrev bufTy : (tb : Table) → Fin (tcTables nBuf tb) → BufTy
  | .hbm, ⟨i, _⟩ => hbmTy i
  | .local _ .vmem, ⟨0, _⟩ => ⟨S1x512x256, .bf16⟩
  | .local _ .vmem, ⟨1, _⟩ => ⟨S1x512x256, .bf16⟩
  | .local _ .vmem, ⟨2, _⟩ => ⟨S1x512x256, .bf16⟩
  | .local _ .vmem, ⟨3, _⟩ => ⟨S1x512x256, .bf16⟩
  | .local _ .vmem, ⟨4, _⟩ => ⟨S1x8x256, .f32⟩
  | .local _ .vmem, ⟨5, _⟩ => ⟨S1x8x256, .f32⟩
  | .local _ .vmem, ⟨6, _⟩ => ⟨S1x4096x512, .bf16⟩
  | .local _ .vmem, ⟨7, _⟩ => ⟨S1x4096x512, .bf16⟩
  | .local _ .vmem, ⟨8, _⟩ => ⟨S1x512x4096, .bf16⟩
  | .local _ .vmem, ⟨9, _⟩ => ⟨S1x512x4096, .bf16⟩
  | .local _ .vmem, ⟨10, _⟩ => ⟨S1x4096x128, .bf16⟩
  | .local _ .vmem, ⟨11, _⟩ => ⟨S1x4096x128, .bf16⟩
  | .local _ .vmem, ⟨12, _⟩ => ⟨S3x8x256x256, .f32⟩
  | .local _ .vmem, ⟨13, _⟩ => ⟨S1x256x512, .f32⟩
  | .local _ .vmem, ⟨14, _⟩ => ⟨S1x256x512, .f32⟩
  | .local _ .vmem, ⟨15, _⟩ => ⟨S4096x256, .i32⟩
  | .local _ .vmem, ⟨16, _⟩ => ⟨S512x256, .f32⟩
  | .local _ .vmem, ⟨17, _⟩ => ⟨S8x256, .f32⟩
  | .local _ .vmem, ⟨18, _⟩ => ⟨S8x256, .f32⟩
  | _, _ => ⟨S8x512x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_c : Ref sig .tc := ⟨.hbm, 14, rfl⟩
abbrev main_v7 : Ref sig .tc := ⟨.hbm, 15, rfl⟩
abbrev main_v8 : Ref sig .tc := ⟨.hbm, 16, rfl⟩
abbrev main_c_0 : Ref sig .tc := ⟨.hbm, 17, rfl⟩
abbrev main_v9 : Ref sig .tc := ⟨.hbm, 18, rfl⟩
abbrev main_v10 : Ref sig .tc := ⟨.hbm, 19, rfl⟩
abbrev main_c_1 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_cst : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_2 : Ref sig .tc := ⟨.hbm, 28, rfl⟩
abbrev main_v17 : Ref sig .tc := ⟨.hbm, 29, rfl⟩
abbrev main_v18 : Ref sig .tc := ⟨.hbm, 30, rfl⟩
abbrev main_cst_3 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_c_4 : Ref sig .tc := ⟨.hbm, 35, rfl⟩
abbrev main_v22 : Ref sig .tc := ⟨.hbm, 36, rfl⟩
abbrev main_v23 : Ref sig .tc := ⟨.hbm, 37, rfl⟩
abbrev main_c_5 : Ref sig .tc := ⟨.hbm, 38, rfl⟩
abbrev main_v24 : Ref sig .tc := ⟨.hbm, 39, rfl⟩
abbrev main_v25 : Ref sig .tc := ⟨.hbm, 40, rfl⟩
abbrev main_c_6 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_c_7 : Ref sig .tc := ⟨.hbm, 45, rfl⟩
abbrev main_v29 : Ref sig .tc := ⟨.hbm, 46, rfl⟩
abbrev main_v30 : Ref sig .tc := ⟨.hbm, 47, rfl⟩
abbrev main_c_8 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_c_9 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_cst_10 : Ref sig .tc := ⟨.hbm, 59, rfl⟩
abbrev main_call1_v0 : Ref sig .tc := ⟨.hbm, 60, rfl⟩
abbrev main_call1_v1 : Ref sig .tc := ⟨.hbm, 61, rfl⟩
abbrev main_call1_v2 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_c_11 : Ref sig .tc := ⟨.hbm, 67, rfl⟩
abbrev main_v44 : Ref sig .tc := ⟨.hbm, 68, rfl⟩
abbrev main_v45 : Ref sig .tc := ⟨.hbm, 69, rfl⟩
abbrev main_c_12 : Ref sig .tc := ⟨.hbm, 70, rfl⟩
abbrev main_v46 : Ref sig .tc := ⟨.hbm, 71, rfl⟩
abbrev main_v47 : Ref sig .tc := ⟨.hbm, 72, rfl⟩
abbrev main_c_13 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_cst_14 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_cst_15 : Ref sig .tc := ⟨.hbm, 81, rfl⟩
abbrev main_v54 : Ref sig .tc := ⟨.hbm, 82, rfl⟩
abbrev main_v55 : Ref sig .tc := ⟨.hbm, 83, rfl⟩
abbrev main_cst_16 : Ref sig .tc := ⟨.hbm, 84, rfl⟩
abbrev main_v56 : Ref sig .tc := ⟨.hbm, 85, rfl⟩
abbrev main_v57 : Ref sig .tc := ⟨.hbm, 86, rfl⟩
abbrev main_v58 : Ref sig .tc := ⟨.hbm, 87, rfl⟩
abbrev main_c_17 : Ref sig .tc := ⟨.hbm, 88, rfl⟩
abbrev main_v59 : Ref sig .tc := ⟨.hbm, 89, rfl⟩
abbrev main_v60 : Ref sig .tc := ⟨.hbm, 90, rfl⟩
abbrev main_c_18 : Ref sig .tc := ⟨.hbm, 91, rfl⟩
abbrev main_v61 : Ref sig .tc := ⟨.hbm, 92, rfl⟩
abbrev main_v62 : Ref sig .tc := ⟨.hbm, 93, rfl⟩
abbrev main_c_19 : Ref sig .tc := ⟨.hbm, 94, rfl⟩
abbrev main_v63 : Ref sig .tc := ⟨.hbm, 95, rfl⟩
abbrev main_v64 : Ref sig .tc := ⟨.hbm, 96, rfl⟩
abbrev main_v65 : Ref sig .tc := ⟨.hbm, 97, rfl⟩
abbrev main_c_20 : Ref sig .tc := ⟨.hbm, 98, rfl⟩
abbrev main_v66 : Ref sig .tc := ⟨.hbm, 99, rfl⟩
abbrev main_v67 : Ref sig .tc := ⟨.hbm, 100, rfl⟩
abbrev main_c_21 : Ref sig .tc := ⟨.hbm, 101, rfl⟩
abbrev main_v68 : Ref sig .tc := ⟨.hbm, 102, rfl⟩
abbrev main_v69 : Ref sig .tc := ⟨.hbm, 103, rfl⟩
abbrev main_v70 : Ref sig .tc := ⟨.hbm, 104, rfl⟩
abbrev main_v71 : Ref sig .tc := ⟨.hbm, 105, rfl⟩
abbrev main_v72 : Ref sig .tc := ⟨.hbm, 106, rfl⟩
abbrev main_v73 : Ref sig .tc := ⟨.hbm, 107, rfl⟩
abbrev main_c_22 : Ref sig .tc := ⟨.hbm, 108, rfl⟩
abbrev main_v74 : Ref sig .tc := ⟨.hbm, 109, rfl⟩
abbrev main_v75 : Ref sig .tc := ⟨.hbm, 110, rfl⟩
abbrev main_v76 : Ref sig .tc := ⟨.hbm, 111, rfl⟩
abbrev main_cst_23 : Ref sig .tc := ⟨.hbm, 112, rfl⟩
abbrev main_call3_v0 : Ref sig .tc := ⟨.hbm, 113, rfl⟩
abbrev main_call3_v1 : Ref sig .tc := ⟨.hbm, 114, rfl⟩
abbrev main_call3_v2 : Ref sig .tc := ⟨.hbm, 115, rfl⟩
abbrev main_v77 : Ref sig .tc := ⟨.hbm, 116, rfl⟩
abbrev main_v78 : Ref sig .tc := ⟨.hbm, 117, rfl⟩
abbrev main_v79 : Ref sig .tc := ⟨.hbm, 118, rfl⟩
abbrev main_v80 : Ref sig .tc := ⟨.hbm, 119, rfl⟩
abbrev main_c_24 : Ref sig .tc := ⟨.hbm, 120, rfl⟩
abbrev main_v81 : Ref sig .tc := ⟨.hbm, 121, rfl⟩
abbrev main_v82 : Ref sig .tc := ⟨.hbm, 122, rfl⟩
abbrev main_c_25 : Ref sig .tc := ⟨.hbm, 123, rfl⟩
abbrev main_v83 : Ref sig .tc := ⟨.hbm, 124, rfl⟩
abbrev main_v84 : Ref sig .tc := ⟨.hbm, 125, rfl⟩
abbrev main_c_26 : Ref sig .tc := ⟨.hbm, 126, rfl⟩
abbrev main_v85 : Ref sig .tc := ⟨.hbm, 127, rfl⟩
abbrev main_v86 : Ref sig .tc := ⟨.hbm, 128, rfl⟩
abbrev main_v87 : Ref sig .tc := ⟨.hbm, 129, rfl⟩
abbrev main_cst_27 : Ref sig .tc := ⟨.hbm, 130, rfl⟩
abbrev main_v88 : Ref sig .tc := ⟨.hbm, 131, rfl⟩
abbrev main_v89 : Ref sig .tc := ⟨.hbm, 132, rfl⟩
abbrev main_v90 : Ref sig .tc := ⟨.hbm, 133, rfl⟩
abbrev main_cst_28 : Ref sig .tc := ⟨.hbm, 134, rfl⟩
abbrev main_v91 : Ref sig .tc := ⟨.hbm, 135, rfl⟩
abbrev main_v92 : Ref sig .tc := ⟨.hbm, 136, rfl⟩
abbrev main_cst_29 : Ref sig .tc := ⟨.hbm, 137, rfl⟩
abbrev main_v93 : Ref sig .tc := ⟨.hbm, 138, rfl⟩
abbrev main_v94 : Ref sig .tc := ⟨.hbm, 139, rfl⟩
abbrev main_v95 : Ref sig .tc := ⟨.hbm, 140, rfl⟩
abbrev main_c_30 : Ref sig .tc := ⟨.hbm, 141, rfl⟩
abbrev main_v96 : Ref sig .tc := ⟨.hbm, 142, rfl⟩
abbrev main_v97 : Ref sig .tc := ⟨.hbm, 143, rfl⟩
abbrev main_c_31 : Ref sig .tc := ⟨.hbm, 144, rfl⟩
abbrev main_v98 : Ref sig .tc := ⟨.hbm, 145, rfl⟩
abbrev main_v99 : Ref sig .tc := ⟨.hbm, 146, rfl⟩
abbrev main_c_32 : Ref sig .tc := ⟨.hbm, 147, rfl⟩
abbrev main_v100 : Ref sig .tc := ⟨.hbm, 148, rfl⟩
abbrev main_v101 : Ref sig .tc := ⟨.hbm, 149, rfl⟩
abbrev main_v102 : Ref sig .tc := ⟨.hbm, 150, rfl⟩
abbrev main_c_33 : Ref sig .tc := ⟨.hbm, 151, rfl⟩
abbrev main_v103 : Ref sig .tc := ⟨.hbm, 152, rfl⟩
abbrev main_v104 : Ref sig .tc := ⟨.hbm, 153, rfl⟩
abbrev main_c_34 : Ref sig .tc := ⟨.hbm, 154, rfl⟩
abbrev main_v105 : Ref sig .tc := ⟨.hbm, 155, rfl⟩
abbrev main_v106 : Ref sig .tc := ⟨.hbm, 156, rfl⟩
abbrev main_v107 : Ref sig .tc := ⟨.hbm, 157, rfl⟩
abbrev main_v108 : Ref sig .tc := ⟨.hbm, 158, rfl⟩
abbrev main_v109 : Ref sig .tc := ⟨.hbm, 159, rfl⟩
abbrev main_v110 : Ref sig .tc := ⟨.hbm, 160, rfl⟩
abbrev main_c_35 : Ref sig .tc := ⟨.hbm, 161, rfl⟩
abbrev main_v111 : Ref sig .tc := ⟨.hbm, 162, rfl⟩
abbrev main_v112 : Ref sig .tc := ⟨.hbm, 163, rfl⟩
abbrev main_v113 : Ref sig .tc := ⟨.hbm, 164, rfl⟩
abbrev main_cst_36 : Ref sig .tc := ⟨.hbm, 165, rfl⟩
abbrev main_call5_v0 : Ref sig .tc := ⟨.hbm, 166, rfl⟩
abbrev main_call5_v1 : Ref sig .tc := ⟨.hbm, 167, rfl⟩
abbrev main_call5_v2 : Ref sig .tc := ⟨.hbm, 168, rfl⟩
abbrev main_v114 : Ref sig .tc := ⟨.hbm, 169, rfl⟩
abbrev main_v115 : Ref sig .tc := ⟨.hbm, 170, rfl⟩
abbrev main_v116 : Ref sig .tc := ⟨.hbm, 171, rfl⟩
abbrev main_v117 : Ref sig .tc := ⟨.hbm, 172, rfl⟩
abbrev main_v118 : Ref sig .tc := ⟨.hbm, 173, rfl⟩
abbrev main_v119 : Ref sig .tc := ⟨.hbm, 174, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg7_1 : Ref sig .tc := ⟨.vmem, 14, rfl⟩
abbrev cc0_scratch0 : Ref sig .tc := ⟨.vmem, 15, rfl⟩
abbrev cc0_scratch1 : Ref sig .tc := ⟨.vmem, 16, rfl⟩
abbrev cc0_scratch2 : Ref sig .tc := ⟨.vmem, 17, rfl⟩
abbrev cc0_scratch3 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem7_1 : DmaSem sig := 14

abbrev nD : Nat := 1
abbrev τ : Topo := Topo.v7x

variable {F : FTy → Type} [BitOps F]

abbrev grid0 : Pipeline.Grid := ⟨2, ![8, 16], ![false, false]⟩

@[reducible] def k0_t1_loop (i : grid0.Coords) : Scf.Loop 32 :=
  let c0_i32_0 : BitVec 32 := 0#32
  let arg1 : BitVec 32 := BitVec.ofNat 32 (i 1).val
  let c1_i32 : BitVec 32 := 1#32
  let v0 : BitVec 32 := Scalar.addi arg1 c1_i32
  let v4 : BitVec 32 := Scalar.subi v0 c0_i32_0
  let c1_i32_1 : BitVec 32 := 1#32
  let v6 : BitVec 32 := Scalar.divsi v4 c1_i32_1
  let v7 : BitVec 32 := Scalar.muli v6 c1_i32_1
  let v8 : BitVec 32 := Scalar.addi c0_i32_0 v7
  let c1_i32_2 : BitVec 32 := 1#32
  ⟨c0_i32_0, v8, c1_i32_2⟩
def k0_mult1 (i : grid0.Coords) (k0_t1 : Fin (k0_t1_loop i).trips) : BitVec 32 :=
  let c0_i32_0 : BitVec 32 := 0#32
  let c1_i32_2 : BitVec 32 := 1#32
  let arg14 : BitVec 32 := Scf.iv c0_i32_0 c1_i32_2 k0_t1
  let c256_i32_76 : BitVec 32 := 256#32
  let v129 : BitVec 32 := Scalar.muli arg14 c256_i32_76
  v129
def k0_off1 (i : grid0.Coords) (k0_t1 : Fin (k0_t1_loop i).trips) : Fin 3 → Nat :=
  let c0_77 : Index := 0#32
  let c0_i32_0 : BitVec 32 := 0#32
  let c1_i32_2 : BitVec 32 := 1#32
  let arg14 : BitVec 32 := Scf.iv c0_i32_0 c1_i32_2 k0_t1
  let c256_i32_76 : BitVec 32 := 256#32
  let v129 : BitVec 32 := Scalar.muli arg14 c256_i32_76
  let v130 : BitVec 32 := v129
  let v131 : Index := Scalar.indexCast v130
  let c0_78 : Index := 0#32
  ![0, v131.toNat, 0]
def k0_off2 (i : grid0.Coords) (k0_t1 : Fin (k0_t1_loop i).trips) : Fin 2 → Nat :=
  let c0_i32_0 : BitVec 32 := 0#32
  let c1_i32_2 : BitVec 32 := 1#32
  let arg14 : BitVec 32 := Scf.iv c0_i32_0 c1_i32_2 k0_t1
  let c256_i32_76 : BitVec 32 := 256#32
  let v129 : BitVec 32 := Scalar.muli arg14 c256_i32_76
  let v130 : BitVec 32 := v129
  let v279 : Index := Scalar.indexCast v130
  let c0_168 : Index := 0#32
  ![v279.toNat, 0]
@[reducible] def k0_t2_loop (i : grid0.Coords) : Scf.Loop 32 :=
  let c0_i32_0 : BitVec 32 := 0#32
  let arg1 : BitVec 32 := BitVec.ofNat 32 (i 1).val
  let c1_i32 : BitVec 32 := 1#32
  let v0 : BitVec 32 := Scalar.addi arg1 c1_i32
  let v4 : BitVec 32 := Scalar.subi v0 c0_i32_0
  let c1_i32_1 : BitVec 32 := 1#32
  let v6 : BitVec 32 := Scalar.divsi v4 c1_i32_1
  let v7 : BitVec 32 := Scalar.muli v6 c1_i32_1
  let v8 : BitVec 32 := Scalar.addi c0_i32_0 v7
  let v5 : BitVec 32 := Scalar.addi c0_i32_0 v4
  let c1_i32_3 : BitVec 32 := 1#32
  ⟨v8, v5, c1_i32_3⟩
def k0_mult2 (i : grid0.Coords) (k0_t2 : Fin (k0_t2_loop i).trips) : BitVec 32 :=
  let c0_i32_0 : BitVec 32 := 0#32
  let arg1 : BitVec 32 := BitVec.ofNat 32 (i 1).val
  let c1_i32 : BitVec 32 := 1#32
  let v0 : BitVec 32 := Scalar.addi arg1 c1_i32
  let v4 : BitVec 32 := Scalar.subi v0 c0_i32_0
  let c1_i32_1 : BitVec 32 := 1#32
  let v6 : BitVec 32 := Scalar.divsi v4 c1_i32_1
  let v7 : BitVec 32 := Scalar.muli v6 c1_i32_1
  let v8 : BitVec 32 := Scalar.addi c0_i32_0 v7
  let c1_i32_3 : BitVec 32 := 1#32
  let arg14 : BitVec 32 := Scf.iv v8 c1_i32_3 k0_t2
  let c256_i32_76 : BitVec 32 := 256#32
  let v129 : BitVec 32 := Scalar.muli arg14 c256_i32_76
  v129
def k0_off3 (i : grid0.Coords) (k0_t2 : Fin (k0_t2_loop i).trips) : Fin 3 → Nat :=
  let c0_77 : Index := 0#32
  let c0_i32_0 : BitVec 32 := 0#32
  let arg1 : BitVec 32 := BitVec.ofNat 32 (i 1).val
  let c1_i32 : BitVec 32 := 1#32
  let v0 : BitVec 32 := Scalar.addi arg1 c1_i32
  let v4 : BitVec 32 := Scalar.subi v0 c0_i32_0
  let c1_i32_1 : BitVec 32 := 1#32
  let v6 : BitVec 32 := Scalar.divsi v4 c1_i32_1
  let v7 : BitVec 32 := Scalar.muli v6 c1_i32_1
  let v8 : BitVec 32 := Scalar.addi c0_i32_0 v7
  let c1_i32_3 : BitVec 32 := 1#32
  let arg14 : BitVec 32 := Scf.iv v8 c1_i32_3 k0_t2
  let c256_i32_76 : BitVec 32 := 256#32
  let v129 : BitVec 32 := Scalar.muli arg14 c256_i32_76
  let v130 : BitVec 32 := v129
  let v131 : Index := Scalar.indexCast v130
  let c0_78 : Index := 0#32
  ![0, v131.toNat, 0]
def k0_off4 (i : grid0.Coords) (k0_t2 : Fin (k0_t2_loop i).trips) : Fin 2 → Nat :=
  let c0_i32_0 : BitVec 32 := 0#32
  let arg1 : BitVec 32 := BitVec.ofNat 32 (i 1).val
  let c1_i32 : BitVec 32 := 1#32
  let v0 : BitVec 32 := Scalar.addi arg1 c1_i32
  let v4 : BitVec 32 := Scalar.subi v0 c0_i32_0
  let c1_i32_1 : BitVec 32 := 1#32
  let v6 : BitVec 32 := Scalar.divsi v4 c1_i32_1
  let v7 : BitVec 32 := Scalar.muli v6 c1_i32_1
  let v8 : BitVec 32 := Scalar.addi c0_i32_0 v7
  let c1_i32_3 : BitVec 32 := 1#32
  let arg14 : BitVec 32 := Scf.iv v8 c1_i32_3 k0_t2
  let c256_i32_76 : BitVec 32 := 256#32
  let v129 : BitVec 32 := Scalar.muli arg14 c256_i32_76
  let v130 : BitVec 32 := v129
  let v279 : Index := Scalar.indexCast v130
  let c0_168 : Index := 0#32
  ![v279.toNat, 0]
@[reducible] def k0_t3_loop : Scf.Loop 32 :=
  let c0_i32_4 : BitVec 32 := 0#32
  let c32_i32 : BitVec 32 := 32#32
  let v10 : BitVec 32 := Scalar.addi c0_i32_4 c32_i32
  let c1_i32_5 : BitVec 32 := 1#32
  ⟨c0_i32_4, v10, c1_i32_5⟩
@[reducible] def k0_t4_loop (i : grid0.Coords) : Scf.Loop 32 :=
  let c0_i32_81 : BitVec 32 := 0#32
  let arg1 : BitVec 32 := BitVec.ofNat 32 (i 1).val
  let c1_i32 : BitVec 32 := 1#32
  let v0 : BitVec 32 := Scalar.addi arg1 c1_i32
  let c4_i32_79 : BitVec 32 := 4#32
  let v136 : BitVec 32 := Scalar.muli v0 c4_i32_79
  let v138 : BitVec 32 := Scalar.subi v136 c0_i32_81
  let c1_i32_82 : BitVec 32 := 1#32
  let v140 : BitVec 32 := Scalar.divsi v138 c1_i32_82
  let v141 : BitVec 32 := Scalar.muli v140 c1_i32_82
  let v142 : BitVec 32 := Scalar.addi c0_i32_81 v141
  let c1_i32_83 : BitVec 32 := 1#32
  ⟨c0_i32_81, v142, c1_i32_83⟩
def k0_mult3 (i : grid0.Coords) (k0_t4 : Fin (k0_t4_loop i).trips) : BitVec 32 :=
  let c0_i32_81 : BitVec 32 := 0#32
  let c1_i32_83 : BitVec 32 := 1#32
  let arg16 : BitVec 32 := Scf.iv c0_i32_81 c1_i32_83 k0_t4
  let c64_i32_87 : BitVec 32 := 64#32
  let v150 : BitVec 32 := Scalar.muli arg16 c64_i32_87
  v150
def k0_off5 (i : grid0.Coords) (k0_t4 : Fin (k0_t4_loop i).trips) : Fin 2 → Nat :=
  let c0_i32_81 : BitVec 32 := 0#32
  let c1_i32_83 : BitVec 32 := 1#32
  let arg16 : BitVec 32 := Scf.iv c0_i32_81 c1_i32_83 k0_t4
  let c64_i32_87 : BitVec 32 := 64#32
  let v150 : BitVec 32 := Scalar.muli arg16 c64_i32_87
  let v151 : BitVec 32 := v150
  let v152 : Index := Scalar.indexCast v151
  let c0_88 : Index := 0#32
  ![v152.toNat, 0]
@[reducible] def k0_t5_loop (i : grid0.Coords) : Scf.Loop 32 :=
  let c0_i32_81 : BitVec 32 := 0#32
  let arg1 : BitVec 32 := BitVec.ofNat 32 (i 1).val
  let c1_i32 : BitVec 32 := 1#32
  let v0 : BitVec 32 := Scalar.addi arg1 c1_i32
  let c4_i32_79 : BitVec 32 := 4#32
  let v136 : BitVec 32 := Scalar.muli v0 c4_i32_79
  let v138 : BitVec 32 := Scalar.subi v136 c0_i32_81
  let c1_i32_82 : BitVec 32 := 1#32
  let v140 : BitVec 32 := Scalar.divsi v138 c1_i32_82
  let v141 : BitVec 32 := Scalar.muli v140 c1_i32_82
  let v142 : BitVec 32 := Scalar.addi c0_i32_81 v141
  let v139 : BitVec 32 := Scalar.addi c0_i32_81 v138
  let c1_i32_84 : BitVec 32 := 1#32
  ⟨v142, v139, c1_i32_84⟩
def k0_mult4 (i : grid0.Coords) (k0_t5 : Fin (k0_t5_loop i).trips) : BitVec 32 :=
  let c0_i32_81 : BitVec 32 := 0#32
  let arg1 : BitVec 32 := BitVec.ofNat 32 (i 1).val
  let c1_i32 : BitVec 32 := 1#32
  let v0 : BitVec 32 := Scalar.addi arg1 c1_i32
  let c4_i32_79 : BitVec 32 := 4#32
  let v136 : BitVec 32 := Scalar.muli v0 c4_i32_79
  let v138 : BitVec 32 := Scalar.subi v136 c0_i32_81
  let c1_i32_82 : BitVec 32 := 1#32
  let v140 : BitVec 32 := Scalar.divsi v138 c1_i32_82
  let v141 : BitVec 32 := Scalar.muli v140 c1_i32_82
  let v142 : BitVec 32 := Scalar.addi c0_i32_81 v141
  let c1_i32_84 : BitVec 32 := 1#32
  let arg16 : BitVec 32 := Scf.iv v142 c1_i32_84 k0_t5
  let c64_i32_87 : BitVec 32 := 64#32
  let v150 : BitVec 32 := Scalar.muli arg16 c64_i32_87
  v150
def k0_off6 (i : grid0.Coords) (k0_t5 : Fin (k0_t5_loop i).trips) : Fin 2 → Nat :=
  let c0_i32_81 : BitVec 32 := 0#32
  let arg1 : BitVec 32 := BitVec.ofNat 32 (i 1).val
  let c1_i32 : BitVec 32 := 1#32
  let v0 : BitVec 32 := Scalar.addi arg1 c1_i32
  let c4_i32_79 : BitVec 32 := 4#32
  let v136 : BitVec 32 := Scalar.muli v0 c4_i32_79
  let v138 : BitVec 32 := Scalar.subi v136 c0_i32_81
  let c1_i32_82 : BitVec 32 := 1#32
  let v140 : BitVec 32 := Scalar.divsi v138 c1_i32_82
  let v141 : BitVec 32 := Scalar.muli v140 c1_i32_82
  let v142 : BitVec 32 := Scalar.addi c0_i32_81 v141
  let c1_i32_84 : BitVec 32 := 1#32
  let arg16 : BitVec 32 := Scf.iv v142 c1_i32_84 k0_t5
  let c64_i32_87 : BitVec 32 := 64#32
  let v150 : BitVec 32 := Scalar.muli arg16 c64_i32_87
  let v151 : BitVec 32 := v150
  let v152 : Index := Scalar.indexCast v151
  let c0_88 : Index := 0#32
  ![v152.toNat, 0]
@[reducible] def k0_t6_loop (i : grid0.Coords) : Scf.Loop 32 :=
  let c0_i32_9 : BitVec 32 := 0#32
  let arg1 : BitVec 32 := BitVec.ofNat 32 (i 1).val
  let c1_i32 : BitVec 32 := 1#32
  let v0 : BitVec 32 := Scalar.addi arg1 c1_i32
  let c4_i32 : BitVec 32 := 4#32
  let v14 : BitVec 32 := Scalar.muli v0 c4_i32
  let v16 : BitVec 32 := Scalar.subi v14 c0_i32_9
  let c1_i32_10 : BitVec 32 := 1#32
  let v18 : BitVec 32 := Scalar.divsi v16 c1_i32_10
  let v19 : BitVec 32 := Scalar.muli v18 c1_i32_10
  let v20 : BitVec 32 := Scalar.addi c0_i32_9 v19
  let c1_i32_11 : BitVec 32 := 1#32
  ⟨c0_i32_9, v20, c1_i32_11⟩
def k0_mult5 (i : grid0.Coords) (k0_t6 : Fin (k0_t6_loop i).trips) : BitVec 32 :=
  let c0_i32_9 : BitVec 32 := 0#32
  let c1_i32_11 : BitVec 32 := 1#32
  let arg14 : BitVec 32 := Scf.iv c0_i32_9 c1_i32_11 k0_t6
  let c64_i32_76 : BitVec 32 := 64#32
  let v129 : BitVec 32 := Scalar.muli arg14 c64_i32_76
  v129
def k0_off7 (i : grid0.Coords) (k0_t6 : Fin (k0_t6_loop i).trips) : Fin 2 → Nat :=
  let c0_i32_9 : BitVec 32 := 0#32
  let c1_i32_11 : BitVec 32 := 1#32
  let arg14 : BitVec 32 := Scf.iv c0_i32_9 c1_i32_11 k0_t6
  let c64_i32_76 : BitVec 32 := 64#32
  let v129 : BitVec 32 := Scalar.muli arg14 c64_i32_76
  let v130 : BitVec 32 := v129
  let v131 : Index := Scalar.indexCast v130
  let c0_77 : Index := 0#32
  ![v131.toNat, 0]
@[reducible] def k0_t7_loop (i : grid0.Coords) : Scf.Loop 32 :=
  let c0_i32_9 : BitVec 32 := 0#32
  let arg1 : BitVec 32 := BitVec.ofNat 32 (i 1).val
  let c1_i32 : BitVec 32 := 1#32
  let v0 : BitVec 32 := Scalar.addi arg1 c1_i32
  let c4_i32 : BitVec 32 := 4#32
  let v14 : BitVec 32 := Scalar.muli v0 c4_i32
  let v16 : BitVec 32 := Scalar.subi v14 c0_i32_9
  let c1_i32_10 : BitVec 32 := 1#32
  let v18 : BitVec 32 := Scalar.divsi v16 c1_i32_10
  let v19 : BitVec 32 := Scalar.muli v18 c1_i32_10
  let v20 : BitVec 32 := Scalar.addi c0_i32_9 v19
  let v17 : BitVec 32 := Scalar.addi c0_i32_9 v16
  let c1_i32_12 : BitVec 32 := 1#32
  ⟨v20, v17, c1_i32_12⟩
def k0_mult6 (i : grid0.Coords) (k0_t7 : Fin (k0_t7_loop i).trips) : BitVec 32 :=
  let c0_i32_9 : BitVec 32 := 0#32
  let arg1 : BitVec 32 := BitVec.ofNat 32 (i 1).val
  let c1_i32 : BitVec 32 := 1#32
  let v0 : BitVec 32 := Scalar.addi arg1 c1_i32
  let c4_i32 : BitVec 32 := 4#32
  let v14 : BitVec 32 := Scalar.muli v0 c4_i32
  let v16 : BitVec 32 := Scalar.subi v14 c0_i32_9
  let c1_i32_10 : BitVec 32 := 1#32
  let v18 : BitVec 32 := Scalar.divsi v16 c1_i32_10
  let v19 : BitVec 32 := Scalar.muli v18 c1_i32_10
  let v20 : BitVec 32 := Scalar.addi c0_i32_9 v19
  let c1_i32_12 : BitVec 32 := 1#32
  let arg14 : BitVec 32 := Scf.iv v20 c1_i32_12 k0_t7
  let c64_i32_76 : BitVec 32 := 64#32
  let v129 : BitVec 32 := Scalar.muli arg14 c64_i32_76
  v129
def k0_off8 (i : grid0.Coords) (k0_t7 : Fin (k0_t7_loop i).trips) : Fin 2 → Nat :=
  let c0_i32_9 : BitVec 32 := 0#32
  let arg1 : BitVec 32 := BitVec.ofNat 32 (i 1).val
  let c1_i32 : BitVec 32 := 1#32
  let v0 : BitVec 32 := Scalar.addi arg1 c1_i32
  let c4_i32 : BitVec 32 := 4#32
  let v14 : BitVec 32 := Scalar.muli v0 c4_i32
  let v16 : BitVec 32 := Scalar.subi v14 c0_i32_9
  let c1_i32_10 : BitVec 32 := 1#32
  let v18 : BitVec 32 := Scalar.divsi v16 c1_i32_10
  let v19 : BitVec 32 := Scalar.muli v18 c1_i32_10
  let v20 : BitVec 32 := Scalar.addi c0_i32_9 v19
  let c1_i32_12 : BitVec 32 := 1#32
  let arg14 : BitVec 32 := Scf.iv v20 c1_i32_12 k0_t7
  let c64_i32_76 : BitVec 32 := 64#32
  let v129 : BitVec 32 := Scalar.muli arg14 c64_i32_76
  let v130 : BitVec 32 := v129
  let v131 : Index := Scalar.indexCast v130
  let c0_77 : Index := 0#32
  ![v131.toNat, 0]
@[reducible] def k0_t8_loop (i : grid0.Coords) : Scf.Loop 32 :=
  let c0_i32_15 : BitVec 32 := 0#32
  let arg1 : BitVec 32 := BitVec.ofNat 32 (i 1).val
  let c1_i32 : BitVec 32 := 1#32
  let v0 : BitVec 32 := Scalar.addi arg1 c1_i32
  let c4_i32_13 : BitVec 32 := 4#32
  let v25 : BitVec 32 := Scalar.muli v0 c4_i32_13
  let v27 : BitVec 32 := Scalar.subi v25 c0_i32_15
  let c1_i32_16 : BitVec 32 := 1#32
  let v29 : BitVec 32 := Scalar.divsi v27 c1_i32_16
  let v30 : BitVec 32 := Scalar.muli v29 c1_i32_16
  let v31 : BitVec 32 := Scalar.addi c0_i32_15 v30
  let c1_i32_17 : BitVec 32 := 1#32
  ⟨c0_i32_15, v31, c1_i32_17⟩
def k0_mult7 (i : grid0.Coords) (k0_t8 : Fin (k0_t8_loop i).trips) : BitVec 32 :=
  let c0_i32_15 : BitVec 32 := 0#32
  let c1_i32_17 : BitVec 32 := 1#32
  let arg14 : BitVec 32 := Scf.iv c0_i32_15 c1_i32_17 k0_t8
  let c64_i32_76 : BitVec 32 := 64#32
  let v129 : BitVec 32 := Scalar.muli arg14 c64_i32_76
  v129
def k0_off9 (i : grid0.Coords) (k0_t8 : Fin (k0_t8_loop i).trips) : Fin 2 → Nat :=
  let c0_i32_15 : BitVec 32 := 0#32
  let c1_i32_17 : BitVec 32 := 1#32
  let arg14 : BitVec 32 := Scf.iv c0_i32_15 c1_i32_17 k0_t8
  let c64_i32_76 : BitVec 32 := 64#32
  let v129 : BitVec 32 := Scalar.muli arg14 c64_i32_76
  let v130 : BitVec 32 := v129
  let v131 : Index := Scalar.indexCast v130
  let c0_77 : Index := 0#32
  ![v131.toNat, 0]
@[reducible] def k0_t9_loop (i : grid0.Coords) : Scf.Loop 32 :=
  let c0_i32_15 : BitVec 32 := 0#32
  let arg1 : BitVec 32 := BitVec.ofNat 32 (i 1).val
  let c1_i32 : BitVec 32 := 1#32
  let v0 : BitVec 32 := Scalar.addi arg1 c1_i32
  let c4_i32_13 : BitVec 32 := 4#32
  let v25 : BitVec 32 := Scalar.muli v0 c4_i32_13
  let v27 : BitVec 32 := Scalar.subi v25 c0_i32_15
  let c1_i32_16 : BitVec 32 := 1#32
  let v29 : BitVec 32 := Scalar.divsi v27 c1_i32_16
  let v30 : BitVec 32 := Scalar.muli v29 c1_i32_16
  let v31 : BitVec 32 := Scalar.addi c0_i32_15 v30
  let v28 : BitVec 32 := Scalar.addi c0_i32_15 v27
  let c1_i32_18 : BitVec 32 := 1#32
  ⟨v31, v28, c1_i32_18⟩
def k0_mult8 (i : grid0.Coords) (k0_t9 : Fin (k0_t9_loop i).trips) : BitVec 32 :=
  let c0_i32_15 : BitVec 32 := 0#32
  let arg1 : BitVec 32 := BitVec.ofNat 32 (i 1).val
  let c1_i32 : BitVec 32 := 1#32
  let v0 : BitVec 32 := Scalar.addi arg1 c1_i32
  let c4_i32_13 : BitVec 32 := 4#32
  let v25 : BitVec 32 := Scalar.muli v0 c4_i32_13
  let v27 : BitVec 32 := Scalar.subi v25 c0_i32_15
  let c1_i32_16 : BitVec 32 := 1#32
  let v29 : BitVec 32 := Scalar.divsi v27 c1_i32_16
  let v30 : BitVec 32 := Scalar.muli v29 c1_i32_16
  let v31 : BitVec 32 := Scalar.addi c0_i32_15 v30
  let c1_i32_18 : BitVec 32 := 1#32
  let arg14 : BitVec 32 := Scf.iv v31 c1_i32_18 k0_t9
  let c64_i32_76 : BitVec 32 := 64#32
  let v129 : BitVec 32 := Scalar.muli arg14 c64_i32_76
  v129
def k0_off10 (i : grid0.Coords) (k0_t9 : Fin (k0_t9_loop i).trips) : Fin 2 → Nat :=
  let c0_i32_15 : BitVec 32 := 0#32
  let arg1 : BitVec 32 := BitVec.ofNat 32 (i 1).val
  let c1_i32 : BitVec 32 := 1#32
  let v0 : BitVec 32 := Scalar.addi arg1 c1_i32
  let c4_i32_13 : BitVec 32 := 4#32
  let v25 : BitVec 32 := Scalar.muli v0 c4_i32_13
  let v27 : BitVec 32 := Scalar.subi v25 c0_i32_15
  let c1_i32_16 : BitVec 32 := 1#32
  let v29 : BitVec 32 := Scalar.divsi v27 c1_i32_16
  let v30 : BitVec 32 := Scalar.muli v29 c1_i32_16
  let v31 : BitVec 32 := Scalar.addi c0_i32_15 v30
  let c1_i32_18 : BitVec 32 := 1#32
  let arg14 : BitVec 32 := Scf.iv v31 c1_i32_18 k0_t9
  let c64_i32_76 : BitVec 32 := 64#32
  let v129 : BitVec 32 := Scalar.muli arg14 c64_i32_76
  let v130 : BitVec 32 := v129
  let v131 : Index := Scalar.indexCast v130
  let c0_77 : Index := 0#32
  ![v131.toNat, 0]
@[reducible] def k0_t10_loop : Scf.Loop 32 :=
  let c0_i32_77 : BitVec 32 := 0#32
  let c16_i32 : BitVec 32 := 16#32
  let v130 : BitVec 32 := Scalar.addi c0_i32_77 c16_i32
  let c1_i32_78 : BitVec 32 := 1#32
  ⟨c0_i32_77, v130, c1_i32_78⟩
@[reducible] def k0_t11_loop (i : grid0.Coords) : Scf.Loop 32 :=
  let c0_i32_89 : BitVec 32 := 0#32
  let arg1 : BitVec 32 := BitVec.ofNat 32 (i 1).val
  let c1_i32 : BitVec 32 := 1#32
  let v0 : BitVec 32 := Scalar.addi arg1 c1_i32
  let c4_i32_87 : BitVec 32 := 4#32
  let v142 : BitVec 32 := Scalar.muli v0 c4_i32_87
  let v144 : BitVec 32 := Scalar.subi v142 c0_i32_89
  let c1_i32_90 : BitVec 32 := 1#32
  let v146 : BitVec 32 := Scalar.divsi v144 c1_i32_90
  let v147 : BitVec 32 := Scalar.muli v146 c1_i32_90
  let v148 : BitVec 32 := Scalar.addi c0_i32_89 v147
  let c1_i32_91 : BitVec 32 := 1#32
  ⟨c0_i32_89, v148, c1_i32_91⟩
def k0_mult9 (i : grid0.Coords) (k0_t11 : Fin (k0_t11_loop i).trips) : BitVec 32 :=
  let c0_i32_89 : BitVec 32 := 0#32
  let c1_i32_91 : BitVec 32 := 1#32
  let arg16 : BitVec 32 := Scf.iv c0_i32_89 c1_i32_91 k0_t11
  let c64_i32_94 : BitVec 32 := 64#32
  let v155 : BitVec 32 := Scalar.muli arg16 c64_i32_94
  v155
def k0_off11 (i : grid0.Coords) (k0_t11 : Fin (k0_t11_loop i).trips) : Fin 2 → Nat :=
  let c0_i32_89 : BitVec 32 := 0#32
  let c1_i32_91 : BitVec 32 := 1#32
  let arg16 : BitVec 32 := Scf.iv c0_i32_89 c1_i32_91 k0_t11
  let c64_i32_94 : BitVec 32 := 64#32
  let v155 : BitVec 32 := Scalar.muli arg16 c64_i32_94
  let v156 : BitVec 32 := v155
  let v157 : Index := Scalar.indexCast v156
  let c0_95 : Index := 0#32
  ![v157.toNat, 0]
@[reducible] def k0_t12_loop (i : grid0.Coords) : Scf.Loop 32 :=
  let c0_i32_89 : BitVec 32 := 0#32
  let arg1 : BitVec 32 := BitVec.ofNat 32 (i 1).val
  let c1_i32 : BitVec 32 := 1#32
  let v0 : BitVec 32 := Scalar.addi arg1 c1_i32
  let c4_i32_87 : BitVec 32 := 4#32
  let v142 : BitVec 32 := Scalar.muli v0 c4_i32_87
  let v144 : BitVec 32 := Scalar.subi v142 c0_i32_89
  let c1_i32_90 : BitVec 32 := 1#32
  let v146 : BitVec 32 := Scalar.divsi v144 c1_i32_90
  let v147 : BitVec 32 := Scalar.muli v146 c1_i32_90
  let v148 : BitVec 32 := Scalar.addi c0_i32_89 v147
  let v145 : BitVec 32 := Scalar.addi c0_i32_89 v144
  let c1_i32_92 : BitVec 32 := 1#32
  ⟨v148, v145, c1_i32_92⟩
def k0_mult10 (i : grid0.Coords) (k0_t12 : Fin (k0_t12_loop i).trips) : BitVec 32 :=
  let c0_i32_89 : BitVec 32 := 0#32
  let arg1 : BitVec 32 := BitVec.ofNat 32 (i 1).val
  let c1_i32 : BitVec 32 := 1#32
  let v0 : BitVec 32 := Scalar.addi arg1 c1_i32
  let c4_i32_87 : BitVec 32 := 4#32
  let v142 : BitVec 32 := Scalar.muli v0 c4_i32_87
  let v144 : BitVec 32 := Scalar.subi v142 c0_i32_89
  let c1_i32_90 : BitVec 32 := 1#32
  let v146 : BitVec 32 := Scalar.divsi v144 c1_i32_90
  let v147 : BitVec 32 := Scalar.muli v146 c1_i32_90
  let v148 : BitVec 32 := Scalar.addi c0_i32_89 v147
  let c1_i32_92 : BitVec 32 := 1#32
  let arg16 : BitVec 32 := Scf.iv v148 c1_i32_92 k0_t12
  let c64_i32_94 : BitVec 32 := 64#32
  let v155 : BitVec 32 := Scalar.muli arg16 c64_i32_94
  v155
def k0_off12 (i : grid0.Coords) (k0_t12 : Fin (k0_t12_loop i).trips) : Fin 2 → Nat :=
  let c0_i32_89 : BitVec 32 := 0#32
  let arg1 : BitVec 32 := BitVec.ofNat 32 (i 1).val
  let c1_i32 : BitVec 32 := 1#32
  let v0 : BitVec 32 := Scalar.addi arg1 c1_i32
  let c4_i32_87 : BitVec 32 := 4#32
  let v142 : BitVec 32 := Scalar.muli v0 c4_i32_87
  let v144 : BitVec 32 := Scalar.subi v142 c0_i32_89
  let c1_i32_90 : BitVec 32 := 1#32
  let v146 : BitVec 32 := Scalar.divsi v144 c1_i32_90
  let v147 : BitVec 32 := Scalar.muli v146 c1_i32_90
  let v148 : BitVec 32 := Scalar.addi c0_i32_89 v147
  let c1_i32_92 : BitVec 32 := 1#32
  let arg16 : BitVec 32 := Scf.iv v148 c1_i32_92 k0_t12
  let c64_i32_94 : BitVec 32 := 64#32
  let v155 : BitVec 32 := Scalar.muli arg16 c64_i32_94
  let v156 : BitVec 32 := v155
  let v157 : Index := Scalar.indexCast v156
  let c0_95 : Index := 0#32
  ![v157.toNat, 0]
@[reducible] def k0_t13_loop (i : grid0.Coords) : Scf.Loop 32 :=
  let c0_i32_82 : BitVec 32 := 0#32
  let arg1 : BitVec 32 := BitVec.ofNat 32 (i 1).val
  let c1_i32 : BitVec 32 := 1#32
  let v0 : BitVec 32 := Scalar.addi arg1 c1_i32
  let c4_i32_80 : BitVec 32 := 4#32
  let v132 : BitVec 32 := Scalar.muli v0 c4_i32_80
  let v133 : BitVec 32 := Scalar.subi v132 c0_i32_82
  let c1_i32_83 : BitVec 32 := 1#32
  let v135 : BitVec 32 := Scalar.divsi v133 c1_i32_83
  let v136 : BitVec 32 := Scalar.muli v135 c1_i32_83
  let v137 : BitVec 32 := Scalar.addi c0_i32_82 v136
  let c1_i32_84 : BitVec 32 := 1#32
  ⟨c0_i32_82, v137, c1_i32_84⟩
def k0_mult11 (i : grid0.Coords) (k0_t13 : Fin (k0_t13_loop i).trips) : BitVec 32 :=
  let c0_i32_82 : BitVec 32 := 0#32
  let c1_i32_84 : BitVec 32 := 1#32
  let arg14 : BitVec 32 := Scf.iv c0_i32_82 c1_i32_84 k0_t13
  let c64_i32_86 : BitVec 32 := 64#32
  let v138 : BitVec 32 := Scalar.muli arg14 c64_i32_86
  v138
def k0_off13 (i : grid0.Coords) (k0_t13 : Fin (k0_t13_loop i).trips) : Fin 2 → Nat :=
  let c0_i32_82 : BitVec 32 := 0#32
  let c1_i32_84 : BitVec 32 := 1#32
  let arg14 : BitVec 32 := Scf.iv c0_i32_82 c1_i32_84 k0_t13
  let c64_i32_86 : BitVec 32 := 64#32
  let v138 : BitVec 32 := Scalar.muli arg14 c64_i32_86
  let v139 : BitVec 32 := v138
  let v140 : Index := Scalar.indexCast v139
  let c0_87 : Index := 0#32
  ![v140.toNat, 0]
@[reducible] def k0_t14_loop (i : grid0.Coords) : Scf.Loop 32 :=
  let c0_i32_82 : BitVec 32 := 0#32
  let arg1 : BitVec 32 := BitVec.ofNat 32 (i 1).val
  let c1_i32 : BitVec 32 := 1#32
  let v0 : BitVec 32 := Scalar.addi arg1 c1_i32
  let c4_i32_80 : BitVec 32 := 4#32
  let v132 : BitVec 32 := Scalar.muli v0 c4_i32_80
  let v133 : BitVec 32 := Scalar.subi v132 c0_i32_82
  let c1_i32_83 : BitVec 32 := 1#32
  let v135 : BitVec 32 := Scalar.divsi v133 c1_i32_83
  let v136 : BitVec 32 := Scalar.muli v135 c1_i32_83
  let v137 : BitVec 32 := Scalar.addi c0_i32_82 v136
  let v134 : BitVec 32 := Scalar.addi c0_i32_82 v133
  let c1_i32_85 : BitVec 32 := 1#32
  ⟨v137, v134, c1_i32_85⟩
def k0_mult12 (i : grid0.Coords) (k0_t14 : Fin (k0_t14_loop i).trips) : BitVec 32 :=
  let c0_i32_82 : BitVec 32 := 0#32
  let arg1 : BitVec 32 := BitVec.ofNat 32 (i 1).val
  let c1_i32 : BitVec 32 := 1#32
  let v0 : BitVec 32 := Scalar.addi arg1 c1_i32
  let c4_i32_80 : BitVec 32 := 4#32
  let v132 : BitVec 32 := Scalar.muli v0 c4_i32_80
  let v133 : BitVec 32 := Scalar.subi v132 c0_i32_82
  let c1_i32_83 : BitVec 32 := 1#32
  let v135 : BitVec 32 := Scalar.divsi v133 c1_i32_83
  let v136 : BitVec 32 := Scalar.muli v135 c1_i32_83
  let v137 : BitVec 32 := Scalar.addi c0_i32_82 v136
  let c1_i32_85 : BitVec 32 := 1#32
  let arg14 : BitVec 32 := Scf.iv v137 c1_i32_85 k0_t14
  let c64_i32_86 : BitVec 32 := 64#32
  let v138 : BitVec 32 := Scalar.muli arg14 c64_i32_86
  v138
def k0_off14 (i : grid0.Coords) (k0_t14 : Fin (k0_t14_loop i).trips) : Fin 2 → Nat :=
  let c0_i32_82 : BitVec 32 := 0#32
  let arg1 : BitVec 32 := BitVec.ofNat 32 (i 1).val
  let c1_i32 : BitVec 32 := 1#32
  let v0 : BitVec 32 := Scalar.addi arg1 c1_i32
  let c4_i32_80 : BitVec 32 := 4#32
  let v132 : BitVec 32 := Scalar.muli v0 c4_i32_80
  let v133 : BitVec 32 := Scalar.subi v132 c0_i32_82
  let c1_i32_83 : BitVec 32 := 1#32
  let v135 : BitVec 32 := Scalar.divsi v133 c1_i32_83
  let v136 : BitVec 32 := Scalar.muli v135 c1_i32_83
  let v137 : BitVec 32 := Scalar.addi c0_i32_82 v136
  let c1_i32_85 : BitVec 32 := 1#32
  let arg14 : BitVec 32 := Scf.iv v137 c1_i32_85 k0_t14
  let c64_i32_86 : BitVec 32 := 64#32
  let v138 : BitVec 32 := Scalar.muli arg14 c64_i32_86
  let v139 : BitVec 32 := v138
  let v140 : Index := Scalar.indexCast v139
  let c0_87 : Index := 0#32
  ![v140.toNat, 0]
@[reducible] def k0_t15_loop (i : grid0.Coords) : Scf.Loop 32 :=
  let c0_i32_33 : BitVec 32 := 0#32
  let arg1 : BitVec 32 := BitVec.ofNat 32 (i 1).val
  let c1_i32 : BitVec 32 := 1#32
  let v0 : BitVec 32 := Scalar.addi arg1 c1_i32
  let v63 : BitVec 32 := Scalar.subi v0 c0_i32_33
  let c1_i32_34 : BitVec 32 := 1#32
  let v65 : BitVec 32 := Scalar.divsi v63 c1_i32_34
  let v66 : BitVec 32 := Scalar.muli v65 c1_i32_34
  let v67 : BitVec 32 := Scalar.addi c0_i32_33 v66
  let c1_i32_35 : BitVec 32 := 1#32
  ⟨c0_i32_33, v67, c1_i32_35⟩
def k0_mult13 (i : grid0.Coords) (k0_t15 : Fin (k0_t15_loop i).trips) : BitVec 32 :=
  let c0_i32_33 : BitVec 32 := 0#32
  let c1_i32_35 : BitVec 32 := 1#32
  let arg14 : BitVec 32 := Scf.iv c0_i32_33 c1_i32_35 k0_t15
  let c256_i32_76 : BitVec 32 := 256#32
  let v129 : BitVec 32 := Scalar.muli arg14 c256_i32_76
  v129
def k0_off15 (i : grid0.Coords) (k0_t15 : Fin (k0_t15_loop i).trips) : Fin 2 → Nat :=
  let c0_i32_33 : BitVec 32 := 0#32
  let c1_i32_35 : BitVec 32 := 1#32
  let arg14 : BitVec 32 := Scf.iv c0_i32_33 c1_i32_35 k0_t15
  let c256_i32_76 : BitVec 32 := 256#32
  let v129 : BitVec 32 := Scalar.muli arg14 c256_i32_76
  let v130 : BitVec 32 := v129
  let v131 : Index := Scalar.indexCast v130
  let c0_77 : Index := 0#32
  ![v131.toNat, 0]
def k0_off16 (i : grid0.Coords) (k0_t15 : Fin (k0_t15_loop i).trips) : Fin 3 → Nat :=
  let c0_80 : Index := 0#32
  let c0_i32_33 : BitVec 32 := 0#32
  let c1_i32_35 : BitVec 32 := 1#32
  let arg14 : BitVec 32 := Scf.iv c0_i32_33 c1_i32_35 k0_t15
  let c256_i32_76 : BitVec 32 := 256#32
  let v129 : BitVec 32 := Scalar.muli arg14 c256_i32_76
  let v130 : BitVec 32 := v129
  let v139 : Index := Scalar.indexCast v130
  let c0_81 : Index := 0#32
  ![0, v139.toNat, 0]
def k0_off17 (i : grid0.Coords) (k0_t15 : Fin (k0_t15_loop i).trips) : Fin 4 → Nat :=
  let c2_i32_79 : BitVec 32 := 2#32
  let c0_i32_78 : BitVec 32 := 0#32
  let c0_i32_33 : BitVec 32 := 0#32
  let c1_i32_35 : BitVec 32 := 1#32
  let arg14 : BitVec 32 := Scf.iv c0_i32_33 c1_i32_35 k0_t15
  let arg1 : BitVec 32 := BitVec.ofNat 32 (i 1).val
  let c2_i32 : BitVec 32 := 2#32
  let v135 : BitVec 32 := Scalar.subi arg1 c2_i32
  let v136 : BitVec 32 := Scalar.subi arg14 v135
  let v137 : BitVec 32 := Scalar.maxsi c0_i32_78 v136
  let v138 : BitVec 32 := Scalar.minsi c2_i32_79 v137
  let v151 : Index := Scalar.indexCast v138
  let c0_88 : Index := 0#32
  let c0_89 : Index := 0#32
  let c0_90 : Index := 0#32
  ![v151.toNat, 0, 0, 0]
def k0_off18 (i : grid0.Coords) (k0_t15 : Fin (k0_t15_loop i).trips) : Fin 3 → Nat :=
  let c0_102 : Index := 0#32
  let c0_103 : Index := 0#32
  let c0_i32_33 : BitVec 32 := 0#32
  let c1_i32_35 : BitVec 32 := 1#32
  let arg14 : BitVec 32 := Scf.iv c0_i32_33 c1_i32_35 k0_t15
  let c256_i32_76 : BitVec 32 := 256#32
  let v129 : BitVec 32 := Scalar.muli arg14 c256_i32_76
  let v130 : BitVec 32 := v129
  let v177 : Index := Scalar.indexCast v130
  ![0, 0, v177.toNat]
def k0_off19 (i : grid0.Coords) (k0_t15 : Fin (k0_t15_loop i).trips) : Fin 4 → Nat :=
  let c2_i32_79 : BitVec 32 := 2#32
  let c0_i32_78 : BitVec 32 := 0#32
  let c0_i32_33 : BitVec 32 := 0#32
  let c1_i32_35 : BitVec 32 := 1#32
  let arg14 : BitVec 32 := Scf.iv c0_i32_33 c1_i32_35 k0_t15
  let arg1 : BitVec 32 := BitVec.ofNat 32 (i 1).val
  let c2_i32 : BitVec 32 := 2#32
  let v135 : BitVec 32 := Scalar.subi arg1 c2_i32
  let v136 : BitVec 32 := Scalar.subi arg14 v135
  let v137 : BitVec 32 := Scalar.maxsi c0_i32_78 v136
  let v138 : BitVec 32 := Scalar.minsi c2_i32_79 v137
  let v201 : Index := Scalar.indexCast v138
  let c1_117 : Index := 1#32
  let c0_118 : Index := 0#32
  let c0_119 : Index := 0#32
  ![v201.toNat, 1, 0, 0]
def k0_off20 (i : grid0.Coords) (k0_t15 : Fin (k0_t15_loop i).trips) : Fin 3 → Nat :=
  let c0_131 : Index := 0#32
  let c64_132 : Index := 64#32
  let c0_i32_33 : BitVec 32 := 0#32
  let c1_i32_35 : BitVec 32 := 1#32
  let arg14 : BitVec 32 := Scf.iv c0_i32_33 c1_i32_35 k0_t15
  let c256_i32_76 : BitVec 32 := 256#32
  let v129 : BitVec 32 := Scalar.muli arg14 c256_i32_76
  let v130 : BitVec 32 := v129
  let v227 : Index := Scalar.indexCast v130
  ![0, 64, v227.toNat]
def k0_off21 (i : grid0.Coords) (k0_t15 : Fin (k0_t15_loop i).trips) : Fin 3 → Nat :=
  let c0_138 : Index := 0#32
  let c0_i32_33 : BitVec 32 := 0#32
  let c1_i32_35 : BitVec 32 := 1#32
  let arg14 : BitVec 32 := Scf.iv c0_i32_33 c1_i32_35 k0_t15
  let c256_i32_76 : BitVec 32 := 256#32
  let v129 : BitVec 32 := Scalar.muli arg14 c256_i32_76
  let v130 : BitVec 32 := v129
  let v239 : Index := Scalar.indexCast v130
  let c128_139 : Index := 128#32
  ![0, v239.toNat, 128]
def k0_off22 (i : grid0.Coords) (k0_t15 : Fin (k0_t15_loop i).trips) : Fin 4 → Nat :=
  let c2_i32_79 : BitVec 32 := 2#32
  let c0_i32_78 : BitVec 32 := 0#32
  let c0_i32_33 : BitVec 32 := 0#32
  let c1_i32_35 : BitVec 32 := 1#32
  let arg14 : BitVec 32 := Scf.iv c0_i32_33 c1_i32_35 k0_t15
  let arg1 : BitVec 32 := BitVec.ofNat 32 (i 1).val
  let c2_i32 : BitVec 32 := 2#32
  let v135 : BitVec 32 := Scalar.subi arg1 c2_i32
  let v136 : BitVec 32 := Scalar.subi arg14 v135
  let v137 : BitVec 32 := Scalar.maxsi c0_i32_78 v136
  let v138 : BitVec 32 := Scalar.minsi c2_i32_79 v137
  let v251 : Index := Scalar.indexCast v138
  let c2_147 : Index := 2#32
  let c0_148 : Index := 0#32
  let c0_149 : Index := 0#32
  ![v251.toNat, 2, 0, 0]
def k0_off23 (i : grid0.Coords) (k0_t15 : Fin (k0_t15_loop i).trips) : Fin 3 → Nat :=
  let c0_161 : Index := 0#32
  let c128_162 : Index := 128#32
  let c0_i32_33 : BitVec 32 := 0#32
  let c1_i32_35 : BitVec 32 := 1#32
  let arg14 : BitVec 32 := Scf.iv c0_i32_33 c1_i32_35 k0_t15
  let c256_i32_76 : BitVec 32 := 256#32
  let v129 : BitVec 32 := Scalar.muli arg14 c256_i32_76
  let v130 : BitVec 32 := v129
  let v277 : Index := Scalar.indexCast v130
  ![0, 128, v277.toNat]
def k0_off24 (i : grid0.Coords) (k0_t15 : Fin (k0_t15_loop i).trips) : Fin 4 → Nat :=
  let c2_i32_79 : BitVec 32 := 2#32
  let c0_i32_78 : BitVec 32 := 0#32
  let c0_i32_33 : BitVec 32 := 0#32
  let c1_i32_35 : BitVec 32 := 1#32
  let arg14 : BitVec 32 := Scf.iv c0_i32_33 c1_i32_35 k0_t15
  let arg1 : BitVec 32 := BitVec.ofNat 32 (i 1).val
  let c2_i32 : BitVec 32 := 2#32
  let v135 : BitVec 32 := Scalar.subi arg1 c2_i32
  let v136 : BitVec 32 := Scalar.subi arg14 v135
  let v137 : BitVec 32 := Scalar.maxsi c0_i32_78 v136
  let v138 : BitVec 32 := Scalar.minsi c2_i32_79 v137
  let v301 : Index := Scalar.indexCast v138
  let c3_177 : Index := 3#32
  let c0_178 : Index := 0#32
  let c0_179 : Index := 0#32
  ![v301.toNat, 3, 0, 0]
def k0_off25 (i : grid0.Coords) (k0_t15 : Fin (k0_t15_loop i).trips) : Fin 3 → Nat :=
  let c0_191 : Index := 0#32
  let c192_192 : Index := 192#32
  let c0_i32_33 : BitVec 32 := 0#32
  let c1_i32_35 : BitVec 32 := 1#32
  let arg14 : BitVec 32 := Scf.iv c0_i32_33 c1_i32_35 k0_t15
  let c256_i32_76 : BitVec 32 := 256#32
  let v129 : BitVec 32 := Scalar.muli arg14 c256_i32_76
  let v130 : BitVec 32 := v129
  let v327 : Index := Scalar.indexCast v130
  ![0, 192, v327.toNat]
def k0_off26 (i : grid0.Coords) (k0_t15 : Fin (k0_t15_loop i).trips) : Fin 3 → Nat :=
  let c0_198 : Index := 0#32
  let c0_i32_33 : BitVec 32 := 0#32
  let c1_i32_35 : BitVec 32 := 1#32
  let arg14 : BitVec 32 := Scf.iv c0_i32_33 c1_i32_35 k0_t15
  let c256_i32_76 : BitVec 32 := 256#32
  let v129 : BitVec 32 := Scalar.muli arg14 c256_i32_76
  let v130 : BitVec 32 := v129
  let v339 : Index := Scalar.indexCast v130
  let c256_199 : Index := 256#32
  ![0, v339.toNat, 256]
def k0_off27 (i : grid0.Coords) (k0_t15 : Fin (k0_t15_loop i).trips) : Fin 4 → Nat :=
  let c2_i32_79 : BitVec 32 := 2#32
  let c0_i32_78 : BitVec 32 := 0#32
  let c0_i32_33 : BitVec 32 := 0#32
  let c1_i32_35 : BitVec 32 := 1#32
  let arg14 : BitVec 32 := Scf.iv c0_i32_33 c1_i32_35 k0_t15
  let arg1 : BitVec 32 := BitVec.ofNat 32 (i 1).val
  let c2_i32 : BitVec 32 := 2#32
  let v135 : BitVec 32 := Scalar.subi arg1 c2_i32
  let v136 : BitVec 32 := Scalar.subi arg14 v135
  let v137 : BitVec 32 := Scalar.maxsi c0_i32_78 v136
  let v138 : BitVec 32 := Scalar.minsi c2_i32_79 v137
  let v351 : Index := Scalar.indexCast v138
  let c4_207 : Index := 4#32
  let c0_208 : Index := 0#32
  let c0_209 : Index := 0#32
  ![v351.toNat, 4, 0, 0]
def k0_off28 (i : grid0.Coords) (k0_t15 : Fin (k0_t15_loop i).trips) : Fin 3 → Nat :=
  let c0_221 : Index := 0#32
  let c256_222 : Index := 256#32
  let c0_i32_33 : BitVec 32 := 0#32
  let c1_i32_35 : BitVec 32 := 1#32
  let arg14 : BitVec 32 := Scf.iv c0_i32_33 c1_i32_35 k0_t15
  let c256_i32_76 : BitVec 32 := 256#32
  let v129 : BitVec 32 := Scalar.muli arg14 c256_i32_76
  let v130 : BitVec 32 := v129
  let v377 : Index := Scalar.indexCast v130
  ![0, 256, v377.toNat]
def k0_off29 (i : grid0.Coords) (k0_t15 : Fin (k0_t15_loop i).trips) : Fin 4 → Nat :=
  let c2_i32_79 : BitVec 32 := 2#32
  let c0_i32_78 : BitVec 32 := 0#32
  let c0_i32_33 : BitVec 32 := 0#32
  let c1_i32_35 : BitVec 32 := 1#32
  let arg14 : BitVec 32 := Scf.iv c0_i32_33 c1_i32_35 k0_t15
  let arg1 : BitVec 32 := BitVec.ofNat 32 (i 1).val
  let c2_i32 : BitVec 32 := 2#32
  let v135 : BitVec 32 := Scalar.subi arg1 c2_i32
  let v136 : BitVec 32 := Scalar.subi arg14 v135
  let v137 : BitVec 32 := Scalar.maxsi c0_i32_78 v136
  let v138 : BitVec 32 := Scalar.minsi c2_i32_79 v137
  let v401 : Index := Scalar.indexCast v138
  let c5_237 : Index := 5#32
  let c0_238 : Index := 0#32
  let c0_239 : Index := 0#32
  ![v401.toNat, 5, 0, 0]
def k0_off30 (i : grid0.Coords) (k0_t15 : Fin (k0_t15_loop i).trips) : Fin 3 → Nat :=
  let c0_251 : Index := 0#32
  let c320_252 : Index := 320#32
  let c0_i32_33 : BitVec 32 := 0#32
  let c1_i32_35 : BitVec 32 := 1#32
  let arg14 : BitVec 32 := Scf.iv c0_i32_33 c1_i32_35 k0_t15
  let c256_i32_76 : BitVec 32 := 256#32
  let v129 : BitVec 32 := Scalar.muli arg14 c256_i32_76
  let v130 : BitVec 32 := v129
  let v427 : Index := Scalar.indexCast v130
  ![0, 320, v427.toNat]
def k0_off31 (i : grid0.Coords) (k0_t15 : Fin (k0_t15_loop i).trips) : Fin 3 → Nat :=
  let c0_258 : Index := 0#32
  let c0_i32_33 : BitVec 32 := 0#32
  let c1_i32_35 : BitVec 32 := 1#32
  let arg14 : BitVec 32 := Scf.iv c0_i32_33 c1_i32_35 k0_t15
  let c256_i32_76 : BitVec 32 := 256#32
  let v129 : BitVec 32 := Scalar.muli arg14 c256_i32_76
  let v130 : BitVec 32 := v129
  let v439 : Index := Scalar.indexCast v130
  let c384_259 : Index := 384#32
  ![0, v439.toNat, 384]
def k0_off32 (i : grid0.Coords) (k0_t15 : Fin (k0_t15_loop i).trips) : Fin 4 → Nat :=
  let c2_i32_79 : BitVec 32 := 2#32
  let c0_i32_78 : BitVec 32 := 0#32
  let c0_i32_33 : BitVec 32 := 0#32
  let c1_i32_35 : BitVec 32 := 1#32
  let arg14 : BitVec 32 := Scf.iv c0_i32_33 c1_i32_35 k0_t15
  let arg1 : BitVec 32 := BitVec.ofNat 32 (i 1).val
  let c2_i32 : BitVec 32 := 2#32
  let v135 : BitVec 32 := Scalar.subi arg1 c2_i32
  let v136 : BitVec 32 := Scalar.subi arg14 v135
  let v137 : BitVec 32 := Scalar.maxsi c0_i32_78 v136
  let v138 : BitVec 32 := Scalar.minsi c2_i32_79 v137
  let v451 : Index := Scalar.indexCast v138
  let c6_267 : Index := 6#32
  let c0_268 : Index := 0#32
  let c0_269 : Index := 0#32
  ![v451.toNat, 6, 0, 0]
def k0_off33 (i : grid0.Coords) (k0_t15 : Fin (k0_t15_loop i).trips) : Fin 3 → Nat :=
  let c0_281 : Index := 0#32
  let c384_282 : Index := 384#32
  let c0_i32_33 : BitVec 32 := 0#32
  let c1_i32_35 : BitVec 32 := 1#32
  let arg14 : BitVec 32 := Scf.iv c0_i32_33 c1_i32_35 k0_t15
  let c256_i32_76 : BitVec 32 := 256#32
  let v129 : BitVec 32 := Scalar.muli arg14 c256_i32_76
  let v130 : BitVec 32 := v129
  let v477 : Index := Scalar.indexCast v130
  ![0, 384, v477.toNat]
def k0_off34 (i : grid0.Coords) (k0_t15 : Fin (k0_t15_loop i).trips) : Fin 4 → Nat :=
  let c2_i32_79 : BitVec 32 := 2#32
  let c0_i32_78 : BitVec 32 := 0#32
  let c0_i32_33 : BitVec 32 := 0#32
  let c1_i32_35 : BitVec 32 := 1#32
  let arg14 : BitVec 32 := Scf.iv c0_i32_33 c1_i32_35 k0_t15
  let arg1 : BitVec 32 := BitVec.ofNat 32 (i 1).val
  let c2_i32 : BitVec 32 := 2#32
  let v135 : BitVec 32 := Scalar.subi arg1 c2_i32
  let v136 : BitVec 32 := Scalar.subi arg14 v135
  let v137 : BitVec 32 := Scalar.maxsi c0_i32_78 v136
  let v138 : BitVec 32 := Scalar.minsi c2_i32_79 v137
  let v501 : Index := Scalar.indexCast v138
  let c7_297 : Index := 7#32
  let c0_298 : Index := 0#32
  let c0_299 : Index := 0#32
  ![v501.toNat, 7, 0, 0]
def k0_off35 (i : grid0.Coords) (k0_t15 : Fin (k0_t15_loop i).trips) : Fin 3 → Nat :=
  let c0_311 : Index := 0#32
  let c448_312 : Index := 448#32
  let c0_i32_33 : BitVec 32 := 0#32
  let c1_i32_35 : BitVec 32 := 1#32
  let arg14 : BitVec 32 := Scf.iv c0_i32_33 c1_i32_35 k0_t15
  let c256_i32_76 : BitVec 32 := 256#32
  let v129 : BitVec 32 := Scalar.muli arg14 c256_i32_76
  let v130 : BitVec 32 := v129
  let v527 : Index := Scalar.indexCast v130
  ![0, 448, v527.toNat]
@[reducible] def k0_t16_loop (i : grid0.Coords) : Scf.Loop 32 :=
  let c0_i32_33 : BitVec 32 := 0#32
  let arg1 : BitVec 32 := BitVec.ofNat 32 (i 1).val
  let c1_i32 : BitVec 32 := 1#32
  let v0 : BitVec 32 := Scalar.addi arg1 c1_i32
  let v63 : BitVec 32 := Scalar.subi v0 c0_i32_33
  let c1_i32_34 : BitVec 32 := 1#32
  let v65 : BitVec 32 := Scalar.divsi v63 c1_i32_34
  let v66 : BitVec 32 := Scalar.muli v65 c1_i32_34
  let v67 : BitVec 32 := Scalar.addi c0_i32_33 v66
  let v64 : BitVec 32 := Scalar.addi c0_i32_33 v63
  let c1_i32_36 : BitVec 32 := 1#32
  ⟨v67, v64, c1_i32_36⟩
def k0_mult14 (i : grid0.Coords) (k0_t16 : Fin (k0_t16_loop i).trips) : BitVec 32 :=
  let c0_i32_33 : BitVec 32 := 0#32
  let arg1 : BitVec 32 := BitVec.ofNat 32 (i 1).val
  let c1_i32 : BitVec 32 := 1#32
  let v0 : BitVec 32 := Scalar.addi arg1 c1_i32
  let v63 : BitVec 32 := Scalar.subi v0 c0_i32_33
  let c1_i32_34 : BitVec 32 := 1#32
  let v65 : BitVec 32 := Scalar.divsi v63 c1_i32_34
  let v66 : BitVec 32 := Scalar.muli v65 c1_i32_34
  let v67 : BitVec 32 := Scalar.addi c0_i32_33 v66
  let c1_i32_36 : BitVec 32 := 1#32
  let arg14 : BitVec 32 := Scf.iv v67 c1_i32_36 k0_t16
  let c256_i32_76 : BitVec 32 := 256#32
  let v129 : BitVec 32 := Scalar.muli arg14 c256_i32_76
  v129
def k0_off36 (i : grid0.Coords) (k0_t16 : Fin (k0_t16_loop i).trips) : Fin 2 → Nat :=
  let c0_i32_33 : BitVec 32 := 0#32
  let arg1 : BitVec 32 := BitVec.ofNat 32 (i 1).val
  let c1_i32 : BitVec 32 := 1#32
  let v0 : BitVec 32 := Scalar.addi arg1 c1_i32
  let v63 : BitVec 32 := Scalar.subi v0 c0_i32_33
  let c1_i32_34 : BitVec 32 := 1#32
  let v65 : BitVec 32 := Scalar.divsi v63 c1_i32_34
  let v66 : BitVec 32 := Scalar.muli v65 c1_i32_34
  let v67 : BitVec 32 := Scalar.addi c0_i32_33 v66
  let c1_i32_36 : BitVec 32 := 1#32
  let arg14 : BitVec 32 := Scf.iv v67 c1_i32_36 k0_t16
  let c256_i32_76 : BitVec 32 := 256#32
  let v129 : BitVec 32 := Scalar.muli arg14 c256_i32_76
  let v130 : BitVec 32 := v129
  let v131 : Index := Scalar.indexCast v130
  let c0_77 : Index := 0#32
  ![v131.toNat, 0]
def k0_off37 (i : grid0.Coords) (k0_t16 : Fin (k0_t16_loop i).trips) : Fin 3 → Nat :=
  let c0_80 : Index := 0#32
  let c0_i32_33 : BitVec 32 := 0#32
  let arg1 : BitVec 32 := BitVec.ofNat 32 (i 1).val
  let c1_i32 : BitVec 32 := 1#32
  let v0 : BitVec 32 := Scalar.addi arg1 c1_i32
  let v63 : BitVec 32 := Scalar.subi v0 c0_i32_33
  let c1_i32_34 : BitVec 32 := 1#32
  let v65 : BitVec 32 := Scalar.divsi v63 c1_i32_34
  let v66 : BitVec 32 := Scalar.muli v65 c1_i32_34
  let v67 : BitVec 32 := Scalar.addi c0_i32_33 v66
  let c1_i32_36 : BitVec 32 := 1#32
  let arg14 : BitVec 32 := Scf.iv v67 c1_i32_36 k0_t16
  let c256_i32_76 : BitVec 32 := 256#32
  let v129 : BitVec 32 := Scalar.muli arg14 c256_i32_76
  let v130 : BitVec 32 := v129
  let v139 : Index := Scalar.indexCast v130
  let c0_81 : Index := 0#32
  ![0, v139.toNat, 0]
def k0_off38 (i : grid0.Coords) (k0_t16 : Fin (k0_t16_loop i).trips) : Fin 4 → Nat :=
  let c2_i32_79 : BitVec 32 := 2#32
  let c0_i32_78 : BitVec 32 := 0#32
  let c0_i32_33 : BitVec 32 := 0#32
  let arg1 : BitVec 32 := BitVec.ofNat 32 (i 1).val
  let c1_i32 : BitVec 32 := 1#32
  let v0 : BitVec 32 := Scalar.addi arg1 c1_i32
  let v63 : BitVec 32 := Scalar.subi v0 c0_i32_33
  let c1_i32_34 : BitVec 32 := 1#32
  let v65 : BitVec 32 := Scalar.divsi v63 c1_i32_34
  let v66 : BitVec 32 := Scalar.muli v65 c1_i32_34
  let v67 : BitVec 32 := Scalar.addi c0_i32_33 v66
  let c1_i32_36 : BitVec 32 := 1#32
  let arg14 : BitVec 32 := Scf.iv v67 c1_i32_36 k0_t16
  let c2_i32 : BitVec 32 := 2#32
  let v135 : BitVec 32 := Scalar.subi arg1 c2_i32
  let v136 : BitVec 32 := Scalar.subi arg14 v135
  let v137 : BitVec 32 := Scalar.maxsi c0_i32_78 v136
  let v138 : BitVec 32 := Scalar.minsi c2_i32_79 v137
  let v151 : Index := Scalar.indexCast v138
  let c0_88 : Index := 0#32
  let c0_89 : Index := 0#32
  let c0_90 : Index := 0#32
  ![v151.toNat, 0, 0, 0]
def k0_off39 (i : grid0.Coords) (k0_t16 : Fin (k0_t16_loop i).trips) : Fin 3 → Nat :=
  let c0_102 : Index := 0#32
  let c0_103 : Index := 0#32
  let c0_i32_33 : BitVec 32 := 0#32
  let arg1 : BitVec 32 := BitVec.ofNat 32 (i 1).val
  let c1_i32 : BitVec 32 := 1#32
  let v0 : BitVec 32 := Scalar.addi arg1 c1_i32
  let v63 : BitVec 32 := Scalar.subi v0 c0_i32_33
  let c1_i32_34 : BitVec 32 := 1#32
  let v65 : BitVec 32 := Scalar.divsi v63 c1_i32_34
  let v66 : BitVec 32 := Scalar.muli v65 c1_i32_34
  let v67 : BitVec 32 := Scalar.addi c0_i32_33 v66
  let c1_i32_36 : BitVec 32 := 1#32
  let arg14 : BitVec 32 := Scf.iv v67 c1_i32_36 k0_t16
  let c256_i32_76 : BitVec 32 := 256#32
  let v129 : BitVec 32 := Scalar.muli arg14 c256_i32_76
  let v130 : BitVec 32 := v129
  let v177 : Index := Scalar.indexCast v130
  ![0, 0, v177.toNat]
def k0_off40 (i : grid0.Coords) (k0_t16 : Fin (k0_t16_loop i).trips) : Fin 4 → Nat :=
  let c2_i32_79 : BitVec 32 := 2#32
  let c0_i32_78 : BitVec 32 := 0#32
  let c0_i32_33 : BitVec 32 := 0#32
  let arg1 : BitVec 32 := BitVec.ofNat 32 (i 1).val
  let c1_i32 : BitVec 32 := 1#32
  let v0 : BitVec 32 := Scalar.addi arg1 c1_i32
  let v63 : BitVec 32 := Scalar.subi v0 c0_i32_33
  let c1_i32_34 : BitVec 32 := 1#32
  let v65 : BitVec 32 := Scalar.divsi v63 c1_i32_34
  let v66 : BitVec 32 := Scalar.muli v65 c1_i32_34
  let v67 : BitVec 32 := Scalar.addi c0_i32_33 v66
  let c1_i32_36 : BitVec 32 := 1#32
  let arg14 : BitVec 32 := Scf.iv v67 c1_i32_36 k0_t16
  let c2_i32 : BitVec 32 := 2#32
  let v135 : BitVec 32 := Scalar.subi arg1 c2_i32
  let v136 : BitVec 32 := Scalar.subi arg14 v135
  let v137 : BitVec 32 := Scalar.maxsi c0_i32_78 v136
  let v138 : BitVec 32 := Scalar.minsi c2_i32_79 v137
  let v201 : Index := Scalar.indexCast v138
  let c1_117 : Index := 1#32
  let c0_118 : Index := 0#32
  let c0_119 : Index := 0#32
  ![v201.toNat, 1, 0, 0]
def k0_off41 (i : grid0.Coords) (k0_t16 : Fin (k0_t16_loop i).trips) : Fin 3 → Nat :=
  let c0_131 : Index := 0#32
  let c64_132 : Index := 64#32
  let c0_i32_33 : BitVec 32 := 0#32
  let arg1 : BitVec 32 := BitVec.ofNat 32 (i 1).val
  let c1_i32 : BitVec 32 := 1#32
  let v0 : BitVec 32 := Scalar.addi arg1 c1_i32
  let v63 : BitVec 32 := Scalar.subi v0 c0_i32_33
  let c1_i32_34 : BitVec 32 := 1#32
  let v65 : BitVec 32 := Scalar.divsi v63 c1_i32_34
  let v66 : BitVec 32 := Scalar.muli v65 c1_i32_34
  let v67 : BitVec 32 := Scalar.addi c0_i32_33 v66
  let c1_i32_36 : BitVec 32 := 1#32
  let arg14 : BitVec 32 := Scf.iv v67 c1_i32_36 k0_t16
  let c256_i32_76 : BitVec 32 := 256#32
  let v129 : BitVec 32 := Scalar.muli arg14 c256_i32_76
  let v130 : BitVec 32 := v129
  let v227 : Index := Scalar.indexCast v130
  ![0, 64, v227.toNat]
def k0_off42 (i : grid0.Coords) (k0_t16 : Fin (k0_t16_loop i).trips) : Fin 3 → Nat :=
  let c0_138 : Index := 0#32
  let c0_i32_33 : BitVec 32 := 0#32
  let arg1 : BitVec 32 := BitVec.ofNat 32 (i 1).val
  let c1_i32 : BitVec 32 := 1#32
  let v0 : BitVec 32 := Scalar.addi arg1 c1_i32
  let v63 : BitVec 32 := Scalar.subi v0 c0_i32_33
  let c1_i32_34 : BitVec 32 := 1#32
  let v65 : BitVec 32 := Scalar.divsi v63 c1_i32_34
  let v66 : BitVec 32 := Scalar.muli v65 c1_i32_34
  let v67 : BitVec 32 := Scalar.addi c0_i32_33 v66
  let c1_i32_36 : BitVec 32 := 1#32
  let arg14 : BitVec 32 := Scf.iv v67 c1_i32_36 k0_t16
  let c256_i32_76 : BitVec 32 := 256#32
  let v129 : BitVec 32 := Scalar.muli arg14 c256_i32_76
  let v130 : BitVec 32 := v129
  let v239 : Index := Scalar.indexCast v130
  let c128_139 : Index := 128#32
  ![0, v239.toNat, 128]
def k0_off43 (i : grid0.Coords) (k0_t16 : Fin (k0_t16_loop i).trips) : Fin 4 → Nat :=
  let c2_i32_79 : BitVec 32 := 2#32
  let c0_i32_78 : BitVec 32 := 0#32
  let c0_i32_33 : BitVec 32 := 0#32
  let arg1 : BitVec 32 := BitVec.ofNat 32 (i 1).val
  let c1_i32 : BitVec 32 := 1#32
  let v0 : BitVec 32 := Scalar.addi arg1 c1_i32
  let v63 : BitVec 32 := Scalar.subi v0 c0_i32_33
  let c1_i32_34 : BitVec 32 := 1#32
  let v65 : BitVec 32 := Scalar.divsi v63 c1_i32_34
  let v66 : BitVec 32 := Scalar.muli v65 c1_i32_34
  let v67 : BitVec 32 := Scalar.addi c0_i32_33 v66
  let c1_i32_36 : BitVec 32 := 1#32
  let arg14 : BitVec 32 := Scf.iv v67 c1_i32_36 k0_t16
  let c2_i32 : BitVec 32 := 2#32
  let v135 : BitVec 32 := Scalar.subi arg1 c2_i32
  let v136 : BitVec 32 := Scalar.subi arg14 v135
  let v137 : BitVec 32 := Scalar.maxsi c0_i32_78 v136
  let v138 : BitVec 32 := Scalar.minsi c2_i32_79 v137
  let v251 : Index := Scalar.indexCast v138
  let c2_147 : Index := 2#32
  let c0_148 : Index := 0#32
  let c0_149 : Index := 0#32
  ![v251.toNat, 2, 0, 0]
def k0_off44 (i : grid0.Coords) (k0_t16 : Fin (k0_t16_loop i).trips) : Fin 3 → Nat :=
  let c0_161 : Index := 0#32
  let c128_162 : Index := 128#32
  let c0_i32_33 : BitVec 32 := 0#32
  let arg1 : BitVec 32 := BitVec.ofNat 32 (i 1).val
  let c1_i32 : BitVec 32 := 1#32
  let v0 : BitVec 32 := Scalar.addi arg1 c1_i32
  let v63 : BitVec 32 := Scalar.subi v0 c0_i32_33
  let c1_i32_34 : BitVec 32 := 1#32
  let v65 : BitVec 32 := Scalar.divsi v63 c1_i32_34
  let v66 : BitVec 32 := Scalar.muli v65 c1_i32_34
  let v67 : BitVec 32 := Scalar.addi c0_i32_33 v66
  let c1_i32_36 : BitVec 32 := 1#32
  let arg14 : BitVec 32 := Scf.iv v67 c1_i32_36 k0_t16
  let c256_i32_76 : BitVec 32 := 256#32
  let v129 : BitVec 32 := Scalar.muli arg14 c256_i32_76
  let v130 : BitVec 32 := v129
  let v277 : Index := Scalar.indexCast v130
  ![0, 128, v277.toNat]
def k0_off45 (i : grid0.Coords) (k0_t16 : Fin (k0_t16_loop i).trips) : Fin 4 → Nat :=
  let c2_i32_79 : BitVec 32 := 2#32
  let c0_i32_78 : BitVec 32 := 0#32
  let c0_i32_33 : BitVec 32 := 0#32
  let arg1 : BitVec 32 := BitVec.ofNat 32 (i 1).val
  let c1_i32 : BitVec 32 := 1#32
  let v0 : BitVec 32 := Scalar.addi arg1 c1_i32
  let v63 : BitVec 32 := Scalar.subi v0 c0_i32_33
  let c1_i32_34 : BitVec 32 := 1#32
  let v65 : BitVec 32 := Scalar.divsi v63 c1_i32_34
  let v66 : BitVec 32 := Scalar.muli v65 c1_i32_34
  let v67 : BitVec 32 := Scalar.addi c0_i32_33 v66
  let c1_i32_36 : BitVec 32 := 1#32
  let arg14 : BitVec 32 := Scf.iv v67 c1_i32_36 k0_t16
  let c2_i32 : BitVec 32 := 2#32
  let v135 : BitVec 32 := Scalar.subi arg1 c2_i32
  let v136 : BitVec 32 := Scalar.subi arg14 v135
  let v137 : BitVec 32 := Scalar.maxsi c0_i32_78 v136
  let v138 : BitVec 32 := Scalar.minsi c2_i32_79 v137
  let v301 : Index := Scalar.indexCast v138
  let c3_177 : Index := 3#32
  let c0_178 : Index := 0#32
  let c0_179 : Index := 0#32
  ![v301.toNat, 3, 0, 0]
def k0_off46 (i : grid0.Coords) (k0_t16 : Fin (k0_t16_loop i).trips) : Fin 3 → Nat :=
  let c0_191 : Index := 0#32
  let c192_192 : Index := 192#32
  let c0_i32_33 : BitVec 32 := 0#32
  let arg1 : BitVec 32 := BitVec.ofNat 32 (i 1).val
  let c1_i32 : BitVec 32 := 1#32
  let v0 : BitVec 32 := Scalar.addi arg1 c1_i32
  let v63 : BitVec 32 := Scalar.subi v0 c0_i32_33
  let c1_i32_34 : BitVec 32 := 1#32
  let v65 : BitVec 32 := Scalar.divsi v63 c1_i32_34
  let v66 : BitVec 32 := Scalar.muli v65 c1_i32_34
  let v67 : BitVec 32 := Scalar.addi c0_i32_33 v66
  let c1_i32_36 : BitVec 32 := 1#32
  let arg14 : BitVec 32 := Scf.iv v67 c1_i32_36 k0_t16
  let c256_i32_76 : BitVec 32 := 256#32
  let v129 : BitVec 32 := Scalar.muli arg14 c256_i32_76
  let v130 : BitVec 32 := v129
  let v327 : Index := Scalar.indexCast v130
  ![0, 192, v327.toNat]
def k0_off47 (i : grid0.Coords) (k0_t16 : Fin (k0_t16_loop i).trips) : Fin 3 → Nat :=
  let c0_198 : Index := 0#32
  let c0_i32_33 : BitVec 32 := 0#32
  let arg1 : BitVec 32 := BitVec.ofNat 32 (i 1).val
  let c1_i32 : BitVec 32 := 1#32
  let v0 : BitVec 32 := Scalar.addi arg1 c1_i32
  let v63 : BitVec 32 := Scalar.subi v0 c0_i32_33
  let c1_i32_34 : BitVec 32 := 1#32
  let v65 : BitVec 32 := Scalar.divsi v63 c1_i32_34
  let v66 : BitVec 32 := Scalar.muli v65 c1_i32_34
  let v67 : BitVec 32 := Scalar.addi c0_i32_33 v66
  let c1_i32_36 : BitVec 32 := 1#32
  let arg14 : BitVec 32 := Scf.iv v67 c1_i32_36 k0_t16
  let c256_i32_76 : BitVec 32 := 256#32
  let v129 : BitVec 32 := Scalar.muli arg14 c256_i32_76
  let v130 : BitVec 32 := v129
  let v339 : Index := Scalar.indexCast v130
  let c256_199 : Index := 256#32
  ![0, v339.toNat, 256]
def k0_off48 (i : grid0.Coords) (k0_t16 : Fin (k0_t16_loop i).trips) : Fin 4 → Nat :=
  let c2_i32_79 : BitVec 32 := 2#32
  let c0_i32_78 : BitVec 32 := 0#32
  let c0_i32_33 : BitVec 32 := 0#32
  let arg1 : BitVec 32 := BitVec.ofNat 32 (i 1).val
  let c1_i32 : BitVec 32 := 1#32
  let v0 : BitVec 32 := Scalar.addi arg1 c1_i32
  let v63 : BitVec 32 := Scalar.subi v0 c0_i32_33
  let c1_i32_34 : BitVec 32 := 1#32
  let v65 : BitVec 32 := Scalar.divsi v63 c1_i32_34
  let v66 : BitVec 32 := Scalar.muli v65 c1_i32_34
  let v67 : BitVec 32 := Scalar.addi c0_i32_33 v66
  let c1_i32_36 : BitVec 32 := 1#32
  let arg14 : BitVec 32 := Scf.iv v67 c1_i32_36 k0_t16
  let c2_i32 : BitVec 32 := 2#32
  let v135 : BitVec 32 := Scalar.subi arg1 c2_i32
  let v136 : BitVec 32 := Scalar.subi arg14 v135
  let v137 : BitVec 32 := Scalar.maxsi c0_i32_78 v136
  let v138 : BitVec 32 := Scalar.minsi c2_i32_79 v137
  let v351 : Index := Scalar.indexCast v138
  let c4_207 : Index := 4#32
  let c0_208 : Index := 0#32
  let c0_209 : Index := 0#32
  ![v351.toNat, 4, 0, 0]
def k0_off49 (i : grid0.Coords) (k0_t16 : Fin (k0_t16_loop i).trips) : Fin 3 → Nat :=
  let c0_221 : Index := 0#32
  let c256_222 : Index := 256#32
  let c0_i32_33 : BitVec 32 := 0#32
  let arg1 : BitVec 32 := BitVec.ofNat 32 (i 1).val
  let c1_i32 : BitVec 32 := 1#32
  let v0 : BitVec 32 := Scalar.addi arg1 c1_i32
  let v63 : BitVec 32 := Scalar.subi v0 c0_i32_33
  let c1_i32_34 : BitVec 32 := 1#32
  let v65 : BitVec 32 := Scalar.divsi v63 c1_i32_34
  let v66 : BitVec 32 := Scalar.muli v65 c1_i32_34
  let v67 : BitVec 32 := Scalar.addi c0_i32_33 v66
  let c1_i32_36 : BitVec 32 := 1#32
  let arg14 : BitVec 32 := Scf.iv v67 c1_i32_36 k0_t16
  let c256_i32_76 : BitVec 32 := 256#32
  let v129 : BitVec 32 := Scalar.muli arg14 c256_i32_76
  let v130 : BitVec 32 := v129
  let v377 : Index := Scalar.indexCast v130
  ![0, 256, v377.toNat]
def k0_off50 (i : grid0.Coords) (k0_t16 : Fin (k0_t16_loop i).trips) : Fin 4 → Nat :=
  let c2_i32_79 : BitVec 32 := 2#32
  let c0_i32_78 : BitVec 32 := 0#32
  let c0_i32_33 : BitVec 32 := 0#32
  let arg1 : BitVec 32 := BitVec.ofNat 32 (i 1).val
  let c1_i32 : BitVec 32 := 1#32
  let v0 : BitVec 32 := Scalar.addi arg1 c1_i32
  let v63 : BitVec 32 := Scalar.subi v0 c0_i32_33
  let c1_i32_34 : BitVec 32 := 1#32
  let v65 : BitVec 32 := Scalar.divsi v63 c1_i32_34
  let v66 : BitVec 32 := Scalar.muli v65 c1_i32_34
  let v67 : BitVec 32 := Scalar.addi c0_i32_33 v66
  let c1_i32_36 : BitVec 32 := 1#32
  let arg14 : BitVec 32 := Scf.iv v67 c1_i32_36 k0_t16
  let c2_i32 : BitVec 32 := 2#32
  let v135 : BitVec 32 := Scalar.subi arg1 c2_i32
  let v136 : BitVec 32 := Scalar.subi arg14 v135
  let v137 : BitVec 32 := Scalar.maxsi c0_i32_78 v136
  let v138 : BitVec 32 := Scalar.minsi c2_i32_79 v137
  let v401 : Index := Scalar.indexCast v138
  let c5_237 : Index := 5#32
  let c0_238 : Index := 0#32
  let c0_239 : Index := 0#32
  ![v401.toNat, 5, 0, 0]
def k0_off51 (i : grid0.Coords) (k0_t16 : Fin (k0_t16_loop i).trips) : Fin 3 → Nat :=
  let c0_251 : Index := 0#32
  let c320_252 : Index := 320#32
  let c0_i32_33 : BitVec 32 := 0#32
  let arg1 : BitVec 32 := BitVec.ofNat 32 (i 1).val
  let c1_i32 : BitVec 32 := 1#32
  let v0 : BitVec 32 := Scalar.addi arg1 c1_i32
  let v63 : BitVec 32 := Scalar.subi v0 c0_i32_33
  let c1_i32_34 : BitVec 32 := 1#32
  let v65 : BitVec 32 := Scalar.divsi v63 c1_i32_34
  let v66 : BitVec 32 := Scalar.muli v65 c1_i32_34
  let v67 : BitVec 32 := Scalar.addi c0_i32_33 v66
  let c1_i32_36 : BitVec 32 := 1#32
  let arg14 : BitVec 32 := Scf.iv v67 c1_i32_36 k0_t16
  let c256_i32_76 : BitVec 32 := 256#32
  let v129 : BitVec 32 := Scalar.muli arg14 c256_i32_76
  let v130 : BitVec 32 := v129
  let v427 : Index := Scalar.indexCast v130
  ![0, 320, v427.toNat]
def k0_off52 (i : grid0.Coords) (k0_t16 : Fin (k0_t16_loop i).trips) : Fin 3 → Nat :=
  let c0_258 : Index := 0#32
  let c0_i32_33 : BitVec 32 := 0#32
  let arg1 : BitVec 32 := BitVec.ofNat 32 (i 1).val
  let c1_i32 : BitVec 32 := 1#32
  let v0 : BitVec 32 := Scalar.addi arg1 c1_i32
  let v63 : BitVec 32 := Scalar.subi v0 c0_i32_33
  let c1_i32_34 : BitVec 32 := 1#32
  let v65 : BitVec 32 := Scalar.divsi v63 c1_i32_34
  let v66 : BitVec 32 := Scalar.muli v65 c1_i32_34
  let v67 : BitVec 32 := Scalar.addi c0_i32_33 v66
  let c1_i32_36 : BitVec 32 := 1#32
  let arg14 : BitVec 32 := Scf.iv v67 c1_i32_36 k0_t16
  let c256_i32_76 : BitVec 32 := 256#32
  let v129 : BitVec 32 := Scalar.muli arg14 c256_i32_76
  let v130 : BitVec 32 := v129
  let v439 : Index := Scalar.indexCast v130
  let c384_259 : Index := 384#32
  ![0, v439.toNat, 384]
def k0_off53 (i : grid0.Coords) (k0_t16 : Fin (k0_t16_loop i).trips) : Fin 4 → Nat :=
  let c2_i32_79 : BitVec 32 := 2#32
  let c0_i32_78 : BitVec 32 := 0#32
  let c0_i32_33 : BitVec 32 := 0#32
  let arg1 : BitVec 32 := BitVec.ofNat 32 (i 1).val
  let c1_i32 : BitVec 32 := 1#32
  let v0 : BitVec 32 := Scalar.addi arg1 c1_i32
  let v63 : BitVec 32 := Scalar.subi v0 c0_i32_33
  let c1_i32_34 : BitVec 32 := 1#32
  let v65 : BitVec 32 := Scalar.divsi v63 c1_i32_34
  let v66 : BitVec 32 := Scalar.muli v65 c1_i32_34
  let v67 : BitVec 32 := Scalar.addi c0_i32_33 v66
  let c1_i32_36 : BitVec 32 := 1#32
  let arg14 : BitVec 32 := Scf.iv v67 c1_i32_36 k0_t16
  let c2_i32 : BitVec 32 := 2#32
  let v135 : BitVec 32 := Scalar.subi arg1 c2_i32
  let v136 : BitVec 32 := Scalar.subi arg14 v135
  let v137 : BitVec 32 := Scalar.maxsi c0_i32_78 v136
  let v138 : BitVec 32 := Scalar.minsi c2_i32_79 v137
  let v451 : Index := Scalar.indexCast v138
  let c6_267 : Index := 6#32
  let c0_268 : Index := 0#32
  let c0_269 : Index := 0#32
  ![v451.toNat, 6, 0, 0]
def k0_off54 (i : grid0.Coords) (k0_t16 : Fin (k0_t16_loop i).trips) : Fin 3 → Nat :=
  let c0_281 : Index := 0#32
  let c384_282 : Index := 384#32
  let c0_i32_33 : BitVec 32 := 0#32
  let arg1 : BitVec 32 := BitVec.ofNat 32 (i 1).val
  let c1_i32 : BitVec 32 := 1#32
  let v0 : BitVec 32 := Scalar.addi arg1 c1_i32
  let v63 : BitVec 32 := Scalar.subi v0 c0_i32_33
  let c1_i32_34 : BitVec 32 := 1#32
  let v65 : BitVec 32 := Scalar.divsi v63 c1_i32_34
  let v66 : BitVec 32 := Scalar.muli v65 c1_i32_34
  let v67 : BitVec 32 := Scalar.addi c0_i32_33 v66
  let c1_i32_36 : BitVec 32 := 1#32
  let arg14 : BitVec 32 := Scf.iv v67 c1_i32_36 k0_t16
  let c256_i32_76 : BitVec 32 := 256#32
  let v129 : BitVec 32 := Scalar.muli arg14 c256_i32_76
  let v130 : BitVec 32 := v129
  let v477 : Index := Scalar.indexCast v130
  ![0, 384, v477.toNat]
def k0_off55 (i : grid0.Coords) (k0_t16 : Fin (k0_t16_loop i).trips) : Fin 4 → Nat :=
  let c2_i32_79 : BitVec 32 := 2#32
  let c0_i32_78 : BitVec 32 := 0#32
  let c0_i32_33 : BitVec 32 := 0#32
  let arg1 : BitVec 32 := BitVec.ofNat 32 (i 1).val
  let c1_i32 : BitVec 32 := 1#32
  let v0 : BitVec 32 := Scalar.addi arg1 c1_i32
  let v63 : BitVec 32 := Scalar.subi v0 c0_i32_33
  let c1_i32_34 : BitVec 32 := 1#32
  let v65 : BitVec 32 := Scalar.divsi v63 c1_i32_34
  let v66 : BitVec 32 := Scalar.muli v65 c1_i32_34
  let v67 : BitVec 32 := Scalar.addi c0_i32_33 v66
  let c1_i32_36 : BitVec 32 := 1#32
  let arg14 : BitVec 32 := Scf.iv v67 c1_i32_36 k0_t16
  let c2_i32 : BitVec 32 := 2#32
  let v135 : BitVec 32 := Scalar.subi arg1 c2_i32
  let v136 : BitVec 32 := Scalar.subi arg14 v135
  let v137 : BitVec 32 := Scalar.maxsi c0_i32_78 v136
  let v138 : BitVec 32 := Scalar.minsi c2_i32_79 v137
  let v501 : Index := Scalar.indexCast v138
  let c7_297 : Index := 7#32
  let c0_298 : Index := 0#32
  let c0_299 : Index := 0#32
  ![v501.toNat, 7, 0, 0]
def k0_off56 (i : grid0.Coords) (k0_t16 : Fin (k0_t16_loop i).trips) : Fin 3 → Nat :=
  let c0_311 : Index := 0#32
  let c448_312 : Index := 448#32
  let c0_i32_33 : BitVec 32 := 0#32
  let arg1 : BitVec 32 := BitVec.ofNat 32 (i 1).val
  let c1_i32 : BitVec 32 := 1#32
  let v0 : BitVec 32 := Scalar.addi arg1 c1_i32
  let v63 : BitVec 32 := Scalar.subi v0 c0_i32_33
  let c1_i32_34 : BitVec 32 := 1#32
  let v65 : BitVec 32 := Scalar.divsi v63 c1_i32_34
  let v66 : BitVec 32 := Scalar.muli v65 c1_i32_34
  let v67 : BitVec 32 := Scalar.addi c0_i32_33 v66
  let c1_i32_36 : BitVec 32 := 1#32
  let arg14 : BitVec 32 := Scf.iv v67 c1_i32_36 k0_t16
  let c256_i32_76 : BitVec 32 := 256#32
  let v129 : BitVec 32 := Scalar.muli arg14 c256_i32_76
  let v130 : BitVec 32 := v129
  let v527 : Index := Scalar.indexCast v130
  ![0, 448, v527.toNat]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x8x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x4096x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x512x4096 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x4096x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 1 → Memref sig .tc .vmem S3x8x256x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S1x256x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== Proof.MoeTab.lean ====
/-
  The call's run at ANY admissible contents of its two prefetched tables: one point of the grid leaves in the
  output's staging buffer the block `outBlk` of the blocks it was handed (zeros past the last used block), and the
  whole launch ends with every array at the contents the pipeline computes from those.
-/
module

public import proofs.«01_k».proof.Defs
public import proofs.«01_k».proof.Proof.Gen.Moe
public import proofs.«01_k».proof.Proof.Gen.Moe.Skeleton
public import proofs.«01_k».proof.Proof.Gen.Moe.Launch
public import proofs.«01_k».proof.Proof.Gen.Pre_experts_in_range
public import Idealize.ShloMosaic.Lib.Pipeline.Kit
public import Idealize.ShloMosaic.Lib.Pipeline.TableIdle
public import Idealize.ShloMosaic.Lib.Pipeline.FrameBody
public import Idealize.ShloMosaic.Lib.Pipeline.Quiescent
public import Idealize.ShloMosaic.Lib.Writes
public import Idealize.ShloMosaic.Lib.VecWindow
public import Idealize.ShloMosaic.Lib.Ring
public import Idealize.ShloMosaic.Lib.Exec
public import Idealize.ShloMosaic.Lib.Affine
public import Idealize.ShloMosaic.Lib.Tactic
public import Idealize.ShloMosaic.PureOps.BitExact
public import Idealize.ShloMosaic.Adequacy
public import Idealize.ShloMosaic.Init

@[expose] public section

set_option maxRecDepth 16384

noncomputable section

namespace Cert.Moe.Tab

open Cert.Moe Cert.Moe.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

local notation "𝕄" => MT nD τ sig Unit (Elt Bits) ℕ (UR sig nD τ) ℕ

/-- The proof's resource algebra: the rounds library's, for the pipeline's staging cells. -/
abbrev EP : Emb (UR sig nD τ) 𝕄 := emb₁

/-- The two tables, whole. -/
abbrev tb0 : Memref sig .tc .smem S288 .i32 := Memref.whole main_arg0
abbrev tb1 : Memref sig .tc .smem S1 .i32 := Memref.whole main_arg1

/-! ## The branch conditions -/

/-- The word the body reads from the second table: the number of used blocks. -/
def nbWord (T1 : S1.Idx → Elt Bits .i32) : BitVec 32 := T1 (Shape.Idx.first (numel1_S1.symm ▸ Nat.one_pos))

/-- Every index of the one-word table is its first. -/
theorem idx_S1 (x y : S1.Idx) : x = y := by
  have h1 : ∀ a : Fin 1, S1.size a = 1 := by decide
  exact funext fun a => Fin.ext ((Nat.lt_one_iff.mp ((x a).isLt.trans_eq (h1 a))).trans (Nat.lt_one_iff.mp ((y a).isLt.trans_eq (h1 a))).symm)

/-- The word read from the second table, as the body reads it. -/
theorem read_nb (T1 : S1.Idx → Elt Bits .i32) :
    View.readAt (Elt Bits) (tb1).view (Rect.unit (s := S1) ![0] S1.size inb_S1_S1_0).toLoadRect T1 (Shape.Idx.first (numel1_S1.symm ▸ Nat.one_pos)) = nbWord T1 := by
  exact congrArg T1 (idx_S1 _ _)

/-- The first branch is taken where the block number is below the word, as signed integers. -/
theorem cond1_iff (i : grid0.Coords) (w : BitVec 32) : k0_cond1 i w = 1#1 ↔ (BitVec.ofNat 32 (i 0).val).slt w = true := by
  show BitVec.ofBool ((BitVec.ofBool ((BitVec.ofNat 32 (i 0).val).slt w)).setWidth 32 != 0#32) = 1#1 ↔ _
  generalize (BitVec.ofNat 32 (i 0).val).slt w = b
  cases b <;> decide

/-- The second branch is taken exactly where the first is not. -/
theorem cond2_iff (i : grid0.Coords) (w : BitVec 32) : k0_cond2 i w = 1#1 ↔ ¬ k0_cond1 i w = 1#1 := by
  rw [cond1_iff]
  show BitVec.ofBool ((BitVec.ofBool (w.sle (BitVec.ofNat 32 (i 0).val))).setWidth 32 != 0#32) = 1#1 ↔ _
  rw [BitVec.sle_eq_not_slt]
  generalize (BitVec.ofNat 32 (i 0).val).slt w = b
  cases b <;> decide

/-- What a point leaves in the output's staging buffer: the experts' block where it is a used one, zeros past them. -/
def outBlk (i : grid0.Coords) (T1 : S1.Idx → Elt Bits .i32) (x0 : S512x1024.Idx → Elt Bits .bf16) (x1 : S512x1.Idx → Elt Bits .f32) (x2 : S1x1024x2048.Idx → Elt Bits .bf16) (x3 : S1x1x2048.Idx → Elt Bits .f32) (x4 : S1x1024x1024.Idx → Elt Bits .bf16) (x5 : S1x1x1024.Idx → Elt Bits .f32) : S512x1024.Idx → Elt Bits .f32 :=
  if k0_cond1 i (nbWord T1) = 1#1 then k0_pay2 (F := Bits) x0 x2 x3 x4 x5 x1 else k0_pay1 (F := Bits)

set_option maxHeartbeats 8000000 in
/-- A point past the used blocks: the body stores zeros. -/
theorem run_zero (c : Dev nD) (i : grid0.Coords) (arg3 : Memref sig .tc .vmem S512x1024 .bf16) (harg3 : arg3.IsWhole) (arg4 : Memref sig .tc .vmem S512x1 .f32) (harg4 : arg4.IsWhole) (arg5 : Memref sig .tc .vmem S1x1024x2048 .bf16) (harg5 : arg5.IsWhole) (arg6 : Memref sig .tc .vmem S1x1x2048 .f32) (harg6 : arg6.IsWhole) (arg7 : Memref sig .tc .vmem S1x1024x1024 .bf16) (harg7 : arg7.IsWhole) (arg8 : Memref sig .tc .vmem S1x1x1024 .f32) (harg8 : arg8.IsWhole) (arg9 : Memref sig .tc .vmem S512x1024 .f32) (harg9 : arg9.IsWhole) (T0 : S288.Idx → Elt Bits .i32) (T1 : S1.Idx → Elt Bits .i32)
    (x0 : S512x1024.Idx → Elt Bits .bf16) (x1 : S512x1.Idx → Elt Bits .f32) (x2 : S1x1024x2048.Idx → Elt Bits .bf16) (x3 : S1x1x2048.Idx → Elt Bits .f32) (x4 : S1x1024x1024.Idx → Elt Bits .bf16) (x5 : S1x1x1024.Idx → Elt Bits .f32)
    (h1 : ¬(k0_cond1 i (View.readAt (Elt Bits) (tb1).view (Rect.unit (s := S1) ![0] S1.size inb_S1_S1_0).toLoadRect T1 (Shape.Idx.first (numel1_S1.symm ▸ Nat.one_pos))) = 1#1)) (h2 : k0_cond2 i (View.readAt (Elt Bits) (tb1).view (Rect.unit (s := S1) ![0] S1.size inb_S1_S1_0).toLoadRect T1 (Shape.Idx.first (numel1_S1.symm ▸ Nat.one_pos))) = 1#1) (K : PUnit → sProp 𝕄) :
    iprop(emp
      ∗ (arg3.view.loc (c : Thread nD τ) ↦[arg3.view.set]{fullShare} arg3.view.rep x0)
      ∗ (arg4.view.loc (c : Thread nD τ) ↦[arg4.view.set]{fullShare} arg4.view.rep x1)
      ∗ (arg5.view.loc (c : Thread nD τ) ↦[arg5.view.set]{fullShare} arg5.view.rep x2)
      ∗ (arg6.view.loc (c : Thread nD τ) ↦[arg6.view.set]{fullShare} arg6.view.rep x3)
      ∗ (arg7.view.loc (c : Thread nD τ) ↦[arg7.view.set]{fullShare} arg7.view.rep x4)
      ∗ (arg8.view.loc (c : Thread nD τ) ↦[arg8.view.set]{fullShare} arg8.view.rep x5)
      ∗ (tb0.view.loc (c : Thread nD τ) ↦{fullShare.right} T0)
      ∗ (tb1.view.loc (c : Thread nD τ) ↦{fullShare.right} T1)
      ∗ (∃ d, owns (c : Thread nD τ) arg9 fullShare d)
      ∗ (iprop(emp
          ∗ (arg3.view.loc (c : Thread nD τ) ↦[arg3.view.set]{fullShare} arg3.view.rep x0)
          ∗ (arg4.view.loc (c : Thread nD τ) ↦[arg4.view.set]{fullShare} arg4.view.rep x1)
          ∗ (arg5.view.loc (c : Thread nD τ) ↦[arg5.view.set]{fullShare} arg5.view.rep x2)
          ∗ (arg6.view.loc (c : Thread nD τ) ↦[arg6.view.set]{fullShare} arg6.view.rep x3)
          ∗ (arg7.view.loc (c : Thread nD τ) ↦[arg7.view.set]{fullShare} arg7.view.rep x4)
          ∗ (arg8.view.loc (c : Thread nD τ) ↦[arg8.view.set]{fullShare} arg8.view.rep x5)
          ∗ (tb0.view.loc (c : Thread nD τ) ↦{fullShare.right} T0)
          ∗ (tb1.view.loc (c : Thread nD τ) ↦{fullShare.right} T1)
          ∗ owns (c : Thread nD τ) arg9 fullShare (k0_pay1 (F := Bits))) -∗ K ⟨⟩))
      ⊢ wp frame (wpE (defs₀ (F := Bits)) Variants.none c none) Set.univ (cc0_moe_ffn i tb0 (Memref.isWhole_whole _) tb1 (Memref.isWhole_whole _) arg3 harg3 arg4 harg4 arg5 harg5 arg6 harg6 arg7 harg7 arg8 harg8 arg9 harg9) K := by
    unfold owns
    rw [cc0_moe_ffn_eq_skeleton]; unfold cc0_moe_ffn_skel
    iintro ⟨-, H0, H1, H2, H3, H4, H5, HT0, HT1, ⟨%d6, %f6, -, HO6⟩, Hk⟩
    have hT0 : tb0.IsWhole := Memref.isWhole_whole _
    have hT1 : tb1.IsWhole := Memref.isWhole_whole _
    sl_exec! (disch := first | (guard_target = ¬(k0_cond1 _ _ = _); exact h1) | (guard_target = k0_cond2 _ _ = _; exact h2))
    sl_step
    iapply Hk
    isplitr; · iempintro
    isplitl [H0]; · iexact H0
    isplitl [H1]; · iexact H1
    isplitl [H2]; · iexact H2
    isplitl [H3]; · iexact H3
    isplitl [H4]; · iexact H4
    isplitl [H5]; · iexact H5
    isplitl [HT0]; · iexact HT0
    isplitl [HT1]; · iexact HT1
    iexists _; isplitr; swap
    · iexact HO6
    · ipureintro
      sl_unfold_words
      rw [View.read_writes_full]
set_option maxHeartbeats 8000000 in
/-- A used block: the body stores the experts' block. -/
theorem run_used (c : Dev nD) (i : grid0.Coords) (arg3 : Memref sig .tc .vmem S512x1024 .bf16) (harg3 : arg3.IsWhole) (arg4 : Memref sig .tc .vmem S512x1 .f32) (harg4 : arg4.IsWhole) (arg5 : Memref sig .tc .vmem S1x1024x2048 .bf16) (harg5 : arg5.IsWhole) (arg6 : Memref sig .tc .vmem S1x1x2048 .f32) (harg6 : arg6.IsWhole) (arg7 : Memref sig .tc .vmem S1x1024x1024 .bf16) (harg7 : arg7.IsWhole) (arg8 : Memref sig .tc .vmem S1x1x1024 .f32) (harg8 : arg8.IsWhole) (arg9 : Memref sig .tc .vmem S512x1024 .f32) (harg9 : arg9.IsWhole) (T0 : S288.Idx → Elt Bits .i32) (T1 : S1.Idx → Elt Bits .i32)
    (x0 : S512x1024.Idx → Elt Bits .bf16) (x1 : S512x1.Idx → Elt Bits .f32) (x2 : S1x1024x2048.Idx → Elt Bits .bf16) (x3 : S1x1x2048.Idx → Elt Bits .f32) (x4 : S1x1024x1024.Idx → Elt Bits .bf16) (x5 : S1x1x1024.Idx → Elt Bits .f32)
    (h1 : k0_cond1 i (View.readAt (Elt Bits) (tb1).view (Rect.unit (s := S1) ![0] S1.size inb_S1_S1_0).toLoadRect T1 (Shape.Idx.first (numel1_S1.symm ▸ Nat.one_pos))) = 1#1) (h2 : ¬(k0_cond2 i (View.readAt (Elt Bits) (tb1).view (Rect.unit (s := S1) ![0] S1.size inb_S1_S1_0).toLoadRect T1 (Shape.Idx.first (numel1_S1.symm ▸ Nat.one_pos))) = 1#1)) (K : PUnit → sProp 𝕄) :
    iprop(emp
      ∗ (arg3.view.loc (c : Thread nD τ) ↦[arg3.view.set]{fullShare} arg3.view.rep x0)
      ∗ (arg4.view.loc (c : Thread nD τ) ↦[arg4.view.set]{fullShare} arg4.view.rep x1)
      ∗ (arg5.view.loc (c : Thread nD τ) ↦[arg5.view.set]{fullShare} arg5.view.rep x2)
      ∗ (arg6.view.loc (c : Thread nD τ) ↦[arg6.view.set]{fullShare} arg6.view.rep x3)
      ∗ (arg7.view.loc (c : Thread nD τ) ↦[arg7.view.set]{fullShare} arg7.view.rep x4)
      ∗ (arg8.view.loc (c : Thread nD τ) ↦[arg8.view.set]{fullShare} arg8.view.rep x5)
      ∗ (tb0.view.loc (c : Thread nD τ) ↦{fullShare.right} T0)
      ∗ (tb1.view.loc (c : Thread nD τ) ↦{fullShare.right} T1)
      ∗ (∃ d, owns (c : Thread nD τ) arg9 fullShare d)
      ∗ (iprop(emp
          ∗ (arg3.view.loc (c : Thread nD τ) ↦[arg3.view.set]{fullShare} arg3.view.rep x0)
          ∗ (arg4.view.loc (c : Thread nD τ) ↦[arg4.view.set]{fullShare} arg4.view.rep x1)
          ∗ (arg5.view.loc (c : Thread nD τ) ↦[arg5.view.set]{fullShare} arg5.view.rep x2)
          ∗ (arg6.view.loc (c : Thread nD τ) ↦[arg6.view.set]{fullShare} arg6.view.rep x3)
          ∗ (arg7.view.loc (c : Thread nD τ) ↦[arg7.view.set]{fullShare} arg7.view.rep x4)
          ∗ (arg8.view.loc (c : Thread nD τ) ↦[arg8.view.set]{fullShare} arg8.view.rep x5)
          ∗ (tb0.view.loc (c : Thread nD τ) ↦{fullShare.right} T0)
          ∗ (tb1.view.loc (c : Thread nD τ) ↦{fullShare.right} T1)
          ∗ owns (c : Thread nD τ) arg9 fullShare (k0_pay2 (F := Bits) x0 x2 x3 x4 x5 x1)) -∗ K ⟨⟩))
      ⊢ wp frame (wpE (defs₀ (F := Bits)) Variants.none c none) Set.univ (cc0_moe_ffn i tb0 (Memref.isWhole_whole _) tb1 (Memref.isWhole_whole _) arg3 harg3 arg4 harg4 arg5 harg5 arg6 harg6 arg7 harg7 arg8 harg8 arg9 harg9) K := by
    unfold owns
    rw [cc0_moe_ffn_eq_skeleton]; unfold cc0_moe_ffn_skel
    iintro ⟨-, H0, H1, H2, H3, H4, H5, HT0, HT1, ⟨%d6, %f6, -, HO6⟩, Hk⟩
    have hT0 : tb0.IsWhole := Memref.isWhole_whole _
    have hT1 : tb1.IsWhole := Memref.isWhole_whole _
    sl_exec! (disch := first | (guard_target = k0_cond1 _ _ = _; exact h1) | (guard_target = ¬(k0_cond2 _ _ = _); exact h2))
    sl_step
    iapply Hk
    isplitr; · iempintro
    isplitl [H0]; · iexact H0
    isplitl [H1]; · iexact H1
    isplitl [H2]; · iexact H2
    isplitl [H3]; · iexact H3
    isplitl [H4]; · iexact H4
    isplitl [H5]; · iexact H5
    isplitl [HT0]; · iexact HT0
    isplitl [HT1]; · iexact HT1
    iexists _; isplitr; swap
    · iexact HO6
    · ipureintro
      sl_unfold_words
      rw [View.read_writes_full]
      exact congr (congr (congr (congr (congr (congrArg k0_pay2 (View.readAt_rep_full _ _ _)) (View.readAt_rep_full _ _ _)) (View.readAt_rep_full _ _ _)) (View.readAt_rep_full _ _ _)) (View.readAt_rep_full _ _ _)) (View.readAt_rep_full _ _ _)

variable (a : (pcfg0 (F := Bits)).Adm)
variable (m : (ℓ : Loc nD τ sig) → Buf (Elt Bits) ℓ) (ρ : Dev nD → PrngReg)

/-- The two tables' contents, at their literal types. -/
abbrev t0 : S288.Idx → Elt Bits .i32 := a.1 0
abbrev t1 : S1.Idx → Elt Bits .i32 := a.1 1

/-- The pipeline at the tables' contents. -/
abbrev cfgA : Pipeline.Cfg sig Λ₀ := cfg0 (F := Bits) a
abbrev pcs : Fin 1 → Pipeline.Cfg sig Λ₀ := Pipeline.pin (pcfgs (F := Bits)) fun _ => a

/-- Point `t`'s coordinates. -/
abbrev crd (t : Fin (cfgA a).N) : (cfgA a).grid.Coords := (cfgA a).grid.coords t

/-- Each window's current staging memref at point `t`, and its wholeness. -/
abbrev ms0_0 (t : Fin (cfgA a).N) : Memref sig .tc .vmem S512x1024 .bf16 := spec0_0.stage ((cfgA a).slots t (0 : Fin 7))
abbrev hs0_0 (t : Fin (cfgA a).N) : (ms0_0 a t).IsWhole := hstage0_0 (((cfgA a).slots t (0 : Fin 7)).cast nbuf0_0)
abbrev ms0_1 (t : Fin (cfgA a).N) : Memref sig .tc .vmem S512x1 .f32 := spec0_1.stage ((cfgA a).slots t (1 : Fin 7))
abbrev hs0_1 (t : Fin (cfgA a).N) : (ms0_1 a t).IsWhole := hstage0_1 (((cfgA a).slots t (1 : Fin 7)).cast nbuf0_1)
abbrev ms0_2 (t : Fin (cfgA a).N) : Memref sig .tc .vmem S1x1024x2048 .bf16 := spec0_2.stage ((cfgA a).slots t (2 : Fin 7))
abbrev hs0_2 (t : Fin (cfgA a).N) : (ms0_2 a t).IsWhole := hstage0_2 (((cfgA a).slots t (2 : Fin 7)).cast nbuf0_2)
abbrev ms0_3 (t : Fin (cfgA a).N) : Memref sig .tc .vmem S1x1x2048 .f32 := spec0_3.stage ((cfgA a).slots t (3 : Fin 7))
abbrev hs0_3 (t : Fin (cfgA a).N) : (ms0_3 a t).IsWhole := hstage0_3 (((cfgA a).slots t (3 : Fin 7)).cast nbuf0_3)
abbrev ms0_4 (t : Fin (cfgA a).N) : Memref sig .tc .vmem S1x1024x1024 .bf16 := spec0_4.stage ((cfgA a).slots t (4 : Fin 7))
abbrev hs0_4 (t : Fin (cfgA a).N) : (ms0_4 a t).IsWhole := hstage0_4 (((cfgA a).slots t (4 : Fin 7)).cast nbuf0_4)
abbrev ms0_5 (t : Fin (cfgA a).N) : Memref sig .tc .vmem S1x1x1024 .f32 := spec0_5.stage ((cfgA a).slots t (5 : Fin 7))
abbrev hs0_5 (t : Fin (cfgA a).N) : (ms0_5 a t).IsWhole := hstage0_5 (((cfgA a).slots t (5 : Fin 7)).cast nbuf0_5)
abbrev ms0_6 (t : Fin (cfgA a).N) : Memref sig .tc .vmem S512x1024 .f32 := spec0_6.stage ((cfgA a).slots t (6 : Fin 7))
abbrev hs0_6 (t : Fin (cfgA a).N) : (ms0_6 a t).IsWhole := hstage0_6 (((cfgA a).slots t (6 : Fin 7)).cast nbuf0_6)

/-- Window `w`'s block at point `t`, read off its array at launch. -/
def iblk (c : Dev nD) (w : Fin (cfgA a).W) (t : Fin (cfgA a).N) : (((cfgA a).win w).xblock (crd a t)).Idx → Elt Bits ((cfgA a).win w).elt :=
  (((cfgA a).win w).blk t).view.read (Elt Bits) ((s₀ m ρ).mem (((cfgA a).win w).arr.view.loc (c : Thread nD τ)))

/-- What point `t` leaves in the output's staging buffer. -/
def outAt (c : Dev nD) (t : Fin (cfgA a).N) : S512x1024.Idx → Elt Bits .f32 :=
  outBlk (crd a t) (t1 a) (iblk a m ρ c (0 : Fin 7) t) (iblk a m ρ c (1 : Fin 7) t) (iblk a m ρ c (2 : Fin 7) t) (iblk a m ρ c (3 : Fin 7) t) (iblk a m ρ c (4 : Fin 7) t) (iblk a m ρ c (5 : Fin 7) t)

/-- The invariant between points: the body's halves of the tables. -/
def Phi (c : Dev nD) : sProp 𝕄 :=
  iprop((tb0.view.loc (c : Thread nD τ) ↦{fullShare.right} t0 a) ∗ (tb1.view.loc (c : Thread nD τ) ↦{fullShare.right} t1 a))

/-- The proof data of the one pipeline on core `c`. -/
def dats (_ : Fin 1) (c : Dev nD) : Dat τ (Elt Bits) Unit ℕ (UR sig nD τ) ℕ (cfgA a) c where
  A w := (s₀ m ρ).mem (((cfgA a).win w).arr.view.loc (c : Thread nD τ))
  after w t := match w with
    | ⟨0, _⟩ => iblk a m ρ c (0 : Fin 7) t
    | ⟨1, _⟩ => iblk a m ρ c (1 : Fin 7) t
    | ⟨2, _⟩ => iblk a m ρ c (2 : Fin 7) t
    | ⟨3, _⟩ => iblk a m ρ c (3 : Fin 7) t
    | ⟨4, _⟩ => iblk a m ρ c (4 : Fin 7) t
    | ⟨5, _⟩ => iblk a m ρ c (5 : Fin 7) t
    | ⟨6, _⟩ => outAt a m ρ c t
  Φ _ := Phi a c
  q _ := fullShare
  owed _ := 0

theorem after0_0 (c : Dev nD) (t : Fin (cfgA a).N) : (dats a m ρ 0 c).after (0 : Fin 7) t = iblk a m ρ c (0 : Fin 7) t := rfl
theorem after0_1 (c : Dev nD) (t : Fin (cfgA a).N) : (dats a m ρ 0 c).after (1 : Fin 7) t = iblk a m ρ c (1 : Fin 7) t := rfl
theorem after0_2 (c : Dev nD) (t : Fin (cfgA a).N) : (dats a m ρ 0 c).after (2 : Fin 7) t = iblk a m ρ c (2 : Fin 7) t := rfl
theorem after0_3 (c : Dev nD) (t : Fin (cfgA a).N) : (dats a m ρ 0 c).after (3 : Fin 7) t = iblk a m ρ c (3 : Fin 7) t := rfl
theorem after0_4 (c : Dev nD) (t : Fin (cfgA a).N) : (dats a m ρ 0 c).after (4 : Fin 7) t = iblk a m ρ c (4 : Fin 7) t := rfl
theorem after0_5 (c : Dev nD) (t : Fin (cfgA a).N) : (dats a m ρ 0 c).after (5 : Fin 7) t = iblk a m ρ c (5 : Fin 7) t := rfl
theorem after0_6 (c : Dev nD) (t : Fin (cfgA a).N) : (dats a m ρ 0 c).after (6 : Fin 7) t = outAt a m ρ c t := rfl

/-- Input window 0 holds its block, fetched there or not. -/
theorem before0_0 (c : Dev nD) (t : Fin (cfgA a).N) (d) : (dats a m ρ 0 c).before (0 : Fin 7) t d = iblk a m ρ c (0 : Fin 7) t :=
  ((dats a m ρ 0 c).before_in_eq_fetched (0 : Fin 7) rfl (fun _ => rfl) (fun _ _ _ => rfl) (fun t => by rw [after0_0]; unfold Dat.blockOf iblk; rfl) t d).trans
    (by unfold Dat.fetched Dat.blockOf iblk; rfl)

/-- Input window 1 holds its block, fetched there or not. -/
theorem before0_1 (c : Dev nD) (t : Fin (cfgA a).N) (d) : (dats a m ρ 0 c).before (1 : Fin 7) t d = iblk a m ρ c (1 : Fin 7) t :=
  ((dats a m ρ 0 c).before_in_eq_fetched (1 : Fin 7) rfl (fun _ => rfl) (fun _ _ _ => rfl) (fun t => by rw [after0_1]; unfold Dat.blockOf iblk; rfl) t d).trans
    (by unfold Dat.fetched Dat.blockOf iblk; rfl)

/-- Input window 2 holds its block, fetched there or not. -/
theorem before0_2 (c : Dev nD) (t : Fin (cfgA a).N) (d) : (dats a m ρ 0 c).before (2 : Fin 7) t d = iblk a m ρ c (2 : Fin 7) t :=
  ((dats a m ρ 0 c).before_in_eq_fetched (2 : Fin 7) rfl (fun _ => rfl) (fun _ _ _ => rfl) (fun t => by rw [after0_2]; unfold Dat.blockOf iblk; rfl) t d).trans
    (by unfold Dat.fetched Dat.blockOf iblk; rfl)

/-- Input window 3 holds its block, fetched there or not. -/
theorem before0_3 (c : Dev nD) (t : Fin (cfgA a).N) (d) : (dats a m ρ 0 c).before (3 : Fin 7) t d = iblk a m ρ c (3 : Fin 7) t :=
  ((dats a m ρ 0 c).before_in_eq_fetched (3 : Fin 7) rfl (fun _ => rfl) (fun _ _ _ => rfl) (fun t => by rw [after0_3]; unfold Dat.blockOf iblk; rfl) t d).trans
    (by unfold Dat.fetched Dat.blockOf iblk; rfl)

/-- Input window 4 holds its block, fetched there or not. -/
theorem before0_4 (c : Dev nD) (t : Fin (cfgA a).N) (d) : (dats a m ρ 0 c).before (4 : Fin 7) t d = iblk a m ρ c (4 : Fin 7) t :=
  ((dats a m ρ 0 c).before_in_eq_fetched (4 : Fin 7) rfl (fun _ => rfl) (fun _ _ _ => rfl) (fun t => by rw [after0_4]; unfold Dat.blockOf iblk; rfl) t d).trans
    (by unfold Dat.fetched Dat.blockOf iblk; rfl)

/-- Input window 5 holds its block, fetched there or not. -/
theorem before0_5 (c : Dev nD) (t : Fin (cfgA a).N) (d) : (dats a m ρ 0 c).before (5 : Fin 7) t d = iblk a m ρ c (5 : Fin 7) t :=
  ((dats a m ρ 0 c).before_in_eq_fetched (5 : Fin 7) rfl (fun _ => rfl) (fun _ _ _ => rfl) (fun t => by rw [after0_5]; unfold Dat.blockOf iblk; rfl) t d).trans
    (by unfold Dat.fetched Dat.blockOf iblk; rfl)

/-- The word the idle table reads is the word the body reads. -/
theorem atD_nb : a.1.atD 1 ![0] = nbWord (t1 a) := by
  unfold nbWord
  exact congrArg (t1 a) (idx_S1 _ _)

/-- No point leaves the output idle: one of the two branches stores it. -/
theorem idle0_6 (t : Fin (cfgA a).N) : (cfgA a).idle (6 : Fin 7) ((cfgA a).grid.coords t) = false := by
  show (!(k0_cond1 (crd a t) (a.1.atD 1 ![0]) == 1#1) && !(k0_cond2 (crd a t) (a.1.atD 1 ![0]) == 1#1)) = false
  have h := cond2_iff (crd a t) (a.1.atD 1 ![0])
  by_cases h1 : k0_cond1 (crd a t) (a.1.atD 1 ![0]) = 1#1
  · rw [h1]; rfl
  · rw [h.mpr h1]; simp

/-! ## The body obligation, at a generic point -/

/-- The body at point `t` on its staging memrefs, as the pipeline calls it. -/
abbrev bodyAt0 (t : Fin (cfgA a).N) : Prog (TpuEff nD τ sig (Elt Bits) Λ₀ .tc) PUnit :=
  cc0_moe_ffn (crd a t) (Memref.whole main_arg0) (Memref.isWhole_whole _) (Memref.whole main_arg1) (Memref.isWhole_whole _) (ms0_0 a t) (hs0_0 a t) (ms0_1 a t) (hs0_1 a t) (ms0_2 a t) (hs0_2 a t) (ms0_3 a t) (hs0_3 a t) (ms0_4 a t) (hs0_4 a t) (ms0_5 a t) (hs0_5 a t) (ms0_6 a t) (hs0_6 a t)

/-- The run of the body, whichever branch is taken: the output's buffer ends at `outBlk`. -/
theorem run_any (c : Dev nD) (i : grid0.Coords) (arg3 : Memref sig .tc .vmem S512x1024 .bf16) (harg3 : arg3.IsWhole) (arg4 : Memref sig .tc .vmem S512x1 .f32) (harg4 : arg4.IsWhole) (arg5 : Memref sig .tc .vmem S1x1024x2048 .bf16) (harg5 : arg5.IsWhole) (arg6 : Memref sig .tc .vmem S1x1x2048 .f32) (harg6 : arg6.IsWhole) (arg7 : Memref sig .tc .vmem S1x1024x1024 .bf16) (harg7 : arg7.IsWhole) (arg8 : Memref sig .tc .vmem S1x1x1024 .f32) (harg8 : arg8.IsWhole) (arg9 : Memref sig .tc .vmem S512x1024 .f32) (harg9 : arg9.IsWhole) (T0 : S288.Idx → Elt Bits .i32) (T1 : S1.Idx → Elt Bits .i32)
    (x0 : S512x1024.Idx → Elt Bits .bf16) (x1 : S512x1.Idx → Elt Bits .f32) (x2 : S1x1024x2048.Idx → Elt Bits .bf16) (x3 : S1x1x2048.Idx → Elt Bits .f32) (x4 : S1x1024x1024.Idx → Elt Bits .bf16) (x5 : S1x1x1024.Idx → Elt Bits .f32)
    (K : PUnit → sProp 𝕄) :
    iprop(emp
      ∗ (arg3.view.loc (c : Thread nD τ) ↦[arg3.view.set]{fullShare} arg3.view.rep x0)
      ∗ (arg4.view.loc (c : Thread nD τ) ↦[arg4.view.set]{fullShare} arg4.view.rep x1)
      ∗ (arg5.view.loc (c : Thread nD τ) ↦[arg5.view.set]{fullShare} arg5.view.rep x2)
      ∗ (arg6.view.loc (c : Thread nD τ) ↦[arg6.view.set]{fullShare} arg6.view.rep x3)
      ∗ (arg7.view.loc (c : Thread nD τ) ↦[arg7.view.set]{fullShare} arg7.view.rep x4)
      ∗ (arg8.view.loc (c : Thread nD τ) ↦[arg8.view.set]{fullShare} arg8.view.rep x5)
      ∗ (tb0.view.loc (c : Thread nD τ) ↦{fullShare.right} T0)
      ∗ (tb1.view.loc (c : Thread nD τ) ↦{fullShare.right} T1)
      ∗ (∃ d, owns (c : Thread nD τ) arg9 fullShare d)
      ∗ (iprop(emp
          ∗ (arg3.view.loc (c : Thread nD τ) ↦[arg3.view.set]{fullShare} arg3.view.rep x0)
          ∗ (arg4.view.loc (c : Thread nD τ) ↦[arg4.view.set]{fullShare} arg4.view.rep x1)
          ∗ (arg5.view.loc (c : Thread nD τ) ↦[arg5.view.set]{fullShare} arg5.view.rep x2)
          ∗ (arg6.view.loc (c : Thread nD τ) ↦[arg6.view.set]{fullShare} arg6.view.rep x3)
          ∗ (arg7.view.loc (c : Thread nD τ) ↦[arg7.view.set]{fullShare} arg7.view.rep x4)
          ∗ (arg8.view.loc (c : Thread nD τ) ↦[arg8.view.set]{fullShare} arg8.view.rep x5)
          ∗ (tb0.view.loc (c : Thread nD τ) ↦{fullShare.right} T0)
          ∗ (tb1.view.loc (c : Thread nD τ) ↦{fullShare.right} T1)
          ∗ owns (c : Thread nD τ) arg9 fullShare (outBlk i T1 x0 x1 x2 x3 x4 x5)) -∗ K ⟨⟩))
      ⊢ wp frame (wpE (defs₀ (F := Bits)) Variants.none c none) Set.univ (cc0_moe_ffn i tb0 (Memref.isWhole_whole _) tb1 (Memref.isWhole_whole _) arg3 harg3 arg4 harg4 arg5 harg5 arg6 harg6 arg7 harg7 arg8 harg8 arg9 harg9) K := by
  by_cases h1 : k0_cond1 i (nbWord T1) = 1#1
  · have h2 : ¬ k0_cond2 i (nbWord T1) = 1#1 := fun h => (cond2_iff i (nbWord T1)).mp h h1
    have := run_used c i arg3 harg3 arg4 harg4 arg5 harg5 arg6 harg6 arg7 harg7 arg8 harg8 arg9 harg9 T0 T1 x0 x1 x2 x3 x4 x5 (by rw [read_nb]; exact h1) (by rw [read_nb]; exact h2) K
    unfold outBlk; rw [if_pos h1]; exact this
  · have h2 : k0_cond2 i (nbWord T1) = 1#1 := (cond2_iff i (nbWord T1)).mpr h1
    have := run_zero c i arg3 harg3 arg4 harg4 arg5 harg5 arg6 harg6 arg7 harg7 arg8 harg8 arg9 harg9 T0 T1 x0 x1 x2 x3 x4 x5 (by rw [read_nb]; exact h1) (by rw [read_nb]; exact h2) K
    unfold outBlk; rw [if_neg h1]; exact this

set_option maxHeartbeats 4000000 in
/-- The body obligation at point `t`: the inputs hold their blocks, the run applies, the output's buffer ends at its block. -/
theorem sound_body (c : Dev nD) (t : Fin (cfgA a).N) :
    iprop((dats a m ρ 0 c).Φ t.castSucc ∗ (dats a m ρ 0 c).owesAt () t.castSucc
        ∗ (∃ d, owns (c : Thread nD τ) (ms0_0 a t) fullShare ((dats a m ρ 0 c).before (0 : Fin 7) t d))
        ∗ (∃ d, owns (c : Thread nD τ) (ms0_1 a t) fullShare ((dats a m ρ 0 c).before (1 : Fin 7) t d))
        ∗ (∃ d, owns (c : Thread nD τ) (ms0_2 a t) fullShare ((dats a m ρ 0 c).before (2 : Fin 7) t d))
        ∗ (∃ d, owns (c : Thread nD τ) (ms0_3 a t) fullShare ((dats a m ρ 0 c).before (3 : Fin 7) t d))
        ∗ (∃ d, owns (c : Thread nD τ) (ms0_4 a t) fullShare ((dats a m ρ 0 c).before (4 : Fin 7) t d))
        ∗ (∃ d, owns (c : Thread nD τ) (ms0_5 a t) fullShare ((dats a m ρ 0 c).before (5 : Fin 7) t d))
        ∗ (∃ d, owns (c : Thread nD τ) (ms0_6 a t) fullShare ((dats a m ρ 0 c).before (6 : Fin 7) t d)))
      ⊢ wp frame (wpE (defs₀ (F := Bits)) Variants.none c none) Set.univ (bodyAt0 a t) fun _ =>
          iprop((dats a m ρ 0 c).Φ t.succ ∗ (dats a m ρ 0 c).owesAt () t.succ
            ∗ bigSep Finset.univ fun w : Fin (cfgA a).W =>
                match (cfgA a).idle w ((cfgA a).grid.coords t) with
                | true =>
                  match ((cfgA a).win w).flush t with
                  | false => iprop(∃ d, owns (c : Thread nD τ) (((cfgA a).win w).stage ((cfgA a).slots t w)) fullShare ((dats a m ρ 0 c).before w t d))
                  | true => owns (c : Thread nD τ) (((cfgA a).win w).stage ((cfgA a).slots t w)) fullShare ((dats a m ρ 0 c).after w t)
                | false => owns (c : Thread nD τ) (((cfgA a).win w).stage ((cfgA a).slots t w)) fullShare ((dats a m ρ 0 c).after w t)) := by
  rw [bigSep_W0]
  rewrite [idle0_6]
  simp only [before0_0, before0_1, before0_2, before0_3, before0_4, before0_5, after0_0, after0_1, after0_2, after0_3, after0_4, after0_5, after0_6]
  rewrite [show (dats a m ρ 0 c).Φ t.succ = Phi a c from rfl, show (dats a m ρ 0 c).Φ t.castSucc = Phi a c from rfl,
    show (dats a m ρ 0 c).owesAt () t.succ = (dats a m ρ 0 c).owesAt () t.castSucc from rfl]
  unfold Phi outAt
  iintro ⟨⟨HT0, HT1⟩, Ho, ⟨%d0, H0⟩, ⟨%d1, H1⟩, ⟨%d2, H2⟩, ⟨%d3, H3⟩, ⟨%d4, H4⟩, ⟨%d5, H5⟩, ⟨%d6, H6⟩⟩
  iapply (run_any c (crd a t) (ms0_0 a t) (hs0_0 a t) (ms0_1 a t) (hs0_1 a t) (ms0_2 a t) (hs0_2 a t) (ms0_3 a t) (hs0_3 a t) (ms0_4 a t) (hs0_4 a t) (ms0_5 a t) (hs0_5 a t) (ms0_6 a t) (hs0_6 a t) (t0 a) (t1 a) (iblk a m ρ c (0 : Fin 7) t) (iblk a m ρ c (1 : Fin 7) t) (iblk a m ρ c (2 : Fin 7) t) (iblk a m ρ c (3 : Fin 7) t) (iblk a m ρ c (4 : Fin 7) t) (iblk a m ρ c (5 : Fin 7) t) _)
  isplitr; · iempintro
  isplitl [H0]; · iapply rep_of_owns; iexact H0
  isplitl [H1]; · iapply rep_of_owns; iexact H1
  isplitl [H2]; · iapply rep_of_owns; iexact H2
  isplitl [H3]; · iapply rep_of_owns; iexact H3
  isplitl [H4]; · iapply rep_of_owns; iexact H4
  isplitl [H5]; · iapply rep_of_owns; iexact H5
  isplitl [HT0]; · iexact HT0
  isplitl [HT1]; · iexact HT1
  isplitl [H6]; · iexists _; iexact H6
  iintro ⟨-, H0, H1, H2, H3, H4, H5, HT0, HT1, H6⟩
  isplitl [HT0 HT1]
  · isplitl [HT0]
    · iexact HT0
    iexact HT1
  isplitl [Ho]; · iexact Ho
  isplitl [H0]
  · iapply owns_of_rep; iexact H0
  isplitl [H1]
  · iapply owns_of_rep; iexact H1
  isplitl [H2]
  · iapply owns_of_rep; iexact H2
  isplitl [H3]
  · iapply owns_of_rep; iexact H3
  isplitl [H4]
  · iapply owns_of_rep; iexact H4
  isplitl [H5]
  · iapply owns_of_rep; iexact H5
  iexact H6

/-- The pipeline's body obligation, at every point. -/
theorem body_obligation (c : Dev nD) : BodyObligation (dats a m ρ 0 c) (defs₀ (F := Bits)) Variants.none () Set.univ := fun t => by
  rw [bigSep_W0]
  exact sound_body a m ρ c t

/-! ## The launch -/

/-- The rounds library's launch element. -/
def u₀ : UR sig nD τ :=
  initOf (Pipeline.cells (pcs a) ((launch0 (F := Bits)).cellOf_inj fun _ => a))
    (Pipeline.launchToks (pcs a) ((launch0 (F := Bits)).cellOf_inj fun _ => a))

theorem share_eq (c : Dev nD) (w : Fin (cfgA a).W) : (dats a m ρ 0 c).share w = fullShare := by unfold Dat.share; split <;> rfl

/-- The tables as the launch hands them to the region, one by one. -/
theorem prefHeld_eq (c : Dev nD) (q : Fin 2 → PosShare TreeShare) (v : pre0.Contents (Elt Bits)) :
    (Pipeline.prefHeld (Ix := Unit) (Name := ℕ) (U := UR sig nD τ) (Lvl := ℕ) pre0 c q v : sProp 𝕄)
      = iprop((((c : Thread nD τ).loc main_arg0) ↦{q 0} v 0) ∗ (((c : Thread nD τ).loc main_arg1) ↦{q 1} v 1)) := by
  unfold Pipeline.prefHeld
  rw [show (Finset.univ : Finset (Fin 2)) = insert (0 : Fin 2) {(1 : Fin 2)} from by decide,
    bigSep_insert (by decide), bigSep_singleton]
  rfl

/-- The invariant at the first point, from the tables. -/
theorem phi0_intro (c : Dev nD) :
    iprop(BI.emp ∗ Pipeline.prefHeld pre0 c (fun _ => fullShare.right) a.1 ∗ Pipeline.scopedRest spec0 c) ⊢ (dats a m ρ 0 c).Φ 0 := by
  rw [prefHeld_eq, scopedRest0_eq, show (dats a m ρ 0 c).Φ 0 = Phi a c from rfl]
  unfold Phi
  iintro ⟨-, ⟨HT0, HT1⟩, -⟩
  isplitl [HT0]
  · iexact HT0
  iexact HT1

/-- At the last point the tables are let go. -/
theorem phiN_exit (c : Dev nD) : (dats a m ρ 0 c).Φ (Fin.last (cfgA a).N) ⊢ iprop(BI.emp ∗ Pipeline.scopedRest spec0 c) := by
  rw [scopedRest0_eq, show (dats a m ρ 0 c).Φ (Fin.last (cfgA a).N) = Phi a c from rfl]
  unfold Phi
  iintro ⟨-, -⟩
  isplitr; · iempintro
  iempintro

/-- The final memory: every array at what the pipeline computes, every table unchanged. -/
def QC : PUnit × MemSt nD τ sig (Elt Bits) → Prop := fun r =>
  ∀ c : Dev nD, (∀ w : Fin (cfgA a).W, r.2.mem (((cfgA a).win w).arr.view.loc (c : Thread nD τ)) = (dats a m ρ 0 c).arrAt w (cfgA a).N)
    ∧ ∀ j, r.2.mem ((c : Thread nD τ).loc (pre0.ref j)) = a.1 j

/-- The launch memory's tables are the contents the pipeline is taken at. -/
def Holds : Prop := ∀ (c : Dev nD) (j : Fin 2), m ((c : Thread nD τ).loc (pre0.ref j)) = a.1 j

set_option backward.isDefEq.respectTransparency.types false in
set_option maxHeartbeats 4000000 in
/-- From any launch memory whose tables are `a`'s: every weakly fair execution of the call terminates, every final state
    has each array at the computed contents, and every semaphore counter at zero. -/
theorem run_main_quiescent (hp : Holds a m) : θ_run (defs (F := Bits)) (onTc (τ := τ) (main (F := Bits))) (s₀ m ρ) (fun r => QC a m ρ r ∧ r.2.sem = fun _ => 0) :=
  Pipeline.θ_run_region_noSem_pf_quiescent pcfgs (fun _ => a) (dats a m ρ) () ((launch0 (F := Bits)).cellOf_inj fun _ => a) (0 : Fin 1)
    (launch0 (F := Bits)).win.to₀ (launch0 (F := Bits)).pre EP defs₀ Variants.none m ρ main
    (hbody := fun c => (body_obligation a m ρ c).loose) (hne := (launch0 (F := Bits)).block_pos)
    (harr := (launch0 (F := Bits)).arr_whole) (hstage := (launch0 (F := Bits)).stage_whole) (howed := fun _ _ => rfl)
    (u₀ := u₀ a) (hu₀ := .rfl)
    (V := fun c b => m ((c : Thread nD τ).loc b))
    (hmain := fun c Q => by
      delta main; simp only [Prog.bind_lift, Prog.pure_eq_ret]
      iintro ⟨Hk, Hb⟩; iapply Hk; iexact Hb)
    (hsplit := fun c => Pipeline.arrays_split (pcs a) (dats a m ρ) 0 (launch0 (F := Bits)).win.arr_inj c (launch0 (F := Bits)).arr_whole
      (share_eq a m ρ c) _ _ fun _ => rfl)
    (hpf := hp)
    (X := fun _ => iprop(emp)) (Y := fun _ => iprop(emp)) (Z := fun _ => iprop(emp))
    (hX := fun c => by rw [unscopedRestP0_eq]; iintro -; isplitr <;> iempintro)
    (hin := phi0_intro a m ρ)
    (hout := phiN_exit a m ρ)
    (QY := fun _ _ => True)
    (hY := fun c s' => by
      iintro ⟨-, -, HSI⟩; imodintro
      isplitr; · ipureintro; trivial
      iexact HSI)
    (hQ := fun _ h hz => ⟨fun c => ⟨(h c).1, (h c).2.1⟩, hz⟩)

/-- The argument arrays at the end of such a run. -/
theorem args_of_QC (hp : Holds a m) {r : PUnit × MemSt nD τ sig (Elt Bits)} (h : QC a m ρ r) (c : Dev nD) :
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  ⟨((h c).2 0).trans (hp c 0).symm, ((h c).2 1).trans (hp c 1).symm, ((h c).1 (0 : Fin 7)).trans ((dats a m ρ 0 c).arrAt_in (0 : Fin 7) rfl _), ((h c).1 (1 : Fin 7)).trans ((dats a m ρ 0 c).arrAt_in (1 : Fin 7) rfl _), ((h c).1 (2 : Fin 7)).trans ((dats a m ρ 0 c).arrAt_in (2 : Fin 7) rfl _), ((h c).1 (3 : Fin 7)).trans ((dats a m ρ 0 c).arrAt_in (3 : Fin 7) rfl _), ((h c).1 (4 : Fin 7)).trans ((dats a m ρ 0 c).arrAt_in (4 : Fin 7) rfl _), ((h c).1 (5 : Fin 7)).trans ((dats a m ρ 0 c).arrAt_in (5 : Fin 7) rfl _)⟩

/-- A bound on a block's three coordinates, from the first one's and the rest's. -/
theorem fcons {n x lo hi : ℕ} {f g h : Fin n → ℕ} (h0 : (x + 1) * lo ≤ hi) (hr : ∀ b, (f b + 1) * g b ≤ h b) :
    ∀ b : Fin (n + 1), (Matrix.vecCons x f b + 1) * Matrix.vecCons lo g b ≤ Matrix.vecCons hi h b :=
  Fin.cases h0 hr

/-! ## The precondition gives admissible tables -/

/-- The tables of a launch memory. -/
def tabs : pre0.Contents (Elt Bits) := fun j => m (((0 : Dev nD) : Thread nD τ).loc (pre0.ref j))

/-- A word signed-at-least zero and signed-below thirty-two is a number below thirty-two. -/
theorem toNat_lt_of_range (w : BitVec 32) (h : (BitVec.ofBool (BitVec.sle 0#32 w)) &&& (BitVec.ofBool (BitVec.slt w 32#32)) = 1#1) :
    w.toNat < 32 := by
  have hs : BitVec.sle 0#32 w = true ∧ BitVec.slt w 32#32 = true := by
    revert h; cases BitVec.sle 0#32 w <;> cases BitVec.slt w 32#32 <;> decide
  have h0 : (0#32).toInt ≤ w.toInt := by simpa [BitVec.sle] using hs.1
  have h1 : w.toInt < (32#32).toInt := by simpa [BitVec.slt] using hs.2
  have e0 : (0#32 : BitVec 32).toInt = 0 := by decide
  have e1 : (32#32 : BitVec 32).toInt = 32 := by decide
  rw [e0] at h0; rw [e1] at h1
  rw [BitVec.toInt_eq_toNat_cond] at h0 h1
  have := w.isLt
  split at h0 <;> omega

/-- Every expert number is one of the thirty-two. -/
theorem expert_lt {T0 : S288.Idx → Elt Bits .i32} {T1 : S1.Idx → Elt Bits .i32} {b2 b3 b4 b5 b6 b7}
    (h : Cert.Pre_experts_in_range.fn (F := Bits) T0 T1 b2 b3 b4 b5 b6 b7 = fun _ => 1#1) (x : S288.Idx) : (T0 x : BitVec 32).toNat < 32 :=
  toNat_lt_of_range (T0 x) (congrFun h x)

/-- Tables of such numbers are admissible: every block a window reads through them is inside its array. -/
theorem ok_of_lt (pf : pre0.Contents (Elt Bits)) (h : ∀ x : S288.Idx, ((pf 0 : S288.Idx → BitVec 32) x).toNat < 32) : ok0 (F := Bits) pf :=
  ⟨fun i => ⟨fcons (by have := h ((Rect.unit (s := S288) (k0_off1 i) S1.size (k0_off1_inb i)).emb (Shape.Idx.first (numel1_S1.symm ▸ Nat.one_pos))); show (_ + 1) * 1 ≤ 32; exact (Nat.mul_one _).trans_le this) (fcons (by decide) (fcons (by decide) fun a => a.elim0)), .inr (Affine.block_words_dvd (of_decide_eq_true rfl) (by decide))⟩,
   fun i => ⟨fcons (by have := h ((Rect.unit (s := S288) (k0_off1 i) S1.size (k0_off1_inb i)).emb (Shape.Idx.first (numel1_S1.symm ▸ Nat.one_pos))); show (_ + 1) * 1 ≤ 32; exact (Nat.mul_one _).trans_le this) (fcons (by decide) (fcons (by decide) fun a => a.elim0)), .inl rfl⟩,
   fun i => ⟨fcons (by have := h ((Rect.unit (s := S288) (k0_off1 i) S1.size (k0_off1_inb i)).emb (Shape.Idx.first (numel1_S1.symm ▸ Nat.one_pos))); show (_ + 1) * 1 ≤ 32; exact (Nat.mul_one _).trans_le this) (fcons (by decide) (fcons (by decide) fun a => a.elim0)), .inr (Affine.block_words_dvd (of_decide_eq_true rfl) (by decide))⟩,
   fun i => ⟨fcons (by have := h ((Rect.unit (s := S288) (k0_off1 i) S1.size (k0_off1_inb i)).emb (Shape.Idx.first (numel1_S1.symm ▸ Nat.one_pos))); show (_ + 1) * 1 ≤ 32; exact (Nat.mul_one _).trans_le this) (fcons (by decide) (fcons (by decide) fun a => a.elim0)), .inl rfl⟩⟩

/-- The admissible tables of a launch memory that meets the precondition. -/
def adm (h : Cert.Pre_Moe m) : (pcfg0 (F := Bits)).Adm :=
  ⟨tabs m, ok_of_lt (tabs m) (expert_lt (h 0))⟩

theorem holds_adm (h : Cert.Pre_Moe m) : Holds (adm m h) m := fun c j => by
  rw [Subsingleton.elim c 0]; rfl

/-- The call runs, its arguments end unchanged and every semaphore counter is zero. -/
theorem frame_adm (h : Cert.Pre_Moe m) :
    θ_run (defs (F := Bits)) (onTc (τ := τ) (main (F := Bits))) (s₀ m ρ) (fun r => (∀ c : Dev nD,
      r.2.mem ((c.tc : Thread nD τ).loc main_arg0) = m ((c.tc : Thread nD τ).loc main_arg0) ∧ r.2.mem ((c.tc : Thread nD τ).loc main_arg1) = m ((c.tc : Thread nD τ).loc main_arg1) ∧ r.2.mem ((c.tc : Thread nD τ).loc main_arg2) = m ((c.tc : Thread nD τ).loc main_arg2) ∧ r.2.mem ((c.tc : Thread nD τ).loc main_arg3) = m ((c.tc : Thread nD τ).loc main_arg3) ∧ r.2.mem ((c.tc : Thread nD τ).loc main_arg4) = m ((c.tc : Thread nD τ).loc main_arg4) ∧ r.2.mem ((c.tc : Thread nD τ).loc main_arg5) = m ((c.tc : Thread nD τ).loc main_arg5) ∧ r.2.mem ((c.tc : Thread nD τ).loc main_arg6) = m ((c.tc : Thread nD τ).loc main_arg6) ∧ r.2.mem ((c.tc : Thread nD τ).loc main_arg7) = m ((c.tc : Thread nD τ).loc main_arg7)) ∧ r.2.sem = fun _ => 0) :=
  (θ_run defs _ _).mono (fun r hr => ⟨fun c => args_of_QC (adm m h) m ρ (holds_adm m h) hr.1 c, hr.2⟩) (run_main_quiescent (adm m h) m ρ (holds_adm m h))

end Cert.Moe.Tab

end
-- ==== Proof.MoeIdealTab.lean ====
/-
  The call's run at ANY admissible contents of its two prefetched tables: one point of the grid leaves in the
  output's staging buffer the block `outBlk` of the blocks it was handed (zeros past the last used block), and the
  whole launch ends with every array at the contents the pipeline computes from those.
-/
module

public import proofs.«01_k».proof.Defs
public import proofs.«01_k».proof.Proof.Gen.MoeIdeal
public import proofs.«01_k».proof.Proof.Gen.MoeIdeal.Skeleton
public import proofs.«01_k».proof.Proof.Gen.MoeIdeal.Launch
public import proofs.«01_k».proof.Proof.Gen.Pre_experts_in_range
public import Idealize.ShloMosaic.Lib.Pipeline.Kit
public import Idealize.ShloMosaic.Lib.Pipeline.TableIdle
public import Idealize.ShloMosaic.Lib.Pipeline.FrameBody
public import Idealize.ShloMosaic.Lib.Pipeline.Quiescent
public import Idealize.ShloMosaic.Lib.Writes
public import Idealize.ShloMosaic.Lib.VecWindow
public import Idealize.ShloMosaic.Lib.Ring
public import Idealize.ShloMosaic.Lib.Exec
public import Idealize.ShloMosaic.Lib.Affine
public import Idealize.ShloMosaic.Lib.Tactic
public import Idealize.ShloMosaic.PureOps.Ideal
public import Idealize.ShloMosaic.Adequacy
public import Idealize.ShloMosaic.Init

@[expose] public section

set_option maxRecDepth 16384

noncomputable section

namespace Cert.MoeIdeal.Tab

open Cert.MoeIdeal Cert.MoeIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

local notation "𝕄" => MT nD τ sig Unit (Elt Ideal) ℕ (UR sig nD τ) ℕ

/-- The proof's resource algebra: the rounds library's, for the pipeline's staging cells. -/
abbrev EP : Emb (UR sig nD τ) 𝕄 := emb₁

/-- The two tables, whole. -/
abbrev tb0 : Memref sig .tc .smem S288 .i32 := Memref.whole main_arg0
abbrev tb1 : Memref sig .tc .smem S1 .i32 := Memref.whole main_arg1

/-! ## The branch conditions -/

/-- The word the body reads from the second table: the number of used blocks. -/
def nbWord (T1 : S1.Idx → Elt Ideal .i32) : BitVec 32 := T1 (Shape.Idx.first (numel1_S1.symm ▸ Nat.one_pos))

/-- Every index of the one-word table is its first. -/
theorem idx_S1 (x y : S1.Idx) : x = y := by
  have h1 : ∀ a : Fin 1, S1.size a = 1 := by decide
  exact funext fun a => Fin.ext ((Nat.lt_one_iff.mp ((x a).isLt.trans_eq (h1 a))).trans (Nat.lt_one_iff.mp ((y a).isLt.trans_eq (h1 a))).symm)

/-- The word read from the second table, as the body reads it. -/
theorem read_nb (T1 : S1.Idx → Elt Ideal .i32) :
    View.readAt (Elt Ideal) (tb1).view (Rect.unit (s := S1) ![0] S1.size inb_S1_S1_0).toLoadRect T1 (Shape.Idx.first (numel1_S1.symm ▸ Nat.one_pos)) = nbWord T1 := by
  exact congrArg T1 (idx_S1 _ _)

/-- The first branch is taken where the block number is below the word, as signed integers. -/
theorem cond1_iff (i : grid0.Coords) (w : BitVec 32) : k0_cond1 i w = 1#1 ↔ (BitVec.ofNat 32 (i 0).val).slt w = true := by
  show BitVec.ofBool ((BitVec.ofBool ((BitVec.ofNat 32 (i 0).val).slt w)).setWidth 32 != 0#32) = 1#1 ↔ _
  generalize (BitVec.ofNat 32 (i 0).val).slt w = b
  cases b <;> decide

/-- The second branch is taken exactly where the first is not. -/
theorem cond2_iff (i : grid0.Coords) (w : BitVec 32) : k0_cond2 i w = 1#1 ↔ ¬ k0_cond1 i w = 1#1 := by
  rw [cond1_iff]
  show BitVec.ofBool ((BitVec.ofBool (w.sle (BitVec.ofNat 32 (i 0).val))).setWidth 32 != 0#32) = 1#1 ↔ _
  rw [BitVec.sle_eq_not_slt]
  generalize (BitVec.ofNat 32 (i 0).val).slt w = b
  cases b <;> decide

/-- What a point leaves in the output's staging buffer: the experts' block where it is a used one, zeros past them. -/
def outBlk (i : grid0.Coords) (T1 : S1.Idx → Elt Ideal .i32) (x0 : S512x1024.Idx → Elt Ideal .bf16) (x1 : S512x1.Idx → Elt Ideal .f32) (x2 : S1x1024x2048.Idx → Elt Ideal .bf16) (x3 : S1x1x2048.Idx → Elt Ideal .f32) (x4 : S1x1024x1024.Idx → Elt Ideal .bf16) (x5 : S1x1x1024.Idx → Elt Ideal .f32) : S512x1024.Idx → Elt Ideal .f32 :=
  if k0_cond1 i (nbWord T1) = 1#1 then k0_pay2 (F := Ideal) x0 x2 x3 x4 x5 x1 else k0_pay1 (F := Ideal)

set_option maxHeartbeats 8000000 in
/-- A point past the used blocks: the body stores zeros. -/
theorem run_zero (c : Dev nD) (i : grid0.Coords) (arg3 : Memref sig .tc .vmem S512x1024 .bf16) (harg3 : arg3.IsWhole) (arg4 : Memref sig .tc .vmem S512x1 .f32) (harg4 : arg4.IsWhole) (arg5 : Memref sig .tc .vmem S1x1024x2048 .bf16) (harg5 : arg5.IsWhole) (arg6 : Memref sig .tc .vmem S1x1x2048 .f32) (harg6 : arg6.IsWhole) (arg7 : Memref sig .tc .vmem S1x1024x1024 .bf16) (harg7 : arg7.IsWhole) (arg8 : Memref sig .tc .vmem S1x1x1024 .f32) (harg8 : arg8.IsWhole) (arg9 : Memref sig .tc .vmem S512x1024 .f32) (harg9 : arg9.IsWhole) (T0 : S288.Idx → Elt Ideal .i32) (T1 : S1.Idx → Elt Ideal .i32)
    (x0 : S512x1024.Idx → Elt Ideal .bf16) (x1 : S512x1.Idx → Elt Ideal .f32) (x2 : S1x1024x2048.Idx → Elt Ideal .bf16) (x3 : S1x1x2048.Idx → Elt Ideal .f32) (x4 : S1x1024x1024.Idx → Elt Ideal .bf16) (x5 : S1x1x1024.Idx → Elt Ideal .f32)
    (h1 : ¬(k0_cond1 i (View.readAt (Elt Ideal) (tb1).view (Rect.unit (s := S1) ![0] S1.size inb_S1_S1_0).toLoadRect T1 (Shape.Idx.first (numel1_S1.symm ▸ Nat.one_pos))) = 1#1)) (h2 : k0_cond2 i (View.readAt (Elt Ideal) (tb1).view (Rect.unit (s := S1) ![0] S1.size inb_S1_S1_0).toLoadRect T1 (Shape.Idx.first (numel1_S1.symm ▸ Nat.one_pos))) = 1#1) (K : PUnit → sProp 𝕄) :
    iprop(emp
      ∗ (arg3.view.loc (c : Thread nD τ) ↦[arg3.view.set]{fullShare} arg3.view.rep x0)
      ∗ (arg4.view.loc (c : Thread nD τ) ↦[arg4.view.set]{fullShare} arg4.view.rep x1)
      ∗ (arg5.view.loc (c : Thread nD τ) ↦[arg5.view.set]{fullShare} arg5.view.rep x2)
      ∗ (arg6.view.loc (c : Thread nD τ) ↦[arg6.view.set]{fullShare} arg6.view.rep x3)
      ∗ (arg7.view.loc (c : Thread nD τ) ↦[arg7.view.set]{fullShare} arg7.view.rep x4)
      ∗ (arg8.view.loc (c : Thread nD τ) ↦[arg8.view.set]{fullShare} arg8.view.rep x5)
      ∗ (tb0.view.loc (c : Thread nD τ) ↦{fullShare.right} T0)
      ∗ (tb1.view.loc (c : Thread nD τ) ↦{fullShare.right} T1)
      ∗ (∃ d, owns (c : Thread nD τ) arg9 fullShare d)
      ∗ (iprop(emp
          ∗ (arg3.view.loc (c : Thread nD τ) ↦[arg3.view.set]{fullShare} arg3.view.rep x0)
          ∗ (arg4.view.loc (c : Thread nD τ) ↦[arg4.view.set]{fullShare} arg4.view.rep x1)
          ∗ (arg5.view.loc (c : Thread nD τ) ↦[arg5.view.set]{fullShare} arg5.view.rep x2)
          ∗ (arg6.view.loc (c : Thread nD τ) ↦[arg6.view.set]{fullShare} arg6.view.rep x3)
          ∗ (arg7.view.loc (c : Thread nD τ) ↦[arg7.view.set]{fullShare} arg7.view.rep x4)
          ∗ (arg8.view.loc (c : Thread nD τ) ↦[arg8.view.set]{fullShare} arg8.view.rep x5)
          ∗ (tb0.view.loc (c : Thread nD τ) ↦{fullShare.right} T0)
          ∗ (tb1.view.loc (c : Thread nD τ) ↦{fullShare.right} T1)
          ∗ owns (c : Thread nD τ) arg9 fullShare (k0_pay1 (F := Ideal))) -∗ K ⟨⟩))
      ⊢ wp frame (wpE (defs₀ (F := Ideal)) Variants.none c none) Set.univ (cc0_moe_ffn i tb0 (Memref.isWhole_whole _) tb1 (Memref.isWhole_whole _) arg3 harg3 arg4 harg4 arg5 harg5 arg6 harg6 arg7 harg7 arg8 harg8 arg9 harg9) K := by
    unfold owns
    rw [cc0_moe_ffn_eq_skeleton]; unfold cc0_moe_ffn_skel
    iintro ⟨-, H0, H1, H2, H3, H4, H5, HT0, HT1, ⟨%d6, %f6, -, HO6⟩, Hk⟩
    have hT0 : tb0.IsWhole := Memref.isWhole_whole _
    have hT1 : tb1.IsWhole := Memref.isWhole_whole _
    sl_exec! (disch := first | (guard_target = ¬(k0_cond1 _ _ = _); exact h1) | (guard_target = k0_cond2 _ _ = _; exact h2))
    sl_step
    iapply Hk
    isplitr; · iempintro
    isplitl [H0]; · iexact H0
    isplitl [H1]; · iexact H1
    isplitl [H2]; · iexact H2
    isplitl [H3]; · iexact H3
    isplitl [H4]; · iexact H4
    isplitl [H5]; · iexact H5
    isplitl [HT0]; · iexact HT0
    isplitl [HT1]; · iexact HT1
    iexists _; isplitr; swap
    · iexact HO6
    · ipureintro
      sl_unfold_words
      rw [View.read_writes_full]
set_option maxHeartbeats 8000000 in
/-- A used block: the body stores the experts' block. -/
theorem run_used (c : Dev nD) (i : grid0.Coords) (arg3 : Memref sig .tc .vmem S512x1024 .bf16) (harg3 : arg3.IsWhole) (arg4 : Memref sig .tc .vmem S512x1 .f32) (harg4 : arg4.IsWhole) (arg5 : Memref sig .tc .vmem S1x1024x2048 .bf16) (harg5 : arg5.IsWhole) (arg6 : Memref sig .tc .vmem S1x1x2048 .f32) (harg6 : arg6.IsWhole) (arg7 : Memref sig .tc .vmem S1x1024x1024 .bf16) (harg7 : arg7.IsWhole) (arg8 : Memref sig .tc .vmem S1x1x1024 .f32) (harg8 : arg8.IsWhole) (arg9 : Memref sig .tc .vmem S512x1024 .f32) (harg9 : arg9.IsWhole) (T0 : S288.Idx → Elt Ideal .i32) (T1 : S1.Idx → Elt Ideal .i32)
    (x0 : S512x1024.Idx → Elt Ideal .bf16) (x1 : S512x1.Idx → Elt Ideal .f32) (x2 : S1x1024x2048.Idx → Elt Ideal .bf16) (x3 : S1x1x2048.Idx → Elt Ideal .f32) (x4 : S1x1024x1024.Idx → Elt Ideal .bf16) (x5 : S1x1x1024.Idx → Elt Ideal .f32)
    (h1 : k0_cond1 i (View.readAt (Elt Ideal) (tb1).view (Rect.unit (s := S1) ![0] S1.size inb_S1_S1_0).toLoadRect T1 (Shape.Idx.first (numel1_S1.symm ▸ Nat.one_pos))) = 1#1) (h2 : ¬(k0_cond2 i (View.readAt (Elt Ideal) (tb1).view (Rect.unit (s := S1) ![0] S1.size inb_S1_S1_0).toLoadRect T1 (Shape.Idx.first (numel1_S1.symm ▸ Nat.one_pos))) = 1#1)) (K : PUnit → sProp 𝕄) :
    iprop(emp
      ∗ (arg3.view.loc (c : Thread nD τ) ↦[arg3.view.set]{fullShare} arg3.view.rep x0)
      ∗ (arg4.view.loc (c : Thread nD τ) ↦[arg4.view.set]{fullShare} arg4.view.rep x1)
      ∗ (arg5.view.loc (c : Thread nD τ) ↦[arg5.view.set]{fullShare} arg5.view.rep x2)
      ∗ (arg6.view.loc (c : Thread nD τ) ↦[arg6.view.set]{fullShare} arg6.view.rep x3)
      ∗ (arg7.view.loc (c : Thread nD τ) ↦[arg7.view.set]{fullShare} arg7.view.rep x4)
      ∗ (arg8.view.loc (c : Thread nD τ) ↦[arg8.view.set]{fullShare} arg8.view.rep x5)
      ∗ (tb0.view.loc (c : Thread nD τ) ↦{fullShare.right} T0)
      ∗ (tb1.view.loc (c : Thread nD τ) ↦{fullShare.right} T1)
      ∗ (∃ d, owns (c : Thread nD τ) arg9 fullShare d)
      ∗ (iprop(emp
          ∗ (arg3.view.loc (c : Thread nD τ) ↦[arg3.view.set]{fullShare} arg3.view.rep x0)
          ∗ (arg4.view.loc (c : Thread nD τ) ↦[arg4.view.set]{fullShare} arg4.view.rep x1)
          ∗ (arg5.view.loc (c : Thread nD τ) ↦[arg5.view.set]{fullShare} arg5.view.rep x2)
          ∗ (arg6.view.loc (c : Thread nD τ) ↦[arg6.view.set]{fullShare} arg6.view.rep x3)
          ∗ (arg7.view.loc (c : Thread nD τ) ↦[arg7.view.set]{fullShare} arg7.view.rep x4)
          ∗ (arg8.view.loc (c : Thread nD τ) ↦[arg8.view.set]{fullShare} arg8.view.rep x5)
          ∗ (tb0.view.loc (c : Thread nD τ) ↦{fullShare.right} T0)
          ∗ (tb1.view.loc (c : Thread nD τ) ↦{fullShare.right} T1)
          ∗ owns (c : Thread nD τ) arg9 fullShare (k0_pay2 (F := Ideal) x0 x2 x3 x4 x5 x1)) -∗ K ⟨⟩))
      ⊢ wp frame (wpE (defs₀ (F := Ideal)) Variants.none c none) Set.univ (cc0_moe_ffn i tb0 (Memref.isWhole_whole _) tb1 (Memref.isWhole_whole _) arg3 harg3 arg4 harg4 arg5 harg5 arg6 harg6 arg7 harg7 arg8 harg8 arg9 harg9) K := by
    unfold owns
    rw [cc0_moe_ffn_eq_skeleton]; unfold cc0_moe_ffn_skel
    iintro ⟨-, H0, H1, H2, H3, H4, H5, HT0, HT1, ⟨%d6, %f6, -, HO6⟩, Hk⟩
    have hT0 : tb0.IsWhole := Memref.isWhole_whole _
    have hT1 : tb1.IsWhole := Memref.isWhole_whole _
    sl_exec! (disch := first | (guard_target = k0_cond1 _ _ = _; exact h1) | (guard_target = ¬(k0_cond2 _ _ = _); exact h2))
    sl_step
    iapply Hk
    isplitr; · iempintro
    isplitl [H0]; · iexact H0
    isplitl [H1]; · iexact H1
    isplitl [H2]; · iexact H2
    isplitl [H3]; · iexact H3
    isplitl [H4]; · iexact H4
    isplitl [H5]; · iexact H5
    isplitl [HT0]; · iexact HT0
    isplitl [HT1]; · iexact HT1
    iexists _; isplitr; swap
    · iexact HO6
    · ipureintro
      sl_unfold_words
      rw [View.read_writes_full]
      exact congr (congr (congr (congr (congr (congrArg k0_pay2 (View.readAt_rep_full _ _ _)) (View.readAt_rep_full _ _ _)) (View.readAt_rep_full _ _ _)) (View.readAt_rep_full _ _ _)) (View.readAt_rep_full _ _ _)) (View.readAt_rep_full _ _ _)

variable (a : (pcfg0 (F := Ideal)).Adm)
variable (m : (ℓ : Loc nD τ sig) → Buf (Elt Ideal) ℓ) (ρ : Dev nD → PrngReg)

/-- The two tables' contents, at their literal types. -/
abbrev t0 : S288.Idx → Elt Ideal .i32 := a.1 0
abbrev t1 : S1.Idx → Elt Ideal .i32 := a.1 1

/-- The pipeline at the tables' contents. -/
abbrev cfgA : Pipeline.Cfg sig Λ₀ := cfg0 (F := Ideal) a
abbrev pcs : Fin 1 → Pipeline.Cfg sig Λ₀ := Pipeline.pin (pcfgs (F := Ideal)) fun _ => a

/-- Point `t`'s coordinates. -/
abbrev crd (t : Fin (cfgA a).N) : (cfgA a).grid.Coords := (cfgA a).grid.coords t

/-- Each window's current staging memref at point `t`, and its wholeness. -/
abbrev ms0_0 (t : Fin (cfgA a).N) : Memref sig .tc .vmem S512x1024 .bf16 := spec0_0.stage ((cfgA a).slots t (0 : Fin 7))
abbrev hs0_0 (t : Fin (cfgA a).N) : (ms0_0 a t).IsWhole := hstage0_0 (((cfgA a).slots t (0 : Fin 7)).cast nbuf0_0)
abbrev ms0_1 (t : Fin (cfgA a).N) : Memref sig .tc .vmem S512x1 .f32 := spec0_1.stage ((cfgA a).slots t (1 : Fin 7))
abbrev hs0_1 (t : Fin (cfgA a).N) : (ms0_1 a t).IsWhole := hstage0_1 (((cfgA a).slots t (1 : Fin 7)).cast nbuf0_1)
abbrev ms0_2 (t : Fin (cfgA a).N) : Memref sig .tc .vmem S1x1024x2048 .bf16 := spec0_2.stage ((cfgA a).slots t (2 : Fin 7))
abbrev hs0_2 (t : Fin (cfgA a).N) : (ms0_2 a t).IsWhole := hstage0_2 (((cfgA a).slots t (2 : Fin 7)).cast nbuf0_2)
abbrev ms0_3 (t : Fin (cfgA a).N) : Memref sig .tc .vmem S1x1x2048 .f32 := spec0_3.stage ((cfgA a).slots t (3 : Fin 7))
abbrev hs0_3 (t : Fin (cfgA a).N) : (ms0_3 a t).IsWhole := hstage0_3 (((cfgA a).slots t (3 : Fin 7)).cast nbuf0_3)
abbrev ms0_4 (t : Fin (cfgA a).N) : Memref sig .tc .vmem S1x1024x1024 .bf16 := spec0_4.stage ((cfgA a).slots t (4 : Fin 7))
abbrev hs0_4 (t : Fin (cfgA a).N) : (ms0_4 a t).IsWhole := hstage0_4 (((cfgA a).slots t (4 : Fin 7)).cast nbuf0_4)
abbrev ms0_5 (t : Fin (cfgA a).N) : Memref sig .tc .vmem S1x1x1024 .f32 := spec0_5.stage ((cfgA a).slots t (5 : Fin 7))
abbrev hs0_5 (t : Fin (cfgA a).N) : (ms0_5 a t).IsWhole := hstage0_5 (((cfgA a).slots t (5 : Fin 7)).cast nbuf0_5)
abbrev ms0_6 (t : Fin (cfgA a).N) : Memref sig .tc .vmem S512x1024 .f32 := spec0_6.stage ((cfgA a).slots t (6 : Fin 7))
abbrev hs0_6 (t : Fin (cfgA a).N) : (ms0_6 a t).IsWhole := hstage0_6 (((cfgA a).slots t (6 : Fin 7)).cast nbuf0_6)

/-- Window `w`'s block at point `t`, read off its array at launch. -/
def iblk (c : Dev nD) (w : Fin (cfgA a).W) (t : Fin (cfgA a).N) : (((cfgA a).win w).xblock (crd a t)).Idx → Elt Ideal ((cfgA a).win w).elt :=
  (((cfgA a).win w).blk t).view.read (Elt Ideal) ((s₀ m ρ).mem (((cfgA a).win w).arr.view.loc (c : Thread nD τ)))

/-- What point `t` leaves in the output's staging buffer. -/
def outAt (c : Dev nD) (t : Fin (cfgA a).N) : S512x1024.Idx → Elt Ideal .f32 :=
  outBlk (crd a t) (t1 a) (iblk a m ρ c (0 : Fin 7) t) (iblk a m ρ c (1 : Fin 7) t) (iblk a m ρ c (2 : Fin 7) t) (iblk a m ρ c (3 : Fin 7) t) (iblk a m ρ c (4 : Fin 7) t) (iblk a m ρ c (5 : Fin 7) t)

/-- The invariant between points: the body's halves of the tables. -/
def Phi (c : Dev nD) : sProp 𝕄 :=
  iprop((tb0.view.loc (c : Thread nD τ) ↦{fullShare.right} t0 a) ∗ (tb1.view.loc (c : Thread nD τ) ↦{fullShare.right} t1 a))

/-- The proof data of the one pipeline on core `c`. -/
def dats (_ : Fin 1) (c : Dev nD) : Dat τ (Elt Ideal) Unit ℕ (UR sig nD τ) ℕ (cfgA a) c where
  A w := (s₀ m ρ).mem (((cfgA a).win w).arr.view.loc (c : Thread nD τ))
  after w t := match w with
    | ⟨0, _⟩ => iblk a m ρ c (0 : Fin 7) t
    | ⟨1, _⟩ => iblk a m ρ c (1 : Fin 7) t
    | ⟨2, _⟩ => iblk a m ρ c (2 : Fin 7) t
    | ⟨3, _⟩ => iblk a m ρ c (3 : Fin 7) t
    | ⟨4, _⟩ => iblk a m ρ c (4 : Fin 7) t
    | ⟨5, _⟩ => iblk a m ρ c (5 : Fin 7) t
    | ⟨6, _⟩ => outAt a m ρ c t
  Φ _ := Phi a c
  q _ := fullShare
  owed _ := 0

theorem after0_0 (c : Dev nD) (t : Fin (cfgA a).N) : (dats a m ρ 0 c).after (0 : Fin 7) t = iblk a m ρ c (0 : Fin 7) t := rfl
theorem after0_1 (c : Dev nD) (t : Fin (cfgA a).N) : (dats a m ρ 0 c).after (1 : Fin 7) t = iblk a m ρ c (1 : Fin 7) t := rfl
theorem after0_2 (c : Dev nD) (t : Fin (cfgA a).N) : (dats a m ρ 0 c).after (2 : Fin 7) t = iblk a m ρ c (2 : Fin 7) t := rfl
theorem after0_3 (c : Dev nD) (t : Fin (cfgA a).N) : (dats a m ρ 0 c).after (3 : Fin 7) t = iblk a m ρ c (3 : Fin 7) t := rfl
theorem after0_4 (c : Dev nD) (t : Fin (cfgA a).N) : (dats a m ρ 0 c).after (4 : Fin 7) t = iblk a m ρ c (4 : Fin 7) t := rfl
theorem after0_5 (c : Dev nD) (t : Fin (cfgA a).N) : (dats a m ρ 0 c).after (5 : Fin 7) t = iblk a m ρ c (5 : Fin 7) t := rfl
theorem after0_6 (c : Dev nD) (t : Fin (cfgA a).N) : (dats a m ρ 0 c).after (6 : Fin 7) t = outAt a m ρ c t := rfl

/-- Input window 0 holds its block, fetched there or not. -/
theorem before0_0 (c : Dev nD) (t : Fin (cfgA a).N) (d) : (dats a m ρ 0 c).before (0 : Fin 7) t d = iblk a m ρ c (0 : Fin 7) t :=
  ((dats a m ρ 0 c).before_in_eq_fetched (0 : Fin 7) rfl (fun _ => rfl) (fun _ _ _ => rfl) (fun t => by rw [after0_0]; unfold Dat.blockOf iblk; rfl) t d).trans
    (by unfold Dat.fetched Dat.blockOf iblk; rfl)

/-- Input window 1 holds its block, fetched there or not. -/
theorem before0_1 (c : Dev nD) (t : Fin (cfgA a).N) (d) : (dats a m ρ 0 c).before (1 : Fin 7) t d = iblk a m ρ c (1 : Fin 7) t :=
  ((dats a m ρ 0 c).before_in_eq_fetched (1 : Fin 7) rfl (fun _ => rfl) (fun _ _ _ => rfl) (fun t => by rw [after0_1]; unfold Dat.blockOf iblk; rfl) t d).trans
    (by unfold Dat.fetched Dat.blockOf iblk; rfl)

/-- Input window 2 holds its block, fetched there or not. -/
theorem before0_2 (c : Dev nD) (t : Fin (cfgA a).N) (d) : (dats a m ρ 0 c).before (2 : Fin 7) t d = iblk a m ρ c (2 : Fin 7) t :=
  ((dats a m ρ 0 c).before_in_eq_fetched (2 : Fin 7) rfl (fun _ => rfl) (fun _ _ _ => rfl) (fun t => by rw [after0_2]; unfold Dat.blockOf iblk; rfl) t d).trans
    (by unfold Dat.fetched Dat.blockOf iblk; rfl)

/-- Input window 3 holds its block, fetched there or not. -/
theorem before0_3 (c : Dev nD) (t : Fin (cfgA a).N) (d) : (dats a m ρ 0 c).before (3 : Fin 7) t d = iblk a m ρ c (3 : Fin 7) t :=
  ((dats a m ρ 0 c).before_in_eq_fetched (3 : Fin 7) rfl (fun _ => rfl) (fun _ _ _ => rfl) (fun t => by rw [after0_3]; unfold Dat.blockOf iblk; rfl) t d).trans
    (by unfold Dat.fetched Dat.blockOf iblk; rfl)

/-- Input window 4 holds its block, fetched there or not. -/
theorem before0_4 (c : Dev nD) (t : Fin (cfgA a).N) (d) : (dats a m ρ 0 c).before (4 : Fin 7) t d = iblk a m ρ c (4 : Fin 7) t :=
  ((dats a m ρ 0 c).before_in_eq_fetched (4 : Fin 7) rfl (fun _ => rfl) (fun _ _ _ => rfl) (fun t => by rw [after0_4]; unfold Dat.blockOf iblk; rfl) t d).trans
    (by unfold Dat.fetched Dat.blockOf iblk; rfl)

/-- Input window 5 holds its block, fetched there or not. -/
theorem before0_5 (c : Dev nD) (t : Fin (cfgA a).N) (d) : (dats a m ρ 0 c).before (5 : Fin 7) t d = iblk a m ρ c (5 : Fin 7) t :=
  ((dats a m ρ 0 c).before_in_eq_fetched (5 : Fin 7) rfl (fun _ => rfl) (fun _ _ _ => rfl) (fun t => by rw [after0_5]; unfold Dat.blockOf iblk; rfl) t d).trans
    (by unfold Dat.fetched Dat.blockOf iblk; rfl)

/-- The word the idle table reads is the word the body reads. -/
theorem atD_nb : a.1.atD 1 ![0] = nbWord (t1 a) := by
  unfold nbWord
  exact congrArg (t1 a) (idx_S1 _ _)

/-- No point leaves the output idle: one of the two branches stores it. -/
theorem idle0_6 (t : Fin (cfgA a).N) : (cfgA a).idle (6 : Fin 7) ((cfgA a).grid.coords t) = false := by
  show (!(k0_cond1 (crd a t) (a.1.atD 1 ![0]) == 1#1) && !(k0_cond2 (crd a t) (a.1.atD 1 ![0]) == 1#1)) = false
  have h := cond2_iff (crd a t) (a.1.atD 1 ![0])
  by_cases h1 : k0_cond1 (crd a t) (a.1.atD 1 ![0]) = 1#1
  · rw [h1]; rfl
  · rw [h.mpr h1]; simp

/-! ## The body obligation, at a generic point -/

/-- The body at point `t` on its staging memrefs, as the pipeline calls it. -/
abbrev bodyAt0 (t : Fin (cfgA a).N) : Prog (TpuEff nD τ sig (Elt Ideal) Λ₀ .tc) PUnit :=
  cc0_moe_ffn (crd a t) (Memref.whole main_arg0) (Memref.isWhole_whole _) (Memref.whole main_arg1) (Memref.isWhole_whole _) (ms0_0 a t) (hs0_0 a t) (ms0_1 a t) (hs0_1 a t) (ms0_2 a t) (hs0_2 a t) (ms0_3 a t) (hs0_3 a t) (ms0_4 a t) (hs0_4 a t) (ms0_5 a t) (hs0_5 a t) (ms0_6 a t) (hs0_6 a t)

/-- The run of the body, whichever branch is taken: the output's buffer ends at `outBlk`. -/
theorem run_any (c : Dev nD) (i : grid0.Coords) (arg3 : Memref sig .tc .vmem S512x1024 .bf16) (harg3 : arg3.IsWhole) (arg4 : Memref sig .tc .vmem S512x1 .f32) (harg4 : arg4.IsWhole) (arg5 : Memref sig .tc .vmem S1x1024x2048 .bf16) (harg5 : arg5.IsWhole) (arg6 : Memref sig .tc .vmem S1x1x2048 .f32) (harg6 : arg6.IsWhole) (arg7 : Memref sig .tc .vmem S1x1024x1024 .bf16) (harg7 : arg7.IsWhole) (arg8 : Memref sig .tc .vmem S1x1x1024 .f32) (harg8 : arg8.IsWhole) (arg9 : Memref sig .tc .vmem S512x1024 .f32) (harg9 : arg9.IsWhole) (T0 : S288.Idx → Elt Ideal .i32) (T1 : S1.Idx → Elt Ideal .i32)
    (x0 : S512x1024.Idx → Elt Ideal .bf16) (x1 : S512x1.Idx → Elt Ideal .f32) (x2 : S1x1024x2048.Idx → Elt Ideal .bf16) (x3 : S1x1x2048.Idx → Elt Ideal .f32) (x4 : S1x1024x1024.Idx → Elt Ideal .bf16) (x5 : S1x1x1024.Idx → Elt Ideal .f32)
    (K : PUnit → sProp 𝕄) :
    iprop(emp
      ∗ (arg3.view.loc (c : Thread nD τ) ↦[arg3.view.set]{fullShare} arg3.view.rep x0)
      ∗ (arg4.view.loc (c : Thread nD τ) ↦[arg4.view.set]{fullShare} arg4.view.rep x1)
      ∗ (arg5.view.loc (c : Thread nD τ) ↦[arg5.view.set]{fullShare} arg5.view.rep x2)
      ∗ (arg6.view.loc (c : Thread nD τ) ↦[arg6.view.set]{fullShare} arg6.view.rep x3)
      ∗ (arg7.view.loc (c : Thread nD τ) ↦[arg7.view.set]{fullShare} arg7.view.rep x4)
      ∗ (arg8.view.loc (c : Thread nD τ) ↦[arg8.view.set]{fullShare} arg8.view.rep x5)
      ∗ (tb0.view.loc (c : Thread nD τ) ↦{fullShare.right} T0)
      ∗ (tb1.view.loc (c : Thread nD τ) ↦{fullShare.right} T1)
      ∗ (∃ d, owns (c : Thread nD τ) arg9 fullShare d)
      ∗ (iprop(emp
          ∗ (arg3.view.loc (c : Thread nD τ) ↦[arg3.view.set]{fullShare} arg3.view.rep x0)
          ∗ (arg4.view.loc (c : Thread nD τ) ↦[arg4.view.set]{fullShare} arg4.view.rep x1)
          ∗ (arg5.view.loc (c : Thread nD τ) ↦[arg5.view.set]{fullShare} arg5.view.rep x2)
          ∗ (arg6.view.loc (c : Thread nD τ) ↦[arg6.view.set]{fullShare} arg6.view.rep x3)
          ∗ (arg7.view.loc (c : Thread nD τ) ↦[arg7.view.set]{fullShare} arg7.view.rep x4)
          ∗ (arg8.view.loc (c : Thread nD τ) ↦[arg8.view.set]{fullShare} arg8.view.rep x5)
          ∗ (tb0.view.loc (c : Thread nD τ) ↦{fullShare.right} T0)
          ∗ (tb1.view.loc (c : Thread nD τ) ↦{fullShare.right} T1)
          ∗ owns (c : Thread nD τ) arg9 fullShare (outBlk i T1 x0 x1 x2 x3 x4 x5)) -∗ K ⟨⟩))
      ⊢ wp frame (wpE (defs₀ (F := Ideal)) Variants.none c none) Set.univ (cc0_moe_ffn i tb0 (Memref.isWhole_whole _) tb1 (Memref.isWhole_whole _) arg3 harg3 arg4 harg4 arg5 harg5 arg6 harg6 arg7 harg7 arg8 harg8 arg9 harg9) K := by
  by_cases h1 : k0_cond1 i (nbWord T1) = 1#1
  · have h2 : ¬ k0_cond2 i (nbWord T1) = 1#1 := fun h => (cond2_iff i (nbWord T1)).mp h h1
    have := run_used c i arg3 harg3 arg4 harg4 arg5 harg5 arg6 harg6 arg7 harg7 arg8 harg8 arg9 harg9 T0 T1 x0 x1 x2 x3 x4 x5 (by rw [read_nb]; exact h1) (by rw [read_nb]; exact h2) K
    unfold outBlk; rw [if_pos h1]; exact this
  · have h2 : k0_cond2 i (nbWord T1) = 1#1 := (cond2_iff i (nbWord T1)).mpr h1
    have := run_zero c i arg3 harg3 arg4 harg4 arg5 harg5 arg6 harg6 arg7 harg7 arg8 harg8 arg9 harg9 T0 T1 x0 x1 x2 x3 x4 x5 (by rw [read_nb]; exact h1) (by rw [read_nb]; exact h2) K
    unfold outBlk; rw [if_neg h1]; exact this

set_option maxHeartbeats 4000000 in
/-- The body obligation at point `t`: the inputs hold their blocks, the run applies, the output's buffer ends at its block. -/
theorem sound_body (c : Dev nD) (t : Fin (cfgA a).N) :
    iprop((dats a m ρ 0 c).Φ t.castSucc ∗ (dats a m ρ 0 c).owesAt () t.castSucc
        ∗ (∃ d, owns (c : Thread nD τ) (ms0_0 a t) fullShare ((dats a m ρ 0 c).before (0 : Fin 7) t d))
        ∗ (∃ d, owns (c : Thread nD τ) (ms0_1 a t) fullShare ((dats a m ρ 0 c).before (1 : Fin 7) t d))
        ∗ (∃ d, owns (c : Thread nD τ) (ms0_2 a t) fullShare ((dats a m ρ 0 c).before (2 : Fin 7) t d))
        ∗ (∃ d, owns (c : Thread nD τ) (ms0_3 a t) fullShare ((dats a m ρ 0 c).before (3 : Fin 7) t d))
        ∗ (∃ d, owns (c : Thread nD τ) (ms0_4 a t) fullShare ((dats a m ρ 0 c).before (4 : Fin 7) t d))
        ∗ (∃ d, owns (c : Thread nD τ) (ms0_5 a t) fullShare ((dats a m ρ 0 c).before (5 : Fin 7) t d))
        ∗ (∃ d, owns (c : Thread nD τ) (ms0_6 a t) fullShare ((dats a m ρ 0 c).before (6 : Fin 7) t d)))
      ⊢ wp frame (wpE (defs₀ (F := Ideal)) Variants.none c none) Set.univ (bodyAt0 a t) fun _ =>
          iprop((dats a m ρ 0 c).Φ t.succ ∗ (dats a m ρ 0 c).owesAt () t.succ
            ∗ bigSep Finset.univ fun w : Fin (cfgA a).W =>
                match (cfgA a).idle w ((cfgA a).grid.coords t) with
                | true =>
                  match ((cfgA a).win w).flush t with
                  | false => iprop(∃ d, owns (c : Thread nD τ) (((cfgA a).win w).stage ((cfgA a).slots t w)) fullShare ((dats a m ρ 0 c).before w t d))
                  | true => owns (c : Thread nD τ) (((cfgA a).win w).stage ((cfgA a).slots t w)) fullShare ((dats a m ρ 0 c).after w t)
                | false => owns (c : Thread nD τ) (((cfgA a).win w).stage ((cfgA a).slots t w)) fullShare ((dats a m ρ 0 c).after w t)) := by
  rw [bigSep_W0]
  rewrite [idle0_6]
  simp only [before0_0, before0_1, before0_2, before0_3, before0_4, before0_5, after0_0, after0_1, after0_2, after0_3, after0_4, after0_5, after0_6]
  rewrite [show (dats a m ρ 0 c).Φ t.succ = Phi a c from rfl, show (dats a m ρ 0 c).Φ t.castSucc = Phi a c from rfl,
    show (dats a m ρ 0 c).owesAt () t.succ = (dats a m ρ 0 c).owesAt () t.castSucc from rfl]
  unfold Phi outAt
  iintro ⟨⟨HT0, HT1⟩, Ho, ⟨%d0, H0⟩, ⟨%d1, H1⟩, ⟨%d2, H2⟩, ⟨%d3, H3⟩, ⟨%d4, H4⟩, ⟨%d5, H5⟩, ⟨%d6, H6⟩⟩
  iapply (run_any c (crd a t) (ms0_0 a t) (hs0_0 a t) (ms0_1 a t) (hs0_1 a t) (ms0_2 a t) (hs0_2 a t) (ms0_3 a t) (hs0_3 a t) (ms0_4 a t) (hs0_4 a t) (ms0_5 a t) (hs0_5 a t) (ms0_6 a t) (hs0_6 a t) (t0 a) (t1 a) (iblk a m ρ c (0 : Fin 7) t) (iblk a m ρ c (1 : Fin 7) t) (iblk a m ρ c (2 : Fin 7) t) (iblk a m ρ c (3 : Fin 7) t) (iblk a m ρ c (4 : Fin 7) t) (iblk a m ρ c (5 : Fin 7) t) _)
  isplitr; · iempintro
  isplitl [H0]; · iapply rep_of_owns; iexact H0
  isplitl [H1]; · iapply rep_of_owns; iexact H1
  isplitl [H2]; · iapply rep_of_owns; iexact H2
  isplitl [H3]; · iapply rep_of_owns; iexact H3
  isplitl [H4]; · iapply rep_of_owns; iexact H4
  isplitl [H5]; · iapply rep_of_owns; iexact H5
  isplitl [HT0]; · iexact HT0
  isplitl [HT1]; · iexact HT1
  isplitl [H6]; · iexists _; iexact H6
  iintro ⟨-, H0, H1, H2, H3, H4, H5, HT0, HT1, H6⟩
  isplitl [HT0 HT1]
  · isplitl [HT0]
    · iexact HT0
    iexact HT1
  isplitl [Ho]; · iexact Ho
  isplitl [H0]
  · iapply owns_of_rep; iexact H0
  isplitl [H1]
  · iapply owns_of_rep; iexact H1
  isplitl [H2]
  · iapply owns_of_rep; iexact H2
  isplitl [H3]
  · iapply owns_of_rep; iexact H3
  isplitl [H4]
  · iapply owns_of_rep; iexact H4
  isplitl [H5]
  · iapply owns_of_rep; iexact H5
  iexact H6

/-- The pipeline's body obligation, at every point. -/
theorem body_obligation (c : Dev nD) : BodyObligation (dats a m ρ 0 c) (defs₀ (F := Ideal)) Variants.none () Set.univ := fun t => by
  rw [bigSep_W0]
  exact sound_body a m ρ c t

/-! ## The launch -/

/-- The rounds library's launch element. -/
def u₀ : UR sig nD τ :=
  initOf (Pipeline.cells (pcs a) ((launch0 (F := Ideal)).cellOf_inj fun _ => a))
    (Pipeline.launchToks (pcs a) ((launch0 (F := Ideal)).cellOf_inj fun _ => a))

theorem share_eq (c : Dev nD) (w : Fin (cfgA a).W) : (dats a m ρ 0 c).share w = fullShare := by unfold Dat.share; split <;> rfl

/-- The tables as the launch hands them to the region, one by one. -/
theorem prefHeld_eq (c : Dev nD) (q : Fin 2 → PosShare TreeShare) (v : pre0.Contents (Elt Ideal)) :
    (Pipeline.prefHeld (Ix := Unit) (Name := ℕ) (U := UR sig nD τ) (Lvl := ℕ) pre0 c q v : sProp 𝕄)
      = iprop((((c : Thread nD τ).loc main_arg0) ↦{q 0} v 0) ∗ (((c : Thread nD τ).loc main_arg1) ↦{q 1} v 1)) := by
  unfold Pipeline.prefHeld
  rw [show (Finset.univ : Finset (Fin 2)) = insert (0 : Fin 2) {(1 : Fin 2)} from by decide,
    bigSep_insert (by decide), bigSep_singleton]
  rfl

/-- The invariant at the first point, from the tables. -/
theorem phi0_intro (c : Dev nD) :
    iprop(BI.emp ∗ Pipeline.prefHeld pre0 c (fun _ => fullShare.right) a.1 ∗ Pipeline.scopedRest spec0 c) ⊢ (dats a m ρ 0 c).Φ 0 := by
  rw [prefHeld_eq, scopedRest0_eq, show (dats a m ρ 0 c).Φ 0 = Phi a c from rfl]
  unfold Phi
  iintro ⟨-, ⟨HT0, HT1⟩, -⟩
  isplitl [HT0]
  · iexact HT0
  iexact HT1

/-- At the last point the tables are let go. -/
theorem phiN_exit (c : Dev nD) : (dats a m ρ 0 c).Φ (Fin.last (cfgA a).N) ⊢ iprop(BI.emp ∗ Pipeline.scopedRest spec0 c) := by
  rw [scopedRest0_eq, show (dats a m ρ 0 c).Φ (Fin.last (cfgA a).N) = Phi a c from rfl]
  unfold Phi
  iintro ⟨-, -⟩
  isplitr; · iempintro
  iempintro

/-- The final memory: every array at what the pipeline computes, every table unchanged. -/
def QC : PUnit × MemSt nD τ sig (Elt Ideal) → Prop := fun r =>
  ∀ c : Dev nD, (∀ w : Fin (cfgA a).W, r.2.mem (((cfgA a).win w).arr.view.loc (c : Thread nD τ)) = (dats a m ρ 0 c).arrAt w (cfgA a).N)
    ∧ ∀ j, r.2.mem ((c : Thread nD τ).loc (pre0.ref j)) = a.1 j

/-- The launch memory's tables are the contents the pipeline is taken at. -/
def Holds : Prop := ∀ (c : Dev nD) (j : Fin 2), m ((c : Thread nD τ).loc (pre0.ref j)) = a.1 j

set_option backward.isDefEq.respectTransparency.types false in
set_option maxHeartbeats 4000000 in
/-- From any launch memory whose tables are `a`'s: every weakly fair execution of the call terminates, every final state
    has each array at the computed contents, and every semaphore counter at zero. -/
theorem run_main_quiescent (hp : Holds a m) : θ_run (defs (F := Ideal)) (onTc (τ := τ) (main (F := Ideal))) (s₀ m ρ) (fun r => QC a m ρ r ∧ r.2.sem = fun _ => 0) :=
  Pipeline.θ_run_region_noSem_pf_quiescent pcfgs (fun _ => a) (dats a m ρ) () ((launch0 (F := Ideal)).cellOf_inj fun _ => a) (0 : Fin 1)
    (launch0 (F := Ideal)).win.to₀ (launch0 (F := Ideal)).pre EP defs₀ Variants.none m ρ main
    (hbody := fun c => (body_obligation a m ρ c).loose) (hne := (launch0 (F := Ideal)).block_pos)
    (harr := (launch0 (F := Ideal)).arr_whole) (hstage := (launch0 (F := Ideal)).stage_whole) (howed := fun _ _ => rfl)
    (u₀ := u₀ a) (hu₀ := .rfl)
    (V := fun c b => m ((c : Thread nD τ).loc b))
    (hmain := fun c Q => by
      delta main; simp only [Prog.bind_lift, Prog.pure_eq_ret]
      iintro ⟨Hk, Hb⟩; iapply Hk; iexact Hb)
    (hsplit := fun c => Pipeline.arrays_split (pcs a) (dats a m ρ) 0 (launch0 (F := Ideal)).win.arr_inj c (launch0 (F := Ideal)).arr_whole
      (share_eq a m ρ c) _ _ fun _ => rfl)
    (hpf := hp)
    (X := fun _ => iprop(emp)) (Y := fun _ => iprop(emp)) (Z := fun _ => iprop(emp))
    (hX := fun c => by rw [unscopedRestP0_eq]; iintro -; isplitr <;> iempintro)
    (hin := phi0_intro a m ρ)
    (hout := phiN_exit a m ρ)
    (QY := fun _ _ => True)
    (hY := fun c s' => by
      iintro ⟨-, -, HSI⟩; imodintro
      isplitr; · ipureintro; trivial
      iexact HSI)
    (hQ := fun _ h hz => ⟨fun c => ⟨(h c).1, (h c).2.1⟩, hz⟩)

/-- The argument arrays at the end of such a run. -/
theorem args_of_QC (hp : Holds a m) {r : PUnit × MemSt nD τ sig (Elt Ideal)} (h : QC a m ρ r) (c : Dev nD) :
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  ⟨((h c).2 0).trans (hp c 0).symm, ((h c).2 1).trans (hp c 1).symm, ((h c).1 (0 : Fin 7)).trans ((dats a m ρ 0 c).arrAt_in (0 : Fin 7) rfl _), ((h c).1 (1 : Fin 7)).trans ((dats a m ρ 0 c).arrAt_in (1 : Fin 7) rfl _), ((h c).1 (2 : Fin 7)).trans ((dats a m ρ 0 c).arrAt_in (2 : Fin 7) rfl _), ((h c).1 (3 : Fin 7)).trans ((dats a m ρ 0 c).arrAt_in (3 : Fin 7) rfl _), ((h c).1 (4 : Fin 7)).trans ((dats a m ρ 0 c).arrAt_in (4 : Fin 7) rfl _), ((h c).1 (5 : Fin 7)).trans ((dats a m ρ 0 c).arrAt_in (5 : Fin 7) rfl _)⟩

/-- A bound on a block's three coordinates, from the first one's and the rest's. -/
theorem fcons {n x lo hi : ℕ} {f g h : Fin n → ℕ} (h0 : (x + 1) * lo ≤ hi) (hr : ∀ b, (f b + 1) * g b ≤ h b) :
    ∀ b : Fin (n + 1), (Matrix.vecCons x f b + 1) * Matrix.vecCons lo g b ≤ Matrix.vecCons hi h b :=
  Fin.cases h0 hr

/-! ## The precondition gives admissible tables -/

/-- The tables of a launch memory. -/
def tabs : pre0.Contents (Elt Ideal) := fun j => m (((0 : Dev nD) : Thread nD τ).loc (pre0.ref j))

/-- A word signed-at-least zero and signed-below thirty-two is a number below thirty-two. -/
theorem toNat_lt_of_range (w : BitVec 32) (h : (BitVec.ofBool (BitVec.sle 0#32 w)) &&& (BitVec.ofBool (BitVec.slt w 32#32)) = 1#1) :
    w.toNat < 32 := by
  have hs : BitVec.sle 0#32 w = true ∧ BitVec.slt w 32#32 = true := by
    revert h; cases BitVec.sle 0#32 w <;> cases BitVec.slt w 32#32 <;> decide
  have h0 : (0#32).toInt ≤ w.toInt := by simpa [BitVec.sle] using hs.1
  have h1 : w.toInt < (32#32).toInt := by simpa [BitVec.slt] using hs.2
  have e0 : (0#32 : BitVec 32).toInt = 0 := by decide
  have e1 : (32#32 : BitVec 32).toInt = 32 := by decide
  rw [e0] at h0; rw [e1] at h1
  rw [BitVec.toInt_eq_toNat_cond] at h0 h1
  have := w.isLt
  split at h0 <;> omega

/-- Every expert number is one of the thirty-two. -/
theorem expert_lt {T0 : S288.Idx → Elt Ideal .i32} {T1 : S1.Idx → Elt Ideal .i32} {b2 b3 b4 b5 b6 b7}
    (h : Cert.Pre_experts_in_range.fn (F := Ideal) T0 T1 b2 b3 b4 b5 b6 b7 = fun _ => 1#1) (x : S288.Idx) : (T0 x : BitVec 32).toNat < 32 :=
  toNat_lt_of_range (T0 x) (congrFun h x)

/-- Tables of such numbers are admissible: every block a window reads through them is inside its array. -/
theorem ok_of_lt (pf : pre0.Contents (Elt Ideal)) (h : ∀ x : S288.Idx, ((pf 0 : S288.Idx → BitVec 32) x).toNat < 32) : ok0 (F := Ideal) pf :=
  ⟨fun i => ⟨fcons (by have := h ((Rect.unit (s := S288) (k0_off1 i) S1.size (k0_off1_inb i)).emb (Shape.Idx.first (numel1_S1.symm ▸ Nat.one_pos))); show (_ + 1) * 1 ≤ 32; exact (Nat.mul_one _).trans_le this) (fcons (by decide) (fcons (by decide) fun a => a.elim0)), .inr (Affine.block_words_dvd (of_decide_eq_true rfl) (by decide))⟩,
   fun i => ⟨fcons (by have := h ((Rect.unit (s := S288) (k0_off1 i) S1.size (k0_off1_inb i)).emb (Shape.Idx.first (numel1_S1.symm ▸ Nat.one_pos))); show (_ + 1) * 1 ≤ 32; exact (Nat.mul_one _).trans_le this) (fcons (by decide) (fcons (by decide) fun a => a.elim0)), .inl rfl⟩,
   fun i => ⟨fcons (by have := h ((Rect.unit (s := S288) (k0_off1 i) S1.size (k0_off1_inb i)).emb (Shape.Idx.first (numel1_S1.symm ▸ Nat.one_pos))); show (_ + 1) * 1 ≤ 32; exact (Nat.mul_one _).trans_le this) (fcons (by decide) (fcons (by decide) fun a => a.elim0)), .inr (Affine.block_words_dvd (of_decide_eq_true rfl) (by decide))⟩,
   fun i => ⟨fcons (by have := h ((Rect.unit (s := S288) (k0_off1 i) S1.size (k0_off1_inb i)).emb (Shape.Idx.first (numel1_S1.symm ▸ Nat.one_pos))); show (_ + 1) * 1 ≤ 32; exact (Nat.mul_one _).trans_le this) (fcons (by decide) (fcons (by decide) fun a => a.elim0)), .inl rfl⟩⟩

/-- The admissible tables of a launch memory that meets the precondition. -/
def adm (h : Cert.Pre_MoeIdeal m) : (pcfg0 (F := Ideal)).Adm :=
  ⟨tabs m, ok_of_lt (tabs m) (expert_lt (h 0))⟩

theorem holds_adm (h : Cert.Pre_MoeIdeal m) : Holds (adm m h) m := fun c j => by
  rw [Subsingleton.elim c 0]; rfl

/-- The call runs, its arguments end unchanged and every semaphore counter is zero. -/
theorem frame_adm (h : Cert.Pre_MoeIdeal m) :
    θ_run (defs (F := Ideal)) (onTc (τ := τ) (main (F := Ideal))) (s₀ m ρ) (fun r => (∀ c : Dev nD,
      r.2.mem ((c.tc : Thread nD τ).loc main_arg0) = m ((c.tc : Thread nD τ).loc main_arg0) ∧ r.2.mem ((c.tc : Thread nD τ).loc main_arg1) = m ((c.tc : Thread nD τ).loc main_arg1) ∧ r.2.mem ((c.tc : Thread nD τ).loc main_arg2) = m ((c.tc : Thread nD τ).loc main_arg2) ∧ r.2.mem ((c.tc : Thread nD τ).loc main_arg3) = m ((c.tc : Thread nD τ).loc main_arg3) ∧ r.2.mem ((c.tc : Thread nD τ).loc main_arg4) = m ((c.tc : Thread nD τ).loc main_arg4) ∧ r.2.mem ((c.tc : Thread nD τ).loc main_arg5) = m ((c.tc : Thread nD τ).loc main_arg5) ∧ r.2.mem ((c.tc : Thread nD τ).loc main_arg6) = m ((c.tc : Thread nD τ).loc main_arg6) ∧ r.2.mem ((c.tc : Thread nD τ).loc main_arg7) = m ((c.tc : Thread nD τ).loc main_arg7)) ∧ r.2.sem = fun _ => 0) :=
  (θ_run defs _ _).mono (fun r hr => ⟨fun c => args_of_QC (adm m h) m ρ (holds_adm m h) hr.1 c, hr.2⟩) (run_main_quiescent (adm m h) m ρ (holds_adm m h))

end Cert.MoeIdeal.Tab

end
-- ==== Proof.MoeBlocks.lean ====
/-
  The reference's result at an index, and the block the kernel's body computes, as one formula: the two agree entry by
  entry when the body is handed the block's rows and its expert's weights.
-/
module

public import proofs.«01_k».proof.Defs
public import proofs.«01_k».proof.Proof.Gen.MoeRefIdeal.Run
public import proofs.«01_k».proof.Proof.Gen.MoeIdeal.Skeleton
public import Idealize.ShloMosaic.Lib.Pointwise
public import Idealize.ShloMosaic.Lib.ValueIdx
public import Idealize.ShloMosaic.Lib.IdealHost
public import Idealize.ShloMosaic.Lib.StableHlo.Predicate

@[expose] public section

set_option maxRecDepth 16384

noncomputable section

namespace Cert.MoeRefIdeal.Blocks

open Cert.MoeRefIdeal Cert.MoeRefIdeal.Gen Cert.MoeRefIdeal.Value
open Idealize.ShloMosaic Idealize.SL.Sem Idealize.ShloMosaic.TcCoe

/-! ## A table of matrices read at a list of its members -/

/-- The dimension numbers of `table[idx]`, a table of `E` matrices at `n` members. -/
abbrev takeDims3 (E A B n : ℕ) (wf : GatherDims.WF ⟨3, ![E, A, B]⟩ ⟨2, ![n, 1]⟩ ⟨3, ![n, A, B]⟩ [1, 2] [0] [] [0] [] 1 ![1, A, B]) :
    GatherDims ⟨3, ![E, A, B]⟩ ⟨2, ![n, 1]⟩ ⟨3, ![n, A, B]⟩ where
  offsetDims := [1, 2]
  collapsedSliceDims := [0]
  operandBatchingDims := []
  startIndicesBatchingDims := []
  startIndexMap := [0]
  indexVectorDim := 1
  sliceSizes := ![1, A, B]
  wf := wf

/-- Entry `(c, y, z)` of the gathered table is entry `(y, z)` of the member the list names at `c`. -/
theorem gather_mats {α : Type} {E A B n : ℕ} (wf) (x : (⟨3, ![E, A, B]⟩ : Shape).Idx → α) (idx : IVec ⟨2, ![n, 1]⟩ 32)
    (c : Fin n) (y : Fin A) (z : Fin B) (e : Fin E) (hE : E < 2 ^ 31) (he : idx (ix2 c (0 : Fin 1)) = BitVec.ofNat 32 e.val) :
    Host.gather (takeDims3 E A B n wf) x idx (ix3 c y z) = x (ix3 e y z) := by
  unfold Host.gather
  refine congrArg x (funext fun a => Fin.ext ?_)
  have hlt := e.isLt
  match a with
  | ⟨0, _⟩ =>
    have hs : (takeDims3 E A B n wf).siIdx (ix3 c y z) ⟨0, Nat.one_pos⟩ = ix2 c (0 : Fin 1) := by
      funext b'
      match b' with
      | ⟨0, _⟩ => rfl
      | ⟨1, _⟩ => rfl
    show min (idx ((takeDims3 E A B n wf).siIdx (ix3 c y z) ⟨0, Nat.one_pos⟩)).toInt.toNat (E - 1) + 0 + 0 = e.val
    rw [hs, he, StableHlo.Predicate.toInt_ofNat_small _ (by omega)]
    omega
  | ⟨1, _⟩ => show 0 + 0 + y.val = y.val; omega
  | ⟨2, _⟩ => show 0 + 0 + z.val = z.val; omega

/-! ## The expert numbers as the reference reads them -/

/-- The reference's list of expert numbers: a negative one counted from the end. -/
abbrev wrapped (T0 : IVec S288 32) : IVec S288x1 32 :=
  (broadcastInDim S288x1 ![0] bcast_S288_S288x1_0 (select (cmpi .slt T0 (broadcastInDim S288 ![] bcast_S_S288 (constantI S_ 32 0#32))) (addi T0 (broadcastInDim S288 ![] bcast_S_S288 (constantI S_ 32 32#32))) T0))

/-- A number that is one of the thirty-two is read as it is. -/
theorem wrapped_apply (T0 : IVec S288 32) (b : Fin 288) (h : (T0 (ix1 b)).toNat < 32) :
    wrapped T0 (ix2 b (0 : Fin 1)) = BitVec.ofNat 32 (⟨(T0 (ix1 b)).toNat, h⟩ : Fin 32).val := by
  have e : wrapped T0 (ix2 b (0 : Fin 1)) = Scalar.select (IntOp.cmpi .slt (T0 (ix1 b)) 0#32) (IntOp.addi (T0 (ix1 b)) 32#32) (T0 (ix1 b)) := by
    pointwise
  rw [e]
  have hs : (T0 (ix1 b)).slt 0#32 = false := by
    rw [Bool.eq_false_iff]; intro hc
    rw [BitVec.slt_iff_toInt_lt, BitVec.toInt_eq_toNat_cond] at hc
    have e0 : (0#32 : BitVec 32).toInt = 0 := by decide
    rw [e0] at hc; split at hc <;> omega
  show (if BitVec.ofBool ((T0 (ix1 b)).slt 0#32) = 1#1 then _ else _) = _
  rw [hs, if_neg (by decide)]
  exact (BitVec.ofNat_toNat _ _).symm ▸ by simp

/-- The reference's result as blocks of rows, from the gathered weights. -/
def core (T1 : IVec S1 32) (X : FVec Ideal S147456x1024 .bf16) (gate : FVec Ideal S147456x1 .f32) (Wg : FVec Ideal S288x1024x2048 .bf16) (bg : FVec Ideal S288x1x2048 .f32) (Wd : FVec Ideal S288x1024x1024 .bf16) (bd : FVec Ideal S288x1x1024 .f32) : FVec Ideal S288x512x1024 .f32 :=
  (select (broadcastInDim S288x512x1024 ![0, 1, 2] bcast_S288x1x1_S288x512x1024_0_1_2 (broadcastInDim S288x1x1 ![0] bcast_S288_S288x1x1_0 (cmpi .slt (iotaInDim S288 32 0) (broadcastInDim S288 ![0] bcast_S1_S288_0 T1)))) (mulf (addf (Host.dotGeneral dot_S288x512x1024_S288x1024x1024_S288x512x1024_2_1_1_2_0_0 none (mulf (addf (minimumf (broadcastInDim S288x512x1024 ![] bcast_S_S288x512x1024 (id (constant (F := Ideal) S_ .f32 0x40E00000#32))) (maximumf (broadcastInDim S288x512x1024 ![] bcast_S_S288x512x1024 (id (constant (F := Ideal) S_ .f32 0xC0E00000#32))) (extractStridedSlice S288x512x1024 ![0, 0, 1024] (addf (Host.dotGeneral dot_S288x512x1024_S288x1024x2048_S288x512x2048_2_1_1_2_0_0 none (shapeCast _ (extf .f32 X bitsLt_bf16_f32) shapeCasts_S147456x1024_S288x512x1024) (extf .f32 Wg bitsLt_bf16_f32)) (broadcastInDim S288x512x2048 ![0, 1, 2] bcast_S288x1x2048_S288x512x2048_0_1_2 bg)) slices_S288x512x2048_S288x512x1024_0_0_1024))) (broadcastInDim S288x512x1024 ![] bcast_S_S288x512x1024 (constant (F := Ideal) S_ .f32 0x3F800000#32))) (mulf (minimumf (extractStridedSlice S288x512x1024 ![0, 0, 0] (addf (Host.dotGeneral dot_S288x512x1024_S288x1024x2048_S288x512x2048_2_1_1_2_0_0 none (shapeCast _ (extf .f32 X bitsLt_bf16_f32) shapeCasts_S147456x1024_S288x512x1024) (extf .f32 Wg bitsLt_bf16_f32)) (broadcastInDim S288x512x2048 ![0, 1, 2] bcast_S288x1x2048_S288x512x2048_0_1_2 bg)) slices_S288x512x2048_S288x512x1024_0_0_0) (broadcastInDim S288x512x1024 ![] bcast_S_S288x512x1024 (constant (F := Ideal) S_ .f32 0x40E00000#32))) (Host.divf (broadcastInDim S288x512x1024 ![] bcast_S_S288x512x1024 (constant (F := Ideal) S_ .f32 0x3F800000#32)) (addf (broadcastInDim S288x512x1024 ![] bcast_S_S288x512x1024 (constant (F := Ideal) S_ .f32 0x3F800000#32)) (Host.exp (Host.negf (mulf (broadcastInDim S288x512x1024 ![] bcast_S_S288x512x1024 (constant (F := Ideal) S_ .f32 0x3FD9DB23#32)) (minimumf (extractStridedSlice S288x512x1024 ![0, 0, 0] (addf (Host.dotGeneral dot_S288x512x1024_S288x1024x2048_S288x512x2048_2_1_1_2_0_0 none (shapeCast _ (extf .f32 X bitsLt_bf16_f32) shapeCasts_S147456x1024_S288x512x1024) (extf .f32 Wg bitsLt_bf16_f32)) (broadcastInDim S288x512x2048 ![0, 1, 2] bcast_S288x1x2048_S288x512x2048_0_1_2 bg)) slices_S288x512x2048_S288x512x1024_0_0_0) (broadcastInDim S288x512x1024 ![] bcast_S_S288x512x1024 (constant (F := Ideal) S_ .f32 0x40E00000#32)))))))))) (extf .f32 Wd bitsLt_bf16_f32)) (broadcastInDim S288x512x1024 ![0, 1, 2] bcast_S288x1x1024_S288x512x1024_0_1_2 bd)) (broadcastInDim S288x512x1024 ![0, 1, 2] bcast_S288x512x1_S288x512x1024_0_1_2 (shapeCast _ gate shapeCasts_S147456x1_S288x512x1))) (broadcastInDim S288x512x1024 ![] bcast_S_S288x512x1024 (id (constant (F := Ideal) S_ .f32 0x00000000#32))))

/-- The reference's result is these blocks' rows, one after another. -/
theorem res_eq (m : (ℓ : Loc nD τ sig) → Buf (Elt Ideal) ℓ) (c : Dev nD) :
    res_out0 (F := Ideal) m c = shapeCast S147456x1024 (core (m ((c.tc : Thread nD τ).loc main_arg1)) (m ((c.tc : Thread nD τ).loc main_arg2)) (m ((c.tc : Thread nD τ).loc main_arg3))
      (Host.gather gather_S32x1024x2048_S288x1_S288x1024x2048_12_0_n_n_0_1_110242048 (m ((c.tc : Thread nD τ).loc main_arg4)) (wrapped (m ((c.tc : Thread nD τ).loc main_arg0))))
      (Host.gather gather_S32x1x2048_S288x1_S288x1x2048_12_0_n_n_0_1_112048 (m ((c.tc : Thread nD τ).loc main_arg5)) (wrapped (m ((c.tc : Thread nD τ).loc main_arg0))))
      (Host.gather gather_S32x1024x1024_S288x1_S288x1024x1024_12_0_n_n_0_1_110241024 (m ((c.tc : Thread nD τ).loc main_arg6)) (wrapped (m ((c.tc : Thread nD τ).loc main_arg0))))
      (Host.gather gather_S32x1x1024_S288x1_S288x1x1024_12_0_n_n_0_1_111024 (m ((c.tc : Thread nD τ).loc main_arg7)) (wrapped (m ((c.tc : Thread nD τ).loc main_arg0))))) shapeCasts_S288x512x1024_S147456x1024 := rfl

/-! ## One entry -/

theorem row_lt {b : Fin 288} {r : Fin 512} : b.val * 512 + r.val < 147456 := by omega

/-- A used block's entry is the entry of the block the body computes from the block's rows and its expert's weights. -/
theorem core_used (T1 : IVec S1 32) (X : FVec Ideal S147456x1024 .bf16) (gate : FVec Ideal S147456x1 .f32) (Wg : FVec Ideal S288x1024x2048 .bf16) (bg : FVec Ideal S288x1x2048 .f32) (Wd : FVec Ideal S288x1024x1024 .bf16) (bd : FVec Ideal S288x1x1024 .f32) (b : Fin 288) (r : Fin 512) (n : Fin 1024)
    (hb : (BitVec.ofNat 32 b.val).slt (T1 (ix1 (0 : Fin 1))) = true) :
    core T1 X gate Wg bg Wd bd (ix3 b r n)
      = Cert.MoeIdeal.Gen.k0_pay2 (F := Ideal) (fun j => X (ix2 ⟨b.val * 512 + (j 0).val, row_lt⟩ (j 1))) (fun j => Wg (ix3 b (j 1) (j 2)))
          (fun j => bg (ix3 b (0 : Fin 1) (j 2))) (fun j => Wd (ix3 b (j 1) (j 2))) (fun j => bd (ix3 b (0 : Fin 1) (j 2)))
          (fun j => gate (ix2 ⟨b.val * 512 + (j 0).val, row_lt⟩ (0 : Fin 1))) (ix2 r n) := by
  pointwise [core, Cert.MoeIdeal.Gen.k0_pay2]
  have hc : IntOp.cmpi .slt (BitVec.ofNat 32 b.val) (T1 (ix1 0)) = 1#1 := by
    show BitVec.ofBool _ = _
    rw [hb]; rfl
  rw [hc]
  rfl

/-- A block past the used ones is zero. -/
theorem core_unused (T1 : IVec S1 32) (X : FVec Ideal S147456x1024 .bf16) (gate : FVec Ideal S147456x1 .f32) (Wg : FVec Ideal S288x1024x2048 .bf16) (bg : FVec Ideal S288x1x2048 .f32) (Wd : FVec Ideal S288x1024x1024 .bf16) (bd : FVec Ideal S288x1x1024 .f32) (b : Fin 288) (r : Fin 512) (n : Fin 1024)
    (hb : (BitVec.ofNat 32 b.val).slt (T1 (ix1 (0 : Fin 1))) = false) :
    core T1 X gate Wg bg Wd bd (ix3 b r n) = Cert.MoeIdeal.Gen.k0_pay1 (F := Ideal) (ix2 r n) := by
  unfold core
  pointwise [Cert.MoeIdeal.Gen.k0_pay1]
  have hc : IntOp.cmpi .slt (BitVec.ofNat 32 b.val) (T1 (ix1 0)) = 0#1 := by
    show BitVec.ofBool _ = _
    rw [hb]; rfl
  rw [hc]
  exact Ideal.ofBits_zero_f32

end Cert.MoeRefIdeal.Blocks

end
-- ==== Proof.MoeValue.lean ====
/-
  What the call leaves in its output array: point `t`'s block is rows `512 t` to `512 t + 511` of the reference's result.
-/
module

public import proofs.«01_k».proof.Proof.MoeIdealTab
public import proofs.«01_k».proof.Proof.MoeBlocks
public import Idealize.ShloMosaic.Lib.Pipeline.Value

@[expose] public section

set_option maxRecDepth 16384

noncomputable section

namespace Cert.MoeIdeal.Tab

open Cert.MoeIdeal Cert.MoeIdeal.Gen
open Idealize.ShloMosaic Idealize.ShloMosaic.TcCoe Idealize.SL.Sem
open Idealize.ShloMosaic.Pipeline (Dat Cfg Window)
open Cert.MoeRefIdeal.Blocks (core row_lt)

variable (a : (pcfg0 (F := Ideal)).Adm)
variable (m : (ℓ : Loc nD τ sig) → Buf (Elt Ideal) ℓ) (ρ : Dev nD → PrngReg)

/-! ## The points and their blocks -/

/-- Point `t` as a block number. -/
abbrev pt (t : Fin (cfgA a).N) : Fin 288 := ⟨t.val, lt_of_lt_of_eq t.isLt N_0⟩

theorem coord_val : ∀ t : Fin grid0.N, ((grid0.coords t) 0).val = t.val := by decide +kernel

theorem word_val (t : Fin grid0.N) : (BitVec.ofNat 32 ((grid0.coords t) 0).val).toNat = t.val := by
  rw [coord_val, BitVec.toNat_ofNat]
  have := lt_of_lt_of_eq t.isLt N_0
  exact Nat.mod_eq_of_lt (by omega)

/-- The row windows' block index at point `t`. -/
theorem row_index (t : Fin grid0.N) : cc0_transform_0 (grid0.coords t) = ![t.val, 0] := by
  unfold cc0_transform_0
  exact congrArg (fun n : ℕ => (![n, 0] : Fin 2 → ℕ)) (word_val t)

/-- The word the weight windows' index maps read at point `t`. -/
theorem table_word (t : Fin grid0.N) (pf : pre0.Contents (Elt Ideal)) :
    (pf.at 0 (Rect.unit (s := S288) (k0_off1 (grid0.coords t)) S1.size (k0_off1_inb _)) numel1_S1 : BitVec 32)
      = (pf 0 : S288.Idx → BitVec 32) (ix1 (⟨t.val, lt_of_lt_of_eq t.isLt N_0⟩ : Fin 288)) := by
  refine congrArg (pf 0 : S288.Idx → BitVec 32) (funext fun ax => Fin.ext ?_)
  match ax with
  | ⟨0, _⟩ =>
    show k0_off1 (grid0.coords t) 0 + 1 * 0 = t.val
    rw [k0_off1_eq]
    exact coord_val t

theorem expert_index2 (t : Fin grid0.N) (pf : pre0.Contents (Elt Ideal)) :
    cc0_transform_2 k0_off1_inb numel1_S1 pf (grid0.coords t) = ![((pf 0 : S288.Idx → BitVec 32) (ix1 (⟨t.val, lt_of_lt_of_eq t.isLt N_0⟩ : Fin 288))).toNat, 0, 0] :=
  congrArg (fun w : BitVec 32 => (![w.toNat, 0, 0] : Fin 3 → ℕ)) (table_word t pf)

theorem expert_index3 (t : Fin grid0.N) (pf : pre0.Contents (Elt Ideal)) :
    cc0_transform_3 k0_off1_inb numel1_S1 pf (grid0.coords t) = ![((pf 0 : S288.Idx → BitVec 32) (ix1 (⟨t.val, lt_of_lt_of_eq t.isLt N_0⟩ : Fin 288))).toNat, 0, 0] :=
  congrArg (fun w : BitVec 32 => (![w.toNat, 0, 0] : Fin 3 → ℕ)) (table_word t pf)

theorem expert_index4 (t : Fin grid0.N) (pf : pre0.Contents (Elt Ideal)) :
    cc0_transform_4 k0_off1_inb numel1_S1 pf (grid0.coords t) = ![((pf 0 : S288.Idx → BitVec 32) (ix1 (⟨t.val, lt_of_lt_of_eq t.isLt N_0⟩ : Fin 288))).toNat, 0, 0] :=
  congrArg (fun w : BitVec 32 => (![w.toNat, 0, 0] : Fin 3 → ℕ)) (table_word t pf)

theorem expert_index5 (t : Fin grid0.N) (pf : pre0.Contents (Elt Ideal)) :
    cc0_transform_5 k0_off1_inb numel1_S1 pf (grid0.coords t) = ![((pf 0 : S288.Idx → BitVec 32) (ix1 (⟨t.val, lt_of_lt_of_eq t.isLt N_0⟩ : Fin 288))).toNat, 0, 0] :=
  congrArg (fun w : BitVec 32 => (![w.toNat, 0, 0] : Fin 3 → ℕ)) (table_word t pf)

/-- Window 0's block at point `t`, entry by entry. -/
theorem blk0 (c : Dev nD) (t : Fin (cfgA a).N) (j : S512x1024.Idx) :
    iblk a m ρ c (0 : Fin 7) t j = m ((c : Thread nD τ).loc main_arg2) (ix2 ⟨t.val * 512 + (j 0).val, row_lt (b := pt a t) (r := j 0)⟩ (j 1)) := by
  unfold iblk
  rw [View.read_apply, cast_eq]
  refine congrArg (m ((c : Thread nD τ).loc main_arg2)) (funext fun ax => Fin.ext ?_)
  refine (((cfgA a).win (0 : Fin 7)).rect_emb_val t j ax).trans ?_
  have hi : ((cfgA a).win (0 : Fin 7)).index t = ![t.val, 0] := row_index t
  rw [hi]
  match ax with
  | ⟨0, _⟩ => rfl
  | ⟨1, _⟩ => show 0 * 1024 + (j 1).val = (j 1).val; omega

/-- Window 1's block at point `t`, entry by entry. -/
theorem blk1 (c : Dev nD) (t : Fin (cfgA a).N) (j : S512x1.Idx) :
    iblk a m ρ c (1 : Fin 7) t j = m ((c : Thread nD τ).loc main_arg3) (ix2 ⟨t.val * 512 + (j 0).val, row_lt (b := pt a t) (r := j 0)⟩ (0 : Fin 1)) := by
  unfold iblk
  rw [View.read_apply, cast_eq]
  refine congrArg (m ((c : Thread nD τ).loc main_arg3)) (funext fun ax => Fin.ext ?_)
  refine (((cfgA a).win (1 : Fin 7)).rect_emb_val t j ax).trans ?_
  have hi : ((cfgA a).win (1 : Fin 7)).index t = ![t.val, 0] := row_index t
  rw [hi]
  match ax with
  | ⟨0, _⟩ => rfl
  | ⟨1, _⟩ => have := (j 1).isLt; show 0 * 1 + (j 1).val = 0; have h1 : (j 1).val < 1 := (j 1).isLt; omega

/-- Window 2's block at point `t`, entry by entry. -/
theorem blk2 (c : Dev nD) (t : Fin (cfgA a).N) (he : (t0 a (ix1 (pt a t))).toNat < 32) (j : S1x1024x2048.Idx) :
    iblk a m ρ c (2 : Fin 7) t j = m ((c : Thread nD τ).loc main_arg4) (ix3 ⟨(t0 a (ix1 (pt a t))).toNat, he⟩ (j 1) (j 2)) := by
  unfold iblk
  rw [View.read_apply, cast_eq]
  refine congrArg (m ((c : Thread nD τ).loc main_arg4)) (funext fun ax => Fin.ext ?_)
  refine (((cfgA a).win (2 : Fin 7)).rect_emb_val t j ax).trans ?_
  have hi : ((cfgA a).win (2 : Fin 7)).index t = ![(t0 a (ix1 (pt a t))).toNat, 0, 0] := expert_index2 t a.1
  rw [hi]
  match ax with
  | ⟨0, _⟩ => have h0 : (j 0).val < 1 := (j 0).isLt; show (t0 a (ix1 (pt a t))).toNat * 1 + (j 0).val = (t0 a (ix1 (pt a t))).toNat; omega
  | ⟨1, _⟩ => have h1 : (j 1).val < 1024 := (j 1).isLt; show 0 * 1024 + (j 1).val = (j 1).val; omega
  | ⟨2, _⟩ => show 0 * 2048 + (j 2).val = (j 2).val; omega

/-- Window 3's block at point `t`, entry by entry. -/
theorem blk3 (c : Dev nD) (t : Fin (cfgA a).N) (he : (t0 a (ix1 (pt a t))).toNat < 32) (j : S1x1x2048.Idx) :
    iblk a m ρ c (3 : Fin 7) t j = m ((c : Thread nD τ).loc main_arg5) (ix3 ⟨(t0 a (ix1 (pt a t))).toNat, he⟩ (0 : Fin 1) (j 2)) := by
  unfold iblk
  rw [View.read_apply, cast_eq]
  refine congrArg (m ((c : Thread nD τ).loc main_arg5)) (funext fun ax => Fin.ext ?_)
  refine (((cfgA a).win (3 : Fin 7)).rect_emb_val t j ax).trans ?_
  have hi : ((cfgA a).win (3 : Fin 7)).index t = ![(t0 a (ix1 (pt a t))).toNat, 0, 0] := expert_index3 t a.1
  rw [hi]
  match ax with
  | ⟨0, _⟩ => have h0 : (j 0).val < 1 := (j 0).isLt; show (t0 a (ix1 (pt a t))).toNat * 1 + (j 0).val = (t0 a (ix1 (pt a t))).toNat; omega
  | ⟨1, _⟩ => have h1 : (j 1).val < 1 := (j 1).isLt; show 0 * 1 + (j 1).val = 0; omega
  | ⟨2, _⟩ => show 0 * 2048 + (j 2).val = (j 2).val; omega

/-- Window 4's block at point `t`, entry by entry. -/
theorem blk4 (c : Dev nD) (t : Fin (cfgA a).N) (he : (t0 a (ix1 (pt a t))).toNat < 32) (j : S1x1024x1024.Idx) :
    iblk a m ρ c (4 : Fin 7) t j = m ((c : Thread nD τ).loc main_arg6) (ix3 ⟨(t0 a (ix1 (pt a t))).toNat, he⟩ (j 1) (j 2)) := by
  unfold iblk
  rw [View.read_apply, cast_eq]
  refine congrArg (m ((c : Thread nD τ).loc main_arg6)) (funext fun ax => Fin.ext ?_)
  refine (((cfgA a).win (4 : Fin 7)).rect_emb_val t j ax).trans ?_
  have hi : ((cfgA a).win (4 : Fin 7)).index t = ![(t0 a (ix1 (pt a t))).toNat, 0, 0] := expert_index4 t a.1
  rw [hi]
  match ax with
  | ⟨0, _⟩ => have h0 : (j 0).val < 1 := (j 0).isLt; show (t0 a (ix1 (pt a t))).toNat * 1 + (j 0).val = (t0 a (ix1 (pt a t))).toNat; omega
  | ⟨1, _⟩ => have h1 : (j 1).val < 1024 := (j 1).isLt; show 0 * 1024 + (j 1).val = (j 1).val; omega
  | ⟨2, _⟩ => show 0 * 1024 + (j 2).val = (j 2).val; omega

/-- Window 5's block at point `t`, entry by entry. -/
theorem blk5 (c : Dev nD) (t : Fin (cfgA a).N) (he : (t0 a (ix1 (pt a t))).toNat < 32) (j : S1x1x1024.Idx) :
    iblk a m ρ c (5 : Fin 7) t j = m ((c : Thread nD τ).loc main_arg7) (ix3 ⟨(t0 a (ix1 (pt a t))).toNat, he⟩ (0 : Fin 1) (j 2)) := by
  unfold iblk
  rw [View.read_apply, cast_eq]
  refine congrArg (m ((c : Thread nD τ).loc main_arg7)) (funext fun ax => Fin.ext ?_)
  refine (((cfgA a).win (5 : Fin 7)).rect_emb_val t j ax).trans ?_
  have hi : ((cfgA a).win (5 : Fin 7)).index t = ![(t0 a (ix1 (pt a t))).toNat, 0, 0] := expert_index5 t a.1
  rw [hi]
  match ax with
  | ⟨0, _⟩ => have h0 : (j 0).val < 1 := (j 0).isLt; show (t0 a (ix1 (pt a t))).toNat * 1 + (j 0).val = (t0 a (ix1 (pt a t))).toNat; omega
  | ⟨1, _⟩ => have h1 : (j 1).val < 1 := (j 1).isLt; show 0 * 1 + (j 1).val = 0; omega
  | ⟨2, _⟩ => show 0 * 1024 + (j 2).val = (j 2).val; omega

/-! ## The output array -/

/-- The reference's blocks at this memory's arguments. -/
abbrev refBlocks (c : Dev nD) : FVec Ideal Cert.MoeRefIdeal.S288x512x1024 .f32 :=
  core (m ((c : Thread nD τ).loc main_arg1)) (m ((c : Thread nD τ).loc main_arg2)) (m ((c : Thread nD τ).loc main_arg3))
    (Host.gather Cert.MoeRefIdeal.gather_S32x1024x2048_S288x1_S288x1024x2048_12_0_n_n_0_1_110242048 (m ((c : Thread nD τ).loc main_arg4)) (Cert.MoeRefIdeal.Blocks.wrapped (m ((c : Thread nD τ).loc main_arg0))))
    (Host.gather Cert.MoeRefIdeal.gather_S32x1x2048_S288x1_S288x1x2048_12_0_n_n_0_1_112048 (m ((c : Thread nD τ).loc main_arg5)) (Cert.MoeRefIdeal.Blocks.wrapped (m ((c : Thread nD τ).loc main_arg0))))
    (Host.gather Cert.MoeRefIdeal.gather_S32x1024x1024_S288x1_S288x1024x1024_12_0_n_n_0_1_110241024 (m ((c : Thread nD τ).loc main_arg6)) (Cert.MoeRefIdeal.Blocks.wrapped (m ((c : Thread nD τ).loc main_arg0))))
    (Host.gather Cert.MoeRefIdeal.gather_S32x1x1024_S288x1_S288x1x1024_12_0_n_n_0_1_111024 (m ((c : Thread nD τ).loc main_arg7)) (Cert.MoeRefIdeal.Blocks.wrapped (m ((c : Thread nD τ).loc main_arg0))))

/-- Their rows, one after another: what the call leaves in the output array. -/
def G (c : Dev nD) : S147456x1024.Idx → Elt Ideal .f32 :=
  shapeCast S147456x1024 (refBlocks m c) Cert.MoeRefIdeal.Gen.shapeCasts_S288x512x1024_S147456x1024

theorem G_row (c : Dev nD) (b : Fin 288) (r : Fin 512) (n : Fin 1024) :
    G m c (ix2 ⟨b.val * 512 + r.val, row_lt⟩ n) = refBlocks m c (ix3 b r n) := by
  unfold G
  generalize refBlocks m c = R
  pointwise

/-- What point `t` stores is the reference's block `t`. -/
theorem outAt_eq (hp : Holds a m) (hlt : ∀ x : S288.Idx, (t0 a x).toNat < 32) (c : Dev nD) (t : Fin (cfgA a).N) (r : Fin 512) (n : Fin 1024) :
    outAt a m ρ c t (ix2 r n) = refBlocks m c (ix3 (pt a t) r n) := by
  have hT0 : t0 a = m ((c : Thread nD τ).loc main_arg0) := (hp c 0).symm
  have hT1 : t1 a = m ((c : Thread nD τ).loc main_arg1) := (hp c 1).symm
  have he := hlt (ix1 (pt a t))
  have hw : Cert.MoeRefIdeal.Blocks.wrapped (m ((c : Thread nD τ).loc main_arg0)) (ix2 (pt a t) (0 : Fin 1)) = BitVec.ofNat 32 (⟨(t0 a (ix1 (pt a t))).toNat, he⟩ : Fin 32).val := by
    rw [← hT0]; exact Cert.MoeRefIdeal.Blocks.wrapped_apply (t0 a) (pt a t) he
  have hcond : k0_cond1 (crd a t) (nbWord (t1 a)) = 1#1 ↔ (BitVec.ofNat 32 (pt a t).val).slt ((m ((c : Thread nD τ).loc main_arg1) : S1.Idx → BitVec 32) (ix1 (0 : Fin 1))) = true := by
    rw [cond1_iff, ← hT1]
    have e1 : nbWord (t1 a) = (t1 a : S1.Idx → BitVec 32) (ix1 (0 : Fin 1)) := congrArg (t1 a) (idx_S1 _ _)
    have e2 : ((crd a t) 0).val = (pt a t).val := coord_val t
    rw [e1, e2]
  unfold outAt outBlk
  by_cases h1 : k0_cond1 (crd a t) (nbWord (t1 a)) = 1#1
  · rw [if_pos h1]
    refine Eq.trans ?_ (Cert.MoeRefIdeal.Blocks.core_used _ _ _ _ _ _ _ (pt a t) r n (hcond.mp h1)).symm
    have b0 := funext fun j => blk0 a m ρ c t j
    have b1 := funext fun j => blk1 a m ρ c t j
    have b2 := funext fun j => blk2 a m ρ c t he j
    have b3 := funext fun j => blk3 a m ρ c t he j
    have b4 := funext fun j => blk4 a m ρ c t he j
    have b5 := funext fun j => blk5 a m ρ c t he j
    have g4 := fun (y : Fin 1024) (z : Fin 2048) => Cert.MoeRefIdeal.Blocks.gather_mats Cert.MoeRefIdeal.Gen.gather_S32x1024x2048_S288x1_S288x1024x2048_12_0_n_n_0_1_110242048_wf (m ((c : Thread nD τ).loc main_arg4)) _ (pt a t) y z ⟨(t0 a (ix1 (pt a t))).toNat, he⟩ (by omega) hw
    have g5 := fun (y : Fin 1) (z : Fin 2048) => Cert.MoeRefIdeal.Blocks.gather_mats Cert.MoeRefIdeal.Gen.gather_S32x1x2048_S288x1_S288x1x2048_12_0_n_n_0_1_112048_wf (m ((c : Thread nD τ).loc main_arg5)) _ (pt a t) y z ⟨(t0 a (ix1 (pt a t))).toNat, he⟩ (by omega) hw
    have g6 := fun (y : Fin 1024) (z : Fin 1024) => Cert.MoeRefIdeal.Blocks.gather_mats Cert.MoeRefIdeal.Gen.gather_S32x1024x1024_S288x1_S288x1024x1024_12_0_n_n_0_1_110241024_wf (m ((c : Thread nD τ).loc main_arg6)) _ (pt a t) y z ⟨(t0 a (ix1 (pt a t))).toNat, he⟩ (by omega) hw
    have g7 := fun (y : Fin 1) (z : Fin 1024) => Cert.MoeRefIdeal.Blocks.gather_mats Cert.MoeRefIdeal.Gen.gather_S32x1x1024_S288x1_S288x1x1024_12_0_n_n_0_1_111024_wf (m ((c : Thread nD τ).loc main_arg7)) _ (pt a t) y z ⟨(t0 a (ix1 (pt a t))).toNat, he⟩ (by omega) hw
    refine congrFun ?_ (ix2 r n)
    refine congr (congr (congr (congr (congr (congrArg k0_pay2 b0) ?_) ?_) ?_) ?_) b1
    · exact b2.trans (funext fun j => (g4 (j 1) (j 2)).symm)
    · exact b3.trans (funext fun j => (g5 0 (j 2)).symm)
    · exact b4.trans (funext fun j => (g6 (j 1) (j 2)).symm)
    · exact b5.trans (funext fun j => (g7 0 (j 2)).symm)
  · rw [if_neg h1]
    exact (Cert.MoeRefIdeal.Blocks.core_unused _ _ _ _ _ _ _ (pt a t) r n (Bool.eq_false_iff.mpr fun h => h1 (hcond.mpr h))).symm

/-- Row `512 t + r` of the output array is row `r` of point `t`'s block. -/
theorem emb6 (t : Fin (cfgA a).N) (j : S512x1024.Idx) :
    (((cfgA a).win (6 : Fin 7)).blk t).view.emb j = (ix2 ⟨t.val * 512 + (j 0).val, row_lt (b := pt a t) (r := j 0)⟩ (j 1) : S147456x1024.Idx) := by
  refine funext fun ax => Fin.ext ?_
  refine (((cfgA a).win (6 : Fin 7)).rect_emb_val t j ax).trans ?_
  have hi : ((cfgA a).win (6 : Fin 7)).index t = ![t.val, 0] := row_index t
  rw [hi]
  match ax with
  | ⟨0, _⟩ => rfl
  | ⟨1, _⟩ => show 0 * 1024 + (j 1).val = (j 1).val; omega

/-- Every point writes its block back. -/
theorem flush6 (t : Fin (cfgA a).N) : ((cfgA a).win (6 : Fin 7)).flush t = true := by
  unfold Window.flush
  have hn : ((cfgA a).win (6 : Fin 7)).isOut = true := rfl
  rw [hn, Bool.true_and, Bool.or_eq_true, decide_eq_true_eq, decide_eq_true_eq]
  by_cases h : t.val + 1 = (cfgA a).grid.N
  · exact .inl h
  · refine .inr ⟨lt_of_le_of_ne t.isLt h, fun e => ?_⟩
    have e1 : ((cfgA a).win (6 : Fin 7)).index ⟨t.val + 1, lt_of_le_of_ne t.isLt h⟩ = ![t.val + 1, 0] := row_index (⟨t.val + 1, lt_of_le_of_ne t.isLt h⟩ : Fin grid0.N)
    have e2 : ((cfgA a).win (6 : Fin 7)).index t = ![t.val, 0] := row_index t
    rw [e1, e2] at e
    have e0 : t.val + 1 = t.val := congrFun e (0 : Fin 2)
    omega

/-- A position a view embeds is in its set. -/
theorem mem_of_emb {sp : Space} {s : Shape} {e : EltTy} (v : View sig .tc sp s e) (x : s.Idx) (i : v.ty.Idx) (h : v.emb x = i) : i ∈ v.set :=
  h ▸ v.emb_mem_set x

/-- The output array after the last point. -/
theorem arrAt_out (hp : Holds a m) (hlt : ∀ x : S288.Idx, (t0 a x).toNat < 32) (c : Dev nD) :
    (dats a m ρ 0 c).arrAt (6 : Fin 7) (cfgA a).N = G m c := by
  refine (dats a m ρ 0 c).arrAt_eq_of_cover (6 : Fin 7) (G m c) (fun t _ => funext fun j => ?_) fun i => ?_
  · have hj : (j : S512x1024.Idx) = ix2 (j 0) (j 1) := eq_ix2 j
    have h1 : (dats a m ρ 0 c).flushed (6 : Fin 7) t j = outAt a m ρ c t j := rfl
    rw [h1, View.read_apply, cast_eq, emb6]
    refine Eq.trans ?_ (G_row m c (pt a t) (j 0) (j 1)).symm
    exact (congrArg (outAt a m ρ c t) hj).trans (outAt_eq a m ρ hp hlt c t (j 0) (j 1))
  · have hi0 : (i 0).val < 147456 := (i 0).isLt
    refine ⟨⟨(i 0).val / 512, lt_of_lt_of_eq (show (i 0).val / 512 < 288 by omega) N_0.symm⟩, flush6 a _, ?_⟩
    have he : (ix2 ⟨(i 0).val / 512 * 512 + (i 0).val % 512, by omega⟩ (i 1) : S147456x1024.Idx) = i := by
      refine funext fun ax => Fin.ext ?_
      match ax with
      | ⟨0, _⟩ => show (i 0).val / 512 * 512 + (i 0).val % 512 = (i 0).val; omega
      | ⟨1, _⟩ => rfl
    exact mem_of_emb _ (ix2 (⟨(i 0).val % 512, Nat.mod_lt _ (by decide)⟩ : Fin 512) (i 1) : S512x1024.Idx) _
      ((emb6 a ⟨(i 0).val / 512, lt_of_lt_of_eq (show (i 0).val / 512 < 288 by omega) N_0.symm⟩ _).trans he)

/-- The call runs, ends with the reference's result in its output array, and its arguments unchanged. -/
theorem run_value (h : Cert.Pre_MoeIdeal m) :
    θ_run (defs (F := Ideal)) (onTc (τ := τ) (main (F := Ideal))) (s₀ m ρ) (fun r => ∀ c : Dev nD,
      r.2.mem ((c.tc : Thread nD τ).loc main_v0) = G m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun r hr c => ⟨((hr.1 c).1 (6 : Fin 7)).trans (arrAt_out (adm m h) m ρ (holds_adm m h) (expert_lt (h 0)) c), args_of_QC (adm m h) m ρ (holds_adm m h) hr.1 c⟩)
    (run_main_quiescent (adm m h) m ρ (holds_adm m h))

end Cert.MoeIdeal.Tab

end
-- ==== Proof.InProjRows.lean ====
/-
  One block of the input projection: the body's arithmetic is the reference's, entry by entry.
-/
module

public import proofs.«01_k».proof.Proof.Gen.InProjIdeal.Skeleton
public import proofs.«01_k».proof.Proof.Gen.InProjRefIdeal.Read
public import Idealize.ShloMosaic.Lib.Pointwise

@[expose] public section

set_option maxRecDepth 16384

noncomputable section

namespace Cert.InProjRefIdeal.Rows

open Idealize.ShloMosaic Cert.InProjRefIdeal Cert.InProjRefIdeal.Read

/-- Rows `ρ` of batch element `b` and columns `γ`: what the body computes from them is the reference there. -/
theorem block_eq (X : FVec Ideal S8x4096x1024 .f32) (g : FVec Ideal S1024 .f32) (sc sh : FVec Ideal S8x1024 .f32) (W : FVec Ideal S1024x6144 .bf16)
    (b : Fin 8) (ρ : Fin 1024 → Fin 4096) (γ : Fin 512 → Fin 6144) (r : Fin 1024) (n : Fin 512) :
    Cert.InProjIdeal.Gen.k0_pay2 (F := Ideal)
        (Cert.InProjIdeal.Gen.k0_pay1 (F := Ideal) (fun j => X (ix3 b (ρ (j 0)) (j 1))) (fun j => g (ix1 (j 1))) (fun j => sc (ix2 b (j 2))) (fun j => sh (ix2 b (j 2))))
        (fun j => W (ix2 (j 0) (γ (j 1)))) (ix2 r n)
      = val_main_v22 (F := Ideal) X g sc sh W (ix3 b (ρ r) (γ n)) := by
  pointwise [Cert.InProjIdeal.Gen.k0_pay1, Cert.InProjIdeal.Gen.k0_pay2, val_main_v0, val_main_cst, val_main_v1, val_main_v2, val_main_cst_0, val_main_v3, val_main_v4, val_main_cst_1, val_main_v5, val_main_v6, val_main_v7, val_main_v8, val_main_v9, val_main_v10, val_main_v11, val_main_v12, val_main_v13, val_main_cst_2, val_main_v14, val_main_v15, val_main_v16, val_main_v17, val_main_v18, val_main_v19, val_main_v20, val_main_v21, val_main_v22]

end Cert.InProjRefIdeal.Rows

end
-- ==== Proof.InProjValue.lean ====
/-
  What the input projection leaves in its output array: the reference's result, read in blocks of 1024 rows and 512 columns.
-/
module

public import proofs.«01_k».proof.Proof.InProjRows
public import proofs.«01_k».proof.Proof.Gen.InProjIdeal.Value
public import proofs.«01_k».proof.Proof.Gen.InProjRefIdeal.Run
public import Idealize.ShloMosaic.Lib.Pipeline.Value

@[expose] public section

set_option maxRecDepth 16384

noncomputable section

namespace Cert.InProjIdeal.Blocks

open Cert.InProjIdeal Cert.InProjIdeal.Gen
open Idealize.ShloMosaic Idealize.ShloMosaic.TcCoe Idealize.SL.Sem
open Idealize.ShloMosaic.Pipeline (Dat Cfg Window)
open Cert.InProjRefIdeal.Read (val_main_v22 val_main_v23 val_main_v23_eq)

variable (m : (ℓ : Loc nD τ sig) → Buf (Elt Ideal) ℓ) (ρ : Dev nD → PrngReg)

theorem zero2 : (![0, 0] : Fin 2 → Nat) = fun _ => 0 := funext fun a => by fin_cases a <;> rfl
theorem zero3 : (![0, 0, 0] : Fin 3 → Nat) = fun _ => 0 := funext fun a => by fin_cases a <;> rfl

/-! ## What one point leaves -/

/-- The first point of a row block stores the normalised, modulated rows in the scratch. -/
theorem scratch_A (c : Dev nD) (i : grid0.Coords) (arg2 : Memref sig .tc .vmem S1024x1024 .f32) (harg2 : arg2.IsWhole) (arg3 : Memref sig .tc .vmem S1x1024 .f32) (harg3 : arg3.IsWhole) (arg4 : Memref sig .tc .vmem S1x1x1024 .f32) (harg4 : arg4.IsWhole) (arg5 : Memref sig .tc .vmem S1x1x1024 .f32) (harg5 : arg5.IsWhole) (arg6 : Memref sig .tc .vmem S1024x512 .bf16) (harg6 : arg6.IsWhole) (arg7 : Memref sig .tc .vmem S1024x512 .f32) (harg7 : arg7.IsWhole) (arg8 : Memref sig .tc .vmem S1024x1024 .bf16) (harg8 : arg8.IsWhole) (hc0 : cond0_0 i) (x0 : Vec Ideal S1024x1024 .f32) (x1 : Vec Ideal S1x1024 .f32) (x2 : Vec Ideal S1x1x1024 .f32) (x3 : Vec Ideal S1x1x1024 .f32) (x4 : Vec Ideal S1024x512 .bf16) :
    sout0_A_0 c i arg2 harg2 arg3 harg3 arg4 harg4 arg5 harg5 arg6 harg6 arg7 harg7 arg8 harg8 hc0 x0 x1 x2 x3 x4 = k0_pay1 x0 x1 x2 x3 := by
  unfold sout0_A_0
  rw [View.read_writes_eq_canon _ _ _ (scover0_A_0 c i arg2 harg2 arg3 harg3 arg4 harg4 arg5 harg5 arg6 harg6 arg7 harg7 arg8 harg8 hc0 x0 x1 x2 x3 x4)]
  unfold kernelRun0_A
  dsimp only
  sl_unfold_words
  rw [View.canon_unit_zero zero2]
  simp only [View.readAt_eq_ld, harg2.read_unread, harg3.read_unread, harg4.read_unread, harg5.read_unread, View.ld_unit_zero (S := S1024x1024) zero2,
    View.ld_unit_zero (S := S1x1024) zero2, View.ld_unit_zero (S := S1x1x1024) zero3]

/-- … and the product of those rows with its columns of the weights. -/
theorem out_A (c : Dev nD) (i : grid0.Coords) (arg2 : Memref sig .tc .vmem S1024x1024 .f32) (harg2 : arg2.IsWhole) (arg3 : Memref sig .tc .vmem S1x1024 .f32) (harg3 : arg3.IsWhole) (arg4 : Memref sig .tc .vmem S1x1x1024 .f32) (harg4 : arg4.IsWhole) (arg5 : Memref sig .tc .vmem S1x1x1024 .f32) (harg5 : arg5.IsWhole) (arg6 : Memref sig .tc .vmem S1024x512 .bf16) (harg6 : arg6.IsWhole) (arg7 : Memref sig .tc .vmem S1024x512 .f32) (harg7 : arg7.IsWhole) (arg8 : Memref sig .tc .vmem S1024x1024 .bf16) (harg8 : arg8.IsWhole) (hc0 : cond0_0 i) (x0 : Vec Ideal S1024x1024 .f32) (x1 : Vec Ideal S1x1024 .f32) (x2 : Vec Ideal S1x1x1024 .f32) (x3 : Vec Ideal S1x1x1024 .f32) (x4 : Vec Ideal S1024x512 .bf16) :
    out0_A_5 c i arg2 harg2 arg3 harg3 arg4 harg4 arg5 harg5 arg6 harg6 arg7 harg7 arg8 harg8 hc0 x0 x1 x2 x3 x4 = k0_pay2 (k0_pay1 x0 x1 x2 x3) x4 := by
  unfold out0_A_5
  rw [View.read_writes_eq_canon _ _ _ (cover0_A_5 c i arg2 harg2 arg3 harg3 arg4 harg4 arg5 harg5 arg6 harg6 arg7 harg7 arg8 harg8 hc0 x0 x1 x2 x3 x4)]
  unfold kernelRun0_A
  dsimp only
  sl_unfold_words
  rw [View.canon_unit_zero zero2, View.readCov_unit_zero (S := S1024x1024) _ zero2]
  simp only [View.readAt_eq_ld, harg2.read_unread, harg3.read_unread, harg4.read_unread, harg5.read_unread, harg6.read_unread, View.ld_unit_zero (S := S1024x1024) zero2,
    View.ld_unit_zero (S := S1x1024) zero2, View.ld_unit_zero (S := S1x1x1024) zero3, View.ld_unit_zero (S := S1024x512) zero2]

/-- A later point of the row block multiplies what the scratch holds. -/
theorem out_B (c : Dev nD) (i : grid0.Coords) (arg2 : Memref sig .tc .vmem S1024x1024 .f32) (harg2 : arg2.IsWhole) (arg3 : Memref sig .tc .vmem S1x1024 .f32) (harg3 : arg3.IsWhole) (arg4 : Memref sig .tc .vmem S1x1x1024 .f32) (harg4 : arg4.IsWhole) (arg5 : Memref sig .tc .vmem S1x1x1024 .f32) (harg5 : arg5.IsWhole) (arg6 : Memref sig .tc .vmem S1024x512 .bf16) (harg6 : arg6.IsWhole) (arg7 : Memref sig .tc .vmem S1024x512 .f32) (harg7 : arg7.IsWhole) (arg8 : Memref sig .tc .vmem S1024x1024 .bf16) (harg8 : arg8.IsWhole) (hc0 : ¬cond0_0 i) (x0 : Vec Ideal S1024x1024 .f32) (x1 : Vec Ideal S1x1024 .f32) (x2 : Vec Ideal S1x1x1024 .f32) (x3 : Vec Ideal S1x1x1024 .f32) (x4 : Vec Ideal S1024x512 .bf16) (xs0 : Vec Ideal S1024x1024 .bf16) :
    out0_B_5 c i arg2 harg2 arg3 harg3 arg4 harg4 arg5 harg5 arg6 harg6 arg7 harg7 arg8 harg8 hc0 x0 x1 x2 x3 x4 xs0 = k0_pay2 xs0 x4 := by
  unfold out0_B_5
  rw [View.read_writes_eq_canon _ _ _ (cover0_B_5 c i arg2 harg2 arg3 harg3 arg4 harg4 arg5 harg5 arg6 harg6 arg7 harg7 arg8 harg8 hc0 x0 x1 x2 x3 x4 xs0)]
  unfold kernelRun0_B
  dsimp only
  sl_unfold_words
  rw [View.canon_unit_zero zero2]
  simp only [View.readAt_eq_ld, harg6.read_unread, harg8.read_unread, View.ld_unit_zero (S := S1024x1024) zero2, View.ld_unit_zero (S := S1024x512) zero2]

/-! ## The arrays the windows read -/

theorem V_v0 (c : Dev nD) : V m c main_v0 = shapeCast S32768x1024 (m ((c : Thread nD τ).loc main_arg0)) shapeCasts_S8x4096x1024_S32768x1024 := by
  unfold V; after_results <;> rfl
theorem V_v1 (c : Dev nD) : V m c main_v1 = shapeCast S1x1024 (m ((c : Thread nD τ).loc main_arg1)) shapeCasts_S1024_S1x1024 := by
  unfold V; after_results <;> rfl
theorem V_v2 (c : Dev nD) : V m c main_v2 = broadcastInDim S8x1x1024 ![0, 2] bcast_S8x1024_S8x1x1024_0_2 (m ((c : Thread nD τ).loc main_arg2)) := by
  unfold V; after_results <;> rfl
theorem V_v3 (c : Dev nD) : V m c main_v3 = broadcastInDim S8x1x1024 ![0, 2] bcast_S8x1024_S8x1x1024_0_2 (m ((c : Thread nD τ).loc main_arg3)) := by
  unfold V; after_results <;> rfl

/-- The rows, batch element by batch element. -/
theorem rows_apply (X : FVec Ideal S8x4096x1024 .f32) (b : Fin 8) (s : Fin 4096) (k : Fin 1024) (h : b.val * 4096 + s.val < 32768) :
    shapeCast S32768x1024 X shapeCasts_S8x4096x1024_S32768x1024 (ix2 ⟨b.val * 4096 + s.val, h⟩ k) = X (ix3 b s k) := by
  pointwise

theorem V_v0_apply (c : Dev nD) (b : Fin 8) (s : Fin 4096) (k : Fin 1024) (h : b.val * 4096 + s.val < 32768) :
    (V m c main_v0 : S32768x1024.Idx → Elt Ideal .f32) (ix2 ⟨b.val * 4096 + s.val, h⟩ k) = m ((c : Thread nD τ).loc main_arg0) (ix3 b s k) := by
  rw [V_v0]
  exact rows_apply _ b s k h

theorem V_v1_apply (c : Dev nD) (k : Fin 1024) :
    (V m c main_v1 : S1x1024.Idx → Elt Ideal .f32) (ix2 (0 : Fin 1) k) = m ((c : Thread nD τ).loc main_arg1) (ix1 k) := by
  rw [V_v1]
  generalize m ((c : Thread nD τ).loc main_arg1) = X
  pointwise

theorem V_v2_apply (c : Dev nD) (b : Fin 8) (k : Fin 1024) :
    (V m c main_v2 : S8x1x1024.Idx → Elt Ideal .f32) (ix3 b (0 : Fin 1) k) = m ((c : Thread nD τ).loc main_arg2) (ix2 b k) := by
  rw [V_v2]
  generalize m ((c : Thread nD τ).loc main_arg2) = X
  pointwise

theorem V_v3_apply (c : Dev nD) (b : Fin 8) (k : Fin 1024) :
    (V m c main_v3 : S8x1x1024.Idx → Elt Ideal .f32) (ix3 b (0 : Fin 1) k) = m ((c : Thread nD τ).loc main_arg3) (ix2 b k) := by
  rw [V_v3]
  generalize m ((c : Thread nD τ).loc main_arg3) = X
  pointwise

/-! ## The blocks

Point `t` is block `t / 12` of the rows and block `t % 12` of the columns. -/

theorem lt384 (t : Fin cfg0.N) : t.val < 384 := lt_of_lt_of_eq t.isLt N_0

/-- The batch element block `q` of the rows lies in, and its row `r` there. -/
abbrev bOf (q : Fin 32) : Fin 8 := ⟨q.val / 4, by have := q.isLt; omega⟩
abbrev sOf (q : Fin 32) (r : Fin 1024) : Fin 4096 := ⟨q.val % 4 * 1024 + r.val, by have := r.isLt; omega⟩
/-- Column `n` of block `j` of the columns. -/
abbrev nOf (j : Fin 12) (n : Fin 512) : Fin 6144 := ⟨j.val * 512 + n.val, by have := j.isLt; have := n.isLt; omega⟩
abbrev qOf (t : Fin cfg0.N) : Fin 32 := ⟨t.val / 12, by have := lt384 t; omega⟩
abbrev jOf (t : Fin cfg0.N) : Fin 12 := ⟨t.val % 12, Nat.mod_lt _ (by decide)⟩

theorem index0 : ∀ t : Fin cfg0.N, win0_0.index t = ![t.val / 12, 0] := (by decide +kernel : ∀ t : Fin grid0.N, _)
theorem index1 : ∀ t : Fin cfg0.N, win0_1.index t = ![0, 0] := (by decide +kernel : ∀ t : Fin grid0.N, _)
theorem index2 : ∀ t : Fin cfg0.N, win0_2.index t = ![t.val / 12 / 4, 0, 0] := (by decide +kernel : ∀ t : Fin grid0.N, _)
theorem index3 : ∀ t : Fin cfg0.N, win0_3.index t = ![t.val / 12 / 4, 0, 0] := (by decide +kernel : ∀ t : Fin grid0.N, _)
theorem index4 : ∀ t : Fin cfg0.N, win0_4.index t = ![0, t.val % 12] := (by decide +kernel : ∀ t : Fin grid0.N, _)
theorem index5 : ∀ t : Fin cfg0.N, win0_5.index t = ![t.val / 12, t.val % 12] := (by decide +kernel : ∀ t : Fin grid0.N, _)

theorem blk0 (c : Dev nD) (t : Fin cfg0.N) (j : S1024x1024.Idx) :
    iblk m c (0 : Fin 6) t j = m ((c : Thread nD τ).loc main_arg0) (ix3 (bOf (qOf t)) (sOf (qOf t) (j 0)) (j 1)) := by
  have ht := lt384 t
  have h0 : (j 0).val < 1024 := (j 0).isLt
  unfold iblk
  rw [View.read_apply, cast_eq]
  refine Eq.trans ?_ (V_v0_apply m c (bOf (qOf t)) (sOf (qOf t) (j 0)) (j 1) (by show t.val / 12 / 4 * 4096 + (t.val / 12 % 4 * 1024 + (j 0).val) < 32768; omega))
  refine congrArg (V m c main_v0) (funext fun ax => Fin.ext ?_)
  refine ((cfg0.win (0 : Fin 6)).rect_emb_val t j ax).trans ?_
  have hi : (cfg0.win (0 : Fin 6)).index t = ![t.val / 12, 0] := index0 t
  rw [hi]
  match ax with
  | ⟨0, _⟩ => show t.val / 12 * 1024 + (j 0).val = t.val / 12 / 4 * 4096 + (t.val / 12 % 4 * 1024 + (j 0).val); omega
  | ⟨1, _⟩ => show 0 * 1024 + (j 1).val = (j 1).val; omega

theorem blk1 (c : Dev nD) (t : Fin cfg0.N) (j : S1x1024.Idx) :
    iblk m c (1 : Fin 6) t j = m ((c : Thread nD τ).loc main_arg1) (ix1 (j 1)) := by
  have h0 : (j 0).val < 1 := (j 0).isLt
  unfold iblk
  rw [View.read_apply, cast_eq]
  refine Eq.trans ?_ (V_v1_apply m c (j 1))
  refine congrArg (V m c main_v1) (funext fun ax => Fin.ext ?_)
  refine ((cfg0.win (1 : Fin 6)).rect_emb_val t j ax).trans ?_
  have hi : (cfg0.win (1 : Fin 6)).index t = ![0, 0] := index1 t
  rw [hi]
  match ax with
  | ⟨0, _⟩ => show 0 * 1 + (j 0).val = 0; omega
  | ⟨1, _⟩ => show 0 * 1024 + (j 1).val = (j 1).val; omega

theorem blk2 (c : Dev nD) (t : Fin cfg0.N) (j : S1x1x1024.Idx) :
    iblk m c (2 : Fin 6) t j = m ((c : Thread nD τ).loc main_arg2) (ix2 (bOf (qOf t)) (j 2)) := by
  have h0 : (j 0).val < 1 := (j 0).isLt
  have h1 : (j 1).val < 1 := (j 1).isLt
  unfold iblk
  rw [View.read_apply, cast_eq]
  refine Eq.trans ?_ (V_v2_apply m c (bOf (qOf t)) (j 2))
  refine congrArg (V m c main_v2) (funext fun ax => Fin.ext ?_)
  refine ((cfg0.win (2 : Fin 6)).rect_emb_val t j ax).trans ?_
  have hi : (cfg0.win (2 : Fin 6)).index t = ![t.val / 12 / 4, 0, 0] := index2 t
  rw [hi]
  match ax with
  | ⟨0, _⟩ => show t.val / 12 / 4 * 1 + (j 0).val = t.val / 12 / 4; omega
  | ⟨1, _⟩ => show 0 * 1 + (j 1).val = 0; omega
  | ⟨2, _⟩ => show 0 * 1024 + (j 2).val = (j 2).val; omega

theorem blk3 (c : Dev nD) (t : Fin cfg0.N) (j : S1x1x1024.Idx) :
    iblk m c (3 : Fin 6) t j = m ((c : Thread nD τ).loc main_arg3) (ix2 (bOf (qOf t)) (j 2)) := by
  have h0 : (j 0).val < 1 := (j 0).isLt
  have h1 : (j 1).val < 1 := (j 1).isLt
  unfold iblk
  rw [View.read_apply, cast_eq]
  refine Eq.trans ?_ (V_v3_apply m c (bOf (qOf t)) (j 2))
  refine congrArg (V m c main_v3) (funext fun ax => Fin.ext ?_)
  refine ((cfg0.win (3 : Fin 6)).rect_emb_val t j ax).trans ?_
  have hi : (cfg0.win (3 : Fin 6)).index t = ![t.val / 12 / 4, 0, 0] := index3 t
  rw [hi]
  match ax with
  | ⟨0, _⟩ => show t.val / 12 / 4 * 1 + (j 0).val = t.val / 12 / 4; omega
  | ⟨1, _⟩ => show 0 * 1 + (j 1).val = 0; omega
  | ⟨2, _⟩ => show 0 * 1024 + (j 2).val = (j 2).val; omega

theorem blk4 (c : Dev nD) (t : Fin cfg0.N) (j : S1024x512.Idx) :
    iblk m c (4 : Fin 6) t j = m ((c : Thread nD τ).loc main_arg4) (ix2 (j 0) (nOf (jOf t) (j 1))) := by
  unfold iblk
  rw [View.read_apply, cast_eq]
  refine Eq.trans (congrArg (V m c main_arg4) (funext fun ax => Fin.ext ?_)) (congrFun (V_main_arg4 m c) _)
  refine ((cfg0.win (4 : Fin 6)).rect_emb_val t j ax).trans ?_
  have hi : (cfg0.win (4 : Fin 6)).index t = ![0, t.val % 12] := index4 t
  rw [hi]
  match ax with
  | ⟨0, _⟩ => show 0 * 1024 + (j 0).val = (j 0).val; omega
  | ⟨1, _⟩ => rfl

/-! ## What the points leave -/

/-- Row block `q`, normalised and modulated. -/
abbrev rows (c : Dev nD) (q : Fin 32) : FVec Ideal S1024x1024 .bf16 :=
  k0_pay1 (F := Ideal) (fun j => m ((c : Thread nD τ).loc main_arg0) (ix3 (bOf q) (sOf q (j 0)) (j 1))) (fun j => m ((c : Thread nD τ).loc main_arg1) (ix1 (j 1)))
    (fun j => m ((c : Thread nD τ).loc main_arg2) (ix2 (bOf q) (j 2))) (fun j => m ((c : Thread nD τ).loc main_arg3) (ix2 (bOf q) (j 2)))

theorem pay1_blks (c : Dev nD) (t : Fin cfg0.N) :
    k0_pay1 (F := Ideal) (iblk m c 0 t) (iblk m c 1 t) (iblk m c 2 t) (iblk m c 3 t) = rows m c (qOf t) :=
  congr (congr (congr (congrArg (k0_pay1 (F := Ideal)) (funext fun j => blk0 m c t j)) (funext fun j => blk1 m c t j)) (funext fun j => blk2 m c t j)) (funext fun j => blk3 m c t j)

/-- After point `n` the scratch holds its row block. -/
theorem scratch_eq (c : Dev nD) : ∀ (n : ℕ) (hn : n < cfg0.N), (outsAt0 m c n hn).2 = rows m c (qOf ⟨n, hn⟩) := by
  intro n
  induction n with
  | zero =>
    intro hn
    rw [outsAt0_A m c ⟨0, hn⟩ (Nat.zero_mod _)]
    dsimp only
    rw [scratch_A]
    exact pay1_blks m c ⟨0, hn⟩
  | succ n ih =>
    intro hn
    by_cases h0 : (n + 1) % 12 = 0
    · rw [outsAt0_A m c ⟨n + 1, hn⟩ h0]
      dsimp only
      rw [scratch_A]
      exact pay1_blks m c ⟨n + 1, hn⟩
    · rw [outsAt0_B m c ⟨n + 1, hn⟩ h0]
      dsimp only
      refine Eq.trans (ih _) (congrArg (rows m c) (Fin.ext ?_))
      show n / 12 = (n + 1) / 12
      omega

/-- Point `t` leaves the product of its row block and its columns of the weights. -/
theorem out_eq (c : Dev nD) (t : Fin cfg0.N) :
    (outsAt0 m c t.val t.isLt).1 = k0_pay2 (F := Ideal) (rows m c (qOf t)) (fun j => m ((c : Thread nD τ).loc main_arg4) (ix2 (j 0) (nOf (jOf t) (j 1)))) := by
  have b4 := funext fun j => blk4 m c t j
  by_cases h0 : t.val % 12 = 0
  · rw [outsAt0_A m c t h0]
    dsimp only
    rw [out_A]
    exact congr (congrArg (k0_pay2 (F := Ideal)) (pay1_blks m c t)) b4
  · rw [outsAt0_B m c t h0]
    dsimp only
    rw [out_B]
    refine congr (congrArg (k0_pay2 (F := Ideal)) ((scratch_eq m c _ _).trans (congrArg (rows m c) (Fin.ext ?_)))) b4
    show (t.val - 1) / 12 = t.val / 12
    omega

/-! ## The output array -/

/-- The reference's result at this memory's arguments. -/
abbrev refOut (c : Dev nD) : FVec Ideal S32768x6144 .f32 :=
  val_main_v23 (F := Ideal) (m ((c : Thread nD τ).loc main_arg0)) (m ((c : Thread nD τ).loc main_arg1)) (m ((c : Thread nD τ).loc main_arg2)) (m ((c : Thread nD τ).loc main_arg3)) (m ((c : Thread nD τ).loc main_arg4))

theorem refOut_apply (c : Dev nD) (b : Fin 8) (s : Fin 4096) (k : Fin 6144) (h : b.val * 4096 + s.val < 32768) :
    refOut m c (ix2 ⟨b.val * 4096 + s.val, h⟩ k) = val_main_v22 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (ix3 b s k) := by
  unfold refOut val_main_v23
  generalize val_main_v22 (F := Ideal) (m ((c : Thread nD τ).loc main_arg0)) (m ((c : Thread nD τ).loc main_arg1)) (m ((c : Thread nD τ).loc main_arg2)) (m ((c : Thread nD τ).loc main_arg3)) (m ((c : Thread nD τ).loc main_arg4)) = R
  pointwise

/-- What point `t` writes back is the reference's result on its block. -/
theorem flushed_eq (c : Dev nD) (t : Fin cfg0.N) :
    (dats m 0 c).flushed 5 t = ((cfg0.win 5).blk t).view.read (Elt Ideal) (refOut m c) := by
  rw [Cert.InProjIdeal.Value.flushed5, out_eq]
  have ht := lt384 t
  funext y
  have h0 : (y 0).val < 1024 := (y 0).isLt
  rw [View.read_apply, cast_eq]
  have hy : ((cfg0.win 5).xinj (grid0.coords t) y : S1024x512.Idx) = ix2 (y 0) (y 1) := funext fun ax => by
    match ax with
    | ⟨0, _⟩ => rfl
    | ⟨1, _⟩ => rfl
  have he : ((cfg0.win 5).blk t).view.emb y = (ix2 ⟨(bOf (qOf t)).val * 4096 + (sOf (qOf t) (y 0)).val, by show t.val / 12 / 4 * 4096 + (t.val / 12 % 4 * 1024 + (y 0).val) < 32768; omega⟩ (nOf (jOf t) (y 1)) : S32768x6144.Idx) := by
    refine funext fun ax => Fin.ext ?_
    refine ((cfg0.win 5).rect_emb_val t y ax).trans ?_
    have hi : (cfg0.win 5).index t = ![t.val / 12, t.val % 12] := index5 t
    rw [hi]
    match ax with
    | ⟨0, _⟩ => show t.val / 12 * 1024 + (y 0).val = t.val / 12 / 4 * 4096 + (t.val / 12 % 4 * 1024 + (y 0).val); omega
    | ⟨1, _⟩ => rfl
  refine Eq.trans ?_ ((refOut_apply m c _ _ _ _).symm.trans (congrArg (refOut m c) he.symm))
  refine Eq.trans (congrArg (k0_pay2 (F := Ideal) (rows m c (qOf t)) (fun j => m ((c : Thread nD τ).loc main_arg4) (ix2 (j 0) (nOf (jOf t) (j 1))))) hy) ?_
  exact Cert.InProjRefIdeal.Rows.block_eq _ _ _ _ _ (bOf (qOf t)) (sOf (qOf t)) (nOf (jOf t)) (y 0) (y 1)

/-- The output array after the run is the reference's result. -/
theorem final_eq (c : Dev nD) : Cert.InProjIdeal.Value.G5 m c = refOut m c :=
  (Cert.InProjIdeal.Value.final5 m c).symm.trans
    ((dats m 0 c).arrAt_eq_of_cover 5 _ (fun t _ => flushed_eq m c t) (fun i => (Cert.InProjIdeal.Value.covered_iff5 i).2 (by
      have h0 : (i 0).val < 32768 := (i 0).isLt; have h1 : (i 1).val < 6144 := (i 1).isLt; omega)))

end Cert.InProjIdeal.Blocks

end
-- ==== Proof.MixOutRows.lean ====
/-
  One block of the output projection: the body's arithmetic is the reference's, entry by entry.
-/
module

public import proofs.«01_k».proof.Proof.Gen.MixOutIdeal.Skeleton
public import proofs.«01_k».proof.Proof.Gen.MixOutIdeal
public import proofs.«01_k».proof.Proof.Gen.MixOutRefIdeal.Read
public import Idealize.ShloMosaic.Lib.Pointwise

@[expose] public section

set_option maxRecDepth 16384

noncomputable section

namespace Cert.MixOutRefIdeal.Rows

open Idealize.ShloMosaic Cert.MixOutRefIdeal Cert.MixOutRefIdeal.Read
open Cert.MixOutIdeal.Gen (k0_pay1 k0_pay2 k0_pay3 k0_pay4 k0_pay5 k0_pay6)

variable (A : FVec Ideal S32768x512 .f32) (S : FVec Ideal S32768x1024 .f32) (P : FVec Ideal S32768x6144 .f32) (X : FVec Ideal S32768x1024 .f32) (gm : FVec Ideal S8x1024 .f32)
  (wo : FVec Ideal S512x1024 .f32) (ws wout : FVec Ideal S1024x1024 .f32) (nf : FVec Ideal S1024 .f32) (scf shf : FVec Ideal S8x1024 .f32) (wr : FVec Ideal Cert.MixOutIdeal.S1024x128 .f32) (br : FVec Ideal Cert.MixOutIdeal.S1x128 .f32)
  (b : Fin 8) (ρ : Fin 512 → Fin 4096)

/-- Row `s` of batch element `b` in the arrays that hold all rows one after another. -/
abbrev rowOf (b : Fin 8) (s : Fin 4096) : Fin 32768 := ⟨b.val * 4096 + s.val, by have := b.isLt; have := s.isLt; omega⟩
/-- Columns of the gate of the attention and of the gate of the recurrence. -/
abbrev gateA (n : Fin 1024) : Fin 6144 := ⟨4096 + n.val, by have := n.isLt; omega⟩
abbrev gateS (n : Fin 1024) : Fin 6144 := ⟨4096 + (1024 + n.val), by have := n.isLt; omega⟩

/-- What the body adds up from a block of rows: the residual and the gated, projected branches. -/
abbrev newX : FVec Ideal Cert.MixOutIdeal.S512x1024 .f32 :=
  k0_pay4 (F := Ideal) (fun j => A (ix2 (rowOf b (ρ (j 0))) (j 1))) (fun j => wo (ix2 (j 0) (j 1))) (fun j => S (ix2 (rowOf b (ρ (j 0))) (j 1))) (fun j => ws (ix2 (j 0) (j 1)))
    (fun j => P (ix2 (rowOf b (ρ (j 0))) (gateA (j 1)))) (fun j => P (ix2 (rowOf b (ρ (j 0))) (gateS (j 1)))) (fun j => X (ix2 (rowOf b (ρ (j 0))) (j 1)))
    (fun j => gm (ix2 b (j 2))) (fun j => wout (ix2 (j 0) (j 1)))
/-- The sums of squares of its rows. -/
abbrev sqs : FVec Ideal Cert.MixOutIdeal.S512x1 .f32 :=
  k0_pay5 (F := Ideal) (fun j => A (ix2 (rowOf b (ρ (j 0))) (j 1))) (fun j => wo (ix2 (j 0) (j 1))) (fun j => S (ix2 (rowOf b (ρ (j 0))) (j 1))) (fun j => ws (ix2 (j 0) (j 1)))
    (fun j => P (ix2 (rowOf b (ρ (j 0))) (gateA (j 1)))) (fun j => P (ix2 (rowOf b (ρ (j 0))) (gateS (j 1)))) (fun j => X (ix2 (rowOf b (ρ (j 0))) (j 1)))
    (fun j => gm (ix2 b (j 2))) (fun j => wout (ix2 (j 0) (j 1)))

theorem newX_eq (r : Fin 512) (n : Fin 1024) :
    newX A S P X gm wo ws wout b ρ (ix2 r n) = val_main_v26 (F := Ideal) A S P X gm wo ws wout (ix3 b (ρ r) n) := by
  unfold newX
  pointwise [Cert.MixOutIdeal.Gen.k0_pay1, Cert.MixOutIdeal.Gen.k0_pay2, Cert.MixOutIdeal.Gen.k0_pay3, Cert.MixOutIdeal.Gen.k0_pay4, Cert.MixOutIdeal.Gen.k0_pay5, Cert.MixOutIdeal.Gen.k0_pay6, val_main_v0, val_main_v1, val_main_v2, val_main_v3, val_main_v4, val_main_cst, val_main_v5, val_main_v6, val_main_cst_0, val_main_v7, val_main_v8, val_main_v9, val_main_v10, val_main_v11, val_main_v12, val_main_cst_1, val_main_v13, val_main_v14, val_main_cst_2, val_main_v15, val_main_v16, val_main_v17, val_main_v18, val_main_v19, val_main_v20, val_main_v21, val_main_v22, val_main_v23, val_main_v24, val_main_v25, val_main_v26, val_main_v27, val_main_cst_3, val_main_v28, val_main_v29, val_main_cst_4, val_main_v30, val_main_v31, val_main_cst_5, val_main_v32, val_main_v33, val_main_v34, val_main_v35, val_main_v36, val_main_v37, val_main_v38, val_main_v39, val_main_v40, val_main_cst_6, val_main_v41, val_main_v42, val_main_v43, val_main_v44, val_main_v45, val_main_v46, val_main_v47, val_main_v48, val_main_v49, val_main_v50, val_main_v51, val_main_v52, val_main_v53, val_main_v54]
  rfl

/-- The body's normalised, modulated rows. -/
abbrev newH : FVec Ideal Cert.MixOutIdeal.S512x1024 .f32 :=
  k0_pay1 (F := Ideal) (newX A S P X gm wo ws wout b ρ) (sqs A S P X gm wo ws wout b ρ) (k0_pay6 (F := Ideal)) (fun j => nf (ix1 (j 1))) (fun j => scf (ix2 b (j 2))) (fun j => shf (ix2 b (j 2)))

theorem newH_eq (r : Fin 512) (n : Fin 1024) :
    newH A S P X gm wo ws wout nf scf shf b ρ (ix2 r n) = val_main_v47 (F := Ideal) A S P X gm wo ws wout nf scf shf (ix3 b (ρ r) n) := by
  unfold newH newX sqs
  pointwise [Cert.MixOutIdeal.Gen.k0_pay1, Cert.MixOutIdeal.Gen.k0_pay2, Cert.MixOutIdeal.Gen.k0_pay3, Cert.MixOutIdeal.Gen.k0_pay4, Cert.MixOutIdeal.Gen.k0_pay5, Cert.MixOutIdeal.Gen.k0_pay6, val_main_v0, val_main_v1, val_main_v2, val_main_v3, val_main_v4, val_main_cst, val_main_v5, val_main_v6, val_main_cst_0, val_main_v7, val_main_v8, val_main_v9, val_main_v10, val_main_v11, val_main_v12, val_main_cst_1, val_main_v13, val_main_v14, val_main_cst_2, val_main_v15, val_main_v16, val_main_v17, val_main_v18, val_main_v19, val_main_v20, val_main_v21, val_main_v22, val_main_v23, val_main_v24, val_main_v25, val_main_v26, val_main_v27, val_main_cst_3, val_main_v28, val_main_v29, val_main_cst_4, val_main_v30, val_main_v31, val_main_cst_5, val_main_v32, val_main_v33, val_main_v34, val_main_v35, val_main_v36, val_main_v37, val_main_v38, val_main_v39, val_main_v40, val_main_cst_6, val_main_v41, val_main_v42, val_main_v43, val_main_v44, val_main_v45, val_main_v46, val_main_v47, val_main_v48, val_main_v49, val_main_v50, val_main_v51, val_main_v52, val_main_v53, val_main_v54]
  rfl

/-- Rows one after another are the rows of the batch elements in turn. -/
theorem rows_apply (R : FVec Ideal S8x4096x1024 .f32) (b : Fin 8) (s : Fin 4096) (k : Fin 1024) (h : b.val * 4096 + s.val < 32768) :
    shapeCast S32768x1024 R Cert.MixOutRefIdeal.Gen.shapeCasts_S8x4096x1024_S32768x1024 (ix2 ⟨b.val * 4096 + s.val, h⟩ k) = R (ix3 b s k) := by
  pointwise

theorem v48_eq (s : Fin 4096) (n : Fin 1024) :
    val_main_v48 (F := Ideal) A S P X gm wo ws wout nf scf shf (ix2 (rowOf b s) n) = val_main_v47 (F := Ideal) A S P X gm wo ws wout nf scf shf (ix3 b s n) := by
  unfold val_main_v48
  exact rows_apply (val_main_v47 (F := Ideal) A S P X gm wo ws wout nf scf shf) b s n (rowOf b s).isLt

theorem v53_eq (s : Fin 4096) (n : Fin 1024) :
    val_main_v53 (F := Ideal) A S P X gm wo ws wout (ix2 (rowOf b s) n) = val_main_v26 (F := Ideal) A S P X gm wo ws wout (ix3 b s n) := by
  unfold val_main_v53
  exact rows_apply (val_main_v26 (F := Ideal) A S P X gm wo ws wout) b s n (rowOf b s).isLt

/-- The residual. -/
theorem outX_eq (r : Fin 512) (n : Fin 1024) :
    newX A S P X gm wo ws wout b ρ (ix2 r n) = val_main_v53 (F := Ideal) A S P X gm wo ws wout (ix2 (rowOf b (ρ r)) n) :=
  (newX_eq A S P X gm wo ws wout b ρ r n).trans (v53_eq A S P X gm wo ws wout b (ρ r) n).symm

/-- The rounded rows the experts read. -/
theorem outH_eq (r : Fin 512) (n : Fin 1024) :
    k0_pay2 (F := Ideal) (newX A S P X gm wo ws wout b ρ) (sqs A S P X gm wo ws wout b ρ) (k0_pay6 (F := Ideal)) (fun j => nf (ix1 (j 1))) (fun j => scf (ix2 b (j 2))) (fun j => shf (ix2 b (j 2))) (ix2 r n)
      = val_main_v54 (F := Ideal) A S P X gm wo ws wout nf scf shf (ix2 (rowOf b (ρ r)) n) :=
  (newH_eq A S P X gm wo ws wout nf scf shf b ρ r n).trans (v48_eq A S P X gm wo ws wout nf scf shf b (ρ r) n).symm

/-- The router's logits, in the columns `κ` of the padded router. -/
theorem outL_eq (κ : Fin 32 → Fin 128) (r : Fin 512) (e : Fin 32) :
    k0_pay3 (F := Ideal) (newX A S P X gm wo ws wout b ρ) (sqs A S P X gm wo ws wout b ρ) (k0_pay6 (F := Ideal)) (fun j => nf (ix1 (j 1))) (fun j => scf (ix2 b (j 2))) (fun j => shf (ix2 b (j 2))) wr br (ix2 r (κ e))
      = val_main_v52 (F := Ideal) A S P X gm wo ws wout nf scf shf (fun j => wr (ix2 (j 0) (κ (j 1)))) (fun j => br (ix2 (0 : Fin 1) (κ (j 0)))) (ix2 (rowOf b (ρ r)) e) := by
  have hL : k0_pay3 (F := Ideal) (newX A S P X gm wo ws wout b ρ) (sqs A S P X gm wo ws wout b ρ) (k0_pay6 (F := Ideal)) (fun j => nf (ix1 (j 1))) (fun j => scf (ix2 b (j 2))) (fun j => shf (ix2 b (j 2))) wr br (ix2 r (κ e))
      = (∑ k : Fin 1024, newH A S P X gm wo ws wout nf scf shf b ρ (ix2 r k) * wr (ix2 k (κ e)) : EReal) + br (ix2 (0 : Fin 1) (κ e)) := by
    unfold k0_pay3
    pointwise
  have hR : val_main_v52 (F := Ideal) A S P X gm wo ws wout nf scf shf (fun j => wr (ix2 (j 0) (κ (j 1)))) (fun j => br (ix2 (0 : Fin 1) (κ (j 0)))) (ix2 (rowOf b (ρ r)) e)
      = (∑ k : Fin 1024, val_main_v48 (F := Ideal) A S P X gm wo ws wout nf scf shf (ix2 (rowOf b (ρ r)) k) * wr (ix2 k (κ e)) : EReal) + br (ix2 (0 : Fin 1) (κ e)) := by
    unfold val_main_v52 val_main_v49
    generalize val_main_v48 (F := Ideal) A S P X gm wo ws wout nf scf shf = H
    pointwise [val_main_v50, val_main_v51]
  rw [hL, hR]
  exact congrArg (· + br (ix2 (0 : Fin 1) (κ e))) (Finset.sum_congr rfl fun k _ => congrArg (· * wr (ix2 k (κ e)))
    ((newH_eq A S P X gm wo ws wout nf scf shf b ρ r k).trans (v48_eq A S P X gm wo ws wout nf scf shf b (ρ r) k).symm))

end Cert.MixOutRefIdeal.Rows

end
-- ==== Proof.MixOutValue.lean ====
/-
  What the output projection leaves in its three results: the reference's results, read in blocks of 512 rows.
-/
module

public import proofs.«01_k».proof.Proof.MixOutRows
public import proofs.«01_k».proof.Proof.Gen.MixOutIdeal.Frame
public import Idealize.ShloMosaic.Lib.Pipeline.Value

@[expose] public section

set_option maxRecDepth 16384

noncomputable section

namespace Cert.MixOutIdeal.Blocks

open Cert.MixOutIdeal Cert.MixOutIdeal.Gen
open Idealize.ShloMosaic Idealize.ShloMosaic.TcCoe Idealize.SL.Sem
open Idealize.ShloMosaic.Pipeline (Dat Cfg Window)
open Cert.MixOutRefIdeal.Read (val_main_v52 val_main_v53 val_main_v54)
open Cert.MixOutRefIdeal.Rows (newX sqs rowOf gateA gateS outX_eq outH_eq outL_eq)

variable (m : (ℓ : Loc nD τ sig) → Buf (Elt Ideal) ℓ) (ρ : Dev nD → PrngReg)

theorem zero2 : (![0, 0] : Fin 2 → Nat) = fun _ => 0 := funext fun a => by fin_cases a <;> rfl
theorem zero3 : (![0, 0, 0] : Fin 3 → Nat) = fun _ => 0 := funext fun a => by fin_cases a <;> rfl

/-! ## The arrays the windows read -/

theorem V_v0 (c : Dev nD) : V m c main_v0 = pad S1024x128 ![0, 0] ![0, 96] ![0, 0] (m ((c : Thread nD τ).loc main_arg11)) (sitofp (F := Ideal) .f32 (constantI S_ 32 0#32)) pads_S1024x32_S1024x128_000_0960 h_S_ := by
  unfold V V0
  simp only [hostOps0, hostOps0_1, hostOps0_2, hostOps0_3, hostOps0_4, List.flatten_cons, List.flatten_nil, List.append_nil, List.cons_append, List.nil_append]
  after_results <;> rfl
theorem V_v2 (c : Dev nD) : V m c main_v2 = shapeCast S1x128 (pad S128 ![0] ![96] ![0] (m ((c : Thread nD τ).loc main_arg12)) (sitofp (F := Ideal) .f32 (constantI S_ 32 0#32)) pads_S32_S128_0960 h_S_) shapeCasts_S128_S1x128 := by
  unfold V V0
  simp only [hostOps0, hostOps0_1, hostOps0_2, hostOps0_3, hostOps0_4, List.flatten_cons, List.flatten_nil, List.append_nil, List.cons_append, List.nil_append]
  after_results <;> rfl
theorem V_v3 (c : Dev nD) : V m c main_v3 = broadcastInDim S8x1x1024 ![0, 2] bcast_S8x1024_S8x1x1024_0_2 (m ((c : Thread nD τ).loc main_arg4)) := by
  unfold V V0
  simp only [hostOps0, hostOps0_1, hostOps0_2, hostOps0_3, hostOps0_4, List.flatten_cons, List.flatten_nil, List.append_nil, List.cons_append, List.nil_append]
  after_results <;> rfl
theorem V_v4 (c : Dev nD) : V m c main_v4 = (truncf (F := Ideal) .bf16 ((m ((c : Thread nD τ).loc main_arg5)) : FVec Ideal S512x1024 .f32) bitsLt_bf16_f32 : FVec Ideal S512x1024 .bf16) := by
  unfold V V0
  simp only [hostOps0, hostOps0_1, hostOps0_2, hostOps0_3, hostOps0_4, List.flatten_cons, List.flatten_nil, List.append_nil, List.cons_append, List.nil_append]
  after_results <;> rfl
theorem V_v5 (c : Dev nD) : V m c main_v5 = (truncf (F := Ideal) .bf16 ((m ((c : Thread nD τ).loc main_arg6)) : FVec Ideal S1024x1024 .f32) bitsLt_bf16_f32 : FVec Ideal S1024x1024 .bf16) := by
  unfold V V0
  simp only [hostOps0, hostOps0_1, hostOps0_2, hostOps0_3, hostOps0_4, List.flatten_cons, List.flatten_nil, List.append_nil, List.cons_append, List.nil_append]
  after_results <;> rfl
theorem V_v6 (c : Dev nD) : V m c main_v6 = (truncf (F := Ideal) .bf16 ((m ((c : Thread nD τ).loc main_arg7)) : FVec Ideal S1024x1024 .f32) bitsLt_bf16_f32 : FVec Ideal S1024x1024 .bf16) := by
  unfold V V0
  simp only [hostOps0, hostOps0_1, hostOps0_2, hostOps0_3, hostOps0_4, List.flatten_cons, List.flatten_nil, List.append_nil, List.cons_append, List.nil_append]
  after_results <;> rfl
theorem V_v7 (c : Dev nD) : V m c main_v7 = shapeCast S1x1024 (m ((c : Thread nD τ).loc main_arg8)) shapeCasts_S1024_S1x1024 := by
  unfold V V0
  simp only [hostOps0, hostOps0_1, hostOps0_2, hostOps0_3, hostOps0_4, List.flatten_cons, List.flatten_nil, List.append_nil, List.cons_append, List.nil_append]
  after_results <;> rfl
theorem V_v8 (c : Dev nD) : V m c main_v8 = broadcastInDim S8x1x1024 ![0, 2] bcast_S8x1024_S8x1x1024_0_2 (m ((c : Thread nD τ).loc main_arg9)) := by
  unfold V V0
  simp only [hostOps0, hostOps0_1, hostOps0_2, hostOps0_3, hostOps0_4, List.flatten_cons, List.flatten_nil, List.append_nil, List.cons_append, List.nil_append]
  after_results <;> rfl
theorem V_v9 (c : Dev nD) : V m c main_v9 = broadcastInDim S8x1x1024 ![0, 2] bcast_S8x1024_S8x1x1024_0_2 (m ((c : Thread nD τ).loc main_arg10)) := by
  unfold V V0
  simp only [hostOps0, hostOps0_1, hostOps0_2, hostOps0_3, hostOps0_4, List.flatten_cons, List.flatten_nil, List.append_nil, List.cons_append, List.nil_append]
  after_results <;> rfl

/-- Column `e` of the padded router is the router's own. -/
abbrev colE (e : Fin 32) : Fin 128 := ⟨e.val, by have := e.isLt; omega⟩

theorem pad_cols (X : FVec Ideal S1024x32 .f32) (z : FVec Ideal S_ .f32) (k : Fin 1024) (e : Fin 32) :
    pad S1024x128 ![0, 0] ![0, 96] ![0, 0] X z pads_S1024x32_S1024x128_000_0960 h_S_ (ix2 k (colE e)) = X (ix2 k e) := by
  unfold pad
  rw [dif_pos (by
    intro a
    match a with
    | ⟨0, _⟩ => exact ⟨Nat.zero_le _, Nat.mod_one _, by show (k.val - 0) / 1 < 1024; have := k.isLt; omega⟩
    | ⟨1, _⟩ => exact ⟨Nat.zero_le _, Nat.mod_one _, by show (e.val - 0) / 1 < 32; have := e.isLt; omega⟩)]
  refine congrArg X (funext fun a => Fin.ext ?_)
  match a with
  | ⟨0, _⟩ => show (k.val - 0) / 1 = k.val; omega
  | ⟨1, _⟩ => show (e.val - 0) / 1 = e.val; omega

theorem pad_entries (X : FVec Ideal S32 .f32) (z : FVec Ideal S_ .f32) (e : Fin 32) :
    pad S128 ![0] ![96] ![0] X z pads_S32_S128_0960 h_S_ (ix1 (colE e)) = X (ix1 e) := by
  unfold pad
  rw [dif_pos (by
    intro a
    match a with
    | ⟨0, _⟩ => exact ⟨Nat.zero_le _, Nat.mod_one _, by show (e.val - 0) / 1 < 32; have := e.isLt; omega⟩)]
  refine congrArg X (funext fun a => Fin.ext ?_)
  match a with
  | ⟨0, _⟩ => show (e.val - 0) / 1 = e.val; omega

theorem row128 (Y : FVec Ideal S128 .f32) (n : Fin 128) : shapeCast S1x128 Y shapeCasts_S128_S1x128 (ix2 (0 : Fin 1) n) = Y (ix1 n) := by
  pointwise
theorem row1024 (Y : FVec Ideal S1024 .f32) (n : Fin 1024) : shapeCast S1x1024 Y shapeCasts_S1024_S1x1024 (ix2 (0 : Fin 1) n) = Y (ix1 n) := by
  pointwise
theorem perBatch (Y : FVec Ideal S8x1024 .f32) (b : Fin 8) (n : Fin 1024) :
    broadcastInDim S8x1x1024 ![0, 2] bcast_S8x1024_S8x1x1024_0_2 Y (ix3 b (0 : Fin 1) n) = Y (ix2 b n) := by
  pointwise

/-- The router's columns among the padded ones. -/
theorem V_v0_cols (c : Dev nD) :
    (fun j => (V m c main_v0 : S1024x128.Idx → Elt Ideal .f32) (ix2 (j 0) (colE (j 1))) : S1024x32.Idx → Elt Ideal .f32) = (m ((c : Thread nD τ).loc main_arg11)) := by
  funext j
  rw [V_v0]
  exact (pad_cols _ _ (j 0) (j 1)).trans (congrArg (m ((c : Thread nD τ).loc main_arg11)) (eq_ix2 j).symm)

/-- The router's bias among the padded entries. -/
theorem V_v2_cols (c : Dev nD) :
    (fun j => (V m c main_v2 : S1x128.Idx → Elt Ideal .f32) (ix2 (0 : Fin 1) (colE (j 0))) : S32.Idx → Elt Ideal .f32) = (m ((c : Thread nD τ).loc main_arg12)) := by
  funext j
  rw [V_v2]
  refine (row128 _ (colE (j 0))).trans ((pad_entries _ _ (j 0)).trans (congrArg (m ((c : Thread nD τ).loc main_arg12)) (eq_ix1 j).symm))

/-! ## The blocks

Point `t` is block `t` of the rows; batch element `t / 8` holds eight blocks. -/

theorem lt64 (t : Fin cfg0.N) : t.val < 64 := lt_of_lt_of_eq t.isLt N_0

/-- The batch element block `t` of the rows lies in, and its row `r` there. -/
abbrev bOf (t : Fin 64) : Fin 8 := ⟨t.val / 8, by have := t.isLt; omega⟩
abbrev sOf (t : Fin 64) (r : Fin 512) : Fin 4096 := ⟨t.val % 8 * 512 + r.val, by have := r.isLt; omega⟩
abbrev pt (t : Fin cfg0.N) : Fin 64 := ⟨t.val, lt64 t⟩

theorem index0 : ∀ t : Fin cfg0.N, win0_0.index t = ![t.val, 0] := (by decide +kernel : ∀ t : Fin grid0.N, _)
theorem index1 : ∀ t : Fin cfg0.N, win0_1.index t = ![t.val, 0] := (by decide +kernel : ∀ t : Fin grid0.N, _)
theorem index2 : ∀ t : Fin cfg0.N, win0_2.index t = ![t.val, 2] := (by decide +kernel : ∀ t : Fin grid0.N, _)
theorem index3 : ∀ t : Fin cfg0.N, win0_3.index t = ![t.val, 0] := (by decide +kernel : ∀ t : Fin grid0.N, _)
theorem index4 : ∀ t : Fin cfg0.N, win0_4.index t = ![t.val / 8, 0, 0] := (by decide +kernel : ∀ t : Fin grid0.N, _)
theorem index5 : ∀ t : Fin cfg0.N, win0_5.index t = ![0, 0] := (by decide +kernel : ∀ t : Fin grid0.N, _)
theorem index6 : ∀ t : Fin cfg0.N, win0_6.index t = ![0, 0] := (by decide +kernel : ∀ t : Fin grid0.N, _)
theorem index7 : ∀ t : Fin cfg0.N, win0_7.index t = ![0, 0] := (by decide +kernel : ∀ t : Fin grid0.N, _)
theorem index8 : ∀ t : Fin cfg0.N, win0_8.index t = ![0, 0] := (by decide +kernel : ∀ t : Fin grid0.N, _)
theorem index9 : ∀ t : Fin cfg0.N, win0_9.index t = ![t.val / 8, 0, 0] := (by decide +kernel : ∀ t : Fin grid0.N, _)
theorem index10 : ∀ t : Fin cfg0.N, win0_10.index t = ![t.val / 8, 0, 0] := (by decide +kernel : ∀ t : Fin grid0.N, _)
theorem index11 : ∀ t : Fin cfg0.N, win0_11.index t = ![0, 0] := (by decide +kernel : ∀ t : Fin grid0.N, _)
theorem index12 : ∀ t : Fin cfg0.N, win0_12.index t = ![0, 0] := (by decide +kernel : ∀ t : Fin grid0.N, _)
theorem index13 : ∀ t : Fin cfg0.N, win0_13.index t = ![t.val, 0] := (by decide +kernel : ∀ t : Fin grid0.N, _)
theorem index14 : ∀ t : Fin cfg0.N, win0_14.index t = ![t.val, 0] := (by decide +kernel : ∀ t : Fin grid0.N, _)
theorem index15 : ∀ t : Fin cfg0.N, win0_15.index t = ![t.val, 0] := (by decide +kernel : ∀ t : Fin grid0.N, _)

theorem blk0 (c : Dev nD) (t : Fin cfg0.N) (j : S512x512.Idx) :
    iblk m c (0 : Fin 16) t j = (m ((c : Thread nD τ).loc main_arg0)) (ix2 (rowOf (bOf (pt t)) (sOf (pt t) (j 0))) (j 1)) := by
  have ht := lt64 t
  unfold iblk
  rw [View.read_apply, cast_eq]
  refine Eq.trans (congrArg (V m c main_arg0) (funext fun ax => Fin.ext ?_)) (congrFun (V_main_arg0 m c) _)
  refine ((cfg0.win (0 : Fin 16)).rect_emb_val t j ax).trans ?_
  have hi : (cfg0.win (0 : Fin 16)).index t = ![t.val, 0] := index0 t
  rw [hi]
  match ax with
  | ⟨0, _⟩ => show t.val * 512 + (j 0).val = t.val / 8 * 4096 + (t.val % 8 * 512 + (j 0).val); omega
  | ⟨1, _⟩ => show 0 * 512 + (j 1).val = (j 1).val; omega

theorem blk1 (c : Dev nD) (t : Fin cfg0.N) (j : S512x1024.Idx) :
    iblk m c (1 : Fin 16) t j = (m ((c : Thread nD τ).loc main_arg1)) (ix2 (rowOf (bOf (pt t)) (sOf (pt t) (j 0))) (j 1)) := by
  have ht := lt64 t
  unfold iblk
  rw [View.read_apply, cast_eq]
  refine Eq.trans (congrArg (V m c main_arg1) (funext fun ax => Fin.ext ?_)) (congrFun (V_main_arg1 m c) _)
  refine ((cfg0.win (1 : Fin 16)).rect_emb_val t j ax).trans ?_
  have hi : (cfg0.win (1 : Fin 16)).index t = ![t.val, 0] := index1 t
  rw [hi]
  match ax with
  | ⟨0, _⟩ => show t.val * 512 + (j 0).val = t.val / 8 * 4096 + (t.val % 8 * 512 + (j 0).val); omega
  | ⟨1, _⟩ => show 0 * 1024 + (j 1).val = (j 1).val; omega

/-- Column `n` of the gates' half of the projection. -/
abbrev gateOf (n : Fin 2048) : Fin 6144 := ⟨4096 + n.val, by have := n.isLt; omega⟩

theorem blk2 (c : Dev nD) (t : Fin cfg0.N) (j : S512x2048.Idx) :
    iblk m c (2 : Fin 16) t j = (m ((c : Thread nD τ).loc main_arg2)) (ix2 (rowOf (bOf (pt t)) (sOf (pt t) (j 0))) (gateOf (j 1))) := by
  have ht := lt64 t
  unfold iblk
  rw [View.read_apply, cast_eq]
  refine Eq.trans (congrArg (V m c main_arg2) (funext fun ax => Fin.ext ?_)) (congrFun (V_main_arg2 m c) _)
  refine ((cfg0.win (2 : Fin 16)).rect_emb_val t j ax).trans ?_
  have hi : (cfg0.win (2 : Fin 16)).index t = ![t.val, 2] := index2 t
  rw [hi]
  match ax with
  | ⟨0, _⟩ => show t.val * 512 + (j 0).val = t.val / 8 * 4096 + (t.val % 8 * 512 + (j 0).val); omega
  | ⟨1, _⟩ => show 2 * 2048 + (j 1).val = 4096 + (j 1).val; omega

theorem blk3 (c : Dev nD) (t : Fin cfg0.N) (j : S512x1024.Idx) :
    iblk m c (3 : Fin 16) t j = (m ((c : Thread nD τ).loc main_arg3)) (ix2 (rowOf (bOf (pt t)) (sOf (pt t) (j 0))) (j 1)) := by
  have ht := lt64 t
  unfold iblk
  rw [View.read_apply, cast_eq]
  refine Eq.trans (congrArg (V m c main_arg3) (funext fun ax => Fin.ext ?_)) (congrFun (V_main_arg3 m c) _)
  refine ((cfg0.win (3 : Fin 16)).rect_emb_val t j ax).trans ?_
  have hi : (cfg0.win (3 : Fin 16)).index t = ![t.val, 0] := index3 t
  rw [hi]
  match ax with
  | ⟨0, _⟩ => show t.val * 512 + (j 0).val = t.val / 8 * 4096 + (t.val % 8 * 512 + (j 0).val); omega
  | ⟨1, _⟩ => show 0 * 1024 + (j 1).val = (j 1).val; omega

theorem blk4 (c : Dev nD) (t : Fin cfg0.N) (j : S1x1x1024.Idx) :
    iblk m c (4 : Fin 16) t j = (m ((c : Thread nD τ).loc main_arg4)) (ix2 (bOf (pt t)) (j 2)) := by
  have ht := lt64 t
  have h0 : (j 0).val < 1 := (j 0).isLt
  have h1 : (j 1).val < 1 := (j 1).isLt
  unfold iblk
  rw [View.read_apply, cast_eq]
  refine Eq.trans ?_ ((congrFun (V_v3 m c) (ix3 (bOf (pt t)) (0 : Fin 1) (j 2))).trans (perBatch _ _ _))
  refine congrArg (V m c main_v3) (funext fun ax => Fin.ext ?_)
  refine ((cfg0.win (4 : Fin 16)).rect_emb_val t j ax).trans ?_
  have hi : (cfg0.win (4 : Fin 16)).index t = ![t.val / 8, 0, 0] := index4 t
  rw [hi]
  match ax with
  | ⟨0, _⟩ => show t.val / 8 * 1 + (j 0).val = t.val / 8; omega
  | ⟨1, _⟩ => show 0 * 1 + (j 1).val = 0; omega
  | ⟨2, _⟩ => show 0 * 1024 + (j 2).val = (j 2).val; omega

theorem blk5 (c : Dev nD) (t : Fin cfg0.N) (j : S512x1024.Idx) :
    iblk m c (5 : Fin 16) t j = (m ((c : Thread nD τ).loc main_arg5)) (ix2 (j 0) (j 1)) := by
  have ht := lt64 t
  unfold iblk
  rw [View.read_apply, cast_eq]
  refine Eq.trans ?_ (congrFun (V_v4 m c) (ix2 (j 0) (j 1)))
  refine congrArg (V m c main_v4) (funext fun ax => Fin.ext ?_)
  refine ((cfg0.win (5 : Fin 16)).rect_emb_val t j ax).trans ?_
  have hi : (cfg0.win (5 : Fin 16)).index t = ![0, 0] := index5 t
  rw [hi]
  match ax with
  | ⟨0, _⟩ => show 0 * 512 + (j 0).val = (j 0).val; omega
  | ⟨1, _⟩ => show 0 * 1024 + (j 1).val = (j 1).val; omega

theorem blk6 (c : Dev nD) (t : Fin cfg0.N) (j : S1024x1024.Idx) :
    iblk m c (6 : Fin 16) t j = (m ((c : Thread nD τ).loc main_arg6)) (ix2 (j 0) (j 1)) := by
  have ht := lt64 t
  unfold iblk
  rw [View.read_apply, cast_eq]
  refine Eq.trans ?_ (congrFun (V_v5 m c) (ix2 (j 0) (j 1)))
  refine congrArg (V m c main_v5) (funext fun ax => Fin.ext ?_)
  refine ((cfg0.win (6 : Fin 16)).rect_emb_val t j ax).trans ?_
  have hi : (cfg0.win (6 : Fin 16)).index t = ![0, 0] := index6 t
  rw [hi]
  match ax with
  | ⟨0, _⟩ => show 0 * 1024 + (j 0).val = (j 0).val; omega
  | ⟨1, _⟩ => show 0 * 1024 + (j 1).val = (j 1).val; omega

theorem blk7 (c : Dev nD) (t : Fin cfg0.N) (j : S1024x1024.Idx) :
    iblk m c (7 : Fin 16) t j = (m ((c : Thread nD τ).loc main_arg7)) (ix2 (j 0) (j 1)) := by
  have ht := lt64 t
  unfold iblk
  rw [View.read_apply, cast_eq]
  refine Eq.trans ?_ (congrFun (V_v6 m c) (ix2 (j 0) (j 1)))
  refine congrArg (V m c main_v6) (funext fun ax => Fin.ext ?_)
  refine ((cfg0.win (7 : Fin 16)).rect_emb_val t j ax).trans ?_
  have hi : (cfg0.win (7 : Fin 16)).index t = ![0, 0] := index7 t
  rw [hi]
  match ax with
  | ⟨0, _⟩ => show 0 * 1024 + (j 0).val = (j 0).val; omega
  | ⟨1, _⟩ => show 0 * 1024 + (j 1).val = (j 1).val; omega

theorem blk8 (c : Dev nD) (t : Fin cfg0.N) (j : S1x1024.Idx) :
    iblk m c (8 : Fin 16) t j = (m ((c : Thread nD τ).loc main_arg8)) (ix1 (j 1)) := by
  have ht := lt64 t
  have h0 : (j 0).val < 1 := (j 0).isLt
  unfold iblk
  rw [View.read_apply, cast_eq]
  refine Eq.trans ?_ ((congrFun (V_v7 m c) (ix2 (0 : Fin 1) (j 1))).trans (row1024 _ _))
  refine congrArg (V m c main_v7) (funext fun ax => Fin.ext ?_)
  refine ((cfg0.win (8 : Fin 16)).rect_emb_val t j ax).trans ?_
  have hi : (cfg0.win (8 : Fin 16)).index t = ![0, 0] := index8 t
  rw [hi]
  match ax with
  | ⟨0, _⟩ => show 0 * 1 + (j 0).val = 0; omega
  | ⟨1, _⟩ => show 0 * 1024 + (j 1).val = (j 1).val; omega

theorem blk9 (c : Dev nD) (t : Fin cfg0.N) (j : S1x1x1024.Idx) :
    iblk m c (9 : Fin 16) t j = (m ((c : Thread nD τ).loc main_arg9)) (ix2 (bOf (pt t)) (j 2)) := by
  have ht := lt64 t
  have h0 : (j 0).val < 1 := (j 0).isLt
  have h1 : (j 1).val < 1 := (j 1).isLt
  unfold iblk
  rw [View.read_apply, cast_eq]
  refine Eq.trans ?_ ((congrFun (V_v8 m c) (ix3 (bOf (pt t)) (0 : Fin 1) (j 2))).trans (perBatch _ _ _))
  refine congrArg (V m c main_v8) (funext fun ax => Fin.ext ?_)
  refine ((cfg0.win (9 : Fin 16)).rect_emb_val t j ax).trans ?_
  have hi : (cfg0.win (9 : Fin 16)).index t = ![t.val / 8, 0, 0] := index9 t
  rw [hi]
  match ax with
  | ⟨0, _⟩ => show t.val / 8 * 1 + (j 0).val = t.val / 8; omega
  | ⟨1, _⟩ => show 0 * 1 + (j 1).val = 0; omega
  | ⟨2, _⟩ => show 0 * 1024 + (j 2).val = (j 2).val; omega

theorem blk10 (c : Dev nD) (t : Fin cfg0.N) (j : S1x1x1024.Idx) :
    iblk m c (10 : Fin 16) t j = (m ((c : Thread nD τ).loc main_arg10)) (ix2 (bOf (pt t)) (j 2)) := by
  have ht := lt64 t
  have h0 : (j 0).val < 1 := (j 0).isLt
  have h1 : (j 1).val < 1 := (j 1).isLt
  unfold iblk
  rw [View.read_apply, cast_eq]
  refine Eq.trans ?_ ((congrFun (V_v9 m c) (ix3 (bOf (pt t)) (0 : Fin 1) (j 2))).trans (perBatch _ _ _))
  refine congrArg (V m c main_v9) (funext fun ax => Fin.ext ?_)
  refine ((cfg0.win (10 : Fin 16)).rect_emb_val t j ax).trans ?_
  have hi : (cfg0.win (10 : Fin 16)).index t = ![t.val / 8, 0, 0] := index10 t
  rw [hi]
  match ax with
  | ⟨0, _⟩ => show t.val / 8 * 1 + (j 0).val = t.val / 8; omega
  | ⟨1, _⟩ => show 0 * 1 + (j 1).val = 0; omega
  | ⟨2, _⟩ => show 0 * 1024 + (j 2).val = (j 2).val; omega

theorem blk11 (c : Dev nD) (t : Fin cfg0.N) (j : S1024x128.Idx) :
    iblk m c (11 : Fin 16) t j = V m c main_v0 j := by
  have ht := lt64 t
  unfold iblk
  rw [View.read_apply, cast_eq]
  refine congrArg (V m c main_v0) (funext fun ax => Fin.ext ?_)
  refine ((cfg0.win (11 : Fin 16)).rect_emb_val t j ax).trans ?_
  have hi : (cfg0.win (11 : Fin 16)).index t = ![0, 0] := index11 t
  rw [hi]
  match ax with
  | ⟨0, _⟩ => show 0 * 1024 + (j 0).val = (j 0).val; omega
  | ⟨1, _⟩ => show 0 * 128 + (j 1).val = (j 1).val; omega

theorem blk12 (c : Dev nD) (t : Fin cfg0.N) (j : S1x128.Idx) :
    iblk m c (12 : Fin 16) t j = V m c main_v2 j := by
  have ht := lt64 t
  unfold iblk
  rw [View.read_apply, cast_eq]
  refine congrArg (V m c main_v2) (funext fun ax => Fin.ext ?_)
  refine ((cfg0.win (12 : Fin 16)).rect_emb_val t j ax).trans ?_
  have hi : (cfg0.win (12 : Fin 16)).index t = ![0, 0] := index12 t
  rw [hi]
  match ax with
  | ⟨0, _⟩ => show 0 * 1 + (j 0).val = (j 0).val; omega
  | ⟨1, _⟩ => show 0 * 128 + (j 1).val = (j 1).val; omega

/-! ## What one point leaves -/

/-- The two halves of the gates' block. -/
abbrev half0 (x : Vec Ideal S512x2048 .f32) : Vec Ideal S512x1024 .f32 := fun j => x (ix2 (j 0) ⟨(j 1).val, lt_of_lt_of_le (show (j 1).val < 1024 from (j 1).isLt) (by decide)⟩)
abbrev half1 (x : Vec Ideal S512x2048 .f32) : Vec Ideal S512x1024 .f32 := fun j => x (ix2 (j 0) ⟨1024 + (j 1).val, by have : (j 1).val < 1024 := (j 1).isLt; omega⟩)

theorem ld_half0 (x : Vec Ideal S512x2048 .f32) : View.ld x r0_3 = half0 x :=
  funext fun j => congrArg x (funext fun ax => Fin.ext (by
    match ax with
    | ⟨0, _⟩ => show 0 + 1 * (j 0).val = (j 0).val; omega
    | ⟨1, _⟩ => show 0 + 1 * (j 1).val = (j 1).val; omega))
theorem ld_half1 (x : Vec Ideal S512x2048 .f32) : View.ld x r0_4 = half1 x :=
  funext fun j => congrArg x (funext fun ax => Fin.ext (by
    match ax with
    | ⟨0, _⟩ => show 0 + 1 * (j 0).val = (j 0).val; omega
    | ⟨1, _⟩ => show 1024 + 1 * (j 1).val = 1024 + (j 1).val; omega))

/-- The body's residual and the sums of squares of its rows, from the blocks it reads. -/
abbrev bodyX (x0 : Vec Ideal S512x512 .f32) (x1 : Vec Ideal S512x1024 .f32) (x2 : Vec Ideal S512x2048 .f32) (x3 : Vec Ideal S512x1024 .f32) (x4 : Vec Ideal S1x1x1024 .f32) (x5 : Vec Ideal S512x1024 .bf16) (x6 : Vec Ideal S1024x1024 .bf16) (x7 : Vec Ideal S1024x1024 .bf16) (x8 : Vec Ideal S1x1024 .f32) (x9 : Vec Ideal S1x1x1024 .f32) (x10 : Vec Ideal S1x1x1024 .f32) (x11 : Vec Ideal S1024x128 .f32) (x12 : Vec Ideal S1x128 .f32) : Vec Ideal S512x1024 .f32 := k0_pay4 (F := Ideal) x0 x5 x1 x6 (half0 x2) (half1 x2) x3 x4 x7
abbrev bodyQ (x0 : Vec Ideal S512x512 .f32) (x1 : Vec Ideal S512x1024 .f32) (x2 : Vec Ideal S512x2048 .f32) (x3 : Vec Ideal S512x1024 .f32) (x4 : Vec Ideal S1x1x1024 .f32) (x5 : Vec Ideal S512x1024 .bf16) (x6 : Vec Ideal S1024x1024 .bf16) (x7 : Vec Ideal S1024x1024 .bf16) (x8 : Vec Ideal S1x1024 .f32) (x9 : Vec Ideal S1x1x1024 .f32) (x10 : Vec Ideal S1x1x1024 .f32) (x11 : Vec Ideal S1024x128 .f32) (x12 : Vec Ideal S1x128 .f32) : Vec Ideal S512x1 .f32 := k0_pay5 (F := Ideal) x0 x5 x1 x6 (half0 x2) (half1 x2) x3 x4 x7

theorem out13 (x0 : Vec Ideal S512x512 .f32) (x1 : Vec Ideal S512x1024 .f32) (x2 : Vec Ideal S512x2048 .f32) (x3 : Vec Ideal S512x1024 .f32) (x4 : Vec Ideal S1x1x1024 .f32) (x5 : Vec Ideal S512x1024 .bf16) (x6 : Vec Ideal S1024x1024 .bf16) (x7 : Vec Ideal S1024x1024 .bf16) (x8 : Vec Ideal S1x1024 .f32) (x9 : Vec Ideal S1x1x1024 .f32) (x10 : Vec Ideal S1x1x1024 .f32) (x11 : Vec Ideal S1024x128 .f32) (x12 : Vec Ideal S1x128 .f32) :
    out0_13 (F := Ideal) x0 x1 x2 x3 x4 x5 x6 x7 x8 x9 x10 x11 x12 = bodyX x0 x1 x2 x3 x4 x5 x6 x7 x8 x9 x10 x11 x12 := by
  unfold_out out0_13
  rw [View.canon_unit_zero zero2]
  simp only [View.ld_unit_zero (S := S512x512) zero2, View.ld_unit_zero (S := S512x1024) zero2, View.ld_unit_zero (S := S1024x1024) zero2, View.ld_unit_zero (S := S1x1024) zero2,
    View.ld_unit_zero (S := S1x1x1024) zero3, View.ld_unit_zero (S := S1024x128) zero2, View.ld_unit_zero (S := S1x128) zero2, ld_half0, ld_half1]

theorem out14 (x0 : Vec Ideal S512x512 .f32) (x1 : Vec Ideal S512x1024 .f32) (x2 : Vec Ideal S512x2048 .f32) (x3 : Vec Ideal S512x1024 .f32) (x4 : Vec Ideal S1x1x1024 .f32) (x5 : Vec Ideal S512x1024 .bf16) (x6 : Vec Ideal S1024x1024 .bf16) (x7 : Vec Ideal S1024x1024 .bf16) (x8 : Vec Ideal S1x1024 .f32) (x9 : Vec Ideal S1x1x1024 .f32) (x10 : Vec Ideal S1x1x1024 .f32) (x11 : Vec Ideal S1024x128 .f32) (x12 : Vec Ideal S1x128 .f32) :
    out0_14 (F := Ideal) x0 x1 x2 x3 x4 x5 x6 x7 x8 x9 x10 x11 x12 = k0_pay2 (F := Ideal) (bodyX x0 x1 x2 x3 x4 x5 x6 x7 x8 x9 x10 x11 x12) (bodyQ x0 x1 x2 x3 x4 x5 x6 x7 x8 x9 x10 x11 x12) (k0_pay6 (F := Ideal)) x8 x9 x10 := by
  unfold_out out0_14
  rw [View.canon_unit_zero zero2]
  simp only [View.ld_unit_zero (S := S512x512) zero2, View.ld_unit_zero (S := S512x1024) zero2, View.ld_unit_zero (S := S1024x1024) zero2, View.ld_unit_zero (S := S1x1024) zero2,
    View.ld_unit_zero (S := S1x1x1024) zero3, View.ld_unit_zero (S := S1024x128) zero2, View.ld_unit_zero (S := S1x128) zero2, ld_half0, ld_half1]

theorem out15 (x0 : Vec Ideal S512x512 .f32) (x1 : Vec Ideal S512x1024 .f32) (x2 : Vec Ideal S512x2048 .f32) (x3 : Vec Ideal S512x1024 .f32) (x4 : Vec Ideal S1x1x1024 .f32) (x5 : Vec Ideal S512x1024 .bf16) (x6 : Vec Ideal S1024x1024 .bf16) (x7 : Vec Ideal S1024x1024 .bf16) (x8 : Vec Ideal S1x1024 .f32) (x9 : Vec Ideal S1x1x1024 .f32) (x10 : Vec Ideal S1x1x1024 .f32) (x11 : Vec Ideal S1024x128 .f32) (x12 : Vec Ideal S1x128 .f32) :
    out0_15 (F := Ideal) x0 x1 x2 x3 x4 x5 x6 x7 x8 x9 x10 x11 x12 = k0_pay3 (F := Ideal) (bodyX x0 x1 x2 x3 x4 x5 x6 x7 x8 x9 x10 x11 x12) (bodyQ x0 x1 x2 x3 x4 x5 x6 x7 x8 x9 x10 x11 x12) (k0_pay6 (F := Ideal)) x8 x9 x10 x11 x12 := by
  unfold_out out0_15
  rw [View.canon_unit_zero zero2]
  simp only [View.ld_unit_zero (S := S512x512) zero2, View.ld_unit_zero (S := S512x1024) zero2, View.ld_unit_zero (S := S1024x1024) zero2, View.ld_unit_zero (S := S1x1024) zero2,
    View.ld_unit_zero (S := S1x1x1024) zero3, View.ld_unit_zero (S := S1024x128) zero2, View.ld_unit_zero (S := S1x128) zero2, ld_half0, ld_half1]

/-! ## What the points leave, in the arguments -/

/-- Block `q` of the residual, of the rounded rows and of the padded logits. -/
abbrev blockX (c : Dev nD) (q : Fin 64) : FVec Ideal S512x1024 .f32 := (newX (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (bOf q) (sOf q))
abbrev blockH (c : Dev nD) (q : Fin 64) : FVec Ideal S512x1024 .bf16 := k0_pay2 (F := Ideal) (newX (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (bOf q) (sOf q)) (sqs (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (bOf q) (sOf q)) (k0_pay6 (F := Ideal)) (fun j => (m ((c : Thread nD τ).loc main_arg8)) (ix1 (j 1))) (fun j => (m ((c : Thread nD τ).loc main_arg9)) (ix2 (bOf q) (j 2))) (fun j => (m ((c : Thread nD τ).loc main_arg10)) (ix2 (bOf q) (j 2)))
abbrev blockL (c : Dev nD) (q : Fin 64) : FVec Ideal S512x128 .f32 := k0_pay3 (F := Ideal) (newX (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (bOf q) (sOf q)) (sqs (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (bOf q) (sOf q)) (k0_pay6 (F := Ideal)) (fun j => (m ((c : Thread nD τ).loc main_arg8)) (ix1 (j 1))) (fun j => (m ((c : Thread nD τ).loc main_arg9)) (ix2 (bOf q) (j 2))) (fun j => (m ((c : Thread nD τ).loc main_arg10)) (ix2 (bOf q) (j 2))) (V m c main_v0) (V m c main_v2)

theorem bodyX_blks (c : Dev nD) (t : Fin cfg0.N) : bodyX (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) = (newX (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (bOf (pt t)) (sOf (pt t))) :=
  congr (congr (congr (congr (congr (congr (congr (congr (congrArg (k0_pay4 (F := Ideal)) (funext fun j => blk0 m c t j)) (funext fun j => blk5 m c t j)) (funext fun j => blk1 m c t j)) (funext fun j => blk6 m c t j)) (funext fun j => blk2 m c t (ix2 (j 0) ⟨(j 1).val, lt_of_lt_of_le (show (j 1).val < 1024 from (j 1).isLt) (by decide)⟩))) (funext fun j => blk2 m c t (ix2 (j 0) ⟨1024 + (j 1).val, by have : (j 1).val < 1024 := (j 1).isLt; omega⟩))) (funext fun j => blk3 m c t j)) (funext fun j => blk4 m c t j)) (funext fun j => blk7 m c t j)
theorem bodyQ_blks (c : Dev nD) (t : Fin cfg0.N) : bodyQ (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) = (sqs (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (bOf (pt t)) (sOf (pt t))) :=
  congr (congr (congr (congr (congr (congr (congr (congr (congrArg (k0_pay5 (F := Ideal)) (funext fun j => blk0 m c t j)) (funext fun j => blk5 m c t j)) (funext fun j => blk1 m c t j)) (funext fun j => blk6 m c t j)) (funext fun j => blk2 m c t (ix2 (j 0) ⟨(j 1).val, lt_of_lt_of_le (show (j 1).val < 1024 from (j 1).isLt) (by decide)⟩))) (funext fun j => blk2 m c t (ix2 (j 0) ⟨1024 + (j 1).val, by have : (j 1).val < 1024 := (j 1).isLt; omega⟩))) (funext fun j => blk3 m c t j)) (funext fun j => blk4 m c t j)) (funext fun j => blk7 m c t j)

theorem left13 (c : Dev nD) (t : Fin cfg0.N) : (dats m 0 c).after 13 t = blockX m c (pt t) :=
  (after0_13 m c t).trans ((out13 _ _ _ _ _ _ _ _ _ _ _ _ _).trans (bodyX_blks m c t))
theorem left14 (c : Dev nD) (t : Fin cfg0.N) : (dats m 0 c).after 14 t = blockH m c (pt t) :=
  (after0_14 m c t).trans ((out14 _ _ _ _ _ _ _ _ _ _ _ _ _).trans
    (congr (congr (congr (congr (congr (congrArg (k0_pay2 (F := Ideal)) (bodyX_blks m c t)) (bodyQ_blks m c t)) rfl) (funext fun j => blk8 m c t j)) (funext fun j => blk9 m c t j)) (funext fun j => blk10 m c t j)))
theorem left15 (c : Dev nD) (t : Fin cfg0.N) : (dats m 0 c).after 15 t = blockL m c (pt t) :=
  (after0_15 m c t).trans ((out15 _ _ _ _ _ _ _ _ _ _ _ _ _).trans
    (congr (congr (congr (congr (congr (congr (congr (congrArg (k0_pay3 (F := Ideal)) (bodyX_blks m c t)) (bodyQ_blks m c t)) rfl) (funext fun j => blk8 m c t j)) (funext fun j => blk9 m c t j)) (funext fun j => blk10 m c t j)) (funext fun j => blk11 m c t j)) (funext fun j => blk12 m c t j)))

/-! ## The output arrays -/

/-- The reference's results at this memory's arguments. -/
abbrev refX (c : Dev nD) : FVec Ideal S32768x1024 .f32 := val_main_v53 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7))
abbrev refH (c : Dev nD) : FVec Ideal S32768x1024 .bf16 := val_main_v54 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10))
abbrev refL (c : Dev nD) : FVec Ideal S32768x32 .f32 := val_main_v52 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12))

/-- The padded logits, block by block. -/
def padL (c : Dev nD) : FVec Ideal S32768x128 .f32 := fun i =>
  blockL m c ⟨(i 0).val / 512, by have : (i 0).val < 32768 := (i 0).isLt; omega⟩ (ix2 ⟨(i 0).val % 512, Nat.mod_lt _ (by decide)⟩ (i 1))

/-- A position a view embeds is in its set. -/
theorem mem_of_emb {sp : Space} {s : Shape} {e : EltTy} (v : View sig .tc sp s e) (x : s.Idx) (i : v.ty.Idx) (h : v.emb x = i) : i ∈ v.set :=
  h ▸ v.emb_mem_set x

/-- Row `512 t + r` of the array is row `r` of point `t`'s block. -/
theorem emb13 (t : Fin cfg0.N) (j : S512x1024.Idx) :
    ((cfg0.win (13 : Fin 16)).blk t).view.emb j = (ix2 (rowOf (bOf (pt t)) (sOf (pt t) (j 0))) (j 1) : S32768x1024.Idx) := by
  refine funext fun ax => Fin.ext ?_
  refine ((cfg0.win (13 : Fin 16)).rect_emb_val t j ax).trans ?_
  have hi : (cfg0.win (13 : Fin 16)).index t = ![t.val, 0] := index13 t
  rw [hi]
  match ax with
  | ⟨0, _⟩ => show t.val * 512 + (j 0).val = t.val / 8 * 4096 + (t.val % 8 * 512 + (j 0).val); omega
  | ⟨1, _⟩ => show 0 * 1024 + (j 1).val = (j 1).val; omega

/-- Every point writes its block back. -/
theorem flush13 (t : Fin cfg0.N) : (cfg0.win (13 : Fin 16)).flush t = true := by
  unfold Window.flush
  have hn : (cfg0.win (13 : Fin 16)).isOut = true := rfl
  rw [hn, Bool.true_and, Bool.or_eq_true, decide_eq_true_eq, decide_eq_true_eq]
  by_cases h : t.val + 1 = cfg0.grid.N
  · exact .inl h
  · refine .inr ⟨lt_of_le_of_ne t.isLt h, fun e => ?_⟩
    have e1 : (cfg0.win (13 : Fin 16)).index ⟨t.val + 1, lt_of_le_of_ne t.isLt h⟩ = ![t.val + 1, 0] := index13 ⟨t.val + 1, lt_of_le_of_ne t.isLt h⟩
    have e2 : (cfg0.win (13 : Fin 16)).index t = ![t.val, 0] := index13 t
    rw [e1, e2] at e
    have e0 : t.val + 1 = t.val := congrFun e (0 : Fin 2)
    omega

/-- Every position lies in a block that is written back. -/
theorem cover13 (i : S32768x1024.Idx) : ∃ t : Fin cfg0.N, (cfg0.win (13 : Fin 16)).flush t = true ∧ i ∈ ((cfg0.win (13 : Fin 16)).blk t).view.set := by
  have hi0 : (i 0).val < 32768 := (i 0).isLt
  refine ⟨⟨(i 0).val / 512, lt_of_lt_of_eq (show (i 0).val / 512 < 64 by omega) N_0.symm⟩, flush13 _, ?_⟩
  refine mem_of_emb _ (ix2 (⟨(i 0).val % 512, Nat.mod_lt _ (by decide)⟩ : Fin 512) (i 1) : S512x1024.Idx) _
    ((emb13 ⟨(i 0).val / 512, lt_of_lt_of_eq (show (i 0).val / 512 < 64 by omega) N_0.symm⟩ _).trans (funext fun ax => Fin.ext ?_))
  match ax with
  | ⟨0, _⟩ => show (i 0).val / 512 / 8 * 4096 + ((i 0).val / 512 % 8 * 512 + (i 0).val % 512) = (i 0).val; omega
  | ⟨1, _⟩ => rfl

/-- Row `512 t + r` of the array is row `r` of point `t`'s block. -/
theorem emb14 (t : Fin cfg0.N) (j : S512x1024.Idx) :
    ((cfg0.win (14 : Fin 16)).blk t).view.emb j = (ix2 (rowOf (bOf (pt t)) (sOf (pt t) (j 0))) (j 1) : S32768x1024.Idx) := by
  refine funext fun ax => Fin.ext ?_
  refine ((cfg0.win (14 : Fin 16)).rect_emb_val t j ax).trans ?_
  have hi : (cfg0.win (14 : Fin 16)).index t = ![t.val, 0] := index14 t
  rw [hi]
  match ax with
  | ⟨0, _⟩ => show t.val * 512 + (j 0).val = t.val / 8 * 4096 + (t.val % 8 * 512 + (j 0).val); omega
  | ⟨1, _⟩ => show 0 * 1024 + (j 1).val = (j 1).val; omega

/-- Every point writes its block back. -/
theorem flush14 (t : Fin cfg0.N) : (cfg0.win (14 : Fin 16)).flush t = true := by
  unfold Window.flush
  have hn : (cfg0.win (14 : Fin 16)).isOut = true := rfl
  rw [hn, Bool.true_and, Bool.or_eq_true, decide_eq_true_eq, decide_eq_true_eq]
  by_cases h : t.val + 1 = cfg0.grid.N
  · exact .inl h
  · refine .inr ⟨lt_of_le_of_ne t.isLt h, fun e => ?_⟩
    have e1 : (cfg0.win (14 : Fin 16)).index ⟨t.val + 1, lt_of_le_of_ne t.isLt h⟩ = ![t.val + 1, 0] := index14 ⟨t.val + 1, lt_of_le_of_ne t.isLt h⟩
    have e2 : (cfg0.win (14 : Fin 16)).index t = ![t.val, 0] := index14 t
    rw [e1, e2] at e
    have e0 : t.val + 1 = t.val := congrFun e (0 : Fin 2)
    omega

/-- Every position lies in a block that is written back. -/
theorem cover14 (i : S32768x1024.Idx) : ∃ t : Fin cfg0.N, (cfg0.win (14 : Fin 16)).flush t = true ∧ i ∈ ((cfg0.win (14 : Fin 16)).blk t).view.set := by
  have hi0 : (i 0).val < 32768 := (i 0).isLt
  refine ⟨⟨(i 0).val / 512, lt_of_lt_of_eq (show (i 0).val / 512 < 64 by omega) N_0.symm⟩, flush14 _, ?_⟩
  refine mem_of_emb _ (ix2 (⟨(i 0).val % 512, Nat.mod_lt _ (by decide)⟩ : Fin 512) (i 1) : S512x1024.Idx) _
    ((emb14 ⟨(i 0).val / 512, lt_of_lt_of_eq (show (i 0).val / 512 < 64 by omega) N_0.symm⟩ _).trans (funext fun ax => Fin.ext ?_))
  match ax with
  | ⟨0, _⟩ => show (i 0).val / 512 / 8 * 4096 + ((i 0).val / 512 % 8 * 512 + (i 0).val % 512) = (i 0).val; omega
  | ⟨1, _⟩ => rfl

/-- Row `512 t + r` of the array is row `r` of point `t`'s block. -/
theorem emb15 (t : Fin cfg0.N) (j : S512x128.Idx) :
    ((cfg0.win (15 : Fin 16)).blk t).view.emb j = (ix2 (rowOf (bOf (pt t)) (sOf (pt t) (j 0))) (j 1) : S32768x128.Idx) := by
  refine funext fun ax => Fin.ext ?_
  refine ((cfg0.win (15 : Fin 16)).rect_emb_val t j ax).trans ?_
  have hi : (cfg0.win (15 : Fin 16)).index t = ![t.val, 0] := index15 t
  rw [hi]
  match ax with
  | ⟨0, _⟩ => show t.val * 512 + (j 0).val = t.val / 8 * 4096 + (t.val % 8 * 512 + (j 0).val); omega
  | ⟨1, _⟩ => show 0 * 128 + (j 1).val = (j 1).val; omega

/-- Every point writes its block back. -/
theorem flush15 (t : Fin cfg0.N) : (cfg0.win (15 : Fin 16)).flush t = true := by
  unfold Window.flush
  have hn : (cfg0.win (15 : Fin 16)).isOut = true := rfl
  rw [hn, Bool.true_and, Bool.or_eq_true, decide_eq_true_eq, decide_eq_true_eq]
  by_cases h : t.val + 1 = cfg0.grid.N
  · exact .inl h
  · refine .inr ⟨lt_of_le_of_ne t.isLt h, fun e => ?_⟩
    have e1 : (cfg0.win (15 : Fin 16)).index ⟨t.val + 1, lt_of_le_of_ne t.isLt h⟩ = ![t.val + 1, 0] := index15 ⟨t.val + 1, lt_of_le_of_ne t.isLt h⟩
    have e2 : (cfg0.win (15 : Fin 16)).index t = ![t.val, 0] := index15 t
    rw [e1, e2] at e
    have e0 : t.val + 1 = t.val := congrFun e (0 : Fin 2)
    omega

/-- Every position lies in a block that is written back. -/
theorem cover15 (i : S32768x128.Idx) : ∃ t : Fin cfg0.N, (cfg0.win (15 : Fin 16)).flush t = true ∧ i ∈ ((cfg0.win (15 : Fin 16)).blk t).view.set := by
  have hi0 : (i 0).val < 32768 := (i 0).isLt
  refine ⟨⟨(i 0).val / 512, lt_of_lt_of_eq (show (i 0).val / 512 < 64 by omega) N_0.symm⟩, flush15 _, ?_⟩
  refine mem_of_emb _ (ix2 (⟨(i 0).val % 512, Nat.mod_lt _ (by decide)⟩ : Fin 512) (i 1) : S512x128.Idx) _
    ((emb15 ⟨(i 0).val / 512, lt_of_lt_of_eq (show (i 0).val / 512 < 64 by omega) N_0.symm⟩ _).trans (funext fun ax => Fin.ext ?_))
  match ax with
  | ⟨0, _⟩ => show (i 0).val / 512 / 8 * 4096 + ((i 0).val / 512 % 8 * 512 + (i 0).val % 512) = (i 0).val; omega
  | ⟨1, _⟩ => rfl

/-- The output array after the run is the reference's result. -/
theorem arr13 (c : Dev nD) : (dats m 0 c).arrAt (13 : Fin 16) cfg0.N = refX m c := by
  refine (dats m 0 c).arrAt_eq_of_cover (13 : Fin 16) (refX m c) (fun t _ => funext fun j => ?_) fun i => cover13 i
  have hj : (j : S512x1024.Idx) = ix2 (j 0) (j 1) := eq_ix2 j
  have h1 : (dats m 0 c).flushed (13 : Fin 16) t j = (dats m 0 c).after (13 : Fin 16) t j := rfl
  rw [h1, View.read_apply, cast_eq, emb13]
  refine (congrFun (left13 m c t) j).trans ((congrArg (blockX m c (pt t)) hj).trans ?_)
  exact outX_eq _ _ _ _ _ _ _ _ (bOf (pt t)) (sOf (pt t)) (j 0) (j 1)

/-- The output array after the run is the reference's result. -/
theorem arr14 (c : Dev nD) : (dats m 0 c).arrAt (14 : Fin 16) cfg0.N = refH m c := by
  refine (dats m 0 c).arrAt_eq_of_cover (14 : Fin 16) (refH m c) (fun t _ => funext fun j => ?_) fun i => cover14 i
  have hj : (j : S512x1024.Idx) = ix2 (j 0) (j 1) := eq_ix2 j
  have h1 : (dats m 0 c).flushed (14 : Fin 16) t j = (dats m 0 c).after (14 : Fin 16) t j := rfl
  rw [h1, View.read_apply, cast_eq, emb14]
  refine (congrFun (left14 m c t) j).trans ((congrArg (blockH m c (pt t)) hj).trans ?_)
  exact outH_eq _ _ _ _ _ _ _ _ _ _ _ (bOf (pt t)) (sOf (pt t)) (j 0) (j 1)

/-- The padded logits after the run. -/
theorem arr15 (c : Dev nD) : (dats m 0 c).arrAt (15 : Fin 16) cfg0.N = padL m c := by
  refine (dats m 0 c).arrAt_eq_of_cover (15 : Fin 16) (padL m c) (fun t _ => funext fun j => ?_) fun i => cover15 i
  have hj : (j : S512x128.Idx) = ix2 (j 0) (j 1) := eq_ix2 j
  have h1 : (dats m 0 c).flushed (15 : Fin 16) t j = (dats m 0 c).after (15 : Fin 16) t j := rfl
  have hj0 : (j 0).val < 512 := (j 0).isLt
  rw [h1, View.read_apply, cast_eq, emb15]
  refine (congrFun (left15 m c t) j).trans ((congrArg (blockL m c (pt t)) hj).trans ?_)
  show blockL m c (pt t) (ix2 (j 0) (j 1)) = blockL m c ⟨(t.val / 8 * 4096 + (t.val % 8 * 512 + (j 0).val)) / 512, _⟩ (ix2 ⟨(t.val / 8 * 4096 + (t.val % 8 * 512 + (j 0).val)) % 512, _⟩ (j 1))
  refine congr (congrArg (blockL m c) (Fin.ext ?_)) (congrArg (fun r : Fin 512 => (ix2 r (j 1) : S512x128.Idx)) (Fin.ext ?_))
  · show t.val = (t.val / 8 * 4096 + (t.val % 8 * 512 + (j 0).val)) / 512
    omega
  · show (j 0).val = (t.val / 8 * 4096 + (t.val % 8 * 512 + (j 0).val)) % 512
    omega

/-- The logits of block `q`. -/
theorem blockL_eq (c : Dev nD) (q : Fin 64) (r : Fin 512) (e : Fin 32) :
    blockL m c q (ix2 r (colE e)) = refL m c (ix2 (rowOf (bOf q) (sOf q r)) e) :=
  (outL_eq _ _ _ _ _ _ _ _ _ _ _ (V m c main_v0) (V m c main_v2) (bOf q) (sOf q) colE r e).trans
    (congrFun (congr (congrArg (val_main_v52 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10))) (V_v0_cols m c)) (V_v2_cols m c)) (ix2 (rowOf (bOf q) (sOf q r)) e))

/-- A slice of the first 32 columns, entry by entry. -/
theorem slice_apply (Y : FVec Ideal S32768x128 .f32) (r : Fin 32768) (e : Fin 32) :
    extractStridedSlice S32768x32 ![0, 0] Y slices_S32768x128_S32768x32_0_0 (ix2 r e) = Y (ix2 r (colE e)) :=
  congrArg Y (funext fun ax => Fin.ext (by
    match ax with
    | ⟨0, _⟩ => show 0 + r.val = r.val; omega
    | ⟨1, _⟩ => show 0 + e.val = e.val; omega))

/-- The block and the row there of a row of the array. -/
abbrev blkOf (r : Fin 32768) : Fin 64 := ⟨r.val / 512, by have := r.isLt; omega⟩
abbrev inBlk (r : Fin 32768) : Fin 512 := ⟨r.val % 512, Nat.mod_lt _ (by decide)⟩

theorem row_back (r : Fin 32768) : rowOf (bOf (blkOf r)) (sOf (blkOf r) (inBlk r)) = r :=
  Fin.ext (by show r.val / 512 / 8 * 4096 + (r.val / 512 % 8 * 512 + r.val % 512) = r.val; omega)

theorem padL_apply (c : Dev nD) (r : Fin 32768) (n : Fin 128) : padL m c (ix2 r n) = blockL m c (blkOf r) (ix2 (inBlk r) n) := rfl

/-- The router's columns of the padded logits are the reference's logits. -/
theorem slice_eq (c : Dev nD) :
    extractStridedSlice S32768x32 ![0, 0] (padL m c) slices_S32768x128_S32768x32_0_0 = refL m c := by
  have h : ∀ (r : Fin 32768) (e : Fin 32), extractStridedSlice S32768x32 ![0, 0] (padL m c) slices_S32768x128_S32768x32_0_0 (ix2 r e) = refL m c (ix2 r e) := fun r e =>
    (slice_apply (padL m c) r e).trans ((padL_apply m c r (colE e)).trans ((blockL_eq m c (blkOf r) (inBlk r) e).trans
      (congrArg (fun x : Fin 32768 => refL m c (ix2 x e)) (row_back r))))
  funext i
  rw [eq_ix2 i]
  exact h (i 0) (i 1)

/-- The lines after the call cut the router's columns out of the padded logits. -/
theorem tail_v11 (c : Dev nD) :
    Pipeline.afterTail₀ cfgs (dats m) 0 (V0 m) [hostOps1] c main_v11 = extractStridedSlice S32768x32 ![0, 0] ((dats m 0 c).arrAt (15 : Fin 16) cfg0.N) slices_S32768x128_S32768x32_0_0 := by
  have harr := Pipeline.withArrays_arr spec0 (by decide) c (V0 m c) (fun w => (dats m 0 c).arrAt w cfg0.N) (15 : Fin 16)
  unfold Pipeline.afterTail₀
  after_results
  exact congrArg (fun X : FVec Ideal S32768x128 .f32 => extractStridedSlice S32768x32 ![0, 0] X slices_S32768x128_S32768x32_0_0) harr

theorem final11 (c : Dev nD) : Pipeline.afterTail₀ cfgs (dats m) 0 (V0 m) [hostOps1] c main_v11 = refL m c := by
  rw [tail_v11 m c, arr15 m c]
  exact slice_eq m c

/-- The call runs, ends with the reference's results in its three result arrays, and its arguments unchanged. -/
theorem run_value :
    θ_run (defs (F := Ideal)) (onTc (τ := τ) (main (F := Ideal))) ⟨m, fun _ => 0, ρ⟩ (fun r => ∀ c : Dev nD,
      r.2.mem ((c.tc : Thread nD τ).loc main_v10_0) = refX m c
      ∧ r.2.mem ((c.tc : Thread nD τ).loc main_v10_1) = refH m c
      ∧ r.2.mem ((c.tc : Thread nD τ).loc main_v11) = refL m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  (θ_run defs _ _).mono (fun r h c => ⟨((h.1 c).1 (13 : Fin 16)).trans (arr13 m c), ((h.1 c).1 (14 : Fin 16)).trans (arr14 m c),
      ((h.1 c).2 main_v11 (Pipeline.mem_restRefs_of main_v11 (by decide) (by decide))).trans (final11 m c), h.2 c⟩)
    (θ_run_and (run_main m ρ) (unchanged m ρ))

end Cert.MixOutIdeal.Blocks

end
-- ==== Proof.PrepRows.lean ====
/-
  One block of the attention's preparation: the body's arithmetic is the reference's, entry by entry.
-/
module

public import proofs.«01_k».proof.Proof.Gen.PrepIdeal.Skeleton
public import proofs.«01_k».proof.Proof.Gen.PrepIdeal
public import proofs.«01_k».proof.Proof.Gen.PrepRefIdeal.Read
public import Idealize.ShloMosaic.Lib.Pointwise

@[expose] public section

set_option maxRecDepth 16384

noncomputable section

namespace Cert.PrepRefIdeal.Rows

open Idealize.ShloMosaic Cert.PrepRefIdeal Cert.PrepRefIdeal.Read
open Cert.PrepIdeal.Gen (k0_pay1 k0_pay2 k0_pay3 k0_pay4 k0_pay5 k0_pay6 k0_pay7 k0_pay8 k0_pay9 k0_pay10)

variable (P : FVec Ideal S32768x6144 .f32) (gq gk : FVec Ideal S64 .f32) (gkv : FVec Ideal S256 .f32) (W : FVec Ideal S256x1024 .f32) (lw lb : FVec Ideal S64 .f32)
  (b : Fin 8) (ρ : Fin 512 → Fin 4096)

/-- Row `s` of batch element `b` in the array that holds all rows one after another. -/
abbrev rowOf (b : Fin 8) (s : Fin 4096) : Fin 32768 := ⟨b.val * 4096 + s.val, by have := b.isLt; have := s.isLt; omega⟩
/-- Columns of the query, of the latent keys and values, of the indexer's query, and of the narrow columns. -/
abbrev colQ (n : Fin 512) : Fin 6144 := ⟨n.val, by have := n.isLt; omega⟩
abbrev colKv (n : Fin 256) : Fin 6144 := ⟨512 + n.val, by have := n.isLt; omega⟩
abbrev colQi (n : Fin 512) : Fin 6144 := ⟨768 + n.val, by have := n.isLt; omega⟩
abbrev colS (n : Fin 128) : Fin 6144 := ⟨1280 + n.val, by have := n.isLt; omega⟩
/-- Channel `e` of head `h`. -/
abbrev chan (h : Fin 8) (e : Fin 64) : Fin 512 := ⟨h.val * 64 + e.val, by have := h.isLt; have := e.isLt; omega⟩

/-- The four groups of columns of a block of rows, as the body reads them. -/
abbrev blkQ : FVec Ideal Cert.PrepIdeal.S512x512 .f32 := fun j => P (ix2 (rowOf b (ρ (j 0))) (colQ (j 1)))
abbrev blkKv : FVec Ideal Cert.PrepIdeal.S512x256 .f32 := fun j => P (ix2 (rowOf b (ρ (j 0))) (colKv (j 1)))
abbrev blkQi : FVec Ideal Cert.PrepIdeal.S512x512 .f32 := fun j => P (ix2 (rowOf b (ρ (j 0))) (colQi (j 1)))
abbrev blkS : FVec Ideal Cert.PrepIdeal.S512x128 .f32 := fun j => P (ix2 (rowOf b (ρ (j 0))) (colS (j 1)))

/-- The scaled indexer query, channels before positions. -/
theorem outQi_eq (n r : Fin 512) :
    k0_pay8 (F := Ideal) (k0_pay7 (F := Ideal) (blkQi P b ρ)) (ix3 (0 : Fin 1) n r) = val_main_v89 (F := Ideal) P (ix3 b n (ρ r)) := by
  pointwise [Cert.PrepIdeal.Gen.k0_pay1, Cert.PrepIdeal.Gen.k0_pay2, Cert.PrepIdeal.Gen.k0_pay3, Cert.PrepIdeal.Gen.k0_pay4, Cert.PrepIdeal.Gen.k0_pay5, Cert.PrepIdeal.Gen.k0_pay6, Cert.PrepIdeal.Gen.k0_pay7, Cert.PrepIdeal.Gen.k0_pay8, Cert.PrepIdeal.Gen.k0_pay9, Cert.PrepIdeal.Gen.k0_pay10, val_main_v0, val_main_v1, val_main_v2, val_main_v3, val_main_v4, val_main_v5, val_main_v6, val_main_v7, val_main_cst, val_main_v8, val_main_v9, val_main_cst_0, val_main_v10, val_main_v11, val_main_cst_1, val_main_v12, val_main_v13, val_main_v14, val_main_v15, val_main_v16, val_main_v17, val_main_v18, val_main_v19, val_main_cst_2, val_main_v20, val_main_v21, val_main_v22, val_main_cst_3, val_main_v23, val_main_v24, val_main_cst_4, val_main_v25, val_main_v26, val_main_cst_5, val_main_v27, val_main_v28, val_main_v29, val_main_v30, val_main_v31, val_main_v32, val_main_v33, val_main_v34, val_main_v35, val_main_v36, val_main_v37, val_main_v38, val_main_v39, val_main_cst_6, val_main_v40, val_main_v41, val_main_cst_7, val_main_v42, val_main_v43, val_main_cst_8, val_main_v44, val_main_v45, val_main_v46, val_main_v47, val_main_v48, val_main_v49, val_main_v50, val_main_v51, val_main_cst_9, val_main_v52, val_main_v53, val_main_cst_10, val_main_v54, val_main_v55, val_main_cst_11, val_main_v56, val_main_v57, val_main_cst_12, val_main_v58, val_main_v59, val_main_v60, val_main_v61, val_main_v62, val_main_cst_13, val_main_v63, val_main_v64, val_main_cst_14, val_main_v65, val_main_v66, val_main_v67, val_main_v68, val_main_cst_15, val_main_v69, val_main_v70, val_main_v71, val_main_v72, val_main_v73, val_main_v74, val_main_v75, val_main_v76, val_main_v77, val_main_v78, val_main_v79, val_main_v80, val_main_v81, val_main_v82, val_main_v83, val_main_v84, val_main_v85, val_main_v86, val_main_v87, val_main_v88, val_main_v89, val_main_v90, val_main_v91]
  rfl

/-- The scaled weights of the indexer's heads. -/
theorem outW_eq (h : Fin 8) (r : Fin 512) :
    k0_pay1 (F := Ideal) (k0_pay10 (F := Ideal) (blkS P b ρ)) (ix3 (0 : Fin 1) h r) = val_main_v91 (F := Ideal) P (ix3 b h (ρ r)) := by
  pointwise [Cert.PrepIdeal.Gen.k0_pay1, Cert.PrepIdeal.Gen.k0_pay2, Cert.PrepIdeal.Gen.k0_pay3, Cert.PrepIdeal.Gen.k0_pay4, Cert.PrepIdeal.Gen.k0_pay5, Cert.PrepIdeal.Gen.k0_pay6, Cert.PrepIdeal.Gen.k0_pay7, Cert.PrepIdeal.Gen.k0_pay8, Cert.PrepIdeal.Gen.k0_pay9, Cert.PrepIdeal.Gen.k0_pay10, val_main_v0, val_main_v1, val_main_v2, val_main_v3, val_main_v4, val_main_v5, val_main_v6, val_main_v7, val_main_cst, val_main_v8, val_main_v9, val_main_cst_0, val_main_v10, val_main_v11, val_main_cst_1, val_main_v12, val_main_v13, val_main_v14, val_main_v15, val_main_v16, val_main_v17, val_main_v18, val_main_v19, val_main_cst_2, val_main_v20, val_main_v21, val_main_v22, val_main_cst_3, val_main_v23, val_main_v24, val_main_cst_4, val_main_v25, val_main_v26, val_main_cst_5, val_main_v27, val_main_v28, val_main_v29, val_main_v30, val_main_v31, val_main_v32, val_main_v33, val_main_v34, val_main_v35, val_main_v36, val_main_v37, val_main_v38, val_main_v39, val_main_cst_6, val_main_v40, val_main_v41, val_main_cst_7, val_main_v42, val_main_v43, val_main_cst_8, val_main_v44, val_main_v45, val_main_v46, val_main_v47, val_main_v48, val_main_v49, val_main_v50, val_main_v51, val_main_cst_9, val_main_v52, val_main_v53, val_main_cst_10, val_main_v54, val_main_v55, val_main_cst_11, val_main_v56, val_main_v57, val_main_cst_12, val_main_v58, val_main_v59, val_main_v60, val_main_v61, val_main_v62, val_main_cst_13, val_main_v63, val_main_v64, val_main_cst_14, val_main_v65, val_main_v66, val_main_v67, val_main_v68, val_main_cst_15, val_main_v69, val_main_v70, val_main_v71, val_main_v72, val_main_v73, val_main_v74, val_main_v75, val_main_v76, val_main_v77, val_main_v78, val_main_v79, val_main_v80, val_main_v81, val_main_v82, val_main_v83, val_main_v84, val_main_v85, val_main_v86, val_main_v87, val_main_v88, val_main_v89, val_main_v90, val_main_v91]
  refine congrArg (· * Ideal.ofBits FTy.f32 1052050675#32) (congrArg P (congrArg (ix2 (rowOf b (ρ r))) (Fin.ext ?_)))
  show 1280 + (64 + h.val) = 1344 + h.val
  omega

/-- The values, channels before positions. -/
theorem outV_eq (n r : Fin 512) :
    k0_pay6 (F := Ideal) (blkKv P b ρ) (k0_pay3 (F := Ideal) (blkKv P b ρ)) (fun j => gkv (ix1 (j 1))) (fun j => W (ix2 (j 0) (j 1))) (ix3 (0 : Fin 1) n r)
      = val_main_v87 (F := Ideal) P gkv W (ix3 b n (ρ r)) := by
  pointwise [Cert.PrepIdeal.Gen.k0_pay1, Cert.PrepIdeal.Gen.k0_pay2, Cert.PrepIdeal.Gen.k0_pay3, Cert.PrepIdeal.Gen.k0_pay4, Cert.PrepIdeal.Gen.k0_pay5, Cert.PrepIdeal.Gen.k0_pay6, Cert.PrepIdeal.Gen.k0_pay7, Cert.PrepIdeal.Gen.k0_pay8, Cert.PrepIdeal.Gen.k0_pay9, Cert.PrepIdeal.Gen.k0_pay10, val_main_v0, val_main_v1, val_main_v2, val_main_v3, val_main_v4, val_main_v5, val_main_v6, val_main_v7, val_main_cst, val_main_v8, val_main_v9, val_main_cst_0, val_main_v10, val_main_v11, val_main_cst_1, val_main_v12, val_main_v13, val_main_v14, val_main_v15, val_main_v16, val_main_v17, val_main_v18, val_main_v19, val_main_cst_2, val_main_v20, val_main_v21, val_main_v22, val_main_cst_3, val_main_v23, val_main_v24, val_main_cst_4, val_main_v25, val_main_v26, val_main_cst_5, val_main_v27, val_main_v28, val_main_v29, val_main_v30, val_main_v31, val_main_v32, val_main_v33, val_main_v34, val_main_v35, val_main_v36, val_main_v37, val_main_v38, val_main_v39, val_main_cst_6, val_main_v40, val_main_v41, val_main_cst_7, val_main_v42, val_main_v43, val_main_cst_8, val_main_v44, val_main_v45, val_main_v46, val_main_v47, val_main_v48, val_main_v49, val_main_v50, val_main_v51, val_main_cst_9, val_main_v52, val_main_v53, val_main_cst_10, val_main_v54, val_main_v55, val_main_cst_11, val_main_v56, val_main_v57, val_main_cst_12, val_main_v58, val_main_v59, val_main_v60, val_main_v61, val_main_v62, val_main_cst_13, val_main_v63, val_main_v64, val_main_cst_14, val_main_v65, val_main_v66, val_main_v67, val_main_v68, val_main_cst_15, val_main_v69, val_main_v70, val_main_v71, val_main_v72, val_main_v73, val_main_v74, val_main_v75, val_main_v76, val_main_v77, val_main_v78, val_main_v79, val_main_v80, val_main_v81, val_main_v82, val_main_v83, val_main_v84, val_main_v85, val_main_v86, val_main_v87, val_main_v88, val_main_v89, val_main_v90, val_main_v91]
  rfl

/-- The normalised, scaled query, channels before positions. -/
theorem outQ_eq (g : FVec Ideal Cert.PrepIdeal.S512x1 .f32) (hg : ∀ h e, g (ix2 (chan h e) (0 : Fin 1)) = gq (ix1 e)) (h : Fin 8) (e : Fin 64) (r : Fin 512) :
    k0_pay2 (F := Ideal) (blkQ P b ρ) g (ix3 (0 : Fin 1) (chan h e) r) = val_main_v84 (F := Ideal) P gq (ix3 b (chan h e) (ρ r)) := by
  have hd : (h.val * 64 + e.val) / 64 = h.val := by have := e.isLt; omega
  have hm : (h.val * 64 + e.val) % 64 = e.val := by have := e.isLt; omega
  pointwise [Cert.PrepIdeal.Gen.k0_pay1, Cert.PrepIdeal.Gen.k0_pay2, Cert.PrepIdeal.Gen.k0_pay3, Cert.PrepIdeal.Gen.k0_pay4, Cert.PrepIdeal.Gen.k0_pay5, Cert.PrepIdeal.Gen.k0_pay6, Cert.PrepIdeal.Gen.k0_pay7, Cert.PrepIdeal.Gen.k0_pay8, Cert.PrepIdeal.Gen.k0_pay9, Cert.PrepIdeal.Gen.k0_pay10, val_main_v0, val_main_v1, val_main_v2, val_main_v3, val_main_v4, val_main_v5, val_main_v6, val_main_v7, val_main_cst, val_main_v8, val_main_v9, val_main_cst_0, val_main_v10, val_main_v11, val_main_cst_1, val_main_v12, val_main_v13, val_main_v14, val_main_v15, val_main_v16, val_main_v17, val_main_v18, val_main_v19, val_main_cst_2, val_main_v20, val_main_v21, val_main_v22, val_main_cst_3, val_main_v23, val_main_v24, val_main_cst_4, val_main_v25, val_main_v26, val_main_cst_5, val_main_v27, val_main_v28, val_main_v29, val_main_v30, val_main_v31, val_main_v32, val_main_v33, val_main_v34, val_main_v35, val_main_v36, val_main_v37, val_main_v38, val_main_v39, val_main_cst_6, val_main_v40, val_main_v41, val_main_cst_7, val_main_v42, val_main_v43, val_main_cst_8, val_main_v44, val_main_v45, val_main_v46, val_main_v47, val_main_v48, val_main_v49, val_main_v50, val_main_v51, val_main_cst_9, val_main_v52, val_main_v53, val_main_cst_10, val_main_v54, val_main_v55, val_main_cst_11, val_main_v56, val_main_v57, val_main_cst_12, val_main_v58, val_main_v59, val_main_v60, val_main_v61, val_main_v62, val_main_cst_13, val_main_v63, val_main_v64, val_main_cst_14, val_main_v65, val_main_v66, val_main_v67, val_main_v68, val_main_cst_15, val_main_v69, val_main_v70, val_main_v71, val_main_v72, val_main_v73, val_main_v74, val_main_v75, val_main_v76, val_main_v77, val_main_v78, val_main_v79, val_main_v80, val_main_v81, val_main_v82, val_main_v83, val_main_v84, val_main_v85, val_main_v86, val_main_v87, val_main_v88, val_main_v89, val_main_v90, val_main_v91]
  rw [hg h e]
  simp only [hd, hm]
  rfl

/-- The normalised keys. -/
theorem outK_eq (g : FVec Ideal Cert.PrepIdeal.S512x1 .f32) (hg : ∀ h e, g (ix2 (chan h e) (0 : Fin 1)) = gk (ix1 e)) (h : Fin 8) (e : Fin 64) (r : Fin 512) :
    k0_pay5 (F := Ideal) (blkKv P b ρ) (k0_pay3 (F := Ideal) (blkKv P b ρ)) (fun j => gkv (ix1 (j 1))) (fun j => W (ix2 (j 0) (j 1))) g (ix3 (0 : Fin 1) r (chan h e))
      = val_main_v85 (F := Ideal) P gkv W gk (ix3 b (ρ r) (chan h e)) := by
  have hd : (h.val * 64 + e.val) / 64 = h.val := by have := e.isLt; omega
  have hm : (h.val * 64 + e.val) % 64 = e.val := by have := e.isLt; omega
  pointwise [Cert.PrepIdeal.Gen.k0_pay1, Cert.PrepIdeal.Gen.k0_pay2, Cert.PrepIdeal.Gen.k0_pay3, Cert.PrepIdeal.Gen.k0_pay4, Cert.PrepIdeal.Gen.k0_pay5, Cert.PrepIdeal.Gen.k0_pay6, Cert.PrepIdeal.Gen.k0_pay7, Cert.PrepIdeal.Gen.k0_pay8, Cert.PrepIdeal.Gen.k0_pay9, Cert.PrepIdeal.Gen.k0_pay10, val_main_v0, val_main_v1, val_main_v2, val_main_v3, val_main_v4, val_main_v5, val_main_v6, val_main_v7, val_main_cst, val_main_v8, val_main_v9, val_main_cst_0, val_main_v10, val_main_v11, val_main_cst_1, val_main_v12, val_main_v13, val_main_v14, val_main_v15, val_main_v16, val_main_v17, val_main_v18, val_main_v19, val_main_cst_2, val_main_v20, val_main_v21, val_main_v22, val_main_cst_3, val_main_v23, val_main_v24, val_main_cst_4, val_main_v25, val_main_v26, val_main_cst_5, val_main_v27, val_main_v28, val_main_v29, val_main_v30, val_main_v31, val_main_v32, val_main_v33, val_main_v34, val_main_v35, val_main_v36, val_main_v37, val_main_v38, val_main_v39, val_main_cst_6, val_main_v40, val_main_v41, val_main_cst_7, val_main_v42, val_main_v43, val_main_cst_8, val_main_v44, val_main_v45, val_main_v46, val_main_v47, val_main_v48, val_main_v49, val_main_v50, val_main_v51, val_main_cst_9, val_main_v52, val_main_v53, val_main_cst_10, val_main_v54, val_main_v55, val_main_cst_11, val_main_v56, val_main_v57, val_main_cst_12, val_main_v58, val_main_v59, val_main_v60, val_main_v61, val_main_v62, val_main_cst_13, val_main_v63, val_main_v64, val_main_cst_14, val_main_v65, val_main_v66, val_main_v67, val_main_v68, val_main_cst_15, val_main_v69, val_main_v70, val_main_v71, val_main_v72, val_main_v73, val_main_v74, val_main_v75, val_main_v76, val_main_v77, val_main_v78, val_main_v79, val_main_v80, val_main_v81, val_main_v82, val_main_v83, val_main_v84, val_main_v85, val_main_v86, val_main_v87, val_main_v88, val_main_v89, val_main_v90, val_main_v91]
  rw [hg h e]
  simp only [hd, hm]
  rfl

/-- The pattern `0x43000000` is 128. -/
theorem word128 : Ideal.ofBits .f32 0x43000000#32 = ((128 : ℝ) : EReal) := by
  simp [Ideal.ofBits, Ideal.ieee, -EReal.coe_mul]; norm_num

/-- The pattern `0x42800000` is 64. -/
theorem word64 : Ideal.ofBits .f32 0x42800000#32 = ((64 : ℝ) : EReal) := by
  simp [Ideal.ofBits, Ideal.ieee, -EReal.coe_mul]; norm_num

/-- A sum taken twice over 128 is the sum over 64, the infinities included. -/
theorem mean_twice (s : EReal) : Ideal.div (s + s) (Ideal.ofBits .f32 0x43000000#32) = Ideal.div s (Ideal.ofBits .f32 0x42800000#32) := by
  rw [word128, word64, Ideal.div_coe (by norm_num), Ideal.div_coe (by norm_num)]
  induction s using EReal.rec with
  | bot => rw [EReal.bot_add, EReal.bot_mul_coe_of_pos (by norm_num), EReal.bot_mul_coe_of_pos (by norm_num)]
  | top => rw [EReal.top_add_top, EReal.top_mul_coe_of_pos (by norm_num), EReal.top_mul_coe_of_pos (by norm_num)]
  | coe x => rw [← EReal.coe_add, ← EReal.coe_mul, ← EReal.coe_mul]; congr 1; ring

/-- Lane `n` of 128 modulo 64. -/
abbrev half (n : Fin 128) : Fin 64 := ⟨n.val % 64, Nat.mod_lt _ (by decide)⟩

/-- A sum over 128 lanes that hold 64 values twice is the sum of the 64 values taken twice. -/
theorem sum_twice (f : Fin 64 → EReal) : (∑ n : Fin 128, f (half n)) = (∑ e, f e) + ∑ e, f e := by
  rw [show (∑ n : Fin 128, f (half n)) = ∑ n : Fin (64 + 64), f (half n) from rfl, Fin.sum_univ_add]
  refine congrArg₂ (· + ·) (Finset.sum_congr rfl fun e _ => congrArg f (Fin.ext ?_)) (Finset.sum_congr rfl fun e _ => congrArg f (Fin.ext ?_))
  · show e.val % 64 = e.val
    have := e.isLt; omega
  · show (64 + e.val) % 64 = e.val
    have := e.isLt; omega

/-- Entry `e` of the indexer's key before its normalisation. -/
def kidx (s : Fin 4096) (e : Fin 64) : EReal := P (ix2 (rowOf b s) ⟨1280 + e.val, by have := e.isLt; omega⟩)

/-- Which lanes the body takes from the narrow columns themselves. -/
theorem lane_lt : ∀ n : Fin 128, IntOp.cmpi CmpIPredicate.slt (BitVec.ofNat 32 n.val) 64#32 = if n.val < 64 then 1#1 else 0#1 := by decide

/-- The body's choice between the narrow columns and their rotation is the key, twice side by side. -/
theorem pick (r : Fin 512) (n : Fin 128) (hn : (n.val + 128 - 64) % 128 < 128) :
    Scalar.select (IntOp.cmpi CmpIPredicate.slt (BitVec.ofNat 32 n.val) 64#32) (blkS P b ρ (ix2 r n)) (blkS P b ρ (ix2 r ⟨(n.val + 128 - 64) % 128, hn⟩))
      = kidx P b (ρ r) (half n) := by
  have hlt := n.isLt
  rw [lane_lt]
  unfold kidx
  by_cases h : n.val < 64
  · rw [if_pos h]
    refine (if_pos rfl).trans (congrArg P (congrArg (ix2 (rowOf b (ρ r))) (Fin.ext ?_)))
    show 1280 + n.val = 1280 + n.val % 64
    omega
  · rw [if_neg h]
    refine (if_neg (by decide)).trans (congrArg P (congrArg (ix2 (rowOf b (ρ r))) (Fin.ext ?_)))
    show 1280 + (n.val + 128 - 64) % 128 = 1280 + n.val % 64
    omega

/-- The reference's layer normalisation of the indexer's key at one entry. -/
def lnorm (s : Fin 4096) (w c : EReal) (e : Fin 64) : EReal :=
  (kidx P b s e - Ideal.div (∑ x, kidx P b s x) (Ideal.ofBits FTy.f32 1115684864#32))
      * Ideal.rsqrt (Ideal.div (∑ x, (kidx P b s x - Ideal.div (∑ x, kidx P b s x) (Ideal.ofBits FTy.f32 1115684864#32)) * (kidx P b s x - Ideal.div (∑ x, kidx P b s x) (Ideal.ofBits FTy.f32 1115684864#32)))
          (Ideal.ofBits FTy.f32 1115684864#32) + Ideal.ofBits FTy.f32 897988541#32) * w + c

/-- What the body stores of it. -/
theorem bodyKi (g s : FVec Ideal Cert.PrepIdeal.S1x128 .f32) (r : Fin 512) (n : Fin 128) :
    k0_pay9 (F := Ideal) (blkS P b ρ) g s (ix3 (0 : Fin 1) r n) = lnorm P b (ρ r) (g (ix2 (0 : Fin 1) n)) (s (ix2 (0 : Fin 1) n)) (half n) := by
  pointwise [Cert.PrepIdeal.Gen.k0_pay1, Cert.PrepIdeal.Gen.k0_pay2, Cert.PrepIdeal.Gen.k0_pay3, Cert.PrepIdeal.Gen.k0_pay4, Cert.PrepIdeal.Gen.k0_pay5, Cert.PrepIdeal.Gen.k0_pay6, Cert.PrepIdeal.Gen.k0_pay7, Cert.PrepIdeal.Gen.k0_pay8, Cert.PrepIdeal.Gen.k0_pay9, Cert.PrepIdeal.Gen.k0_pay10]
  simp only [pick P b ρ r]
  rw [sum_twice (kidx P b (ρ r)), mean_twice]
  have h2 := sum_twice (fun e => (kidx P b (ρ r) e - Ideal.div (∑ x, kidx P b (ρ r) x) (Ideal.ofBits FTy.f32 1115684864#32)) * (kidx P b (ρ r) e - Ideal.div (∑ x, kidx P b (ρ r) x) (Ideal.ofBits FTy.f32 1115684864#32)))
  rw [h2, mean_twice]
  rfl

/-- What the reference returns of it. -/
theorem refKi (s : Fin 4096) (n : Fin 128) :
    val_main_v90 (F := Ideal) P lw lb (ix3 b s n) = lnorm P b s (lw (ix1 (half n))) (lb (ix1 (half n))) (half n) := by
  have hlt := n.isLt
  pointwise [val_main_v0, val_main_v1, val_main_v2, val_main_v3, val_main_v4, val_main_v5, val_main_v6, val_main_v7, val_main_cst, val_main_v8, val_main_v9, val_main_cst_0, val_main_v10, val_main_v11, val_main_cst_1, val_main_v12, val_main_v13, val_main_v14, val_main_v15, val_main_v16, val_main_v17, val_main_v18, val_main_v19, val_main_cst_2, val_main_v20, val_main_v21, val_main_v22, val_main_cst_3, val_main_v23, val_main_v24, val_main_cst_4, val_main_v25, val_main_v26, val_main_cst_5, val_main_v27, val_main_v28, val_main_v29, val_main_v30, val_main_v31, val_main_v32, val_main_v33, val_main_v34, val_main_v35, val_main_v36, val_main_v37, val_main_v38, val_main_v39, val_main_cst_6, val_main_v40, val_main_v41, val_main_cst_7, val_main_v42, val_main_v43, val_main_cst_8, val_main_v44, val_main_v45, val_main_v46, val_main_v47, val_main_v48, val_main_v49, val_main_v50, val_main_v51, val_main_cst_9, val_main_v52, val_main_v53, val_main_cst_10, val_main_v54, val_main_v55, val_main_cst_11, val_main_v56, val_main_v57, val_main_cst_12, val_main_v58, val_main_v59, val_main_v60, val_main_v61, val_main_v62, val_main_cst_13, val_main_v63, val_main_v64, val_main_cst_14, val_main_v65, val_main_v66, val_main_v67, val_main_v68, val_main_cst_15, val_main_v69, val_main_v70, val_main_v71, val_main_v72, val_main_v73, val_main_v74, val_main_v75, val_main_v76, val_main_v77, val_main_v78, val_main_v79, val_main_v80, val_main_v81, val_main_v82, val_main_v83, val_main_v84, val_main_v85, val_main_v86, val_main_v87, val_main_v88, val_main_v89, val_main_v90, val_main_v91]
  by_cases h : n.val < 64
  · rw [dif_pos h]
    have hh : half n = ⟨n.val, h⟩ := Fin.ext (Nat.mod_eq_of_lt h)
    rw [hh]
    rfl
  · rw [dif_neg h]
    have hh : half n = ⟨n.val - 64, by omega⟩ := Fin.ext (by show n.val % 64 = n.val - 64; omega)
    rw [hh]
    rfl

/-- The layer-normalised indexer key, twice side by side. -/
theorem outKi_eq (g s : FVec Ideal Cert.PrepIdeal.S1x128 .f32) (hg : ∀ n, g (ix2 (0 : Fin 1) n) = lw (ix1 (half n))) (hs : ∀ n, s (ix2 (0 : Fin 1) n) = lb (ix1 (half n))) (r : Fin 512) (n : Fin 128) :
    k0_pay9 (F := Ideal) (blkS P b ρ) g s (ix3 (0 : Fin 1) r n) = val_main_v90 (F := Ideal) P lw lb (ix3 b (ρ r) n) := by
  rw [bodyKi, refKi, hg, hs]

end Cert.PrepRefIdeal.Rows

end
-- ==== Proof.PrepValue.lean ====
/-
  What the attention's preparation leaves in its six results: the reference's results, read in blocks of 512 positions.
-/
module

public import proofs.«01_k».proof.Proof.PrepRows
public import proofs.«01_k».proof.Proof.Gen.PrepIdeal.Frame
public import Idealize.ShloMosaic.Lib.Pipeline.Value

@[expose] public section

set_option maxRecDepth 16384

noncomputable section

namespace Cert.PrepIdeal.Blocks

open Cert.PrepIdeal Cert.PrepIdeal.Gen
open Idealize.ShloMosaic Idealize.ShloMosaic.TcCoe Idealize.SL.Sem
open Idealize.ShloMosaic.Pipeline (Dat Cfg Window)
open Cert.PrepRefIdeal.Read (val_main_v84 val_main_v85 val_main_v87 val_main_v89 val_main_v90 val_main_v91)
open Cert.PrepRefIdeal.Rows (rowOf chan half blkQ blkKv blkQi blkS outQ_eq outK_eq outV_eq outQi_eq outKi_eq outW_eq)

variable (m : (ℓ : Loc nD τ sig) → Buf (Elt Ideal) ℓ) (ρ : Dev nD → PrngReg)

theorem zero2 : (![0, 0] : Fin 2 → Nat) = fun _ => 0 := funext fun a => by fin_cases a <;> rfl
theorem zero3 : (![0, 0, 0] : Fin 3 → Nat) = fun _ => 0 := funext fun a => by fin_cases a <;> rfl

/-! ## The arrays the windows read -/

/-- A gain over 64 entries, once per head. -/
abbrev perHead (Y : FVec Ideal S64 .f32) : FVec Ideal S512x1 .f32 :=
  shapeCast S512x1 (shapeCast S512 (broadcastInDim S8x64 ![0, 1] bcast_S1x64_S8x64_0_1 (shapeCast S1x64 Y shapeCasts_S64_S1x64)) shapeCasts_S8x64_S512) shapeCasts_S512_S512x1
/-- A vector of 64 entries, twice side by side. -/
abbrev twice (Y : FVec Ideal S64 .f32) : FVec Ideal S1x128 .f32 :=
  shapeCast S1x128 (shapeCast S128 (broadcastInDim S2x64 ![0, 1] bcast_S1x64_S2x64_0_1 (shapeCast S1x64 Y shapeCasts_S64_S1x64)) shapeCasts_S2x64_S128) shapeCasts_S128_S1x128

theorem perHead_apply (Y : FVec Ideal S64 .f32) (h : Fin 8) (e : Fin 64) : perHead Y (ix2 (chan h e) (0 : Fin 1)) = Y (ix1 e) := by
  pointwise
  refine congrArg Y (congrArg ix1 (Fin.ext ?_))
  show (h.val * 64 + e.val) % 64 = e.val
  have := e.isLt; omega
theorem twice_apply (Y : FVec Ideal S64 .f32) (n : Fin 128) : twice Y (ix2 (0 : Fin 1) n) = Y (ix1 (half n)) := by
  pointwise
theorem row256 (Y : FVec Ideal S256 .f32) (n : Fin 256) : shapeCast S1x256 Y shapeCasts_S256_S1x256 (ix2 (0 : Fin 1) n) = Y (ix1 n) := by
  pointwise

theorem V_v3 (c : Dev nD) : V m c main_v3 = perHead (m ((c : Thread nD τ).loc main_arg1)) := by
  unfold V; after_results <;> rfl
theorem V_v4 (c : Dev nD) : V m c main_v4 = shapeCast S1x256 (m ((c : Thread nD τ).loc main_arg2)) shapeCasts_S256_S1x256 := by
  unfold V; after_results <;> rfl
theorem V_v5 (c : Dev nD) : V m c main_v5 = (truncf (F := Ideal) .bf16 ((m ((c : Thread nD τ).loc main_arg3)) : FVec Ideal S256x1024 .f32) bitsLt_bf16_f32 : FVec Ideal S256x1024 .bf16) := by
  unfold V; after_results <;> rfl
theorem V_v9 (c : Dev nD) : V m c main_v9 = perHead (m ((c : Thread nD τ).loc main_arg4)) := by
  unfold V; after_results <;> rfl
theorem V_v13 (c : Dev nD) : V m c main_v13 = twice (m ((c : Thread nD τ).loc main_arg5)) := by
  unfold V; after_results <;> rfl
theorem V_v17 (c : Dev nD) : V m c main_v17 = twice (m ((c : Thread nD τ).loc main_arg6)) := by
  unfold V; after_results <;> rfl

/-! ## The blocks

Point `t` is block `t` of the rows; batch element `t / 8` holds eight blocks. -/

theorem lt64 (t : Fin cfg0.N) : t.val < 64 := lt_of_lt_of_eq t.isLt N_0

/-- The batch element block `t` of the rows lies in, and its position `r` there. -/
abbrev bOf (t : Fin 64) : Fin 8 := ⟨t.val / 8, by have := t.isLt; omega⟩
abbrev sOf (t : Fin 64) (r : Fin 512) : Fin 4096 := ⟨t.val % 8 * 512 + r.val, by have := r.isLt; omega⟩
abbrev pt (t : Fin cfg0.N) : Fin 64 := ⟨t.val, lt64 t⟩

theorem index0 : ∀ t : Fin cfg0.N, win0_0.index t = ![t.val, 0] := (by decide +kernel : ∀ t : Fin grid0.N, _)
theorem index1 : ∀ t : Fin cfg0.N, win0_1.index t = ![0, 0] := (by decide +kernel : ∀ t : Fin grid0.N, _)
theorem index2 : ∀ t : Fin cfg0.N, win0_2.index t = ![0, 0] := (by decide +kernel : ∀ t : Fin grid0.N, _)
theorem index3 : ∀ t : Fin cfg0.N, win0_3.index t = ![0, 0] := (by decide +kernel : ∀ t : Fin grid0.N, _)
theorem index4 : ∀ t : Fin cfg0.N, win0_4.index t = ![0, 0] := (by decide +kernel : ∀ t : Fin grid0.N, _)
theorem index5 : ∀ t : Fin cfg0.N, win0_5.index t = ![0, 0] := (by decide +kernel : ∀ t : Fin grid0.N, _)
theorem index6 : ∀ t : Fin cfg0.N, win0_6.index t = ![0, 0] := (by decide +kernel : ∀ t : Fin grid0.N, _)
theorem index7 : ∀ t : Fin cfg0.N, win0_7.index t = ![t.val / 8, 0, t.val % 8] := (by decide +kernel : ∀ t : Fin grid0.N, _)
theorem index8 : ∀ t : Fin cfg0.N, win0_8.index t = ![t.val / 8, t.val % 8, 0] := (by decide +kernel : ∀ t : Fin grid0.N, _)
theorem index9 : ∀ t : Fin cfg0.N, win0_9.index t = ![t.val / 8, 0, t.val % 8] := (by decide +kernel : ∀ t : Fin grid0.N, _)
theorem index10 : ∀ t : Fin cfg0.N, win0_10.index t = ![t.val / 8, 0, t.val % 8] := (by decide +kernel : ∀ t : Fin grid0.N, _)
theorem index11 : ∀ t : Fin cfg0.N, win0_11.index t = ![t.val / 8, t.val % 8, 0] := (by decide +kernel : ∀ t : Fin grid0.N, _)
theorem index12 : ∀ t : Fin cfg0.N, win0_12.index t = ![t.val / 8, 0, t.val % 8] := (by decide +kernel : ∀ t : Fin grid0.N, _)

theorem blk0 (c : Dev nD) (t : Fin cfg0.N) (j : S512x1408.Idx) :
    X0_0 m c t j = (m ((c : Thread nD τ).loc main_arg0)) (ix2 (rowOf (bOf (pt t)) (sOf (pt t) (j 0))) ⟨(j 1).val, lt_of_lt_of_le (show (j 1).val < 1408 from (j 1).isLt) (by decide)⟩) := by
  have ht := lt64 t
  unfold X0_0 Pipeline.Window.fill
  rw [dif_pos (moved0_0 t j)]
  unfold iblk
  rw [View.read_apply, cast_eq]
  refine Eq.trans (congrArg (V m c main_arg0) (funext fun ax => Fin.ext ?_)) (congrFun (V_main_arg0 m c) _)
  refine ((cfg0.win (0 : Fin 13)).rect_emb_val t _ ax).trans ?_
  have hi : (cfg0.win (0 : Fin 13)).index t = ![t.val, 0] := index0 t
  rw [hi]
  match ax with
  | ⟨0, _⟩ => show t.val * 512 + (j 0).val = t.val / 8 * 4096 + (t.val % 8 * 512 + (j 0).val); omega
  | ⟨1, _⟩ => show 0 * 1408 + (j 1).val = (j 1).val; omega

theorem blk1 (c : Dev nD) (t : Fin cfg0.N) (j : S512x1.Idx) :
    iblk m c (1 : Fin 13) t j = V m c main_v3 j := by
  unfold iblk
  rw [View.read_apply, cast_eq]
  refine congrArg (V m c main_v3) (funext fun ax => Fin.ext ?_)
  refine ((cfg0.win (1 : Fin 13)).rect_emb_val t j ax).trans ?_
  have hi : (cfg0.win (1 : Fin 13)).index t = ![0, 0] := index1 t
  rw [hi]
  match ax with
  | ⟨0, _⟩ => show 0 * 512 + (j 0).val = (j 0).val; omega
  | ⟨1, _⟩ => show 0 * 1 + (j 1).val = (j 1).val; omega

theorem blk4 (c : Dev nD) (t : Fin cfg0.N) (j : S512x1.Idx) :
    iblk m c (4 : Fin 13) t j = V m c main_v9 j := by
  unfold iblk
  rw [View.read_apply, cast_eq]
  refine congrArg (V m c main_v9) (funext fun ax => Fin.ext ?_)
  refine ((cfg0.win (4 : Fin 13)).rect_emb_val t j ax).trans ?_
  have hi : (cfg0.win (4 : Fin 13)).index t = ![0, 0] := index4 t
  rw [hi]
  match ax with
  | ⟨0, _⟩ => show 0 * 512 + (j 0).val = (j 0).val; omega
  | ⟨1, _⟩ => show 0 * 1 + (j 1).val = (j 1).val; omega

theorem blk5 (c : Dev nD) (t : Fin cfg0.N) (j : S1x128.Idx) :
    iblk m c (5 : Fin 13) t j = V m c main_v13 j := by
  unfold iblk
  rw [View.read_apply, cast_eq]
  refine congrArg (V m c main_v13) (funext fun ax => Fin.ext ?_)
  refine ((cfg0.win (5 : Fin 13)).rect_emb_val t j ax).trans ?_
  have hi : (cfg0.win (5 : Fin 13)).index t = ![0, 0] := index5 t
  rw [hi]
  match ax with
  | ⟨0, _⟩ => show 0 * 1 + (j 0).val = (j 0).val; omega
  | ⟨1, _⟩ => show 0 * 128 + (j 1).val = (j 1).val; omega

theorem blk6 (c : Dev nD) (t : Fin cfg0.N) (j : S1x128.Idx) :
    iblk m c (6 : Fin 13) t j = V m c main_v17 j := by
  unfold iblk
  rw [View.read_apply, cast_eq]
  refine congrArg (V m c main_v17) (funext fun ax => Fin.ext ?_)
  refine ((cfg0.win (6 : Fin 13)).rect_emb_val t j ax).trans ?_
  have hi : (cfg0.win (6 : Fin 13)).index t = ![0, 0] := index6 t
  rw [hi]
  match ax with
  | ⟨0, _⟩ => show 0 * 1 + (j 0).val = (j 0).val; omega
  | ⟨1, _⟩ => show 0 * 128 + (j 1).val = (j 1).val; omega

theorem blk2 (c : Dev nD) (t : Fin cfg0.N) (j : S1x256.Idx) :
    iblk m c (2 : Fin 13) t j = (m ((c : Thread nD τ).loc main_arg2)) (ix1 (j 1)) := by
  have h0 : (j 0).val < 1 := (j 0).isLt
  unfold iblk
  rw [View.read_apply, cast_eq]
  refine Eq.trans ?_ ((congrFun (V_v4 m c) (ix2 (0 : Fin 1) (j 1))).trans (row256 _ _))
  refine congrArg (V m c main_v4) (funext fun ax => Fin.ext ?_)
  refine ((cfg0.win (2 : Fin 13)).rect_emb_val t j ax).trans ?_
  have hi : (cfg0.win (2 : Fin 13)).index t = ![0, 0] := index2 t
  rw [hi]
  match ax with
  | ⟨0, _⟩ => show 0 * 1 + (j 0).val = 0; omega
  | ⟨1, _⟩ => show 0 * 256 + (j 1).val = (j 1).val; omega

theorem blk3 (c : Dev nD) (t : Fin cfg0.N) (j : S256x1024.Idx) :
    iblk m c (3 : Fin 13) t j = (m ((c : Thread nD τ).loc main_arg3)) (ix2 (j 0) (j 1)) := by
  unfold iblk
  rw [View.read_apply, cast_eq]
  refine Eq.trans ?_ (congrFun (V_v5 m c) (ix2 (j 0) (j 1)))
  refine congrArg (V m c main_v5) (funext fun ax => Fin.ext ?_)
  refine ((cfg0.win (3 : Fin 13)).rect_emb_val t j ax).trans ?_
  have hi : (cfg0.win (3 : Fin 13)).index t = ![0, 0] := index3 t
  rw [hi]
  match ax with
  | ⟨0, _⟩ => show 0 * 256 + (j 0).val = (j 0).val; omega
  | ⟨1, _⟩ => show 0 * 1024 + (j 1).val = (j 1).val; omega

/-! ## What one point leaves -/

/-- The four groups of columns of a block of rows. -/
abbrev colsQ (x : Vec Ideal S512x1408 .f32) : Vec Ideal S512x512 .f32 := fun j => x (ix2 (j 0) ⟨0 + (j 1).val, by have : (j 1).val < 512 := (j 1).isLt; omega⟩)
abbrev colsKv (x : Vec Ideal S512x1408 .f32) : Vec Ideal S512x256 .f32 := fun j => x (ix2 (j 0) ⟨512 + (j 1).val, by have : (j 1).val < 256 := (j 1).isLt; omega⟩)
abbrev colsQi (x : Vec Ideal S512x1408 .f32) : Vec Ideal S512x512 .f32 := fun j => x (ix2 (j 0) ⟨768 + (j 1).val, by have : (j 1).val < 512 := (j 1).isLt; omega⟩)
abbrev colsS (x : Vec Ideal S512x1408 .f32) : Vec Ideal S512x128 .f32 := fun j => x (ix2 (j 0) ⟨1280 + (j 1).val, by have : (j 1).val < 128 := (j 1).isLt; omega⟩)

theorem ld_colsQ (x : Vec Ideal S512x1408 .f32) : View.ld x (Rect.unit (s := S512x1408) ![0, 0] ![512, 512] inb_S512x1408_S512x512_0_0) = colsQ x :=
  funext fun j => congrArg x (funext fun ax => Fin.ext (by
    match ax with
    | ⟨0, _⟩ => show 0 + 1 * (j 0).val = (j 0).val; omega
    | ⟨1, _⟩ => show 0 + 1 * (j 1).val = 0 + (j 1).val; omega))
theorem ld_colsKv (x : Vec Ideal S512x1408 .f32) : View.ld x (Rect.unit (s := S512x1408) ![0, 512] ![512, 256] inb_S512x1408_S512x256_0_512) = colsKv x :=
  funext fun j => congrArg x (funext fun ax => Fin.ext (by
    match ax with
    | ⟨0, _⟩ => show 0 + 1 * (j 0).val = (j 0).val; omega
    | ⟨1, _⟩ => show 512 + 1 * (j 1).val = 512 + (j 1).val; omega))
theorem ld_colsQi (x : Vec Ideal S512x1408 .f32) : View.ld x (Rect.unit (s := S512x1408) ![0, 768] ![512, 512] inb_S512x1408_S512x512_0_768) = colsQi x :=
  funext fun j => congrArg x (funext fun ax => Fin.ext (by
    match ax with
    | ⟨0, _⟩ => show 0 + 1 * (j 0).val = (j 0).val; omega
    | ⟨1, _⟩ => show 768 + 1 * (j 1).val = 768 + (j 1).val; omega))
theorem ld_colsS (x : Vec Ideal S512x1408 .f32) : View.ld x (Rect.unit (s := S512x1408) ![0, 1280] ![512, 128] inb_S512x1408_S512x128_0_1280) = colsS x :=
  funext fun j => congrArg x (funext fun ax => Fin.ext (by
    match ax with
    | ⟨0, _⟩ => show 0 + 1 * (j 0).val = (j 0).val; omega
    | ⟨1, _⟩ => show 1280 + 1 * (j 1).val = 1280 + (j 1).val; omega))

section Body

variable (c : Dev nD) (i : grid0.Coords) (arg2 : Memref sig .tc .vmem S512x1408 .f32) (harg2 : arg2.IsWhole) (arg3 : Memref sig .tc .vmem S512x1 .f32) (harg3 : arg3.IsWhole) (arg4 : Memref sig .tc .vmem S1x256 .f32) (harg4 : arg4.IsWhole) (arg5 : Memref sig .tc .vmem S256x1024 .bf16) (harg5 : arg5.IsWhole) (arg6 : Memref sig .tc .vmem S512x1 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x512x512 .bf16) (harg9 : arg9.IsWhole) (arg10 : Memref sig .tc .vmem S1x512x512 .bf16) (harg10 : arg10.IsWhole) (arg11 : Memref sig .tc .vmem S1x512x512 .bf16) (harg11 : arg11.IsWhole) (arg12 : Memref sig .tc .vmem S1x512x512 .bf16) (harg12 : arg12.IsWhole) (arg13 : Memref sig .tc .vmem S1x512x128 .bf16) (harg13 : arg13.IsWhole) (arg14 : Memref sig .tc .vmem S1x8x512 .f32) (harg14 : arg14.IsWhole)
  (x0 : Vec Ideal S512x1408 .f32) (x1 : Vec Ideal S512x1 .f32) (x2 : Vec Ideal S1x256 .f32) (x3 : Vec Ideal S256x1024 .bf16) (x4 : Vec Ideal S512x1 .f32) (x5 : Vec Ideal S1x128 .f32) (x6 : Vec Ideal S1x128 .f32)

theorem out7 : out0_A_7 c i arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 = k0_pay2 (F := Ideal) (colsQ x0) x1 := by
  unfold out0_A_7
  rw [View.read_writes_eq_canon _ _ _ (cover0_A_7 c i arg2 harg2 arg3 harg3 arg4 harg4 arg5 harg5 arg6 harg6 arg7 harg7 arg8 harg8 arg9 harg9 arg10 harg10 arg11 harg11 arg12 harg12 arg13 harg13 arg14 harg14 x0 x1 x2 x3 x4 x5 x6)]
  unfold kernelRun0_A
  dsimp only
  sl_unfold_words
  rw [View.canon_unit_zero zero3]
  simp only [View.readAt_eq_ld, harg2.read_unread, harg3.read_unread, harg4.read_unread, harg5.read_unread, harg6.read_unread, harg7.read_unread, harg8.read_unread, ld_colsQ, ld_colsKv, ld_colsQi, ld_colsS,
    View.ld_unit_zero (S := S512x1) zero2, View.ld_unit_zero (S := S1x256) zero2, View.ld_unit_zero (S := S256x1024) zero2, View.ld_unit_zero (S := S1x128) zero2]

theorem out8 : out0_A_8 c i arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 = k0_pay5 (F := Ideal) (colsKv x0) (k0_pay3 (F := Ideal) (colsKv x0)) x2 x3 x4 := by
  unfold out0_A_8
  rw [View.read_writes_eq_canon _ _ _ (cover0_A_8 c i arg2 harg2 arg3 harg3 arg4 harg4 arg5 harg5 arg6 harg6 arg7 harg7 arg8 harg8 arg9 harg9 arg10 harg10 arg11 harg11 arg12 harg12 arg13 harg13 arg14 harg14 x0 x1 x2 x3 x4 x5 x6)]
  unfold kernelRun0_A
  dsimp only
  sl_unfold_words
  rw [View.canon_unit_zero zero3]
  simp only [View.readAt_eq_ld, harg2.read_unread, harg3.read_unread, harg4.read_unread, harg5.read_unread, harg6.read_unread, harg7.read_unread, harg8.read_unread, ld_colsQ, ld_colsKv, ld_colsQi, ld_colsS,
    View.ld_unit_zero (S := S512x1) zero2, View.ld_unit_zero (S := S1x256) zero2, View.ld_unit_zero (S := S256x1024) zero2, View.ld_unit_zero (S := S1x128) zero2]

theorem out9 : out0_A_9 c i arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 = k0_pay6 (F := Ideal) (colsKv x0) (k0_pay3 (F := Ideal) (colsKv x0)) x2 x3 := by
  unfold out0_A_9
  rw [View.read_writes_eq_canon _ _ _ (cover0_A_9 c i arg2 harg2 arg3 harg3 arg4 harg4 arg5 harg5 arg6 harg6 arg7 harg7 arg8 harg8 arg9 harg9 arg10 harg10 arg11 harg11 arg12 harg12 arg13 harg13 arg14 harg14 x0 x1 x2 x3 x4 x5 x6)]
  unfold kernelRun0_A
  dsimp only
  sl_unfold_words
  rw [View.canon_unit_zero zero3]
  simp only [View.readAt_eq_ld, harg2.read_unread, harg3.read_unread, harg4.read_unread, harg5.read_unread, harg6.read_unread, harg7.read_unread, harg8.read_unread, ld_colsQ, ld_colsKv, ld_colsQi, ld_colsS,
    View.ld_unit_zero (S := S512x1) zero2, View.ld_unit_zero (S := S1x256) zero2, View.ld_unit_zero (S := S256x1024) zero2, View.ld_unit_zero (S := S1x128) zero2]

theorem out10 : out0_A_10 c i arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 = k0_pay8 (F := Ideal) (k0_pay7 (F := Ideal) (colsQi x0)) := by
  unfold out0_A_10
  rw [View.read_writes_eq_canon _ _ _ (cover0_A_10 c i arg2 harg2 arg3 harg3 arg4 harg4 arg5 harg5 arg6 harg6 arg7 harg7 arg8 harg8 arg9 harg9 arg10 harg10 arg11 harg11 arg12 harg12 arg13 harg13 arg14 harg14 x0 x1 x2 x3 x4 x5 x6)]
  unfold kernelRun0_A
  dsimp only
  sl_unfold_words
  rw [View.canon_unit_zero zero3]
  simp only [View.readAt_eq_ld, harg2.read_unread, harg3.read_unread, harg4.read_unread, harg5.read_unread, harg6.read_unread, harg7.read_unread, harg8.read_unread, ld_colsQ, ld_colsKv, ld_colsQi, ld_colsS,
    View.ld_unit_zero (S := S512x1) zero2, View.ld_unit_zero (S := S1x256) zero2, View.ld_unit_zero (S := S256x1024) zero2, View.ld_unit_zero (S := S1x128) zero2]

theorem out11 : out0_A_11 c i arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 = k0_pay9 (F := Ideal) (colsS x0) x5 x6 := by
  unfold out0_A_11
  rw [View.read_writes_eq_canon _ _ _ (cover0_A_11 c i arg2 harg2 arg3 harg3 arg4 harg4 arg5 harg5 arg6 harg6 arg7 harg7 arg8 harg8 arg9 harg9 arg10 harg10 arg11 harg11 arg12 harg12 arg13 harg13 arg14 harg14 x0 x1 x2 x3 x4 x5 x6)]
  unfold kernelRun0_A
  dsimp only
  sl_unfold_words
  rw [View.canon_unit_zero zero3]
  simp only [View.readAt_eq_ld, harg2.read_unread, harg3.read_unread, harg4.read_unread, harg5.read_unread, harg6.read_unread, harg7.read_unread, harg8.read_unread, ld_colsQ, ld_colsKv, ld_colsQi, ld_colsS,
    View.ld_unit_zero (S := S512x1) zero2, View.ld_unit_zero (S := S1x256) zero2, View.ld_unit_zero (S := S256x1024) zero2, View.ld_unit_zero (S := S1x128) zero2]

theorem out12 : out0_A_12 c i arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 = k0_pay1 (F := Ideal) (k0_pay10 (F := Ideal) (colsS x0)) := by
  unfold out0_A_12
  rw [View.read_writes_eq_canon _ _ _ (cover0_A_12 c i arg2 harg2 arg3 harg3 arg4 harg4 arg5 harg5 arg6 harg6 arg7 harg7 arg8 harg8 arg9 harg9 arg10 harg10 arg11 harg11 arg12 harg12 arg13 harg13 arg14 harg14 x0 x1 x2 x3 x4 x5 x6)]
  unfold kernelRun0_A
  dsimp only
  sl_unfold_words
  rw [View.canon_unit_zero zero3]
  simp only [View.readAt_eq_ld, harg2.read_unread, harg3.read_unread, harg4.read_unread, harg5.read_unread, harg6.read_unread, harg7.read_unread, harg8.read_unread, ld_colsQ, ld_colsKv, ld_colsQi, ld_colsS,
    View.ld_unit_zero (S := S512x1) zero2, View.ld_unit_zero (S := S1x256) zero2, View.ld_unit_zero (S := S256x1024) zero2, View.ld_unit_zero (S := S1x128) zero2]

end Body

/-! ## What the points leave, in the arguments -/

/-- What block `q` leaves in the six results. -/
abbrev blockQ (c : Dev nD) (q : Fin 64) : FVec Ideal S1x512x512 .bf16 := k0_pay2 (F := Ideal) (blkQ (m ((c : Thread nD τ).loc main_arg0)) (bOf q) (sOf q)) (V m c main_v3)
abbrev blockK (c : Dev nD) (q : Fin 64) : FVec Ideal S1x512x512 .bf16 := k0_pay5 (F := Ideal) (blkKv (m ((c : Thread nD τ).loc main_arg0)) (bOf q) (sOf q)) (k0_pay3 (F := Ideal) (blkKv (m ((c : Thread nD τ).loc main_arg0)) (bOf q) (sOf q))) (fun j => (m ((c : Thread nD τ).loc main_arg2)) (ix1 (j 1))) (fun j => (m ((c : Thread nD τ).loc main_arg3)) (ix2 (j 0) (j 1))) (V m c main_v9)
abbrev blockV (c : Dev nD) (q : Fin 64) : FVec Ideal S1x512x512 .bf16 := k0_pay6 (F := Ideal) (blkKv (m ((c : Thread nD τ).loc main_arg0)) (bOf q) (sOf q)) (k0_pay3 (F := Ideal) (blkKv (m ((c : Thread nD τ).loc main_arg0)) (bOf q) (sOf q))) (fun j => (m ((c : Thread nD τ).loc main_arg2)) (ix1 (j 1))) (fun j => (m ((c : Thread nD τ).loc main_arg3)) (ix2 (j 0) (j 1)))
abbrev blockQi (c : Dev nD) (q : Fin 64) : FVec Ideal S1x512x512 .bf16 := k0_pay8 (F := Ideal) (k0_pay7 (F := Ideal) (blkQi (m ((c : Thread nD τ).loc main_arg0)) (bOf q) (sOf q)))
abbrev blockKi (c : Dev nD) (q : Fin 64) : FVec Ideal S1x512x128 .bf16 := k0_pay9 (F := Ideal) (blkS (m ((c : Thread nD τ).loc main_arg0)) (bOf q) (sOf q)) (V m c main_v13) (V m c main_v17)
abbrev blockW (c : Dev nD) (q : Fin 64) : FVec Ideal S1x8x512 .f32 := k0_pay1 (F := Ideal) (k0_pay10 (F := Ideal) (blkS (m ((c : Thread nD τ).loc main_arg0)) (bOf q) (sOf q)))

theorem colsQ_blk (c : Dev nD) (t : Fin cfg0.N) : colsQ (X0_0 m c t) = blkQ (m ((c : Thread nD τ).loc main_arg0)) (bOf (pt t)) (sOf (pt t)) :=
  funext fun j => (blk0 m c t _).trans (congrArg (m ((c : Thread nD τ).loc main_arg0)) (congrArg (ix2 (rowOf (bOf (pt t)) (sOf (pt t) (j 0)))) (Fin.ext (by
    show 0 + (j 1).val = (j 1).val
    omega))))
theorem colsKv_blk (c : Dev nD) (t : Fin cfg0.N) : colsKv (X0_0 m c t) = blkKv (m ((c : Thread nD τ).loc main_arg0)) (bOf (pt t)) (sOf (pt t)) :=
  funext fun j => (blk0 m c t _).trans (congrArg (m ((c : Thread nD τ).loc main_arg0)) (congrArg (ix2 (rowOf (bOf (pt t)) (sOf (pt t) (j 0)))) (Fin.ext (by
    show 512 + (j 1).val = 512 + (j 1).val
    omega))))
theorem colsQi_blk (c : Dev nD) (t : Fin cfg0.N) : colsQi (X0_0 m c t) = blkQi (m ((c : Thread nD τ).loc main_arg0)) (bOf (pt t)) (sOf (pt t)) :=
  funext fun j => (blk0 m c t _).trans (congrArg (m ((c : Thread nD τ).loc main_arg0)) (congrArg (ix2 (rowOf (bOf (pt t)) (sOf (pt t) (j 0)))) (Fin.ext (by
    show 768 + (j 1).val = 768 + (j 1).val
    omega))))
theorem colsS_blk (c : Dev nD) (t : Fin cfg0.N) : colsS (X0_0 m c t) = blkS (m ((c : Thread nD τ).loc main_arg0)) (bOf (pt t)) (sOf (pt t)) :=
  funext fun j => (blk0 m c t _).trans (congrArg (m ((c : Thread nD τ).loc main_arg0)) (congrArg (ix2 (rowOf (bOf (pt t)) (sOf (pt t) (j 0)))) (Fin.ext (by
    show 1280 + (j 1).val = 1280 + (j 1).val
    omega))))

theorem outs7 (c : Dev nD) (t : Fin cfg0.N) : (outsAt0 m c t).1 = k0_pay2 (F := Ideal) (colsQ (X0_0 m c t)) (iblk m c 1 t) := by
  unfold outsAt0
  dsimp only
  rw [out7]
theorem left7 (c : Dev nD) (t : Fin cfg0.N) : (dats m 0 c).after 7 t = blockQ m c (pt t) :=
  (after0_7 m c t).trans ((outs7 m c t).trans (congr (congrArg (k0_pay2 (F := Ideal)) (colsQ_blk m c t)) (funext fun j => blk1 m c t j)))
theorem outs8 (c : Dev nD) (t : Fin cfg0.N) : (outsAt0 m c t).2.1 = k0_pay5 (F := Ideal) (colsKv (X0_0 m c t)) (k0_pay3 (F := Ideal) (colsKv (X0_0 m c t))) (iblk m c 2 t) (iblk m c 3 t) (iblk m c 4 t) := by
  unfold outsAt0
  dsimp only
  rw [out8]
theorem left8 (c : Dev nD) (t : Fin cfg0.N) : (dats m 0 c).after 8 t = blockK m c (pt t) :=
  (after0_8 m c t).trans ((outs8 m c t).trans (congr (congr (congr (congr (congrArg (k0_pay5 (F := Ideal)) (colsKv_blk m c t)) (congrArg (k0_pay3 (F := Ideal)) (colsKv_blk m c t))) (funext fun j => blk2 m c t j)) (funext fun j => blk3 m c t j)) (funext fun j => blk4 m c t j)))
theorem outs9 (c : Dev nD) (t : Fin cfg0.N) : (outsAt0 m c t).2.2.1 = k0_pay6 (F := Ideal) (colsKv (X0_0 m c t)) (k0_pay3 (F := Ideal) (colsKv (X0_0 m c t))) (iblk m c 2 t) (iblk m c 3 t) := by
  unfold outsAt0
  dsimp only
  rw [out9]
theorem left9 (c : Dev nD) (t : Fin cfg0.N) : (dats m 0 c).after 9 t = blockV m c (pt t) :=
  (after0_9 m c t).trans ((outs9 m c t).trans (congr (congr (congr (congrArg (k0_pay6 (F := Ideal)) (colsKv_blk m c t)) (congrArg (k0_pay3 (F := Ideal)) (colsKv_blk m c t))) (funext fun j => blk2 m c t j)) (funext fun j => blk3 m c t j)))
theorem outs10 (c : Dev nD) (t : Fin cfg0.N) : (outsAt0 m c t).2.2.2.1 = k0_pay8 (F := Ideal) (k0_pay7 (F := Ideal) (colsQi (X0_0 m c t))) := by
  unfold outsAt0
  dsimp only
  rw [out10]
theorem left10 (c : Dev nD) (t : Fin cfg0.N) : (dats m 0 c).after 10 t = blockQi m c (pt t) :=
  (after0_10 m c t).trans ((outs10 m c t).trans (congrArg (fun x => k0_pay8 (F := Ideal) (k0_pay7 (F := Ideal) x)) (colsQi_blk m c t)))
theorem outs11 (c : Dev nD) (t : Fin cfg0.N) : (outsAt0 m c t).2.2.2.2.1 = k0_pay9 (F := Ideal) (colsS (X0_0 m c t)) (iblk m c 5 t) (iblk m c 6 t) := by
  unfold outsAt0
  dsimp only
  rw [out11]
theorem left11 (c : Dev nD) (t : Fin cfg0.N) : (dats m 0 c).after 11 t = blockKi m c (pt t) :=
  (after0_11 m c t).trans ((outs11 m c t).trans (congr (congr (congrArg (k0_pay9 (F := Ideal)) (colsS_blk m c t)) (funext fun j => blk5 m c t j)) (funext fun j => blk6 m c t j)))
theorem outs12 (c : Dev nD) (t : Fin cfg0.N) : (outsAt0 m c t).2.2.2.2.2 = k0_pay1 (F := Ideal) (k0_pay10 (F := Ideal) (colsS (X0_0 m c t))) := by
  unfold outsAt0
  dsimp only
  rw [out12]
theorem left12 (c : Dev nD) (t : Fin cfg0.N) : (dats m 0 c).after 12 t = blockW m c (pt t) :=
  (after0_12 m c t).trans ((outs12 m c t).trans (congrArg (fun x => k0_pay1 (F := Ideal) (k0_pay10 (F := Ideal) x)) (colsS_blk m c t)))

/-! ## The output arrays -/

/-- The reference's results at this memory's arguments. -/
abbrev refQ (c : Dev nD) : FVec Ideal S8x512x4096 .bf16 := val_main_v84 (F := Ideal) (m ((c : Thread nD τ).loc main_arg0)) (m ((c : Thread nD τ).loc main_arg1))
abbrev refK (c : Dev nD) : FVec Ideal S8x4096x512 .bf16 := val_main_v85 (F := Ideal) (m ((c : Thread nD τ).loc main_arg0)) (m ((c : Thread nD τ).loc main_arg2)) (m ((c : Thread nD τ).loc main_arg3)) (m ((c : Thread nD τ).loc main_arg4))
abbrev refV (c : Dev nD) : FVec Ideal S8x512x4096 .bf16 := val_main_v87 (F := Ideal) (m ((c : Thread nD τ).loc main_arg0)) (m ((c : Thread nD τ).loc main_arg2)) (m ((c : Thread nD τ).loc main_arg3))
abbrev refQi (c : Dev nD) : FVec Ideal S8x512x4096 .bf16 := val_main_v89 (F := Ideal) (m ((c : Thread nD τ).loc main_arg0))
abbrev refKi (c : Dev nD) : FVec Ideal S8x4096x128 .bf16 := val_main_v90 (F := Ideal) (m ((c : Thread nD τ).loc main_arg0)) (m ((c : Thread nD τ).loc main_arg5)) (m ((c : Thread nD τ).loc main_arg6))
abbrev refW (c : Dev nD) : FVec Ideal S8x8x4096 .f32 := val_main_v91 (F := Ideal) (m ((c : Thread nD τ).loc main_arg0))

/-- A channel is one of a head's 64. -/
theorem chan_split (n : Fin 512) : n = chan ⟨n.val / 64, by have := n.isLt; omega⟩ ⟨n.val % 64, Nat.mod_lt _ (by decide)⟩ :=
  Fin.ext (by show n.val = n.val / 64 * 64 + n.val % 64; omega)

theorem blockQ_eq (c : Dev nD) (q : Fin 64) (n : Fin 512) (r : Fin 512) : blockQ m c q (ix3 (0 : Fin 1) n r) = refQ m c (ix3 (bOf q) n (sOf q r)) := by
  rw [chan_split n]
  exact outQ_eq _ _ (bOf q) (sOf q) (V m c main_v3) (fun h e => (congrFun (V_v3 m c) _).trans (perHead_apply _ h e)) _ _ r

theorem blockK_eq (c : Dev nD) (q : Fin 64) (n : Fin 512) (r : Fin 512) : blockK m c q (ix3 (0 : Fin 1) r n) = refK m c (ix3 (bOf q) (sOf q r) n) := by
  rw [chan_split n]
  exact outK_eq _ _ _ _ (bOf q) (sOf q) (V m c main_v9) (fun h e => (congrFun (V_v9 m c) _).trans (perHead_apply _ h e)) _ _ r

theorem blockV_eq (c : Dev nD) (q : Fin 64) (n : Fin 512) (r : Fin 512) : blockV m c q (ix3 (0 : Fin 1) n r) = refV m c (ix3 (bOf q) n (sOf q r)) := by
  exact outV_eq _ _ _ (bOf q) (sOf q) n r

theorem blockQi_eq (c : Dev nD) (q : Fin 64) (n : Fin 512) (r : Fin 512) : blockQi m c q (ix3 (0 : Fin 1) n r) = refQi m c (ix3 (bOf q) n (sOf q r)) := by
  exact outQi_eq _ (bOf q) (sOf q) n r

theorem blockKi_eq (c : Dev nD) (q : Fin 64) (n : Fin 128) (r : Fin 512) : blockKi m c q (ix3 (0 : Fin 1) r n) = refKi m c (ix3 (bOf q) (sOf q r) n) := by
  exact outKi_eq _ _ _ (bOf q) (sOf q) (V m c main_v13) (V m c main_v17) (fun n => (congrFun (V_v13 m c) _).trans (twice_apply _ n)) (fun n => (congrFun (V_v17 m c) _).trans (twice_apply _ n)) r n

theorem blockW_eq (c : Dev nD) (q : Fin 64) (n : Fin 8) (r : Fin 512) : blockW m c q (ix3 (0 : Fin 1) n r) = refW m c (ix3 (bOf q) n (sOf q r)) := by
  exact outW_eq _ (bOf q) (sOf q) n r

/-- A position a view embeds is in its set. -/
theorem mem_of_emb {sp : Space} {s : Shape} {e : EltTy} (v : View sig .tc sp s e) (x : s.Idx) (i : v.ty.Idx) (h : v.emb x = i) : i ∈ v.set :=
  h ▸ v.emb_mem_set x

/-- Where point `t`'s block lies in the array. -/
theorem emb7 (t : Fin cfg0.N) (j : S1x512x512.Idx) :
    ((cfg0.win (7 : Fin 13)).blk t).view.emb j = (ix3 (bOf (pt t)) (j 1) (sOf (pt t) (j 2)) : S8x512x4096.Idx) := by
  have h0 : (j 0).val < 1 := (j 0).isLt
  refine funext fun ax => Fin.ext ?_
  refine ((cfg0.win (7 : Fin 13)).rect_emb_val t j ax).trans ?_
  have hi : (cfg0.win (7 : Fin 13)).index t = ![t.val / 8, 0, t.val % 8] := index7 t
  rw [hi]
  match ax with
  | ⟨0, _⟩ => show t.val / 8 * 1 + (j 0).val = t.val / 8; omega
  | ⟨1, _⟩ => show 0 * 512 + (j 1).val = (j 1).val; omega
  | ⟨2, _⟩ => show t.val % 8 * 512 + (j 2).val = t.val % 8 * 512 + (j 2).val; rfl

/-- Every point writes its block back. -/
theorem flush7 (t : Fin cfg0.N) : (cfg0.win (7 : Fin 13)).flush t = true := by
  unfold Window.flush
  have hn : (cfg0.win (7 : Fin 13)).isOut = true := rfl
  rw [hn, Bool.true_and, Bool.or_eq_true, decide_eq_true_eq, decide_eq_true_eq]
  by_cases h : t.val + 1 = cfg0.grid.N
  · exact .inl h
  · refine .inr ⟨lt_of_le_of_ne t.isLt h, fun e => ?_⟩
    have e1 : (cfg0.win (7 : Fin 13)).index ⟨t.val + 1, lt_of_le_of_ne t.isLt h⟩ = ![(t.val + 1) / 8, 0, (t.val + 1) % 8] := index7 ⟨t.val + 1, lt_of_le_of_ne t.isLt h⟩
    have e2 : (cfg0.win (7 : Fin 13)).index t = ![t.val / 8, 0, t.val % 8] := index7 t
    rw [e1, e2] at e
    have e0 : (t.val + 1) % 8 = t.val % 8 := congrFun e (2 : Fin 3)
    omega

/-- Every position lies in a block that is written back. -/
theorem cover7 (i : S8x512x4096.Idx) : ∃ t : Fin cfg0.N, (cfg0.win (7 : Fin 13)).flush t = true ∧ i ∈ ((cfg0.win (7 : Fin 13)).blk t).view.set := by
  have hi0 : (i 0).val < 8 := (i 0).isLt
  have hi1 : (i 2).val < 4096 := (i 2).isLt
  refine ⟨⟨(i 0).val * 8 + (i 2).val / 512, lt_of_lt_of_eq (show (i 0).val * 8 + (i 2).val / 512 < 64 by omega) N_0.symm⟩, flush7 _, ?_⟩
  refine mem_of_emb _ (ix3 (0 : Fin 1) (i 1) (⟨(i 2).val % 512, Nat.mod_lt _ (by decide)⟩ : Fin 512) : S1x512x512.Idx) _
    ((emb7 ⟨(i 0).val * 8 + (i 2).val / 512, lt_of_lt_of_eq (show (i 0).val * 8 + (i 2).val / 512 < 64 by omega) N_0.symm⟩ _).trans (funext fun ax => Fin.ext ?_))
  match ax with
  | ⟨0, _⟩ => show ((i 0).val * 8 + (i 2).val / 512) / 8 = (i 0).val; omega
  | ⟨1, _⟩ => rfl
  | ⟨2, _⟩ => show ((i 0).val * 8 + (i 2).val / 512) % 8 * 512 + (i 2).val % 512 = (i 2).val; omega

/-- The output array after the run is the reference's result. -/
theorem arr7 (c : Dev nD) : (dats m 0 c).arrAt (7 : Fin 13) cfg0.N = refQ m c := by
  refine (dats m 0 c).arrAt_eq_of_cover (7 : Fin 13) (refQ m c) (fun t _ => funext fun j => ?_) fun i => cover7 i
  have h0 : (j 0).val < 1 := (j 0).isLt
  have hj : (j : S1x512x512.Idx) = ix3 (0 : Fin 1) (j 1) (j 2) := funext fun ax => by
    match ax with
    | ⟨0, _⟩ => exact Fin.ext (show (j 0).val = 0 by omega)
    | ⟨1, _⟩ => rfl
    | ⟨2, _⟩ => rfl
  have h1 : (dats m 0 c).flushed (7 : Fin 13) t j = (dats m 0 c).after (7 : Fin 13) t j := rfl
  rw [h1, View.read_apply, cast_eq, emb7]
  refine (congrFun (left7 m c t) j).trans ((congrArg (blockQ m c (pt t)) hj).trans ?_)
  exact blockQ_eq m c (pt t) (j 1) (j 2)

/-- Where point `t`'s block lies in the array. -/
theorem emb8 (t : Fin cfg0.N) (j : S1x512x512.Idx) :
    ((cfg0.win (8 : Fin 13)).blk t).view.emb j = (ix3 (bOf (pt t)) (sOf (pt t) (j 1)) (j 2) : S8x4096x512.Idx) := by
  have h0 : (j 0).val < 1 := (j 0).isLt
  refine funext fun ax => Fin.ext ?_
  refine ((cfg0.win (8 : Fin 13)).rect_emb_val t j ax).trans ?_
  have hi : (cfg0.win (8 : Fin 13)).index t = ![t.val / 8, t.val % 8, 0] := index8 t
  rw [hi]
  match ax with
  | ⟨0, _⟩ => show t.val / 8 * 1 + (j 0).val = t.val / 8; omega
  | ⟨1, _⟩ => show t.val % 8 * 512 + (j 1).val = t.val % 8 * 512 + (j 1).val; rfl
  | ⟨2, _⟩ => show 0 * 512 + (j 2).val = (j 2).val; omega

/-- Every point writes its block back. -/
theorem flush8 (t : Fin cfg0.N) : (cfg0.win (8 : Fin 13)).flush t = true := by
  unfold Window.flush
  have hn : (cfg0.win (8 : Fin 13)).isOut = true := rfl
  rw [hn, Bool.true_and, Bool.or_eq_true, decide_eq_true_eq, decide_eq_true_eq]
  by_cases h : t.val + 1 = cfg0.grid.N
  · exact .inl h
  · refine .inr ⟨lt_of_le_of_ne t.isLt h, fun e => ?_⟩
    have e1 : (cfg0.win (8 : Fin 13)).index ⟨t.val + 1, lt_of_le_of_ne t.isLt h⟩ = ![(t.val + 1) / 8, (t.val + 1) % 8, 0] := index8 ⟨t.val + 1, lt_of_le_of_ne t.isLt h⟩
    have e2 : (cfg0.win (8 : Fin 13)).index t = ![t.val / 8, t.val % 8, 0] := index8 t
    rw [e1, e2] at e
    have e0 : (t.val + 1) % 8 = t.val % 8 := congrFun e (1 : Fin 3)
    omega

/-- Every position lies in a block that is written back. -/
theorem cover8 (i : S8x4096x512.Idx) : ∃ t : Fin cfg0.N, (cfg0.win (8 : Fin 13)).flush t = true ∧ i ∈ ((cfg0.win (8 : Fin 13)).blk t).view.set := by
  have hi0 : (i 0).val < 8 := (i 0).isLt
  have hi1 : (i 1).val < 4096 := (i 1).isLt
  refine ⟨⟨(i 0).val * 8 + (i 1).val / 512, lt_of_lt_of_eq (show (i 0).val * 8 + (i 1).val / 512 < 64 by omega) N_0.symm⟩, flush8 _, ?_⟩
  refine mem_of_emb _ (ix3 (0 : Fin 1) (⟨(i 1).val % 512, Nat.mod_lt _ (by decide)⟩ : Fin 512) (i 2) : S1x512x512.Idx) _
    ((emb8 ⟨(i 0).val * 8 + (i 1).val / 512, lt_of_lt_of_eq (show (i 0).val * 8 + (i 1).val / 512 < 64 by omega) N_0.symm⟩ _).trans (funext fun ax => Fin.ext ?_))
  match ax with
  | ⟨0, _⟩ => show ((i 0).val * 8 + (i 1).val / 512) / 8 = (i 0).val; omega
  | ⟨1, _⟩ => show ((i 0).val * 8 + (i 1).val / 512) % 8 * 512 + (i 1).val % 512 = (i 1).val; omega
  | ⟨2, _⟩ => rfl

/-- The output array after the run is the reference's result. -/
theorem arr8 (c : Dev nD) : (dats m 0 c).arrAt (8 : Fin 13) cfg0.N = refK m c := by
  refine (dats m 0 c).arrAt_eq_of_cover (8 : Fin 13) (refK m c) (fun t _ => funext fun j => ?_) fun i => cover8 i
  have h0 : (j 0).val < 1 := (j 0).isLt
  have hj : (j : S1x512x512.Idx) = ix3 (0 : Fin 1) (j 1) (j 2) := funext fun ax => by
    match ax with
    | ⟨0, _⟩ => exact Fin.ext (show (j 0).val = 0 by omega)
    | ⟨1, _⟩ => rfl
    | ⟨2, _⟩ => rfl
  have h1 : (dats m 0 c).flushed (8 : Fin 13) t j = (dats m 0 c).after (8 : Fin 13) t j := rfl
  rw [h1, View.read_apply, cast_eq, emb8]
  refine (congrFun (left8 m c t) j).trans ((congrArg (blockK m c (pt t)) hj).trans ?_)
  exact blockK_eq m c (pt t) (j 2) (j 1)

/-- Where point `t`'s block lies in the array. -/
theorem emb9 (t : Fin cfg0.N) (j : S1x512x512.Idx) :
    ((cfg0.win (9 : Fin 13)).blk t).view.emb j = (ix3 (bOf (pt t)) (j 1) (sOf (pt t) (j 2)) : S8x512x4096.Idx) := by
  have h0 : (j 0).val < 1 := (j 0).isLt
  refine funext fun ax => Fin.ext ?_
  refine ((cfg0.win (9 : Fin 13)).rect_emb_val t j ax).trans ?_
  have hi : (cfg0.win (9 : Fin 13)).index t = ![t.val / 8, 0, t.val % 8] := index9 t
  rw [hi]
  match ax with
  | ⟨0, _⟩ => show t.val / 8 * 1 + (j 0).val = t.val / 8; omega
  | ⟨1, _⟩ => show 0 * 512 + (j 1).val = (j 1).val; omega
  | ⟨2, _⟩ => show t.val % 8 * 512 + (j 2).val = t.val % 8 * 512 + (j 2).val; rfl

/-- Every point writes its block back. -/
theorem flush9 (t : Fin cfg0.N) : (cfg0.win (9 : Fin 13)).flush t = true := by
  unfold Window.flush
  have hn : (cfg0.win (9 : Fin 13)).isOut = true := rfl
  rw [hn, Bool.true_and, Bool.or_eq_true, decide_eq_true_eq, decide_eq_true_eq]
  by_cases h : t.val + 1 = cfg0.grid.N
  · exact .inl h
  · refine .inr ⟨lt_of_le_of_ne t.isLt h, fun e => ?_⟩
    have e1 : (cfg0.win (9 : Fin 13)).index ⟨t.val + 1, lt_of_le_of_ne t.isLt h⟩ = ![(t.val + 1) / 8, 0, (t.val + 1) % 8] := index9 ⟨t.val + 1, lt_of_le_of_ne t.isLt h⟩
    have e2 : (cfg0.win (9 : Fin 13)).index t = ![t.val / 8, 0, t.val % 8] := index9 t
    rw [e1, e2] at e
    have e0 : (t.val + 1) % 8 = t.val % 8 := congrFun e (2 : Fin 3)
    omega

/-- Every position lies in a block that is written back. -/
theorem cover9 (i : S8x512x4096.Idx) : ∃ t : Fin cfg0.N, (cfg0.win (9 : Fin 13)).flush t = true ∧ i ∈ ((cfg0.win (9 : Fin 13)).blk t).view.set := by
  have hi0 : (i 0).val < 8 := (i 0).isLt
  have hi1 : (i 2).val < 4096 := (i 2).isLt
  refine ⟨⟨(i 0).val * 8 + (i 2).val / 512, lt_of_lt_of_eq (show (i 0).val * 8 + (i 2).val / 512 < 64 by omega) N_0.symm⟩, flush9 _, ?_⟩
  refine mem_of_emb _ (ix3 (0 : Fin 1) (i 1) (⟨(i 2).val % 512, Nat.mod_lt _ (by decide)⟩ : Fin 512) : S1x512x512.Idx) _
    ((emb9 ⟨(i 0).val * 8 + (i 2).val / 512, lt_of_lt_of_eq (show (i 0).val * 8 + (i 2).val / 512 < 64 by omega) N_0.symm⟩ _).trans (funext fun ax => Fin.ext ?_))
  match ax with
  | ⟨0, _⟩ => show ((i 0).val * 8 + (i 2).val / 512) / 8 = (i 0).val; omega
  | ⟨1, _⟩ => rfl
  | ⟨2, _⟩ => show ((i 0).val * 8 + (i 2).val / 512) % 8 * 512 + (i 2).val % 512 = (i 2).val; omega

/-- The output array after the run is the reference's result. -/
theorem arr9 (c : Dev nD) : (dats m 0 c).arrAt (9 : Fin 13) cfg0.N = refV m c := by
  refine (dats m 0 c).arrAt_eq_of_cover (9 : Fin 13) (refV m c) (fun t _ => funext fun j => ?_) fun i => cover9 i
  have h0 : (j 0).val < 1 := (j 0).isLt
  have hj : (j : S1x512x512.Idx) = ix3 (0 : Fin 1) (j 1) (j 2) := funext fun ax => by
    match ax with
    | ⟨0, _⟩ => exact Fin.ext (show (j 0).val = 0 by omega)
    | ⟨1, _⟩ => rfl
    | ⟨2, _⟩ => rfl
  have h1 : (dats m 0 c).flushed (9 : Fin 13) t j = (dats m 0 c).after (9 : Fin 13) t j := rfl
  rw [h1, View.read_apply, cast_eq, emb9]
  refine (congrFun (left9 m c t) j).trans ((congrArg (blockV m c (pt t)) hj).trans ?_)
  exact blockV_eq m c (pt t) (j 1) (j 2)

/-- Where point `t`'s block lies in the array. -/
theorem emb10 (t : Fin cfg0.N) (j : S1x512x512.Idx) :
    ((cfg0.win (10 : Fin 13)).blk t).view.emb j = (ix3 (bOf (pt t)) (j 1) (sOf (pt t) (j 2)) : S8x512x4096.Idx) := by
  have h0 : (j 0).val < 1 := (j 0).isLt
  refine funext fun ax => Fin.ext ?_
  refine ((cfg0.win (10 : Fin 13)).rect_emb_val t j ax).trans ?_
  have hi : (cfg0.win (10 : Fin 13)).index t = ![t.val / 8, 0, t.val % 8] := index10 t
  rw [hi]
  match ax with
  | ⟨0, _⟩ => show t.val / 8 * 1 + (j 0).val = t.val / 8; omega
  | ⟨1, _⟩ => show 0 * 512 + (j 1).val = (j 1).val; omega
  | ⟨2, _⟩ => show t.val % 8 * 512 + (j 2).val = t.val % 8 * 512 + (j 2).val; rfl

/-- Every point writes its block back. -/
theorem flush10 (t : Fin cfg0.N) : (cfg0.win (10 : Fin 13)).flush t = true := by
  unfold Window.flush
  have hn : (cfg0.win (10 : Fin 13)).isOut = true := rfl
  rw [hn, Bool.true_and, Bool.or_eq_true, decide_eq_true_eq, decide_eq_true_eq]
  by_cases h : t.val + 1 = cfg0.grid.N
  · exact .inl h
  · refine .inr ⟨lt_of_le_of_ne t.isLt h, fun e => ?_⟩
    have e1 : (cfg0.win (10 : Fin 13)).index ⟨t.val + 1, lt_of_le_of_ne t.isLt h⟩ = ![(t.val + 1) / 8, 0, (t.val + 1) % 8] := index10 ⟨t.val + 1, lt_of_le_of_ne t.isLt h⟩
    have e2 : (cfg0.win (10 : Fin 13)).index t = ![t.val / 8, 0, t.val % 8] := index10 t
    rw [e1, e2] at e
    have e0 : (t.val + 1) % 8 = t.val % 8 := congrFun e (2 : Fin 3)
    omega

/-- Every position lies in a block that is written back. -/
theorem cover10 (i : S8x512x4096.Idx) : ∃ t : Fin cfg0.N, (cfg0.win (10 : Fin 13)).flush t = true ∧ i ∈ ((cfg0.win (10 : Fin 13)).blk t).view.set := by
  have hi0 : (i 0).val < 8 := (i 0).isLt
  have hi1 : (i 2).val < 4096 := (i 2).isLt
  refine ⟨⟨(i 0).val * 8 + (i 2).val / 512, lt_of_lt_of_eq (show (i 0).val * 8 + (i 2).val / 512 < 64 by omega) N_0.symm⟩, flush10 _, ?_⟩
  refine mem_of_emb _ (ix3 (0 : Fin 1) (i 1) (⟨(i 2).val % 512, Nat.mod_lt _ (by decide)⟩ : Fin 512) : S1x512x512.Idx) _
    ((emb10 ⟨(i 0).val * 8 + (i 2).val / 512, lt_of_lt_of_eq (show (i 0).val * 8 + (i 2).val / 512 < 64 by omega) N_0.symm⟩ _).trans (funext fun ax => Fin.ext ?_))
  match ax with
  | ⟨0, _⟩ => show ((i 0).val * 8 + (i 2).val / 512) / 8 = (i 0).val; omega
  | ⟨1, _⟩ => rfl
  | ⟨2, _⟩ => show ((i 0).val * 8 + (i 2).val / 512) % 8 * 512 + (i 2).val % 512 = (i 2).val; omega

/-- The output array after the run is the reference's result. -/
theorem arr10 (c : Dev nD) : (dats m 0 c).arrAt (10 : Fin 13) cfg0.N = refQi m c := by
  refine (dats m 0 c).arrAt_eq_of_cover (10 : Fin 13) (refQi m c) (fun t _ => funext fun j => ?_) fun i => cover10 i
  have h0 : (j 0).val < 1 := (j 0).isLt
  have hj : (j : S1x512x512.Idx) = ix3 (0 : Fin 1) (j 1) (j 2) := funext fun ax => by
    match ax with
    | ⟨0, _⟩ => exact Fin.ext (show (j 0).val = 0 by omega)
    | ⟨1, _⟩ => rfl
    | ⟨2, _⟩ => rfl
  have h1 : (dats m 0 c).flushed (10 : Fin 13) t j = (dats m 0 c).after (10 : Fin 13) t j := rfl
  rw [h1, View.read_apply, cast_eq, emb10]
  refine (congrFun (left10 m c t) j).trans ((congrArg (blockQi m c (pt t)) hj).trans ?_)
  exact blockQi_eq m c (pt t) (j 1) (j 2)

/-- Where point `t`'s block lies in the array. -/
theorem emb11 (t : Fin cfg0.N) (j : S1x512x128.Idx) :
    ((cfg0.win (11 : Fin 13)).blk t).view.emb j = (ix3 (bOf (pt t)) (sOf (pt t) (j 1)) (j 2) : S8x4096x128.Idx) := by
  have h0 : (j 0).val < 1 := (j 0).isLt
  refine funext fun ax => Fin.ext ?_
  refine ((cfg0.win (11 : Fin 13)).rect_emb_val t j ax).trans ?_
  have hi : (cfg0.win (11 : Fin 13)).index t = ![t.val / 8, t.val % 8, 0] := index11 t
  rw [hi]
  match ax with
  | ⟨0, _⟩ => show t.val / 8 * 1 + (j 0).val = t.val / 8; omega
  | ⟨1, _⟩ => show t.val % 8 * 512 + (j 1).val = t.val % 8 * 512 + (j 1).val; rfl
  | ⟨2, _⟩ => show 0 * 128 + (j 2).val = (j 2).val; omega

/-- Every point writes its block back. -/
theorem flush11 (t : Fin cfg0.N) : (cfg0.win (11 : Fin 13)).flush t = true := by
  unfold Window.flush
  have hn : (cfg0.win (11 : Fin 13)).isOut = true := rfl
  rw [hn, Bool.true_and, Bool.or_eq_true, decide_eq_true_eq, decide_eq_true_eq]
  by_cases h : t.val + 1 = cfg0.grid.N
  · exact .inl h
  · refine .inr ⟨lt_of_le_of_ne t.isLt h, fun e => ?_⟩
    have e1 : (cfg0.win (11 : Fin 13)).index ⟨t.val + 1, lt_of_le_of_ne t.isLt h⟩ = ![(t.val + 1) / 8, (t.val + 1) % 8, 0] := index11 ⟨t.val + 1, lt_of_le_of_ne t.isLt h⟩
    have e2 : (cfg0.win (11 : Fin 13)).index t = ![t.val / 8, t.val % 8, 0] := index11 t
    rw [e1, e2] at e
    have e0 : (t.val + 1) % 8 = t.val % 8 := congrFun e (1 : Fin 3)
    omega

/-- Every position lies in a block that is written back. -/
theorem cover11 (i : S8x4096x128.Idx) : ∃ t : Fin cfg0.N, (cfg0.win (11 : Fin 13)).flush t = true ∧ i ∈ ((cfg0.win (11 : Fin 13)).blk t).view.set := by
  have hi0 : (i 0).val < 8 := (i 0).isLt
  have hi1 : (i 1).val < 4096 := (i 1).isLt
  refine ⟨⟨(i 0).val * 8 + (i 1).val / 512, lt_of_lt_of_eq (show (i 0).val * 8 + (i 1).val / 512 < 64 by omega) N_0.symm⟩, flush11 _, ?_⟩
  refine mem_of_emb _ (ix3 (0 : Fin 1) (⟨(i 1).val % 512, Nat.mod_lt _ (by decide)⟩ : Fin 512) (i 2) : S1x512x128.Idx) _
    ((emb11 ⟨(i 0).val * 8 + (i 1).val / 512, lt_of_lt_of_eq (show (i 0).val * 8 + (i 1).val / 512 < 64 by omega) N_0.symm⟩ _).trans (funext fun ax => Fin.ext ?_))
  match ax with
  | ⟨0, _⟩ => show ((i 0).val * 8 + (i 1).val / 512) / 8 = (i 0).val; omega
  | ⟨1, _⟩ => show ((i 0).val * 8 + (i 1).val / 512) % 8 * 512 + (i 1).val % 512 = (i 1).val; omega
  | ⟨2, _⟩ => rfl

/-- The output array after the run is the reference's result. -/
theorem arr11 (c : Dev nD) : (dats m 0 c).arrAt (11 : Fin 13) cfg0.N = refKi m c := by
  refine (dats m 0 c).arrAt_eq_of_cover (11 : Fin 13) (refKi m c) (fun t _ => funext fun j => ?_) fun i => cover11 i
  have h0 : (j 0).val < 1 := (j 0).isLt
  have hj : (j : S1x512x128.Idx) = ix3 (0 : Fin 1) (j 1) (j 2) := funext fun ax => by
    match ax with
    | ⟨0, _⟩ => exact Fin.ext (show (j 0).val = 0 by omega)
    | ⟨1, _⟩ => rfl
    | ⟨2, _⟩ => rfl
  have h1 : (dats m 0 c).flushed (11 : Fin 13) t j = (dats m 0 c).after (11 : Fin 13) t j := rfl
  rw [h1, View.read_apply, cast_eq, emb11]
  refine (congrFun (left11 m c t) j).trans ((congrArg (blockKi m c (pt t)) hj).trans ?_)
  exact blockKi_eq m c (pt t) (j 2) (j 1)

/-- Where point `t`'s block lies in the array. -/
theorem emb12 (t : Fin cfg0.N) (j : S1x8x512.Idx) :
    ((cfg0.win (12 : Fin 13)).blk t).view.emb j = (ix3 (bOf (pt t)) (j 1) (sOf (pt t) (j 2)) : S8x8x4096.Idx) := by
  have h0 : (j 0).val < 1 := (j 0).isLt
  refine funext fun ax => Fin.ext ?_
  refine ((cfg0.win (12 : Fin 13)).rect_emb_val t j ax).trans ?_
  have hi : (cfg0.win (12 : Fin 13)).index t = ![t.val / 8, 0, t.val % 8] := index12 t
  rw [hi]
  match ax with
  | ⟨0, _⟩ => show t.val / 8 * 1 + (j 0).val = t.val / 8; omega
  | ⟨1, _⟩ => show 0 * 8 + (j 1).val = (j 1).val; omega
  | ⟨2, _⟩ => show t.val % 8 * 512 + (j 2).val = t.val % 8 * 512 + (j 2).val; rfl

/-- Every point writes its block back. -/
theorem flush12 (t : Fin cfg0.N) : (cfg0.win (12 : Fin 13)).flush t = true := by
  unfold Window.flush
  have hn : (cfg0.win (12 : Fin 13)).isOut = true := rfl
  rw [hn, Bool.true_and, Bool.or_eq_true, decide_eq_true_eq, decide_eq_true_eq]
  by_cases h : t.val + 1 = cfg0.grid.N
  · exact .inl h
  · refine .inr ⟨lt_of_le_of_ne t.isLt h, fun e => ?_⟩
    have e1 : (cfg0.win (12 : Fin 13)).index ⟨t.val + 1, lt_of_le_of_ne t.isLt h⟩ = ![(t.val + 1) / 8, 0, (t.val + 1) % 8] := index12 ⟨t.val + 1, lt_of_le_of_ne t.isLt h⟩
    have e2 : (cfg0.win (12 : Fin 13)).index t = ![t.val / 8, 0, t.val % 8] := index12 t
    rw [e1, e2] at e
    have e0 : (t.val + 1) % 8 = t.val % 8 := congrFun e (2 : Fin 3)
    omega

/-- Every position lies in a block that is written back. -/
theorem cover12 (i : S8x8x4096.Idx) : ∃ t : Fin cfg0.N, (cfg0.win (12 : Fin 13)).flush t = true ∧ i ∈ ((cfg0.win (12 : Fin 13)).blk t).view.set := by
  have hi0 : (i 0).val < 8 := (i 0).isLt
  have hi1 : (i 2).val < 4096 := (i 2).isLt
  refine ⟨⟨(i 0).val * 8 + (i 2).val / 512, lt_of_lt_of_eq (show (i 0).val * 8 + (i 2).val / 512 < 64 by omega) N_0.symm⟩, flush12 _, ?_⟩
  refine mem_of_emb _ (ix3 (0 : Fin 1) (i 1) (⟨(i 2).val % 512, Nat.mod_lt _ (by decide)⟩ : Fin 512) : S1x8x512.Idx) _
    ((emb12 ⟨(i 0).val * 8 + (i 2).val / 512, lt_of_lt_of_eq (show (i 0).val * 8 + (i 2).val / 512 < 64 by omega) N_0.symm⟩ _).trans (funext fun ax => Fin.ext ?_))
  match ax with
  | ⟨0, _⟩ => show ((i 0).val * 8 + (i 2).val / 512) / 8 = (i 0).val; omega
  | ⟨1, _⟩ => rfl
  | ⟨2, _⟩ => show ((i 0).val * 8 + (i 2).val / 512) % 8 * 512 + (i 2).val % 512 = (i 2).val; omega

/-- The output array after the run is the reference's result. -/
theorem arr12 (c : Dev nD) : (dats m 0 c).arrAt (12 : Fin 13) cfg0.N = refW m c := by
  refine (dats m 0 c).arrAt_eq_of_cover (12 : Fin 13) (refW m c) (fun t _ => funext fun j => ?_) fun i => cover12 i
  have h0 : (j 0).val < 1 := (j 0).isLt
  have hj : (j : S1x8x512.Idx) = ix3 (0 : Fin 1) (j 1) (j 2) := funext fun ax => by
    match ax with
    | ⟨0, _⟩ => exact Fin.ext (show (j 0).val = 0 by omega)
    | ⟨1, _⟩ => rfl
    | ⟨2, _⟩ => rfl
  have h1 : (dats m 0 c).flushed (12 : Fin 13) t j = (dats m 0 c).after (12 : Fin 13) t j := rfl
  rw [h1, View.read_apply, cast_eq, emb12]
  refine (congrFun (left12 m c t) j).trans ((congrArg (blockW m c (pt t)) hj).trans ?_)
  exact blockW_eq m c (pt t) (j 1) (j 2)

/-- The call runs, ends with the reference's results in its six result arrays, and its arguments unchanged. -/
theorem run_value :
    θ_run (defs (F := Ideal)) (onTc (τ := τ) (main (F := Ideal))) ⟨m, fun _ => 0, ρ⟩ (fun r => ∀ c : Dev nD,
      r.2.mem ((c.tc : Thread nD τ).loc main_v18_0) = refQ m c
      ∧ r.2.mem ((c.tc : Thread nD τ).loc main_v18_1) = refK m c
      ∧ r.2.mem ((c.tc : Thread nD τ).loc main_v18_2) = refV m c
      ∧ r.2.mem ((c.tc : Thread nD τ).loc main_v18_3) = refQi m c
      ∧ r.2.mem ((c.tc : Thread nD τ).loc main_v18_4) = refKi m c
      ∧ r.2.mem ((c.tc : Thread nD τ).loc main_v18_5) = refW m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c => ⟨((h.1 c).1 (7 : Fin 13)).trans (arr7 m c), ((h.1 c).1 (8 : Fin 13)).trans (arr8 m c), ((h.1 c).1 (9 : Fin 13)).trans (arr9 m c), ((h.1 c).1 (10 : Fin 13)).trans (arr10 m c), ((h.1 c).1 (11 : Fin 13)).trans (arr11 m c), ((h.1 c).1 (12 : Fin 13)).trans (arr12 m c), h.2 c⟩)
    (θ_run_and (run_main m ρ) (unchanged m ρ))

end Cert.PrepIdeal.Blocks

end
-- ==== Proof.DsaLoops.lean ====
/-
  The two searches of the attention kernel, each a counted loop with counting loops inside: the search for the
  threshold key, bit by bit, and, where a threshold is tied, the search for the last tied index kept. Both only read
  the buffer of keys: through every trip it holds what it held, whatever the search has found so far.
-/
module

public import proofs.«01_k».proof.Proof.Gen.Dsa.Loops

@[expose] public section

set_option maxRecDepth 16384
set_option maxHeartbeats 4000000

noncomputable section

namespace Cert.Dsa.Hand

open Cert.Dsa Cert.Dsa.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [BitOps F]

local notation "𝕄" => MT nD τ sig Unit (Elt F) ℕ (UR sig nD τ) ℕ

variable (𝒱 : Variants) (c : Dev nD) (bd : Option 𝒱.V) (E : Set ℕ)
variable (i : grid0.Coords) (arg2 : Memref sig .tc .vmem S1x512x256 .bf16) (harg2 : arg2.IsWhole)
  (arg3 : Memref sig .tc .vmem S1x512x256 .bf16) (harg3 : arg3.IsWhole)
  (arg4 : Memref sig .tc .vmem S1x8x256 .f32) (harg4 : arg4.IsWhole)
  (arg5 : Memref sig .tc .vmem S1x4096x512 .bf16) (harg5 : arg5.IsWhole)
  (arg6 : Memref sig .tc .vmem S1x512x4096 .bf16) (harg6 : arg6.IsWhole)
  (arg7 : Memref sig .tc .vmem S1x4096x128 .bf16) (harg7 : arg7.IsWhole)
  (arg8 : Memref sig .tc .vmem S3x8x256x256 .f32) (harg8 : arg8.IsWhole)
  (arg9 : Memref sig .tc .vmem S1x256x512 .f32) (harg9 : arg9.IsWhole)
  (arg10 : Memref sig .tc .vmem S4096x256 .i32) (harg10 : arg10.IsWhole)
  (arg11 : Memref sig .tc .vmem S512x256 .f32) (harg11 : arg11.IsWhole)
  (arg12 : Memref sig .tc .vmem S8x256 .f32) (harg12 : arg12.IsWhole)
  (arg13 : Memref sig .tc .vmem S8x256 .f32) (harg13 : arg13.IsWhole)

/-- The keys' buffer, whole, at the contents `X`. -/
abbrev keysAt (arg10 : Memref sig .tc .vmem S4096x256 .i32) (X : BufTy.Contents (Elt F) arg10.view.ty) : sProp 𝕄 :=
  iprop(arg10.view.loc (c : Thread nD τ) ↦[arg10.view.set]{fullShare} X)

set_option warn.classDefReducibility false in
/-- The threshold's search leaves the keys as they are, whatever bits it has fixed. -/
@[sl_loop] def searchKeepsKeys (X : BufTy.Contents (Elt F) arg10.view.ty) (init : IVec S1x256 32) :
    LoopInvTy_k0_t3 (F := F) Unit ℕ (UR sig nD τ) ℕ 𝒱 c bd E i arg2 harg2 arg3 harg3 arg4 harg4 arg5 harg5 arg6 harg6 arg7 harg7 arg8 harg8 arg9 harg9 arg10 harg10 arg11 harg11 arg12 harg12 arg13 harg13 init where
  inv _ _ := keysAt c arg10 X
  step k acc := by
    unfold k0_t3_body
    iintro HK
    sl_exec
    sl_step
    iexact HK

variable (v0 : BitVec 32) (v11 : IVec S1x256 32) (v24 : IVec S1x256 32) (v26 : IVec S8x256 32) (z : BitVec 32) (v31 : BitVec 32)

set_option warn.classDefReducibility false in
/-- So does the search for the last tied index kept. -/
@[sl_loop] def tieSearchKeepsKeys (X : BufTy.Contents (Elt F) arg10.view.ty) (init : IVec S1x256 32) :
    LoopInvTy_k0_t10 (F := F) Unit ℕ (UR sig nD τ) ℕ 𝒱 c bd E i arg2 harg2 arg3 harg3 arg4 harg4 arg5 harg5 arg6 harg6 arg7 harg7 arg8 harg8 arg9 harg9 arg10 harg10 arg11 harg11 arg12 harg12 arg13 harg13 v0 v11 v24 v26 z v31 init where
  inv _ _ := keysAt c arg10 X
  step k acc := by
    unfold k0_t10_body
    iintro HK
    sl_exec
    sl_step
    iexact HK

end Cert.Dsa.Hand

end
-- ==== Proof.DsaFrame.lean ====
/-
  The frame of the whole attention call. At one grid point the kernel's body, on its windows' staging buffers and its
  four scratch buffers, runs to its end and leaves the inputs' buffers as they were; of the output's buffer and of the
  scratch nothing is said. The launch then gives that every argument array ends as it began, all counters at zero.
-/
module

public import proofs.«01_k».proof.Defs
public import proofs.«01_k».proof.Proof.DsaLoops
public import proofs.«01_k».proof.Proof.Gen.Dsa.Frame
public import Idealize.ShloMosaic.Lib.Pipeline.Frame
public import Idealize.ShloMosaic.Lib.Pipeline.FrameBody

@[expose] public section

set_option maxRecDepth 16384
set_option maxHeartbeats 4000000

noncomputable section

namespace Cert.Dsa.Hand

open Cert.Dsa Cert.Dsa.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [BitOps F]

local notation "𝕄" => MT nD τ sig Unit (Elt F) ℕ (UR sig nD τ) ℕ

/-- One program after another, the first leaving what the second is handed. -/
theorem in_order {α β : Type} (c : Dev nD) (E : Set ℕ) {p : Prog (TpuEff nD τ sig (Elt F) Λ₀ .tc) α}
    {k : α → Prog (TpuEff nD τ sig (Elt F) Λ₀ .tc) β} {P : sProp 𝕄} {Q : β → sProp 𝕄}
    (hp : P ⊢ wp frame (wpE (defs₀ (F := F)) Variants.none (c : Thread nD τ) none) E p (fun _ => P))
    (hk : ∀ a, P ⊢ wp frame (wpE (defs₀ (F := F)) Variants.none (c : Thread nD τ) none) E (k a) Q) :
    P ⊢ wp frame (wpE (defs₀ (F := F)) Variants.none (c : Thread nD τ) none) E (p >>= k) Q := by
  rw [wp_bind]
  exact hp.trans (wp_mono _ _ _ hk)

section Body

variable (c : Dev nD) (E : Set ℕ)
variable (i : grid0.Coords) (arg2 : Memref sig .tc .vmem S1x512x256 .bf16) (harg2 : arg2.IsWhole)
  (arg3 : Memref sig .tc .vmem S1x512x256 .bf16) (harg3 : arg3.IsWhole)
  (arg4 : Memref sig .tc .vmem S1x8x256 .f32) (harg4 : arg4.IsWhole)
  (arg5 : Memref sig .tc .vmem S1x4096x512 .bf16) (harg5 : arg5.IsWhole)
  (arg6 : Memref sig .tc .vmem S1x512x4096 .bf16) (harg6 : arg6.IsWhole)
  (arg7 : Memref sig .tc .vmem S1x4096x128 .bf16) (harg7 : arg7.IsWhole)
  (arg8 : Memref sig .tc .vmem S3x8x256x256 .f32) (harg8 : arg8.IsWhole)
  (arg9 : Memref sig .tc .vmem S1x256x512 .f32) (harg9 : arg9.IsWhole)
  (arg10 : Memref sig .tc .vmem S4096x256 .i32) (harg10 : arg10.IsWhole)
  (arg11 : Memref sig .tc .vmem S512x256 .f32) (harg11 : arg11.IsWhole)
  (arg12 : Memref sig .tc .vmem S8x256 .f32) (harg12 : arg12.IsWhole)
  (arg13 : Memref sig .tc .vmem S8x256 .f32) (harg13 : arg13.IsWhole)
  (f2 : BufTy.Contents (Elt F) arg2.view.ty)
  (f3 : BufTy.Contents (Elt F) arg3.view.ty)
  (f4 : BufTy.Contents (Elt F) arg4.view.ty)
  (f5 : BufTy.Contents (Elt F) arg5.view.ty)
  (f6 : BufTy.Contents (Elt F) arg6.view.ty)
  (f7 : BufTy.Contents (Elt F) arg7.view.ty)
  (f8 : BufTy.Contents (Elt F) arg8.view.ty)

/-- What the body holds between its parts: the inputs' buffers at the contents they were handed with, the output's and
    the scratch buffers at any. -/
def held : sProp 𝕄 :=
  iprop((arg2.view.loc (c : Thread nD τ) ↦[arg2.view.set]{fullShare} f2)
    ∗ (arg3.view.loc (c : Thread nD τ) ↦[arg3.view.set]{fullShare} f3)
    ∗ (arg4.view.loc (c : Thread nD τ) ↦[arg4.view.set]{fullShare} f4)
    ∗ (arg5.view.loc (c : Thread nD τ) ↦[arg5.view.set]{fullShare} f5)
    ∗ (arg6.view.loc (c : Thread nD τ) ↦[arg6.view.set]{fullShare} f6)
    ∗ (arg7.view.loc (c : Thread nD τ) ↦[arg7.view.set]{fullShare} f7)
    ∗ (arg8.view.loc (c : Thread nD τ) ↦[arg8.view.set]{fullShare} f8)
    ∗ (∃ f9 : BufTy.Contents (Elt F) arg9.view.ty, arg9.view.loc (c : Thread nD τ) ↦[arg9.view.set]{fullShare} f9)
    ∗ (∃ f10 : BufTy.Contents (Elt F) arg10.view.ty, arg10.view.loc (c : Thread nD τ) ↦[arg10.view.set]{fullShare} f10)
    ∗ (∃ f11 : BufTy.Contents (Elt F) arg11.view.ty, arg11.view.loc (c : Thread nD τ) ↦[arg11.view.set]{fullShare} f11)
    ∗ (∃ f12 : BufTy.Contents (Elt F) arg12.view.ty, arg12.view.loc (c : Thread nD τ) ↦[arg12.view.set]{fullShare} f12)
    ∗ (∃ f13 : BufTy.Contents (Elt F) arg13.view.ty, arg13.view.loc (c : Thread nD τ) ↦[arg13.view.set]{fullShare} f13))

/-- The first part: the keys are filled and the threshold searched. -/
theorem part31 :
    held (F := F) c arg2 arg3 arg4 arg5 arg6 arg7 arg8 arg9 arg10 arg11 arg12 arg13 f2 f3 f4 f5 f6 f7 f8
    ⊢ wp frame (wpE (defs₀ (F := F)) Variants.none (c : Thread nD τ) none) E
    (k0_part31 i arg2 harg2 arg3 harg3 arg4 harg4 arg5 harg5 arg6 harg6 arg7 harg7 arg8 harg8 arg9 harg9 arg10 harg10 arg11
        harg11 arg12 harg12 arg13 harg13)
      (fun _ => held (F := F) c arg2 arg3 arg4 arg5 arg6 arg7 arg8 arg9 arg10 arg11 arg12 arg13 f2 f3 f4 f5 f6 f7 f8) := by
  rw [k0_part31_eq_skeleton]; unfold k0_part31_skel held
  iintro ⟨H2, H3, H4, H5, H6, H7, H8, ⟨%g9, H9⟩, ⟨%g10, H10⟩, ⟨%g11, H11⟩, ⟨%g12, H12⟩, ⟨%g13, H13⟩⟩
  sl_exec
  sl_step
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  isplitl [H10]; · iexists _; iexact H10
  isplitl [H11]; · iexists _; iexact H11
  isplitl [H12]; · iexists _; iexact H12
  iexists _; iexact H13

variable (v0 : BitVec 32) (v11 : IVec S1x256 32) (v24 : IVec S1x256 32) (v26 : IVec S8x256 32) (z : BitVec 32) (v31 : BitVec 32)

/-- The second: where a threshold is tied the later ties are dropped; then the running sums start. -/
theorem part32 :
    held (F := F) c arg2 arg3 arg4 arg5 arg6 arg7 arg8 arg9 arg10 arg11 arg12 arg13 f2 f3 f4 f5 f6 f7 f8
    ⊢ wp frame (wpE (defs₀ (F := F)) Variants.none (c : Thread nD τ) none) E
    (k0_part32 i arg2 harg2 arg3 harg3 arg4 harg4 arg5 harg5 arg6 harg6 arg7 harg7 arg8 harg8 arg9 harg9 arg10 harg10 arg11
        harg11 arg12 harg12 arg13 harg13 v0 v11 v24 v26 z v31)
      (fun _ => held (F := F) c arg2 arg3 arg4 arg5 arg6 arg7 arg8 arg9 arg10 arg11 arg12 arg13 f2 f3 f4 f5 f6 f7 f8) := by
  rw [k0_part32_eq_skeleton]; unfold k0_part32_skel held
  iintro ⟨H2, H3, H4, H5, H6, H7, H8, ⟨%g9, H9⟩, ⟨%g10, H10⟩, ⟨%g11, H11⟩, ⟨%g12, H12⟩, ⟨%g13, H13⟩⟩
  sl_exec
  split
  all_goals
    sl_exec
    sl_step
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexists _; iexact H9
    isplitl [H10]; · iexists _; iexact H10
    isplitl [H11]; · iexists _; iexact H11
    isplitl [H12]; · iexists _; iexact H12
    iexists _; iexact H13

variable (b : BitVec 32) (v3 : IVec S128x256 1) (v67 : BitVec 32)

/-- The third: the pass over the key tiles, and half of the heads divided. -/
theorem part33 :
    held (F := F) c arg2 arg3 arg4 arg5 arg6 arg7 arg8 arg9 arg10 arg11 arg12 arg13 f2 f3 f4 f5 f6 f7 f8
    ⊢ wp frame (wpE (defs₀ (F := F)) Variants.none (c : Thread nD τ) none) E
    (k0_part33 i arg2 harg2 arg3 harg3 arg4 harg4 arg5 harg5 arg6 harg6 arg7 harg7 arg8 harg8 arg9 harg9 arg10 harg10 arg11
        harg11 arg12 harg12 arg13 harg13 b v3 v11 z v67)
      (fun _ => held (F := F) c arg2 arg3 arg4 arg5 arg6 arg7 arg8 arg9 arg10 arg11 arg12 arg13 f2 f3 f4 f5 f6 f7 f8) := by
  rw [k0_part33_eq_skeleton]; unfold k0_part33_skel held
  iintro ⟨H2, H3, H4, H5, H6, H7, H8, ⟨%g9, H9⟩, ⟨%g10, H10⟩, ⟨%g11, H11⟩, ⟨%g12, H12⟩, ⟨%g13, H13⟩⟩
  sl_exec
  sl_step
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  isplitl [H10]; · iexists _; iexact H10
  isplitl [H11]; · iexists _; iexact H11
  isplitl [H12]; · iexists _; iexact H12
  iexists _; iexact H13

/-- The fourth: the other half. -/
theorem part34 :
    held (F := F) c arg2 arg3 arg4 arg5 arg6 arg7 arg8 arg9 arg10 arg11 arg12 arg13 f2 f3 f4 f5 f6 f7 f8
    ⊢ wp frame (wpE (defs₀ (F := F)) Variants.none (c : Thread nD τ) none) E
    (k0_part34 i arg2 harg2 arg3 harg3 arg4 harg4 arg5 harg5 arg6 harg6 arg7 harg7 arg8 harg8 arg9 harg9 arg10 harg10 arg11
        harg11 arg12 harg12 arg13 harg13)
      (fun _ => held (F := F) c arg2 arg3 arg4 arg5 arg6 arg7 arg8 arg9 arg10 arg11 arg12 arg13 f2 f3 f4 f5 f6 f7 f8) := by
  rw [k0_part34_eq_skeleton]; unfold k0_part34_skel held
  iintro ⟨H2, H3, H4, H5, H6, H7, H8, ⟨%g9, H9⟩, ⟨%g10, H10⟩, ⟨%g11, H11⟩, ⟨%g12, H12⟩, ⟨%g13, H13⟩⟩
  sl_exec
  sl_step
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  isplitl [H10]; · iexists _; iexact H10
  isplitl [H11]; · iexists _; iexact H11
  isplitl [H12]; · iexists _; iexact H12
  iexists _; iexact H13

/-- The whole body at one grid point. -/
theorem body_runs :
    held (F := F) c arg2 arg3 arg4 arg5 arg6 arg7 arg8 arg9 arg10 arg11 arg12 arg13 f2 f3 f4 f5 f6 f7 f8
    ⊢ wp frame (wpE (defs₀ (F := F)) Variants.none (c : Thread nD τ) none) E
    (cc0_dsa_attention i arg2 harg2 arg3 harg3 arg4 harg4 arg5 harg5 arg6 harg6 arg7 harg7 arg8 harg8 arg9 harg9 arg10 harg10
        arg11 harg11 arg12 harg12 arg13 harg13)
      (fun _ => held (F := F) c arg2 arg3 arg4 arg5 arg6 arg7 arg8 arg9 arg10 arg11 arg12 arg13 f2 f3 f4 f5 f6 f7 f8) := by
  rw [cc0_dsa_attention_eq_skeleton]; unfold cc0_dsa_attention_skel
  refine in_order c E (part31 c E i arg2 harg2 arg3 harg3 arg4 harg4 arg5 harg5 arg6 harg6 arg7 harg7 arg8 harg8 arg9 harg9
      arg10 harg10 arg11 harg11 arg12 harg12 arg13 harg13 f2 f3 f4 f5 f6 f7 f8) fun r => ?_
  refine in_order c E (part32 c E i arg2 harg2 arg3 harg3 arg4 harg4 arg5 harg5 arg6 harg6 arg7 harg7 arg8 harg8 arg9 harg9
      arg10 harg10 arg11 harg11 arg12 harg12 arg13 harg13 f2 f3 f4 f5 f6 f7 f8 _ _ _ _ _ _) fun r => ?_
  refine in_order c E (part33 c E i arg2 harg2 arg3 harg3 arg4 harg4 arg5 harg5 arg6 harg6 arg7 harg7 arg8 harg8 arg9 harg9
      arg10 harg10 arg11 harg11 arg12 harg12 arg13 harg13 f2 f3 f4 f5 f6 f7 f8 _ _ _ _ _) fun r => ?_
  refine in_order c E (part34 c E i arg2 harg2 arg3 harg3 arg4 harg4 arg5 harg5 arg6 harg6 arg7 harg7 arg8 harg8 arg9 harg9
      arg10 harg10 arg11 harg11 arg12 harg12 arg13 harg13 f2 f3 f4 f5 f6 f7 f8) fun r => ?_
  unfold held
  iintro ⟨H2, H3, H4, H5, H6, H7, H8, ⟨%g9, H9⟩, ⟨%g10, H10⟩, ⟨%g11, H11⟩, ⟨%g12, H12⟩, ⟨%g13, H13⟩⟩
  sl_exec
  sl_step
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  isplitl [H10]; · iexists _; iexact H10
  isplitl [H11]; · iexists _; iexact H11
  isplitl [H12]; · iexists _; iexact H12
  iexists _; iexact H13

end Body

/-! ## The launch -/

section Launch

variable (m : (ℓ : Loc nD τ sig) → Buf (Elt F) ℓ) (ρ : Dev nD → PrngReg)

/-- The one window of which nothing is said: the output's. -/
def unsaid (w : Fin cfg0.W) : Bool := w.val == 7

/-- The proof data on core `c`: the arrays as the region finds them, every input's buffer left at its block. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
  Φ _ := Pipeline.ΦA spec0 c
  q _ := fullShare
  owed _ := 0

theorem A_eq (c : Dev nD) (w : Fin cfg0.W) : (dats m 0 c).A w = V m c (Pipeline.arrRef spec0 w) := by
  dsimp only [dats]

theorem after_in (c : Dev nD) (t : Fin cfg0.N) :
    (dats m 0 c).after 0 t = iblk m c 0 t ∧ (dats m 0 c).after 1 t = iblk m c 1 t ∧ (dats m 0 c).after 2 t = iblk m c 2 t
      ∧ (dats m 0 c).after 3 t = iblk m c 3 t ∧ (dats m 0 c).after 4 t = iblk m c 4 t ∧ (dats m 0 c).after 5 t = iblk m c 5 t
      ∧ (dats m 0 c).after 6 t = iblk m c 6 t := by
  dsimp only [dats]; exact ⟨rfl, rfl, rfl, rfl, rfl, rfl, rfl⟩

theorem before_in (c : Dev nD) (t : Fin cfg0.N) :
    (∀ d, (dats m 0 c).before 0 t d = iblk m c 0 t) ∧ (∀ d, (dats m 0 c).before 1 t d = iblk m c 1 t)
      ∧ (∀ d, (dats m 0 c).before 2 t d = iblk m c 2 t) ∧ (∀ d, (dats m 0 c).before 3 t d = iblk m c 3 t)
      ∧ (∀ d, (dats m 0 c).before 4 t d = iblk m c 4 t) ∧ (∀ d, (dats m 0 c).before 5 t d = iblk m c 5 t)
      ∧ (∀ d, (dats m 0 c).before 6 t d = iblk m c 6 t) :=
  ⟨before0_0_of m _ (A_eq m c 0) (fun t => (after_in m c t).1) t,
    before0_1_of m _ (A_eq m c 1) (fun t => (after_in m c t).2.1) t,
    before0_2_of m _ (A_eq m c 2) (fun t => (after_in m c t).2.2.1) t,
    before0_3_of m _ (A_eq m c 3) (fun t => (after_in m c t).2.2.2.1) t,
    before0_4_of m _ (A_eq m c 4) (fun t => (after_in m c t).2.2.2.2.1) t,
    before0_5_of m _ (A_eq m c 5) (fun t => (after_in m c t).2.2.2.2.2.1) t,
    before0_6_of m _ (A_eq m c 6) (fun t => (after_in m c t).2.2.2.2.2.2) t⟩

/-- A scratch buffer spelt as the body's whole memref of it. -/
theorem scratch_eq (c : Dev nD) (b : Ref sig .tc) (f : Buf (Elt F) ((c : Thread nD τ).loc b)) :
    (((c : Thread nD τ).loc b) ↦{fullShare} f : sProp 𝕄)
      = ((Memref.whole b).view.loc (c : Thread nD τ) ↦[(Memref.whole b).view.set]{fullShare} f) := by
  rw [show (Memref.whole b).view.set = Finset.univ from View.set_whole _]

/-- The body at any point: the inputs' buffers hold their blocks and keep them. -/
theorem point_runs (c : Dev nD) (t : Fin cfg0.N) :
    iprop((dats m 0 c).Φ t.castSucc ∗ (dats m 0 c).owesAt () t.castSucc
        ∗ (∃ d, owns (c : Thread nD τ) (st0_0 t) fullShare ((dats m 0 c).before 0 t d))
        ∗ (∃ d, owns (c : Thread nD τ) (st0_1 t) fullShare ((dats m 0 c).before 1 t d))
        ∗ (∃ d, owns (c : Thread nD τ) (st0_2 t) fullShare ((dats m 0 c).before 2 t d))
        ∗ (∃ d, owns (c : Thread nD τ) (st0_3 t) fullShare ((dats m 0 c).before 3 t d))
        ∗ (∃ d, owns (c : Thread nD τ) (st0_4 t) fullShare ((dats m 0 c).before 4 t d))
        ∗ (∃ d, owns (c : Thread nD τ) (st0_5 t) fullShare ((dats m 0 c).before 5 t d))
        ∗ (∃ d, owns (c : Thread nD τ) (st0_6 t) fullShare ((dats m 0 c).before 6 t d))
        ∗ (∃ X, owns (c : Thread nD τ) (st0_7 t) fullShare X))
      ⊢ wp frame (wpE (defs₀ (F := F)) Variants.none (c : Thread nD τ) none) Set.univ (bodyAt0 t) fun _ =>
          iprop((dats m 0 c).Φ t.succ ∗ (dats m 0 c).owesAt () t.succ
            ∗ owns (c : Thread nD τ) (st0_0 t) fullShare ((dats m 0 c).after 0 t)
            ∗ owns (c : Thread nD τ) (st0_1 t) fullShare ((dats m 0 c).after 1 t)
            ∗ owns (c : Thread nD τ) (st0_2 t) fullShare ((dats m 0 c).after 2 t)
            ∗ owns (c : Thread nD τ) (st0_3 t) fullShare ((dats m 0 c).after 3 t)
            ∗ owns (c : Thread nD τ) (st0_4 t) fullShare ((dats m 0 c).after 4 t)
            ∗ owns (c : Thread nD τ) (st0_5 t) fullShare ((dats m 0 c).after 5 t)
            ∗ owns (c : Thread nD τ) (st0_6 t) fullShare ((dats m 0 c).after 6 t)
            ∗ (∃ X, owns (c : Thread nD τ) (st0_7 t) fullShare X)) := by
  obtain ⟨b0, b1, b2, b3, b4, b5, b6⟩ := before_in m c t
  obtain ⟨a0, a1, a2, a3, a4, a5, a6⟩ := after_in m c t
  simp only [b0, b1, b2, b3, b4, b5, b6, a0, a1, a2, a3, a4, a5, a6]
  rw [show (dats m 0 c).Φ t.succ = Pipeline.ΦA spec0 c from rfl, show (dats m 0 c).Φ t.castSucc = Pipeline.ΦA spec0 c from rfl,
    show (dats m 0 c).owesAt () t.succ = (dats m 0 c).owesAt () t.castSucc from rfl]
  unfold Pipeline.ΦA
  rw [scopedRest0_eq]
  simp only [scratch_eq]
  unfold owns
  iintro ⟨⟨⟨S0, S1, S2, S3⟩, Hr⟩, Ho,
    ⟨%d0, %f0, %h0, H0⟩, ⟨%d1, %f1, %h1, H1⟩, ⟨%d2, %f2, %h2, H2⟩, ⟨%d3, %f3, %h3, H3⟩,
    ⟨%d4, %f4, %h4, H4⟩, ⟨%d5, %f5, %h5, H5⟩, ⟨%d6, %f6, %h6, H6⟩, ⟨%d7, %f7, -, H7⟩⟩
  iapply (wp_wand_r Idealize.ShloMosaic.frame (wpE (defs₀ (F := F)) Variants.none (c : Thread nD τ) none) Set.univ)
  isplitl [S0 S1 S2 S3 H0 H1 H2 H3 H4 H5 H6 H7]
  · iapply (body_runs c Set.univ (grid0.coords t) _ (hstage0_0 ((cfg0.slots t 0).cast nbuf0_0)) _ (hstage0_1 ((cfg0.slots t
      1).cast nbuf0_1)) _ (hstage0_2 ((cfg0.slots t 2).cast nbuf0_2)) _ (hstage0_3 ((cfg0.slots t 3).cast nbuf0_3)) _
      (hstage0_4 ((cfg0.slots t 4).cast nbuf0_4)) _ (hstage0_5 ((cfg0.slots t 5).cast nbuf0_5)) _ (hstage0_6 ((cfg0.slots t
      6).cast nbuf0_6)) _ (hstage0_7 ((cfg0.slots t 7).cast nbuf0_7)) _ (Memref.isWhole_whole _) _ (Memref.isWhole_whole _) _
      (Memref.isWhole_whole _) _ (Memref.isWhole_whole _) f0 f1 f2 f3 f4 f5 f6)
    unfold held
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexists _; iexact H7
    isplitl [S0]; · iexact S0
    isplitl [S1]; · iexact S1
    isplitl [S2]; · iexact S2
    iexact S3
  · unfold held
    iintro %_ ⟨H0, H1, H2, H3, H4, H5, H6, ⟨%g7, H7⟩, S0, S1, S2, S3⟩
    isplitl [S0 S1 S2 S3 Hr]
    · isplitl [S0 S1 S2 S3]
      · isplitl [S0]; · iexact S0
        isplitl [S1]; · iexact S1
        isplitl [S2]; · iexact S2
        iexact S3
      iexact Hr
    isplitl [Ho]; · iexact Ho
    isplitl [H0]
    · iexists f0; isplitr
      · ipureintro; exact h0
      iexact H0
    isplitl [H1]
    · iexists f1; isplitr
      · ipureintro; exact h1
      iexact H1
    isplitl [H2]
    · iexists f2; isplitr
      · ipureintro; exact h2
      iexact H2
    isplitl [H3]
    · iexists f3; isplitr
      · ipureintro; exact h3
      iexact H3
    isplitl [H4]
    · iexists f4; isplitr
      · ipureintro; exact h4
      iexact H4
    isplitl [H5]
    · iexists f5; isplitr
      · ipureintro; exact h5
      iexact H5
    isplitl [H6]
    · iexists f6; isplitr
      · ipureintro; exact h6
      iexact H6
    iexists _, g7; isplitr
    · ipureintro; rfl
    iexact H7

/-- The pipeline's body obligation, at every point. -/
theorem body_obligation (c : Dev nD) :
    BodyObligation (dats (F := F) m 0 c) (defs₀ (F := F)) Variants.none () Set.univ unsaid := fun t => by
  rw [bigSep_W0, bigSep_W0]
  exact triple_restated (point_runs m c t) rfl .rfl fun _ => .rfl

set_option backward.isDefEq.respectTransparency.types false in
/-- The launch: every array at contents it may hold after the run, every other buffer as the region found it, all
    counters at zero. -/
theorem launched : θ_run defs (onTc (τ := τ) (main (F := F))) (s₀ m ρ) (fun r =>
    Pipeline.RDat.FramePost cfg0 (fun c => (dats m 0 c).toRForget unsaid) (V m) r ∧ r.2.sem = fun _ => 0) :=
  Pipeline.θ_run_frame_forget (Q' := _) cfgs (dats m) (0 : Fin 1) launch0 defs₀ Variants.none unsaid m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- An input window's array ends as the region found it. -/
theorem kept (c : Dev nD) (w : Fin cfg0.W) (hw : (cfg0.win w).isOut = false) (hu : unsaid w = false)
    {f : Buf (Elt F) ((cfg0.win w).arr.view.loc (c.tc : Thread nD τ))}
    (h : ((dats m 0 c).toRForget unsaid).ArrAt w cfg0.N f) : f = V m c (Pipeline.arrRef spec0 w) :=
  (((dats m 0 c).toRForget_arrAt_iff hu cfg0.N f).mp h).trans (((dats m 0 c).arrAt_in w hw _).trans (A_eq m c w))

/-- The frame of the attention call. -/
theorem frame : θ_run defs (onTc (τ := τ) (main (F := F))) ⟨m, fun _ => 0, ρ⟩ (fun r => (∀ c : Dev nD,
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  (θ_run defs _ _).mono (fun r (h : _ ∧ _) => ⟨fun c => ⟨(kept m c 0 rfl rfl ((h.1 c).1 0)).trans (V_main_arg0 m c),
      (kept m c 1 rfl rfl ((h.1 c).1 1)).trans (V_main_arg1 m c),
      (kept m c 2 rfl rfl ((h.1 c).1 2)).trans (V_main_arg2 m c),
      (kept m c 3 rfl rfl ((h.1 c).1 3)).trans (V_main_arg3 m c),
      (kept m c 4 rfl rfl ((h.1 c).1 4)).trans (V_main_arg4 m c),
      (kept m c 5 rfl rfl ((h.1 c).1 5)).trans (V_main_arg5 m c),
      ((h.1 c).2 main_arg6 (Pipeline.mem_restRefs_of main_arg6 (by decide) (by decide))).trans (V_main_arg6 m c)⟩, h.2⟩)
    (launched m ρ)

end Launch

end Cert.Dsa.Hand

end
-- ==== Proof.lean ====
module

public import proofs.«01_k».proof.Defs
public import proofs.«01_k».proof.Proof.Gen.Moe
public import proofs.«01_k».proof.Proof.Gen.MoeIdeal
public import proofs.«01_k».proof.Proof.Gen.MoeRefIdeal
public import proofs.«01_k».proof.Proof.Gen.MoeRefIdeal.Run
public import proofs.«01_k».proof.Proof.Gen.Pre_experts_in_range
public import proofs.«01_k».proof.Proof.MoeTab
public import proofs.«01_k».proof.Proof.MoeIdealTab
public import proofs.«01_k».proof.Proof.MoeValue
public import proofs.«01_k».proof.Proof.Gen.InProj
public import proofs.«01_k».proof.Proof.Gen.InProj.Frame
public import proofs.«01_k».proof.Proof.Gen.InProjIdeal
public import proofs.«01_k».proof.Proof.Gen.InProjIdeal.Value
public import proofs.«01_k».proof.Proof.InProjValue
public import proofs.«01_k».proof.Proof.Gen.InProjRefIdeal
public import proofs.«01_k».proof.Proof.Gen.InProjRefIdeal.Run
public import proofs.«01_k».proof.Proof.Gen.InProjRefIdeal.Read
public import proofs.«01_k».proof.Proof.Gen.MixOut
public import proofs.«01_k».proof.Proof.Gen.MixOut.Frame
public import proofs.«01_k».proof.Proof.Gen.MixOutIdeal
public import proofs.«01_k».proof.Proof.Gen.MixOutIdeal.Frame
public import proofs.«01_k».proof.Proof.MixOutValue
public import proofs.«01_k».proof.Proof.Gen.MixOutRefIdeal
public import proofs.«01_k».proof.Proof.Gen.MixOutRefIdeal.Run
public import proofs.«01_k».proof.Proof.Gen.MixOutRefIdeal.Read
public import proofs.«01_k».proof.Proof.Gen.Prep
public import proofs.«01_k».proof.Proof.Gen.Prep.Frame
public import proofs.«01_k».proof.Proof.Gen.PrepIdeal
public import proofs.«01_k».proof.Proof.Gen.PrepIdeal.Frame
public import proofs.«01_k».proof.Proof.PrepValue
public import proofs.«01_k».proof.Proof.Gen.PrepRefIdeal
public import proofs.«01_k».proof.Proof.Gen.PrepRefIdeal.Run
public import proofs.«01_k».proof.Proof.Gen.PrepRefIdeal.Read
public import proofs.«01_k».proof.Proof.Gen.Dsa
public import proofs.«01_k».proof.Proof.Gen.Dsa.Frame
public import proofs.«01_k».proof.Proof.Gen.Dsa.Skeleton
public import proofs.«01_k».proof.Proof.Gen.Dsa.Loops
public import proofs.«01_k».proof.Proof.DsaFrame
public import Idealize.ShloMosaic.Adequacy
public import Idealize.ShloMosaic.Init

@[expose] public section

noncomputable section

namespace Cert.Proof

open Idealize.ShloMosaic Idealize.SL.Sem

/-- The reference for the experts runs, its arguments end unchanged and every semaphore counter is zero. -/
theorem moe_ref_frame : Cert.quiescent_MoeRefIdeal (hMoeRefIdeal := Cert.MoeRefIdeal.Gen.facts) := fun m g _ =>
  (θ_run _ _ _).mono (fun r h => ⟨fun c => (h c).2, sem_eq_zero_of_no_sems (by decide) r.2⟩) (Cert.MoeRefIdeal.Value.run m g)

/-- Ideally evaluated, the expert call and its reference, run on equal arguments, end with equal results. -/
theorem moe_algebraic : Cert.algebraic_MoeIdeal_MoeRefIdeal (hMoeIdeal := Cert.MoeIdeal.Gen.facts) (hMoeRefIdeal := Cert.MoeRefIdeal.Gen.facts)
    (hPre_experts_in_range := Cert.Pre_experts_in_range.Gen.facts) := fun m g m' g' hpre hargs =>
  ⟨fun c => Cert.MoeIdeal.Tab.G m c, Cert.MoeIdeal.Tab.run_value m g hpre,
    (θ_run _ _ _).mono (fun r hr c => ⟨(hr c).1.trans (by
      obtain ⟨h0, h1, h2, h3, h4, h5, h6, h7⟩ := hargs c
      refine (Cert.MoeRefIdeal.Blocks.res_eq m' c).trans ?_
      rw [h0, h1, h2, h3, h4, h5, h6, h7]; rfl), (hr c).2⟩) (Cert.MoeRefIdeal.Value.run m' g')⟩

/-- The reference for the input projection runs, its arguments end unchanged and every semaphore counter is zero. -/
theorem in_ref_frame : Cert.quiescent_InProjRefIdeal (hInProjRefIdeal := Cert.InProjRefIdeal.Gen.facts) := fun m g _ =>
  (θ_run _ _ _).mono (fun r h => ⟨fun c => (h c).2, sem_eq_zero_of_no_sems (by decide) r.2⟩) (Cert.InProjRefIdeal.Value.run m g)

/-- Ideally evaluated, the input projection and its reference, run on equal arguments, end with equal results. -/
theorem in_algebraic : Cert.algebraic_InProjIdeal_InProjRefIdeal (hInProjIdeal := Cert.InProjIdeal.Gen.facts) (hInProjRefIdeal := Cert.InProjRefIdeal.Gen.facts) :=
  fun m g m' g' _ hargs =>
  ⟨fun c => Cert.InProjIdeal.Blocks.refOut m c,
    (θ_run _ _ _).mono (fun r hr c => ⟨(hr c).1.trans (Cert.InProjIdeal.Blocks.final_eq m c), (hr c).2⟩) (Cert.InProjIdeal.Value.run m g),
    (θ_run _ _ _).mono (fun r hr c => ⟨(hr c).1.trans (by
      obtain ⟨h0, h1, h2, h3, h4⟩ := hargs c
      rw [h0, h1, h2, h3, h4]; rfl), (hr c).2⟩) (Cert.InProjRefIdeal.Value.run m' g')⟩

/-- The reference for the merge and the router runs, its arguments end unchanged and every semaphore counter is zero. -/
theorem mix_ref_frame : Cert.quiescent_MixOutRefIdeal (hMixOutRefIdeal := Cert.MixOutRefIdeal.Gen.facts) := fun m g _ =>
  (θ_run _ _ _).mono (fun r h => ⟨fun c => (h c).2.2.2, sem_eq_zero_of_no_sems (by decide) r.2⟩) (Cert.MixOutRefIdeal.Value.run m g)

/-- Ideally evaluated, the merge with its router and its reference, run on equal arguments, end with equal results, all three. -/
theorem mix_algebraic : Cert.algebraic_MixOutIdeal_MixOutRefIdeal (hMixOutIdeal := Cert.MixOutIdeal.Gen.facts) (hMixOutRefIdeal := Cert.MixOutRefIdeal.Gen.facts) :=
  fun m g m' g' _ hargs =>
  ⟨fun c => Cert.MixOutIdeal.Blocks.refX m c, fun c => Cert.MixOutIdeal.Blocks.refH m c, fun c => Cert.MixOutIdeal.Blocks.refL m c,
    Cert.MixOutIdeal.Blocks.run_value m g,
    (θ_run _ _ _).mono (fun r hr c => by
      obtain ⟨h0, h1, h2, h3, h4, h5, h6, h7, h8, h9, h10, h11, h12⟩ := hargs c
      refine ⟨(hr c).1.trans ((Cert.MixOutRefIdeal.Read.val_main_v53_eq _ _ _ _ _ _ _ _).trans ?_),
        (hr c).2.1.trans ((Cert.MixOutRefIdeal.Read.val_main_v54_eq m' c).trans ?_),
        (hr c).2.2.1.trans ((Cert.MixOutRefIdeal.Read.val_main_v52_eq m' c).trans ?_), (hr c).2.2.2⟩
      · rw [h0, h1, h2, h3, h4, h5, h6, h7]
      · rw [h0, h1, h2, h3, h4, h5, h6, h7, h8, h9, h10]
      · rw [h0, h1, h2, h3, h4, h5, h6, h7, h8, h9, h10, h11, h12]) (Cert.MixOutRefIdeal.Value.run m' g')⟩

/-- The reference for the attention's preparation runs, its arguments end unchanged and every semaphore counter is zero. -/
theorem prep_ref_frame : Cert.quiescent_PrepRefIdeal (hPrepRefIdeal := Cert.PrepRefIdeal.Gen.facts) := fun m g _ =>
  (θ_run _ _ _).mono (fun r h => ⟨fun c => (h c).2.2.2.2.2.2, sem_eq_zero_of_no_sems (by decide) r.2⟩) (Cert.PrepRefIdeal.Value.run m g)

/-- Ideally evaluated, the attention's preparation and its reference, run on equal arguments, end with equal results, all six. -/
theorem prep_algebraic : Cert.algebraic_PrepIdeal_PrepRefIdeal (hPrepIdeal := Cert.PrepIdeal.Gen.facts) (hPrepRefIdeal := Cert.PrepRefIdeal.Gen.facts) :=
  fun m g m' g' _ hargs =>
  ⟨fun c => Cert.PrepIdeal.Blocks.refQ m c, fun c => Cert.PrepIdeal.Blocks.refK m c, fun c => Cert.PrepIdeal.Blocks.refV m c,
    fun c => Cert.PrepIdeal.Blocks.refQi m c, fun c => Cert.PrepIdeal.Blocks.refKi m c, fun c => Cert.PrepIdeal.Blocks.refW m c,
    Cert.PrepIdeal.Blocks.run_value m g,
    (θ_run _ _ _).mono (fun r hr c => by
      obtain ⟨h0, h1, h2, h3, h4, h5, h6⟩ := hargs c
      refine ⟨(hr c).1.trans ((Cert.PrepRefIdeal.Read.val_main_v84_eq _ _).trans ?_),
        (hr c).2.1.trans ((Cert.PrepRefIdeal.Read.val_main_v85_eq m' c).trans ?_),
        (hr c).2.2.1.trans ((Cert.PrepRefIdeal.Read.val_main_v87_eq _ _ _).trans ?_),
        (hr c).2.2.2.1.trans ((Cert.PrepRefIdeal.Read.val_main_v89_eq _).trans ?_),
        (hr c).2.2.2.2.1.trans ((Cert.PrepRefIdeal.Read.val_main_v90_eq m' c).trans ?_),
        (hr c).2.2.2.2.2.1.trans ((Cert.PrepRefIdeal.Read.val_main_v91_eq _).trans ?_), (hr c).2.2.2.2.2.2⟩
      · rw [h0, h1]
      · rw [h0, h2, h3, h4]
      · rw [h0, h2, h3]
      · rw [h0]
      · rw [h0, h5, h6]
      · rw [h0]) (Cert.PrepRefIdeal.Value.run m' g')⟩

/-- Everything the certificate claims. -/
theorem claim : Cert.Claim :=
  ⟨Cert.Moe.Gen.facts, Cert.MoeIdeal.Gen.facts, Cert.MoeRefIdeal.Gen.facts, Cert.InProj.Gen.facts, Cert.InProjIdeal.Gen.facts, Cert.InProjRefIdeal.Gen.facts,
    Cert.MixOut.Gen.facts, Cert.MixOutIdeal.Gen.facts, Cert.MixOutRefIdeal.Gen.facts,
    Cert.Prep.Gen.facts, Cert.PrepIdeal.Gen.facts, Cert.PrepRefIdeal.Gen.facts, Cert.Dsa.Gen.facts, Cert.Pre_experts_in_range.Gen.facts,
    fun m g h => Cert.Moe.Tab.frame_adm m g h, fun m g h => Cert.MoeIdeal.Tab.frame_adm m g h,
    moe_ref_frame, fun m g _ => moe_ref_frame m g trivial,
    fun m g _ => Cert.InProj.Gen.frame m g, fun m g _ => Cert.InProjIdeal.Gen.frame m g, in_ref_frame,
    fun m g _ => Cert.MixOut.Gen.frame m g, fun m g _ => Cert.MixOutIdeal.Gen.frame m g, mix_ref_frame,
    fun m g _ => Cert.Prep.Gen.frame m g, fun m g _ => Cert.PrepIdeal.Gen.frame m g, prep_ref_frame,
    fun m g _ => Cert.Dsa.Hand.frame m g,
    trivial, moe_algebraic, trivial, in_algebraic, trivial, mix_algebraic, trivial, prep_algebraic⟩

end Cert.Proof

end
